-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "s" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_3)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)) (v3 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_3) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_v5_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8320x1024 : Shape := ⟨2, ![8320, 1024]⟩
abbrev S8x8320x1 : Shape := ⟨3, ![8, 8320, 1]⟩
abbrev S_ : Shape := ⟨0, ![]⟩

class Facts : Prop where
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S8x8320x1 : S_.BroadcastsInDim S8x8320x1 (![] : Fin 0 → Fin S8x8320x1.rank)
  reducesTo_S8x8320x1_S_d0_1_2 : S8x8320x1.ReducesTo [0, 1, 2] S_

variable [Facts]

def fn_part1 {F : FTy → Type} [FloatOps F] (main_arg4 : FVec F S8320x1024 .f32) (main_v13 : IVec S_ 1) (main_v16 : IVec S8x8320x1 1) : IVec S_ 1 :=
  let main_c_5 : IVec S_ 1 := constantI S_ 1 1#1
  let main_v17 : IVec S_ 1 := (fun x v => Host.reduce IntOp.andi x v reducesTo_S8x8320x1_S_d0_1_2 h_S_) main_v16 main_c_5
  let main_v18 : IVec S_ 1 := andi main_v13 main_v17
  let main_v19 : FVec F S8320x1024 .f32 := Host.absf main_arg4
  let main_cst_6 : FVec F S_ .f32 := constant S_ .f32 0x7F800000#32
  let main_v20 : FVec F S8320x1024 .f32 := broadcastInDim S8320x1024 ![] bcast_S_S8320x1024 main_cst_6
  let main_v21 : IVec S8320x1024 1 := cmpf .olt main_v19 main_v20
  let main_c_7 : IVec S_ 1 := constantI S_ 1 1#1
  let main_v22 : IVec S_ 1 := (fun x v => Host.reduce IntOp.andi x v reducesTo_S8320x1024_S_d0_1 h_S_) main_v21 main_c_7
  let main_v23 : IVec S_ 1 := andi main_v18 main_v22
  main_v23

def fn {F : FTy → Type} [FloatOps F] (main_arg0 : FVec F S8320x1024 .f32) (main_arg1 : FVec F S8320x1024 .f32) (main_arg2 : FVec F S8320x1024 .f32) (main_arg3 : FVec F S8x8320x1 .f32) (main_arg4 : FVec F S8320x1024 .f32) : IVec S_ 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_c : IVec S_ 1 := constantI S_ 1 1#1
  let main_v3 : IVec S_ 1 := (fun x v => Host.reduce IntOp.andi x v reducesTo_S8320x1024_S_d0_1 h_S_) main_v2 main_c
  let main_v4 : FVec F S8320x1024 .f32 := Host.absf main_arg1
  let main_cst_0 : FVec F S_ .f32 := constant S_ .f32 0x7F800000#32
  let main_v5 : FVec F S8320x1024 .f32 := broadcastInDim S8320x1024 ![] bcast_S_S8320x1024 main_cst_0
  let main_v6 : IVec S8320x1024 1 := cmpf .olt main_v4 main_v5
  let main_c_1 : IVec S_ 1 := constantI S_ 1 1#1
  let main_v7 : IVec S_ 1 := (fun x v => Host.reduce IntOp.andi x v reducesTo_S8320x1024_S_d0_1 h_S_) main_v6 main_c_1
  let main_v8 : IVec S_ 1 := andi main_v3 main_v7
  let main_v9 : FVec F S8320x1024 .f32 := Host.absf main_arg2
  let main_cst_2 : FVec F S_ .f32 := constant S_ .f32 0x7F800000#32
  let main_v10 : FVec F S8320x1024 .f32 := broadcastInDim S8320x1024 ![] bcast_S_S8320x1024 main_cst_2
  let main_v11 : IVec S8320x1024 1 := cmpf .olt main_v9 main_v10
  let main_c_3 : IVec S_ 1 := constantI S_ 1 1#1
  let main_v12 : IVec S_ 1 := (fun x v => Host.reduce IntOp.andi x v reducesTo_S8320x1024_S_d0_1 h_S_) main_v11 main_c_3
  let main_v13 : IVec S_ 1 := andi main_v8 main_v12
  let main_v14 : FVec F S8x8320x1 .f32 := Host.absf main_arg3
  let main_cst_4 : FVec F S_ .f32 := constant S_ .f32 0x7F800000#32
  let main_v15 : FVec F S8x8320x1 .f32 := broadcastInDim S8x8320x1 ![] bcast_S_S8x8320x1 main_cst_4
  let main_v16 : IVec S8x8320x1 1 := cmpf .olt main_v14 main_v15
  fn_part1 (F := F) main_arg4 main_v13 main_v16
-- ==== Kernel.lean ====
abbrev S8320x1024 : Shape := ⟨2, ![8320, 1024]⟩
abbrev S8x8320x1 : Shape := ⟨3, ![8, 8320, 1]⟩
abbrev S91 : Shape := ⟨1, ![91]⟩
abbrev S8x1x8320 : Shape := ⟨3, ![8, 1, 8320]⟩
abbrev S640x128 : Shape := ⟨2, ![640, 128]⟩
abbrev S1 : Shape := ⟨1, ![1]⟩
abbrev S1x1x640 : Shape := ⟨3, ![1, 1, 640]⟩
abbrev S1x640x1 : Shape := ⟨3, ![1, 640, 1]⟩
abbrev S640x1 : Shape := ⟨2, ![640, 1]⟩
abbrev S640x640 : Shape := ⟨2, ![640, 640]⟩
abbrev S1x640 : Shape := ⟨2, ![1, 640]⟩
abbrev S640 : Shape := ⟨1, ![640]⟩
abbrev S640x1024 : Shape := ⟨2, ![640, 1024]⟩
abbrev S8x640x1 : Shape := ⟨3, ![8, 640, 1]⟩
abbrev S8320x128 : Shape := ⟨2, ![8320, 128]⟩

abbrev nBuf : Space → Nat
  | .hbm => 15
  | .vmem => 46
  | .smem => 4
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .f32⟩
  | .hbm, ⟨3, _⟩ => ⟨S8x8320x1, .f32⟩
  | .hbm, ⟨4, _⟩ => ⟨S8320x1024, .f32⟩
  | .hbm, ⟨5, _⟩ => ⟨S8x1x8320, .f32⟩
  | .hbm, ⟨6, _⟩ => ⟨S8320x1024, .f32⟩
  | .hbm, ⟨7, _⟩ => ⟨S8x8320x1, .f32⟩
  | .hbm, ⟨8, _⟩ => ⟨S8x8320x1, .f32⟩
  | .hbm, ⟨9, _⟩ => ⟨S8x1x8320, .f32⟩
  | .hbm, ⟨10, _⟩ => ⟨S8x1x8320, .f32⟩
  | .hbm, ⟨11, _⟩ => ⟨S8320x1024, .f32⟩
  | .hbm, ⟨12, _⟩ => ⟨S8320x1024, .f32⟩
  | .hbm, ⟨13, _⟩ => ⟨S8x8320x1, .f32⟩
  | .hbm, ⟨14, _⟩ => ⟨S8320x1024, .f32⟩
  | .local _ .vmem, ⟨0, _⟩ => ⟨S640x128, .f32⟩
  | .local _ .vmem, ⟨1, _⟩ => ⟨S640x128, .f32⟩
  | .local _ .vmem, ⟨2, _⟩ => ⟨S640x128, .f32⟩
  | .local _ .vmem, ⟨3, _⟩ => ⟨S640x128, .f32⟩
  | .local _ .vmem, ⟨4, _⟩ => ⟨S640x128, .f32⟩
  | .local _ .vmem, ⟨5, _⟩ => ⟨S640x128, .f32⟩
  | .local _ .vmem, ⟨6, _⟩ => ⟨S1x1x640, .f32⟩
  | .local _ .vmem, ⟨7, _⟩ => ⟨S1x1x640, .f32⟩
  | .local _ .vmem, ⟨8, _⟩ => ⟨S640x128, .f32⟩
  | .local _ .vmem, ⟨9, _⟩ => ⟨S640x128, .f32⟩
  | .local _ .vmem, ⟨10, _⟩ => ⟨S1x640x1, .f32⟩
  | .local _ .vmem, ⟨11, _⟩ => ⟨S1x640x1, .f32⟩
  | .local _ .vmem, ⟨12, _⟩ => ⟨S640x1, .f32⟩
  | .local _ .vmem, ⟨13, _⟩ => ⟨S640x1, .f32⟩
  | .local _ .vmem, ⟨14, _⟩ => ⟨S640x128, .f32⟩
  | .local _ .vmem, ⟨15, _⟩ => ⟨S640x1024, .f32⟩
  | .local _ .vmem, ⟨16, _⟩ => ⟨S640x1024, .f32⟩
  | .local _ .vmem, ⟨17, _⟩ => ⟨S640x1024, .f32⟩
  | .local _ .vmem, ⟨18, _⟩ => ⟨S640x1024, .f32⟩
  | .local _ .vmem, ⟨19, _⟩ => ⟨S8x640x1, .f32⟩
  | .local _ .vmem, ⟨20, _⟩ => ⟨S8x640x1, .f32⟩
  | .local _ .vmem, ⟨21, _⟩ => ⟨S640x128, .f32⟩
  | .local _ .vmem, ⟨22, _⟩ => ⟨S640x128, .f32⟩
  | .local _ .vmem, ⟨23, _⟩ => ⟨S640x128, .f32⟩
  | .local _ .vmem, ⟨24, _⟩ => ⟨S640x128, .f32⟩
  | .local _ .vmem, ⟨25, _⟩ => ⟨S640x128, .f32⟩
  | .local _ .vmem, ⟨26, _⟩ => ⟨S640x128, .f32⟩
  | .local _ .vmem, ⟨27, _⟩ => ⟨S1x640x1, .f32⟩
  | .local _ .vmem, ⟨28, _⟩ => ⟨S1x640x1, .f32⟩
  | .local _ .vmem, ⟨29, _⟩ => ⟨S640x128, .f32⟩
  | .local _ .vmem, ⟨30, _⟩ => ⟨S640x128, .f32⟩
  | .local _ .vmem, ⟨31, _⟩ => ⟨S1x1x640, .f32⟩
  | .local _ .vmem, ⟨32, _⟩ => ⟨S1x1x640, .f32⟩
  | .local _ .vmem, ⟨33, _⟩ => ⟨S1x1x640, .f32⟩
  | .local _ .vmem, ⟨34, _⟩ => ⟨S1x1x640, .f32⟩
  | .local _ .vmem, ⟨35, _⟩ => ⟨S640x128, .f32⟩
  | .local _ .vmem, ⟨36, _⟩ => ⟨S640x128, .f32⟩
  | .local _ .vmem, ⟨37, _⟩ => ⟨S640x128, .f32⟩
  | .local _ .vmem, ⟨38, _⟩ => ⟨S640x128, .f32⟩
  | .local _ .vmem, ⟨39, _⟩ => ⟨S1x640x1, .f32⟩
  | .local _ .vmem, ⟨40, _⟩ => ⟨S1x640x1, .f32⟩
  | .local _ .vmem, ⟨41, _⟩ => ⟨S8320x128, .f32⟩
  | .local _ .vmem, ⟨42, _⟩ => ⟨S8320x128, .f32⟩
  | .local _ .vmem, ⟨43, _⟩ => ⟨S640x128, .f32⟩
  | .local _ .vmem, ⟨44, _⟩ => ⟨S640x128, .f32⟩
  | .local _ .vmem, ⟨45, _⟩ => ⟨S640x1, .f32⟩
  | .local _ .smem, ⟨0, _⟩ => ⟨S91, .i32⟩
  | .local _ .smem, ⟨1, _⟩ => ⟨S91, .i32⟩
  | .local _ .smem, ⟨2, _⟩ => ⟨S91, .i32⟩
  | .local _ .smem, ⟨3, _⟩ => ⟨S91, .i32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc2_stg8_0 : Ref sig .tc := ⟨.vmem, 37, rfl⟩
abbrev cc2_stg8_1 : Ref sig .tc := ⟨.vmem, 38, rfl⟩
abbrev cc2_stg9_0 : Ref sig .tc := ⟨.vmem, 39, rfl⟩
abbrev cc2_stg9_1 : Ref sig .tc := ⟨.vmem, 40, rfl⟩
abbrev cc2_stg10_0 : Ref sig .tc := ⟨.vmem, 41, rfl⟩
abbrev cc2_stg10_1 : Ref sig .tc := ⟨.vmem, 42, rfl⟩
abbrev cc2_scratch0 : Ref sig .tc := ⟨.vmem, 43, rfl⟩
abbrev cc2_scratch1 : Ref sig .tc := ⟨.vmem, 44, rfl⟩
abbrev cc2_scratch2 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35
abbrev cc2_sem9_0 : DmaSem sig := 36
abbrev cc2_sem9_1 : DmaSem sig := 37
abbrev cc2_sem10_0 : DmaSem sig := 38
abbrev cc2_sem10_1 : DmaSem sig := 39

abbrev nD : Nat := 1
abbrev τ : Topo := Topo.v7x

variable {F : FTy → Type} [FloatOps F]

abbrev grid0 : Pipeline.Grid := ⟨2, ![8, 91], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let c0_i32_3 : BitVec 32 := 0#32
  let v13 : BitVec 32 := Scalar.addi v1 c0_i32_3
  let c12_i32 : BitVec 32 := 12#32
  let v14 : BitVec 32 := Scalar.minsi v13 c12_i32
  let v15 : BitVec 1 := Scalar.cmpi .eq v3 v14
  let v16 : BitVec 32 := Scalar.extui v15
  let c0_i32_4 : BitVec 32 := 0#32
  let v17 : BitVec 1 := Scalar.cmpi .ne v16 c0_i32_4
  v17

def cc0_transform_0 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S91.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  let c0_i32_0 : BitVec 32 := 0#32
  ![arg0.toNat, c0_i32.toNat, v1.toNat]

def cc0_transform_4 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S91.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x640x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S640x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S640x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x640x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 91], ![false, false]⟩

abbrev pre2 : Pipeline.Prefetch sig := ⟨2, ![main_c_1.idx, main_c_2.idx], fun | 0 => main_c_1.names | 1 => main_c_2.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg1 : BitVec 32 := BitVec.ofNat 32 (i 1).val
  let v0 : Index := Scalar.indexCast arg1
  ![v0.toNat]
def k2_mult1 (v3 : BitVec 32) : BitVec 32 :=
  let c640_i32 : BitVec 32 := 640#32
  let v4 : BitVec 32 := Scalar.muli v3 c640_i32
  v4

def k2_off2 (v3 : BitVec 32) : Fin 2 → Nat :=
  let c640_i32 : BitVec 32 := 640#32
  let v4 : BitVec 32 := Scalar.muli v3 c640_i32
  let v5 : BitVec 32 := v4
  let v67 : Index := Scalar.indexCast v5
  let c0_37 : Index := 0#32
  ![v67.toNat, 0]
def k2_cond3 (v1 : BitVec 32) (v3 : BitVec 32) : BitVec 1 :=
  let v14 : BitVec 1 := Scalar.cmpi .sgt v3 v1
  let v15 : BitVec 32 := Scalar.extui v14
  let c0_i32_4 : BitVec 32 := 0#32
  let v16 : BitVec 1 := Scalar.cmpi .ne v15 c0_i32_4
  v16

def k2_off3 (v3 : BitVec 32) : Fin 2 → Nat :=
  let c640_i32 : BitVec 32 := 640#32
  let v4 : BitVec 32 := Scalar.muli v3 c640_i32
  let v5 : BitVec 32 := v4
  let v80 : Index := Scalar.indexCast v5
  let c0_40 : Index := 0#32
  ![v80.toNat, 0]
def k2_cond4 (v1 : BitVec 32) (v3 : BitVec 32) : BitVec 1 :=
  let v17 : BitVec 1 := Scalar.cmpi .sle v3 v1
  let v18 : BitVec 32 := Scalar.extui v17
  let c0_i32_5 : BitVec 32 := 0#32
  let v19 : BitVec 1 := Scalar.cmpi .ne v18 c0_i32_5
  v19

def k2_chk1 (v1 : BitVec 32) (v3 : BitVec 32) : Prop :=
  (640 ∣ (k2_mult1 v3).toNat) ∧
  (∀ (k2_h3 : k2_cond3 v1 v3 = 1#1), ∀ a, (k2_off2 v3) a + S640x128.size a ≤ S8320x128.size a) ∧
  (∀ (k2_h4 : k2_cond4 v1 v3 = 1#1), ∀ a, (k2_off3 v3) a + S640x128.size a ≤ S8320x128.size a)
theorem k2_mult1_dvd : ∀ (v1 : BitVec 32) (v3 : BitVec 32) (k2_hw1 : k2_chk1 v1 v3), 640 ∣ (k2_mult1 v3).toNat := fun v1 v3 k2_hw1 => k2_hw1.1
theorem k2_off2_inb : ∀ (v1 : BitVec 32) (v3 : BitVec 32) (k2_hw1 : k2_chk1 v1 v3), ∀ (k2_h3 : k2_cond3 v1 v3 = 1#1), ∀ a, (k2_off2 v3) a + S640x128.size a ≤ S8320x128.size a := fun v1 v3 k2_hw1 k2_h3 => k2_hw1.2.1 k2_h3
theorem k2_off3_inb : ∀ (v1 : BitVec 32) (v3 : BitVec 32) (k2_hw1 : k2_chk1 v1 v3), ∀ (k2_h4 : k2_cond4 v1 v3 = 1#1), ∀ a, (k2_off3 v3) a + S640x128.size a ≤ S8320x128.size a := fun v1 v3 k2_hw1 k2_h4 => k2_hw1.2.2 k2_h4

def k2_cond5 (v3 : BitVec 32) : BitVec 1 :=
  let c12_i32 : BitVec 32 := 12#32
  let v20 : BitVec 1 := Scalar.cmpi .eq v3 c12_i32
  let v21 : BitVec 32 := Scalar.extui v20
  let c0_i32_6 : BitVec 32 := 0#32
  let v22 : BitVec 1 := Scalar.cmpi .ne v21 c0_i32_6
  v22

def k2_cond1 (i : grid2.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_0 : BitVec 32 := 0#32
  let v8 : BitVec 1 := Scalar.cmpi .ne v7 c0_i32_0
  v8

def k2_cond6 (i : grid2.Coords) : BitVec 1 :=
  let arg1 : BitVec 32 := BitVec.ofNat 32 (i 1).val
  let c90_i32 : BitVec 32 := 90#32
  let v23 : BitVec 1 := Scalar.cmpi .eq arg1 c90_i32
  let v24 : BitVec 32 := Scalar.extui v23
  let c0_i32_7 : BitVec 32 := 0#32
  let v25 : BitVec 1 := Scalar.cmpi .ne v24 c0_i32_7
  v25

def cc2_transform_0 (k2_off1_inb : ∀ i : grid2.Coords, ∀ a, (k2_off1 i) a + S1.size a ≤ S91.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k2_off1_inb i)) numel1_S1
  let c0_i32 : BitVec 32 := 0#32
  ![v1.toNat, arg0.toNat]

def cc2_transform_1 (k2_off1_inb : ∀ i : grid2.Coords, ∀ a, (k2_off1 i) a + S1.size a ≤ S91.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k2_off1_inb i)) numel1_S1
  let c0_i32 : BitVec 32 := 0#32
  ![v1.toNat, arg0.toNat]

def cc2_transform_2 (k2_off1_inb : ∀ i : grid2.Coords, ∀ a, (k2_off1 i) a + S1.size a ≤ S91.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k2_off1_inb i)) numel1_S1
  let c0_i32 : BitVec 32 := 0#32
  ![v1.toNat, arg0.toNat]

def cc2_transform_3 (k2_off1_inb : ∀ i : grid2.Coords, ∀ a, (k2_off1 i) a + S1.size a ≤ S91.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k2_off1_inb i)) numel1_S1
  let c0_i32 : BitVec 32 := 0#32
  let c0_i32_0 : BitVec 32 := 0#32
  ![arg0.toNat, v1.toNat, c0_i32.toNat]

def cc2_transform_4 (k2_off1_inb : ∀ i : grid2.Coords, ∀ a, (k2_off1 i) a + S1.size a ≤ S91.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k2_off1_inb i)) numel1_S1
  let c0_i32 : BitVec 32 := 0#32
  ![v1.toNat, arg0.toNat]

def cc2_transform_5 (k2_off1_inb : ∀ i : grid2.Coords, ∀ a, (k2_off1 i) a + S1.size a ≤ S91.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k2_off1_inb i)) numel1_S1
  let c0_i32 : BitVec 32 := 0#32
  let c0_i32_0 : BitVec 32 := 0#32
  ![arg0.toNat, c0_i32.toNat, v1.toNat]

def cc2_transform_6 (k2_off1_inb : ∀ i : grid2.Coords, ∀ a, (k2_off1 i) a + S1.size a ≤ S91.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k2_off1_inb i)) numel1_S1
  let c0_i32 : BitVec 32 := 0#32
  let c0_i32_0 : BitVec 32 := 0#32
  ![arg0.toNat, c0_i32.toNat, v1.toNat]

def cc2_transform_7 (k2_off1_inb : ∀ i : grid2.Coords, ∀ a, (k2_off1 i) a + S1.size a ≤ S91.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k2_off1_inb i)) numel1_S1
  let c0_i32 : BitVec 32 := 0#32
  ![v1.toNat, arg0.toNat]

def cc2_transform_8 (k2_off1_inb : ∀ i : grid2.Coords, ∀ a, (k2_off1 i) a + S1.size a ≤ S91.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k2_off1_inb i)) numel1_S1
  let c0_i32 : BitVec 32 := 0#32
  ![v1.toNat, arg0.toNat]

def cc2_transform_9 (k2_off1_inb : ∀ i : grid2.Coords, ∀ a, (k2_off1 i) a + S1.size a ≤ S91.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k2_off1_inb i)) numel1_S1
  let c0_i32 : BitVec 32 := 0#32
  let c0_i32_0 : BitVec 32 := 0#32
  ![arg0.toNat, v1.toNat, c0_i32.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S640x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S640x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S640x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x640x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S640x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x640 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x1x640 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S640x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S640x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x640x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S8320x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]
-- ==== KernelIdeal.lean ====
variable {F : FTy → Type} [FloatOps F] [Named F]
def κ : String → Option EReal := fun
  | "mask" => some ⊥
  | "s" => some (((Real.sqrt 128)⁻¹ : ℝ) : EReal)
  | _ => none
-- ==== ReferenceIdeal.lean ====
abbrev S8320x1024 : Shape := ⟨2, ![8320, 1024]⟩
abbrev S8x8320x1 : Shape := ⟨3, ![8, 8320, 1]⟩
abbrev S1x8320x8x128 : Shape := ⟨4, ![1, 8320, 8, 128]⟩
abbrev S8x8320 : Shape := ⟨2, ![8, 8320]⟩
abbrev S1x8x8320 : Shape := ⟨3, ![1, 8, 8320]⟩
abbrev S8320 : Shape := ⟨1, ![8320]⟩
abbrev S_ : Shape := ⟨0, ![]⟩
abbrev S1x8x8320x8320 : Shape := ⟨4, ![1, 8, 8320, 8320]⟩
abbrev S1x8x8320x1 : Shape := ⟨4, ![1, 8, 8320, 1]⟩
abbrev S1x8x1x8320 : Shape := ⟨4, ![1, 8, 1, 8320]⟩
abbrev S1x8320 : Shape := ⟨2, ![1, 8320]⟩
abbrev S8320x1 : Shape := ⟨2, ![8320, 1]⟩
abbrev S8320x8320 : Shape := ⟨2, ![8320, 8320]⟩
abbrev S1x8x128x8320 : Shape := ⟨4, ![1, 8, 128, 8320]⟩
abbrev S1x8x8320x128 : Shape := ⟨4, ![1, 8, 8320, 128]⟩

abbrev nBuf : Space → Nat
  | .hbm => 126
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .f32⟩
  | .hbm, ⟨3, _⟩ => ⟨S8x8320x1, .f32⟩
  | .hbm, ⟨4, _⟩ => ⟨S8320x1024, .f32⟩
  | .hbm, ⟨5, _⟩ => ⟨S1x8320x8x128, .f32⟩
  | .hbm, ⟨6, _⟩ => ⟨S1x8320x8x128, .f32⟩
  | .hbm, ⟨7, _⟩ => ⟨S1x8320x8x128, .f32⟩
  | .hbm, ⟨8, _⟩ => ⟨S8x8320, .f32⟩
  | .hbm, ⟨9, _⟩ => ⟨S1x8x8320, .f32⟩
  | .hbm, ⟨10, _⟩ => ⟨S8320, .i32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x8x8320x8320, .f32⟩
  | .hbm, ⟨16, _⟩ => ⟨S1x8x8320x8320, .f32⟩
  | .hbm, ⟨17, _⟩ => ⟨S1x8x8320x8320, .f32⟩
  | .hbm, ⟨18, _⟩ => ⟨S1x8x8320x1, .f32⟩
  | .hbm, ⟨19, _⟩ => ⟨S1x8x8320x8320, .f32⟩
  | .hbm, ⟨20, _⟩ => ⟨S1x8x8320x8320, .f32⟩
  | .hbm, ⟨21, _⟩ => ⟨S1x8x1x8320, .f32⟩
  | .hbm, ⟨22, _⟩ => ⟨S1x8x8320x8320, .f32⟩
  | .hbm, ⟨23, _⟩ => ⟨S1x8x8320x8320, .f32⟩
  | .hbm, ⟨24, _⟩ => ⟨S1x8320, .i32⟩
  | .hbm, ⟨25, _⟩ => ⟨S8320x1, .i32⟩
  | .hbm, ⟨26, _⟩ => ⟨S8320x8320, .i32⟩
  | .hbm, ⟨27, _⟩ => ⟨S8320x8320, .i32⟩
  | .hbm, ⟨28, _⟩ => ⟨S8320x8320, .i1⟩
  | .hbm, ⟨29, _⟩ => ⟨S_, .f32⟩
  | .hbm, ⟨30, _⟩ => ⟨S_, .f32⟩
  | .hbm, ⟨31, _⟩ => ⟨S1x8x8320x8320, .i1⟩
  | .hbm, ⟨32, _⟩ => ⟨S1x8x8320x8320, .f32⟩
  | .hbm, ⟨33, _⟩ => ⟨S1x8x8320x8320, .f32⟩
  | .hbm, ⟨34, _⟩ => ⟨S_, .f32⟩
  | .hbm, ⟨35, _⟩ => ⟨S1x8x8320x8320, .f32⟩
  | .hbm, ⟨36, _⟩ => ⟨S_, .f32⟩
  | .hbm, ⟨37, _⟩ => ⟨S1x8x8320, .f32⟩
  | .hbm, ⟨38, _⟩ => ⟨S1x8x8320x1, .f32⟩
  | .hbm, ⟨39, _⟩ => ⟨S1x8x8320x8320, .f32⟩
  | .hbm, ⟨40, _⟩ => ⟨S1x8x8320x8320, .i1⟩
  | .hbm, ⟨41, _⟩ => ⟨S1x8x8320x8320, .f32⟩
  | .hbm, ⟨42, _⟩ => ⟨S_, .f32⟩
  | .hbm, ⟨43, _⟩ => ⟨S1x8x8320, .f32⟩
  | .hbm, ⟨44, _⟩ => ⟨S_, .f32⟩
  | .hbm, ⟨45, _⟩ => ⟨S1x8x8320, .f32⟩
  | .hbm, ⟨46, _⟩ => ⟨S1x8x8320, .f32⟩
  | .hbm, ⟨47, _⟩ => ⟨S_, .f32⟩
  | .hbm, ⟨48, _⟩ => ⟨S1x8x8320, .f32⟩
  | .hbm, ⟨49, _⟩ => ⟨S1x8x8320, .i1⟩
  | .hbm, ⟨50, _⟩ => ⟨S_, .f32⟩
  | .hbm, ⟨51, _⟩ => ⟨S1x8x8320, .f32⟩
  | .hbm, ⟨52, _⟩ => ⟨S1x8x8320, .i1⟩
  | .hbm, ⟨53, _⟩ => ⟨S_, .f32⟩
  | .hbm, ⟨54, _⟩ => ⟨S1x8x8320, .f32⟩
  | .hbm, ⟨55, _⟩ => ⟨S_, .f32⟩
  | .hbm, ⟨56, _⟩ => ⟨S1x8x8320, .f32⟩
  | .hbm, ⟨57, _⟩ => ⟨S_, .f32⟩
  | .hbm, ⟨58, _⟩ => ⟨S1x8x8320, .f32⟩
  | .hbm, ⟨59, _⟩ => ⟨S1x8x8320, .f32⟩
  | .hbm, ⟨60, _⟩ => ⟨S1x8x8320, .f32⟩
  | .hbm, ⟨61, _⟩ => ⟨S1x8x8320x1, .f32⟩
  | .hbm, ⟨62, _⟩ => ⟨S1x8x8320x8320, .f32⟩
  | .hbm, ⟨63, _⟩ => ⟨S1x8x8320x8320, .f32⟩
  | .hbm, ⟨64, _⟩ => ⟨S1x8x8320x8320, .f32⟩
  | .hbm, ⟨65, _⟩ => ⟨S_, .f32⟩
  | .hbm, ⟨66, _⟩ => ⟨S1x8x8320, .f32⟩
  | .hbm, ⟨67, _⟩ => ⟨S1x8x8320x1, .f32⟩
  | .hbm, ⟨68, _⟩ => ⟨S1x8x8320x8320, .f32⟩
  | .hbm, ⟨69, _⟩ => ⟨S1x8x8320x8320, .f32⟩
  | .hbm, ⟨70, _⟩ => ⟨S1x8x8320x1, .f32⟩
  | .hbm, ⟨71, _⟩ => ⟨S_, .f32⟩
  | .hbm, ⟨72, _⟩ => ⟨S1x8x8320x1, .f32⟩
  | .hbm, ⟨73, _⟩ => ⟨S1x8x8320x1, .f32⟩
  | .hbm, ⟨74, _⟩ => ⟨S1x8x128x8320, .f32⟩
  | .hbm, ⟨75, _⟩ => ⟨S1x8320x8x128, .f32⟩
  | .hbm, ⟨76, _⟩ => ⟨S8320x1024, .f32⟩
  | .hbm, ⟨77, _⟩ => ⟨S1x8320x8x128, .f32⟩
  | .hbm, ⟨78, _⟩ => ⟨S1x8x128x8320, .f32⟩
  | .hbm, ⟨79, _⟩ => ⟨S1x8x8320x8320, .f32⟩
  | .hbm, ⟨80, _⟩ => ⟨S1x8x128x8320, .f32⟩
  | .hbm, ⟨81, _⟩ => ⟨S1x8320x8x128, .f32⟩
  | .hbm, ⟨82, _⟩ => ⟨S1x8x8320x8320, .f32⟩
  | .hbm, ⟨83, _⟩ => ⟨S1x8x8320x8320, .f32⟩
  | .hbm, ⟨84, _⟩ => ⟨S1x8x8320x8320, .f32⟩
  | .hbm, ⟨85, _⟩ => ⟨S_, .f32⟩
  | .hbm, ⟨86, _⟩ => ⟨S1x8x8320, .f32⟩
  | .hbm, ⟨87, _⟩ => ⟨S1x8x8320x1, .f32⟩
  | .hbm, ⟨88, _⟩ => ⟨S1x8x8320x1, .f32⟩
  | .hbm, ⟨89, _⟩ => ⟨S1x8x8320x8320, .f32⟩
  | .hbm, ⟨90, _⟩ => ⟨S1x8x8320x8320, .f32⟩
  | .hbm, ⟨91, _⟩ => ⟨S_, .f32⟩
  | .hbm, ⟨92, _⟩ => ⟨S8x8320, .f32⟩
  | .hbm, ⟨93, _⟩ => ⟨S1x8x8320, .f32⟩
  | .hbm, ⟨94, _⟩ => ⟨S1x8x8320x8320, .f32⟩
  | .hbm, ⟨95, _⟩ => ⟨S1x8x8320x8320, .f32⟩
  | .hbm, ⟨96, _⟩ => ⟨S1x8x8320x8320, .f32⟩
  | .hbm, ⟨97, _⟩ => ⟨S_, .f32⟩
  | .hbm, ⟨98, _⟩ => ⟨S1x8x8320x8320, .f32⟩
  | .hbm, ⟨99, _⟩ => ⟨S1x8x8320x8320, .f32⟩
  | .hbm, ⟨100, _⟩ => ⟨S1x8x8320x8320, .f32⟩
  | .hbm, ⟨101, _⟩ => ⟨S_, .f32⟩
  | .hbm, ⟨102, _⟩ => ⟨S1x8x8320, .f32⟩
  | .hbm, ⟨103, _⟩ => ⟨S1x8x1x8320, .f32⟩
  | .hbm, ⟨104, _⟩ => ⟨S_, .f32⟩
  | .hbm, ⟨105, _⟩ => ⟨S8x8320, .f32⟩
  | .hbm, ⟨106, _⟩ => ⟨S1x8x8320, .f32⟩
  | .hbm, ⟨107, _⟩ => ⟨S_, .f32⟩
  | .hbm, ⟨108, _⟩ => ⟨S1x8x8320, .f32⟩
  | .hbm, ⟨109, _⟩ => ⟨S1x8x8320x1, .f32⟩
  | .hbm, ⟨110, _⟩ => ⟨S_, .f32⟩
  | .hbm, ⟨111, _⟩ => ⟨S8x8320, .f32⟩
  | .hbm, ⟨112, _⟩ => ⟨S1x8x8320, .f32⟩
  | .hbm, ⟨113, _⟩ => ⟨S1x8x8320, .f32⟩
  | .hbm, ⟨114, _⟩ => ⟨S1x8x8320x8320, .f32⟩
  | .hbm, ⟨115, _⟩ => ⟨S1x8x8320x8320, .f32⟩
  | .hbm, ⟨116, _⟩ => ⟨S1x8x8320x128, .f32⟩
  | .hbm, ⟨117, _⟩ => ⟨S1x8320x8x128, .f32⟩
  | .hbm, ⟨118, _⟩ => ⟨S1x8x8320x128, .f32⟩
  | .hbm, ⟨119, _⟩ => ⟨S1x8320x8x128, .f32⟩
  | .hbm, ⟨120, _⟩ => ⟨S_, .f32⟩
  | .hbm, ⟨121, _⟩ => ⟨S8x8320, .f32⟩
  | .hbm, ⟨122, _⟩ => ⟨S8x8320x1, .f32⟩
  | .hbm, ⟨123, _⟩ => ⟨S8320x1024, .f32⟩
  | .hbm, ⟨124, _⟩ => ⟨S8320x1024, .f32⟩
  | .hbm, ⟨125, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_call0_v0 : Ref sig .tc := ⟨.hbm, 30, rfl⟩
abbrev main_v22_1 : Ref sig .tc := ⟨.hbm, 31, rfl⟩
abbrev main_call0_v2 : Ref sig .tc := ⟨.hbm, 32, rfl⟩
abbrev main_v22_0 : Ref sig .tc := ⟨.hbm, 33, rfl⟩
abbrev main_call0_cst : Ref sig .tc := ⟨.hbm, 34, rfl⟩
abbrev main_v22_2 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call1_cst : Ref sig .tc := ⟨.hbm, 97, rfl⟩
abbrev main_call1_v0 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩

abbrev nD : Nat := 1
abbrev τ : Topo := Topo.v7x

variable {F : FTy → Type} [FloatOps F]
-- ==== Kernel2.lean ====
abbrev S8320x2048 : Shape := ⟨2, ![8320, 2048]⟩
abbrev S2048x11264 : Shape := ⟨2, ![2048, 11264]⟩
abbrev S8320x11264 : Shape := ⟨2, ![8320, 11264]⟩
abbrev S1664x2816 : Shape := ⟨2, ![1664, 2816]⟩
abbrev S512x2816 : Shape := ⟨2, ![512, 2816]⟩
abbrev S1664x512 : Shape := ⟨2, ![1664, 512]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S8320x11264, .bf16⟩
  | .hbm, ⟨3, _⟩ => ⟨S8320x2048, .f32⟩
  | .local _ .vmem, ⟨0, _⟩ => ⟨S1664x2816, .bf16⟩
  | .local _ .vmem, ⟨1, _⟩ => ⟨S1664x2816, .bf16⟩
  | .local _ .vmem, ⟨2, _⟩ => ⟨S512x2816, .bf16⟩
  | .local _ .vmem, ⟨3, _⟩ => ⟨S512x2816, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S8320x2048 : Shape := ⟨2, ![8320, 2048]⟩
abbrev S2048x11264 : Shape := ⟨2, ![2048, 11264]⟩
abbrev S8320x11264 : Shape := ⟨2, ![8320, 11264]⟩
abbrev S1664x2816 : Shape := ⟨2, ![1664, 2816]⟩
abbrev S512x2816 : Shape := ⟨2, ![512, 2816]⟩
abbrev S1664x512 : Shape := ⟨2, ![1664, 512]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S8320x11264, .bf16⟩
  | .hbm, ⟨3, _⟩ => ⟨S8320x2048, .f32⟩
  | .local _ .vmem, ⟨0, _⟩ => ⟨S1664x2816, .bf16⟩
  | .local _ .vmem, ⟨1, _⟩ => ⟨S1664x2816, .bf16⟩
  | .local _ .vmem, ⟨2, _⟩ => ⟨S512x2816, .bf16⟩
  | .local _ .vmem, ⟨3, _⟩ => ⟨S512x2816, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8320x2048 : Shape := ⟨2, ![8320, 2048]⟩
abbrev S2048x11264 : Shape := ⟨2, ![2048, 11264]⟩
abbrev S8320x11264 : Shape := ⟨2, ![8320, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S8320x11264, .bf16⟩
  | .hbm, ⟨3, _⟩ => ⟨S8320x2048, .f32⟩
  | .hbm, ⟨4, _⟩ => ⟨S2048x11264, .f32⟩
  | .hbm, ⟨5, _⟩ => ⟨S8320x11264, .f32⟩
  | .hbm, ⟨6, _⟩ => ⟨S8320x11264, .f32⟩
  | .hbm, ⟨7, _⟩ => ⟨S11264x2048, .f32⟩
  | .hbm, ⟨8, _⟩ => ⟨S2048x11264, .f32⟩
  | .hbm, ⟨9, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8320x2048 : Shape := ⟨2, ![8320, 2048]⟩
abbrev S2048x11264 : Shape := ⟨2, ![2048, 11264]⟩
abbrev S8320x11264 : Shape := ⟨2, ![8320, 11264]⟩
abbrev S1664x2048 : Shape := ⟨2, ![1664, 2048]⟩
abbrev S1664x1024 : Shape := ⟨2, ![1664, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S8320x11264, .bf16⟩
  | .hbm, ⟨3, _⟩ => ⟨S2048x11264, .bf16⟩
  | .local _ .vmem, ⟨0, _⟩ => ⟨S1664x2048, .bf16⟩
  | .local _ .vmem, ⟨1, _⟩ => ⟨S1664x2048, .bf16⟩
  | .local _ .vmem, ⟨2, _⟩ => ⟨S1664x1024, .bf16⟩
  | .local _ .vmem, ⟨3, _⟩ => ⟨S1664x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S8320x2048 : Shape := ⟨2, ![8320, 2048]⟩
abbrev S2048x11264 : Shape := ⟨2, ![2048, 11264]⟩
abbrev S8320x11264 : Shape := ⟨2, ![8320, 11264]⟩
abbrev S1664x2048 : Shape := ⟨2, ![1664, 2048]⟩
abbrev S1664x1024 : Shape := ⟨2, ![1664, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S8320x11264, .bf16⟩
  | .hbm, ⟨3, _⟩ => ⟨S2048x11264, .bf16⟩
  | .local _ .vmem, ⟨0, _⟩ => ⟨S1664x2048, .bf16⟩
  | .local _ .vmem, ⟨1, _⟩ => ⟨S1664x2048, .bf16⟩
  | .local _ .vmem, ⟨2, _⟩ => ⟨S1664x1024, .bf16⟩
  | .local _ .vmem, ⟨3, _⟩ => ⟨S1664x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8320x2048 : Shape := ⟨2, ![8320, 2048]⟩
abbrev S2048x11264 : Shape := ⟨2, ![2048, 11264]⟩
abbrev S8320x11264 : Shape := ⟨2, ![8320, 11264]⟩
abbrev S11264x2048 : Shape := ⟨2, ![11264, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S8320x11264, .bf16⟩
  | .hbm, ⟨3, _⟩ => ⟨S8320x2048, .f32⟩
  | .hbm, ⟨4, _⟩ => ⟨S2048x11264, .f32⟩
  | .hbm, ⟨5, _⟩ => ⟨S8320x11264, .f32⟩
  | .hbm, ⟨6, _⟩ => ⟨S8320x11264, .f32⟩
  | .hbm, ⟨7, _⟩ => ⟨S11264x2048, .f32⟩
  | .hbm, ⟨8, _⟩ => ⟨S2048x11264, .f32⟩
  | .hbm, ⟨9, _⟩ => ⟨S8320x2048, .f32⟩
  | .hbm, ⟨10, _⟩ => ⟨S2048x11264, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8320x5632 : Shape := ⟨2, ![8320, 5632]⟩
abbrev S5632x2048 : Shape := ⟨2, ![5632, 2048]⟩
abbrev S8320x2048 : Shape := ⟨2, ![8320, 2048]⟩
abbrev S640x2048 : Shape := ⟨2, ![640, 2048]⟩
abbrev S1408x2048 : Shape := ⟨2, ![1408, 2048]⟩
abbrev S640x1408 : Shape := ⟨2, ![640, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .hbm, ⟨3, _⟩ => ⟨S8320x5632, .f32⟩
  | .local _ .vmem, ⟨0, _⟩ => ⟨S640x2048, .f32⟩
  | .local _ .vmem, ⟨1, _⟩ => ⟨S640x2048, .f32⟩
  | .local _ .vmem, ⟨2, _⟩ => ⟨S1408x2048, .bf16⟩
  | .local _ .vmem, ⟨3, _⟩ => ⟨S1408x2048, .bf16⟩
  | .local _ .vmem, ⟨4, _⟩ => ⟨S640x1408, .f32⟩
  | .local _ .vmem, ⟨5, _⟩ => ⟨S640x1408, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S8320x5632 : Shape := ⟨2, ![8320, 5632]⟩
abbrev S5632x2048 : Shape := ⟨2, ![5632, 2048]⟩
abbrev S8320x2048 : Shape := ⟨2, ![8320, 2048]⟩
abbrev S640x2048 : Shape := ⟨2, ![640, 2048]⟩
abbrev S1408x2048 : Shape := ⟨2, ![1408, 2048]⟩
abbrev S640x1408 : Shape := ⟨2, ![640, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .hbm, ⟨3, _⟩ => ⟨S8320x5632, .f32⟩
  | .local _ .vmem, ⟨0, _⟩ => ⟨S640x2048, .f32⟩
  | .local _ .vmem, ⟨1, _⟩ => ⟨S640x2048, .f32⟩
  | .local _ .vmem, ⟨2, _⟩ => ⟨S1408x2048, .bf16⟩
  | .local _ .vmem, ⟨3, _⟩ => ⟨S1408x2048, .bf16⟩
  | .local _ .vmem, ⟨4, _⟩ => ⟨S640x1408, .f32⟩
  | .local _ .vmem, ⟨5, _⟩ => ⟨S640x1408, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x5632 : Shape := ⟨2, ![8320, 5632]⟩
abbrev S5632x2048 : Shape := ⟨2, ![5632, 2048]⟩
abbrev S8320x2048 : Shape := ⟨2, ![8320, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .hbm, ⟨3, _⟩ => ⟨S8320x5632, .f32⟩
  | .hbm, ⟨4, _⟩ => ⟨S5632x2048, .f32⟩
  | .hbm, ⟨5, _⟩ => ⟨S8320x2048, .f32⟩
  | .hbm, ⟨6, _⟩ => ⟨S2048x5632, .f32⟩
  | .hbm, ⟨7, _⟩ => ⟨S5632x2048, .f32⟩
  | .hbm, ⟨8, _⟩ => ⟨S8320x5632, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8320x5632 : Shape := ⟨2, ![8320, 5632]⟩
abbrev S5632x2048 : Shape := ⟨2, ![5632, 2048]⟩
abbrev S8320x2048 : Shape := ⟨2, ![8320, 2048]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .hbm, ⟨3, _⟩ => ⟨S5632x2048, .bf16⟩
  | .local _ .vmem, ⟨0, _⟩ => ⟨S1664x1408, .bf16⟩
  | .local _ .vmem, ⟨1, _⟩ => ⟨S1664x1408, .bf16⟩
  | .local _ .vmem, ⟨2, _⟩ => ⟨S1664x1024, .f32⟩
  | .local _ .vmem, ⟨3, _⟩ => ⟨S1664x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S8320x5632 : Shape := ⟨2, ![8320, 5632]⟩
abbrev S5632x2048 : Shape := ⟨2, ![5632, 2048]⟩
abbrev S8320x2048 : Shape := ⟨2, ![8320, 2048]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .hbm, ⟨3, _⟩ => ⟨S5632x2048, .bf16⟩
  | .local _ .vmem, ⟨0, _⟩ => ⟨S1664x1408, .bf16⟩
  | .local _ .vmem, ⟨1, _⟩ => ⟨S1664x1408, .bf16⟩
  | .local _ .vmem, ⟨2, _⟩ => ⟨S1664x1024, .f32⟩
  | .local _ .vmem, ⟨3, _⟩ => ⟨S1664x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x5632 : Shape := ⟨2, ![8320, 5632]⟩
abbrev S5632x2048 : Shape := ⟨2, ![5632, 2048]⟩
abbrev S8320x2048 : Shape := ⟨2, ![8320, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .hbm, ⟨3, _⟩ => ⟨S8320x5632, .f32⟩
  | .hbm, ⟨4, _⟩ => ⟨S5632x2048, .f32⟩
  | .hbm, ⟨5, _⟩ => ⟨S8320x2048, .f32⟩
  | .hbm, ⟨6, _⟩ => ⟨S2048x5632, .f32⟩
  | .hbm, ⟨7, _⟩ => ⟨S5632x2048, .f32⟩
  | .hbm, ⟨8, _⟩ => ⟨S8320x5632, .f32⟩
  | .hbm, ⟨9, _⟩ => ⟨S5632x2048, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8320x2048 : Shape := ⟨2, ![8320, 2048]⟩
abbrev S2048x11264 : Shape := ⟨2, ![2048, 11264]⟩
abbrev S8320x11264 : Shape := ⟨2, ![8320, 11264]⟩
abbrev S1664x2048 : Shape := ⟨2, ![1664, 2048]⟩
abbrev S2048x1024 : Shape := ⟨2, ![2048, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S8320x11264, .f32⟩
  | .local _ .vmem, ⟨0, _⟩ => ⟨S1664x2048, .bf16⟩
  | .local _ .vmem, ⟨1, _⟩ => ⟨S1664x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .f32⟩
  | .local _ .vmem, ⟨5, _⟩ => ⟨S1664x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S8320x2048 : Shape := ⟨2, ![8320, 2048]⟩
abbrev S2048x11264 : Shape := ⟨2, ![2048, 11264]⟩
abbrev S8320x11264 : Shape := ⟨2, ![8320, 11264]⟩
abbrev S1664x2048 : Shape := ⟨2, ![1664, 2048]⟩
abbrev S2048x1024 : Shape := ⟨2, ![2048, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S8320x11264, .f32⟩
  | .local _ .vmem, ⟨0, _⟩ => ⟨S1664x2048, .bf16⟩
  | .local _ .vmem, ⟨1, _⟩ => ⟨S1664x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .f32⟩
  | .local _ .vmem, ⟨5, _⟩ => ⟨S1664x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8320x2048 : Shape := ⟨2, ![8320, 2048]⟩
abbrev S2048x11264 : Shape := ⟨2, ![2048, 11264]⟩
abbrev S8320x11264 : Shape := ⟨2, ![8320, 11264]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S8320x2048, .f32⟩
  | .hbm, ⟨3, _⟩ => ⟨S2048x11264, .f32⟩
  | .hbm, ⟨4, _⟩ => ⟨S8320x11264, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8320x5632 : Shape := ⟨2, ![8320, 5632]⟩
abbrev S5632x2048 : Shape := ⟨2, ![5632, 2048]⟩
abbrev S8320x2048 : Shape := ⟨2, ![8320, 2048]⟩
abbrev S1664x2816 : Shape := ⟨2, ![1664, 2816]⟩
abbrev S2816x512 : Shape := ⟨2, ![2816, 512]⟩
abbrev S1664x512 : Shape := ⟨2, ![1664, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .local _ .vmem, ⟨0, _⟩ => ⟨S1664x2816, .bf16⟩
  | .local _ .vmem, ⟨1, _⟩ => ⟨S1664x2816, .bf16⟩
  | .local _ .vmem, ⟨2, _⟩ => ⟨S2816x512, .bf16⟩
  | .local _ .vmem, ⟨3, _⟩ => ⟨S2816x512, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S8320x5632 : Shape := ⟨2, ![8320, 5632]⟩
abbrev S5632x2048 : Shape := ⟨2, ![5632, 2048]⟩
abbrev S8320x2048 : Shape := ⟨2, ![8320, 2048]⟩
abbrev S1664x2816 : Shape := ⟨2, ![1664, 2816]⟩
abbrev S2816x512 : Shape := ⟨2, ![2816, 512]⟩
abbrev S1664x512 : Shape := ⟨2, ![1664, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .local _ .vmem, ⟨0, _⟩ => ⟨S1664x2816, .bf16⟩
  | .local _ .vmem, ⟨1, _⟩ => ⟨S1664x2816, .bf16⟩
  | .local _ .vmem, ⟨2, _⟩ => ⟨S2816x512, .bf16⟩
  | .local _ .vmem, ⟨3, _⟩ => ⟨S2816x512, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8320x5632 : Shape := ⟨2, ![8320, 5632]⟩
abbrev S5632x2048 : Shape := ⟨2, ![5632, 2048]⟩
abbrev S8320x2048 : Shape := ⟨2, ![8320, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x5632, .f32⟩
  | .hbm, ⟨3, _⟩ => ⟨S5632x2048, .f32⟩
  | .hbm, ⟨4, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8320x2048 : Shape := ⟨2, ![8320, 2048]⟩
abbrev S2048x5376 : Shape := ⟨2, ![2048, 5376]⟩
abbrev S8320x5376 : Shape := ⟨2, ![8320, 5376]⟩
abbrev S1664x2688 : Shape := ⟨2, ![1664, 2688]⟩
abbrev S512x2688 : Shape := ⟨2, ![512, 2688]⟩
abbrev S1664x512 : Shape := ⟨2, ![1664, 512]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x5376, .bf16⟩
  | .hbm, ⟨2, _⟩ => ⟨S8320x5376, .bf16⟩
  | .hbm, ⟨3, _⟩ => ⟨S8320x2048, .f32⟩
  | .local _ .vmem, ⟨0, _⟩ => ⟨S1664x2688, .bf16⟩
  | .local _ .vmem, ⟨1, _⟩ => ⟨S1664x2688, .bf16⟩
  | .local _ .vmem, ⟨2, _⟩ => ⟨S512x2688, .bf16⟩
  | .local _ .vmem, ⟨3, _⟩ => ⟨S512x2688, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S8320x2048 : Shape := ⟨2, ![8320, 2048]⟩
abbrev S2048x5376 : Shape := ⟨2, ![2048, 5376]⟩
abbrev S8320x5376 : Shape := ⟨2, ![8320, 5376]⟩
abbrev S1664x2688 : Shape := ⟨2, ![1664, 2688]⟩
abbrev S512x2688 : Shape := ⟨2, ![512, 2688]⟩
abbrev S1664x512 : Shape := ⟨2, ![1664, 512]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x5376, .bf16⟩
  | .hbm, ⟨2, _⟩ => ⟨S8320x5376, .bf16⟩
  | .hbm, ⟨3, _⟩ => ⟨S8320x2048, .f32⟩
  | .local _ .vmem, ⟨0, _⟩ => ⟨S1664x2688, .bf16⟩
  | .local _ .vmem, ⟨1, _⟩ => ⟨S1664x2688, .bf16⟩
  | .local _ .vmem, ⟨2, _⟩ => ⟨S512x2688, .bf16⟩
  | .local _ .vmem, ⟨3, _⟩ => ⟨S512x2688, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8320x2048 : Shape := ⟨2, ![8320, 2048]⟩
abbrev S2048x5376 : Shape := ⟨2, ![2048, 5376]⟩
abbrev S8320x5376 : Shape := ⟨2, ![8320, 5376]⟩
abbrev S5376x2048 : Shape := ⟨2, ![5376, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x5376, .bf16⟩
  | .hbm, ⟨2, _⟩ => ⟨S8320x5376, .bf16⟩
  | .hbm, ⟨3, _⟩ => ⟨S8320x2048, .f32⟩
  | .hbm, ⟨4, _⟩ => ⟨S2048x5376, .f32⟩
  | .hbm, ⟨5, _⟩ => ⟨S8320x5376, .f32⟩
  | .hbm, ⟨6, _⟩ => ⟨S8320x5376, .f32⟩
  | .hbm, ⟨7, _⟩ => ⟨S5376x2048, .f32⟩
  | .hbm, ⟨8, _⟩ => ⟨S2048x5376, .f32⟩
  | .hbm, ⟨9, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8320x2048 : Shape := ⟨2, ![8320, 2048]⟩
abbrev S2048x5376 : Shape := ⟨2, ![2048, 5376]⟩
abbrev S8320x5376 : Shape := ⟨2, ![8320, 5376]⟩
abbrev S1664x1024 : Shape := ⟨2, ![1664, 1024]⟩
abbrev S1664x1792 : Shape := ⟨2, ![1664, 1792]⟩
abbrev S1024x1792 : Shape := ⟨2, ![1024, 1792]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x5376, .bf16⟩
  | .hbm, ⟨2, _⟩ => ⟨S8320x5376, .bf16⟩
  | .hbm, ⟨3, _⟩ => ⟨S2048x5376, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1792, .bf16⟩
  | .local _ .vmem, ⟨3, _⟩ => ⟨S1664x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S8320x2048 : Shape := ⟨2, ![8320, 2048]⟩
abbrev S2048x5376 : Shape := ⟨2, ![2048, 5376]⟩
abbrev S8320x5376 : Shape := ⟨2, ![8320, 5376]⟩
abbrev S1664x1024 : Shape := ⟨2, ![1664, 1024]⟩
abbrev S1664x1792 : Shape := ⟨2, ![1664, 1792]⟩
abbrev S1024x1792 : Shape := ⟨2, ![1024, 1792]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x5376, .bf16⟩
  | .hbm, ⟨2, _⟩ => ⟨S8320x5376, .bf16⟩
  | .hbm, ⟨3, _⟩ => ⟨S2048x5376, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1792, .bf16⟩
  | .local _ .vmem, ⟨3, _⟩ => ⟨S1664x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8320x2048 : Shape := ⟨2, ![8320, 2048]⟩
abbrev S2048x5376 : Shape := ⟨2, ![2048, 5376]⟩
abbrev S8320x5376 : Shape := ⟨2, ![8320, 5376]⟩
abbrev S5376x2048 : Shape := ⟨2, ![5376, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x5376, .bf16⟩
  | .hbm, ⟨2, _⟩ => ⟨S8320x5376, .bf16⟩
  | .hbm, ⟨3, _⟩ => ⟨S8320x2048, .f32⟩
  | .hbm, ⟨4, _⟩ => ⟨S2048x5376, .f32⟩
  | .hbm, ⟨5, _⟩ => ⟨S8320x5376, .f32⟩
  | .hbm, ⟨6, _⟩ => ⟨S8320x5376, .f32⟩
  | .hbm, ⟨7, _⟩ => ⟨S5376x2048, .f32⟩
  | .hbm, ⟨8, _⟩ => ⟨S2048x5376, .f32⟩
  | .hbm, ⟨9, _⟩ => ⟨S8320x2048, .f32⟩
  | .hbm, ⟨10, _⟩ => ⟨S2048x5376, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8320x2048 : Shape := ⟨2, ![8320, 2048]⟩
abbrev S2048x5376 : Shape := ⟨2, ![2048, 5376]⟩
abbrev S8320x5376 : Shape := ⟨2, ![8320, 5376]⟩
abbrev S1664x2048 : Shape := ⟨2, ![1664, 2048]⟩
abbrev S2048x768 : Shape := ⟨2, ![2048, 768]⟩
abbrev S1664x768 : Shape := ⟨2, ![1664, 768]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x5376, .bf16⟩
  | .hbm, ⟨2, _⟩ => ⟨S8320x5376, .f32⟩
  | .local _ .vmem, ⟨0, _⟩ => ⟨S1664x2048, .bf16⟩
  | .local _ .vmem, ⟨1, _⟩ => ⟨S1664x2048, .bf16⟩
  | .local _ .vmem, ⟨2, _⟩ => ⟨S2048x768, .bf16⟩
  | .local _ .vmem, ⟨3, _⟩ => ⟨S2048x768, .bf16⟩
  | .local _ .vmem, ⟨4, _⟩ => ⟨S1664x768, .f32⟩
  | .local _ .vmem, ⟨5, _⟩ => ⟨S1664x768, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S8320x2048 : Shape := ⟨2, ![8320, 2048]⟩
abbrev S2048x5376 : Shape := ⟨2, ![2048, 5376]⟩
abbrev S8320x5376 : Shape := ⟨2, ![8320, 5376]⟩
abbrev S1664x2048 : Shape := ⟨2, ![1664, 2048]⟩
abbrev S2048x768 : Shape := ⟨2, ![2048, 768]⟩
abbrev S1664x768 : Shape := ⟨2, ![1664, 768]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x5376, .bf16⟩
  | .hbm, ⟨2, _⟩ => ⟨S8320x5376, .f32⟩
  | .local _ .vmem, ⟨0, _⟩ => ⟨S1664x2048, .bf16⟩
  | .local _ .vmem, ⟨1, _⟩ => ⟨S1664x2048, .bf16⟩
  | .local _ .vmem, ⟨2, _⟩ => ⟨S2048x768, .bf16⟩
  | .local _ .vmem, ⟨3, _⟩ => ⟨S2048x768, .bf16⟩
  | .local _ .vmem, ⟨4, _⟩ => ⟨S1664x768, .f32⟩
  | .local _ .vmem, ⟨5, _⟩ => ⟨S1664x768, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8320x2048 : Shape := ⟨2, ![8320, 2048]⟩
abbrev S2048x5376 : Shape := ⟨2, ![2048, 5376]⟩
abbrev S8320x5376 : Shape := ⟨2, ![8320, 5376]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x5376, .bf16⟩
  | .hbm, ⟨2, _⟩ => ⟨S8320x2048, .f32⟩
  | .hbm, ⟨3, _⟩ => ⟨S2048x5376, .f32⟩
  | .hbm, ⟨4, _⟩ => ⟨S8320x5376, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8320x1024 : Shape := ⟨2, ![8320, 1024]⟩
abbrev S1024x2048 : Shape := ⟨2, ![1024, 2048]⟩
abbrev S8320x2048 : Shape := ⟨2, ![8320, 2048]⟩
abbrev S1664x2048 : Shape := ⟨2, ![1664, 2048]⟩
abbrev S256x2048 : Shape := ⟨2, ![256, 2048]⟩
abbrev S1664x256 : Shape := ⟨2, ![1664, 256]⟩

abbrev nBuf : Space → Nat
  | .hbm => 4
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x2048, .bf16⟩
  | .hbm, ⟨2, _⟩ => ⟨S8320x2048, .f32⟩
  | .hbm, ⟨3, _⟩ => ⟨S8320x1024, .f32⟩
  | .local _ .vmem, ⟨0, _⟩ => ⟨S1664x2048, .f32⟩
  | .local _ .vmem, ⟨1, _⟩ => ⟨S1664x2048, .f32⟩
  | .local _ .vmem, ⟨2, _⟩ => ⟨S256x2048, .bf16⟩
  | .local _ .vmem, ⟨3, _⟩ => ⟨S256x2048, .bf16⟩
  | .local _ .vmem, ⟨4, _⟩ => ⟨S1664x256, .f32⟩
  | .local _ .vmem, ⟨5, _⟩ => ⟨S1664x256, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S8320x1024 : Shape := ⟨2, ![8320, 1024]⟩
abbrev S1024x2048 : Shape := ⟨2, ![1024, 2048]⟩
abbrev S8320x2048 : Shape := ⟨2, ![8320, 2048]⟩
abbrev S1664x2048 : Shape := ⟨2, ![1664, 2048]⟩
abbrev S256x2048 : Shape := ⟨2, ![256, 2048]⟩
abbrev S1664x256 : Shape := ⟨2, ![1664, 256]⟩

abbrev nBuf : Space → Nat
  | .hbm => 4
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x2048, .bf16⟩
  | .hbm, ⟨2, _⟩ => ⟨S8320x2048, .f32⟩
  | .hbm, ⟨3, _⟩ => ⟨S8320x1024, .f32⟩
  | .local _ .vmem, ⟨0, _⟩ => ⟨S1664x2048, .f32⟩
  | .local _ .vmem, ⟨1, _⟩ => ⟨S1664x2048, .f32⟩
  | .local _ .vmem, ⟨2, _⟩ => ⟨S256x2048, .bf16⟩
  | .local _ .vmem, ⟨3, _⟩ => ⟨S256x2048, .bf16⟩
  | .local _ .vmem, ⟨4, _⟩ => ⟨S1664x256, .f32⟩
  | .local _ .vmem, ⟨5, _⟩ => ⟨S1664x256, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8320x1024 : Shape := ⟨2, ![8320, 1024]⟩
abbrev S1024x2048 : Shape := ⟨2, ![1024, 2048]⟩
abbrev S8320x2048 : Shape := ⟨2, ![8320, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x2048, .bf16⟩
  | .hbm, ⟨2, _⟩ => ⟨S8320x2048, .f32⟩
  | .hbm, ⟨3, _⟩ => ⟨S1024x2048, .f32⟩
  | .hbm, ⟨4, _⟩ => ⟨S8320x2048, .f32⟩
  | .hbm, ⟨5, _⟩ => ⟨S2048x1024, .f32⟩
  | .hbm, ⟨6, _⟩ => ⟨S1024x2048, .f32⟩
  | .hbm, ⟨7, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8320x1024 : Shape := ⟨2, ![8320, 1024]⟩
abbrev S1024x2048 : Shape := ⟨2, ![1024, 2048]⟩
abbrev S8320x2048 : Shape := ⟨2, ![8320, 2048]⟩
abbrev S1664x1024 : Shape := ⟨2, ![1664, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S1024x2048, .bf16⟩
  | .hbm, ⟨2, _⟩ => ⟨S8320x2048, .f32⟩
  | .hbm, ⟨3, _⟩ => ⟨S1024x2048, .bf16⟩
  | .local _ .vmem, ⟨0, _⟩ => ⟨S1664x1024, .f32⟩
  | .local _ .vmem, ⟨1, _⟩ => ⟨S1664x1024, .f32⟩
  | .local _ .vmem, ⟨2, _⟩ => ⟨S1664x1024, .f32⟩
  | .local _ .vmem, ⟨3, _⟩ => ⟨S1664x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S8320x1024 : Shape := ⟨2, ![8320, 1024]⟩
abbrev S1024x2048 : Shape := ⟨2, ![1024, 2048]⟩
abbrev S8320x2048 : Shape := ⟨2, ![8320, 2048]⟩
abbrev S1664x1024 : Shape := ⟨2, ![1664, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S1024x2048, .bf16⟩
  | .hbm, ⟨2, _⟩ => ⟨S8320x2048, .f32⟩
  | .hbm, ⟨3, _⟩ => ⟨S1024x2048, .bf16⟩
  | .local _ .vmem, ⟨0, _⟩ => ⟨S1664x1024, .f32⟩
  | .local _ .vmem, ⟨1, _⟩ => ⟨S1664x1024, .f32⟩
  | .local _ .vmem, ⟨2, _⟩ => ⟨S1664x1024, .f32⟩
  | .local _ .vmem, ⟨3, _⟩ => ⟨S1664x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8320x1024 : Shape := ⟨2, ![8320, 1024]⟩
abbrev S1024x2048 : Shape := ⟨2, ![1024, 2048]⟩
abbrev S8320x2048 : Shape := ⟨2, ![8320, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x2048, .bf16⟩
  | .hbm, ⟨2, _⟩ => ⟨S8320x2048, .f32⟩
  | .hbm, ⟨3, _⟩ => ⟨S1024x2048, .f32⟩
  | .hbm, ⟨4, _⟩ => ⟨S8320x2048, .f32⟩
  | .hbm, ⟨5, _⟩ => ⟨S2048x1024, .f32⟩
  | .hbm, ⟨6, _⟩ => ⟨S1024x2048, .f32⟩
  | .hbm, ⟨7, _⟩ => ⟨S8320x1024, .f32⟩
  | .hbm, ⟨8, _⟩ => ⟨S1024x2048, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8320x1024 : Shape := ⟨2, ![8320, 1024]⟩
abbrev S2048x2048 : Shape := ⟨2, ![2048, 2048]⟩
abbrev S1024x2048 : Shape := ⟨2, ![1024, 2048]⟩
abbrev S8320x2048 : Shape := ⟨2, ![8320, 2048]⟩
abbrev S1664x1024 : Shape := ⟨2, ![1664, 1024]⟩
abbrev S1024x256 : Shape := ⟨2, ![1024, 256]⟩
abbrev S1664x256 : Shape := ⟨2, ![1664, 256]⟩

abbrev nBuf : Space → Nat
  | .hbm => 6
  | .vmem => 10
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S2048x2048, .bf16⟩
  | .hbm, ⟨3, _⟩ => ⟨S1024x2048, .bf16⟩
  | .hbm, ⟨4, _⟩ => ⟨S1024x2048, .bf16⟩
  | .hbm, ⟨5, _⟩ => ⟨S8320x2048, .f32⟩
  | .local _ .vmem, ⟨0, _⟩ => ⟨S1664x1024, .f32⟩
  | .local _ .vmem, ⟨1, _⟩ => ⟨S1664x1024, .f32⟩
  | .local _ .vmem, ⟨2, _⟩ => ⟨S1664x1024, .f32⟩
  | .local _ .vmem, ⟨3, _⟩ => ⟨S1664x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1664x256, .f32⟩
  | .local _ .vmem, ⟨9, _⟩ => ⟨S1664x256, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1664x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S8320x1024 : Shape := ⟨2, ![8320, 1024]⟩
abbrev S2048x2048 : Shape := ⟨2, ![2048, 2048]⟩
abbrev S8320x2048 : Shape := ⟨2, ![8320, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S2048x2048, .bf16⟩
  | .hbm, ⟨3, _⟩ => ⟨S8320x2048, .f32⟩
  | .hbm, ⟨4, _⟩ => ⟨S2048x2048, .f32⟩
  | .hbm, ⟨5, _⟩ => ⟨S8320x2048, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8320x512 : Shape := ⟨2, ![8320, 512]⟩
abbrev S512x2048 : Shape := ⟨2, ![512, 2048]⟩
abbrev S8320x2048 : Shape := ⟨2, ![8320, 2048]⟩
abbrev S1664x2048 : Shape := ⟨2, ![1664, 2048]⟩
abbrev S1664x512 : Shape := ⟨2, ![1664, 512]⟩

abbrev nBuf : Space → Nat
  | .hbm => 4
  | .vmem => 5
  | .smem => 0
  | _ => 0

abbrev bufTy : (tb : Table) → Fin (tcTables nBuf tb) → BufTy
  | .hbm, ⟨0, _⟩ => ⟨S8320x512, .bf16⟩
  | .hbm, ⟨1, _⟩ => ⟨S512x2048, .bf16⟩
  | .hbm, ⟨2, _⟩ => ⟨S8320x2048, .bf16⟩
  | .hbm, ⟨3, _⟩ => ⟨S8320x512, .f32⟩
  | .local _ .vmem, ⟨0, _⟩ => ⟨S1664x2048, .bf16⟩
  | .local _ .vmem, ⟨1, _⟩ => ⟨S1664x2048, .bf16⟩
  | .local _ .vmem, ⟨2, _⟩ => ⟨S512x2048, .bf16⟩
  | .local _ .vmem, ⟨3, _⟩ => ⟨S1664x512, .f32⟩
  | .local _ .vmem, ⟨4, _⟩ => ⟨S1664x512, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8320x512 : Shape := ⟨2, ![8320, 512]⟩
abbrev S512x2048 : Shape := ⟨2, ![512, 2048]⟩
abbrev S8320x2048 : Shape := ⟨2, ![8320, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S512x2048, .bf16⟩
  | .hbm, ⟨2, _⟩ => ⟨S8320x2048, .bf16⟩
  | .hbm, ⟨3, _⟩ => ⟨S8320x512, .f32⟩
  | .hbm, ⟨4, _⟩ => ⟨S512x2048, .f32⟩
  | .hbm, ⟨5, _⟩ => ⟨S8320x2048, .f32⟩
  | .hbm, ⟨6, _⟩ => ⟨S8320x2048, .f32⟩
  | .hbm, ⟨7, _⟩ => ⟨S2048x512, .f32⟩
  | .hbm, ⟨8, _⟩ => ⟨S512x2048, .f32⟩
  | .hbm, ⟨9, _⟩ => ⟨S8320x512, .f32⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8320x512 : Shape := ⟨2, ![8320, 512]⟩
abbrev S512x2048 : Shape := ⟨2, ![512, 2048]⟩
abbrev S8320x2048 : Shape := ⟨2, ![8320, 2048]⟩
abbrev S1664x512 : Shape := ⟨2, ![1664, 512]⟩
abbrev S1664x2048 : Shape := ⟨2, ![1664, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8320x512, .bf16⟩
  | .hbm, ⟨1, _⟩ => ⟨S512x2048, .bf16⟩
  | .hbm, ⟨2, _⟩ => ⟨S8320x2048, .f32⟩
  | .local _ .vmem, ⟨0, _⟩ => ⟨S1664x512, .bf16⟩
  | .local _ .vmem, ⟨1, _⟩ => ⟨S1664x512, .bf16⟩
  | .local _ .vmem, ⟨2, _⟩ => ⟨S512x2048, .bf16⟩
  | .local _ .vmem, ⟨3, _⟩ => ⟨S1664x2048, .f32⟩
  | .local _ .vmem, ⟨4, _⟩ => ⟨S1664x2048, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8320x512 : Shape := ⟨2, ![8320, 512]⟩
abbrev S512x2048 : Shape := ⟨2, ![512, 2048]⟩
abbrev S8320x2048 : Shape := ⟨2, ![8320, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S512x2048, .bf16⟩
  | .hbm, ⟨2, _⟩ => ⟨S8320x512, .f32⟩
  | .hbm, ⟨3, _⟩ => ⟨S512x2048, .f32⟩
  | .hbm, ⟨4, _⟩ => ⟨S8320x2048, .f32⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8320x512 : Shape := ⟨2, ![8320, 512]⟩
abbrev S512x2048 : Shape := ⟨2, ![512, 2048]⟩
abbrev S8320x2048 : Shape := ⟨2, ![8320, 2048]⟩
abbrev S1664x512 : Shape := ⟨2, ![1664, 512]⟩
abbrev S1664x2048 : Shape := ⟨2, ![1664, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8320x512, .bf16⟩
  | .hbm, ⟨1, _⟩ => ⟨S512x2048, .bf16⟩
  | .hbm, ⟨2, _⟩ => ⟨S8320x2048, .bf16⟩
  | .hbm, ⟨3, _⟩ => ⟨S512x2048, .bf16⟩
  | .local _ .vmem, ⟨0, _⟩ => ⟨S1664x512, .bf16⟩
  | .local _ .vmem, ⟨1, _⟩ => ⟨S1664x512, .bf16⟩
  | .local _ .vmem, ⟨2, _⟩ => ⟨S1664x2048, .bf16⟩
  | .local _ .vmem, ⟨3, _⟩ => ⟨S1664x2048, .bf16⟩
  | .local _ .vmem, ⟨4, _⟩ => ⟨S512x2048, .bf16⟩
  | .local _ .vmem, ⟨5, _⟩ => ⟨S512x2048, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8320x512 : Shape := ⟨2, ![8320, 512]⟩
abbrev S512x2048 : Shape := ⟨2, ![512, 2048]⟩
abbrev S8320x2048 : Shape := ⟨2, ![8320, 2048]⟩
abbrev S2048x512 : Shape := ⟨2, ![2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S512x2048, .bf16⟩
  | .hbm, ⟨2, _⟩ => ⟨S8320x2048, .bf16⟩
  | .hbm, ⟨3, _⟩ => ⟨S8320x512, .f32⟩
  | .hbm, ⟨4, _⟩ => ⟨S512x2048, .f32⟩
  | .hbm, ⟨5, _⟩ => ⟨S8320x2048, .f32⟩
  | .hbm, ⟨6, _⟩ => ⟨S8320x2048, .f32⟩
  | .hbm, ⟨7, _⟩ => ⟨S2048x512, .f32⟩
  | .hbm, ⟨8, _⟩ => ⟨S512x2048, .f32⟩
  | .hbm, ⟨9, _⟩ => ⟨S8320x512, .f32⟩
  | .hbm, ⟨10, _⟩ => ⟨S512x2048, .bf16⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Linear.lean ====
module

public import Idealize.ShloMosaic.Lib.MatmulPlain
public import Idealize.ShloMosaic.Lib.Pipeline.Value
public import Idealize.ShloMosaic.Lib.Pipeline.ValueKit
public import Idealize.ShloMosaic.Lib.StableHlo.Run
public import Idealize.ShloMosaic.Lib.Tactic

@[expose] public section
noncomputable section
namespace Cert.Proof.Linear

open Idealize.ShloMosaic Idealize.ShloMosaic.ValueIdx
open Finset

/-! # Products of matrices, entry by entry, and their cutting into blocks

A linear layer `x · w` needs three products: itself, `dy · wᵀ` for the gradient of `x`, and `xᵀ · dy` for that of `w`. -/

theorem hz : (![0, 0] : Fin 2 → ℕ) = fun _ => 0 := funext fun a => by fin_cases a <;> rfl
theorem small {n : ℕ} (h : n ≤ 4096) (i : Fin n) : (BitVec.ofNat 32 i.val).toNat = i.val := by
  rw [BitVec.toNat_ofNat]
  exact Nat.mod_eq_of_lt (by omega)
/-- A block's index, from two coordinates of the grid. -/
theorem index_of {n n' p q : ℕ} {i : Fin n} {j : Fin n'} (hi : i.val = p) (hj : j.val = q) (h : n ≤ 4096 := by decide) (h' : n' ≤ 4096 := by decide) :
    (![(BitVec.ofNat 32 i.val).toNat, (BitVec.ofNat 32 j.val).toNat] : Fin 2 → ℕ) = ![p, q] := by
  rw [small h, small h', hi, hj]

/-- The shape of a matrix, -/
abbrev Mat (M N : ℕ) : Shape := ⟨2, ![M, N]⟩

/-- its entry at row `i` and column `j`, nothing outside. -/
def rd {M N : ℕ} (a : (Mat M N).Idx → EReal) (i j : ℕ) : EReal := if h : i < M ∧ j < N then a (ValueIdx.ix2 (⟨i, h.1⟩ : Fin M) (⟨j, h.2⟩ : Fin N)) else 0

theorem rd_in {M N : ℕ} (a : (Mat M N).Idx → EReal) (i : Fin M) (j : Fin N) : rd a i.val j.val = a (ValueIdx.ix2 i j) := dif_pos ⟨i.isLt, j.isLt⟩

theorem rd_of {M N : ℕ} (a : (Mat M N).Idx → EReal) (x : (Mat M N).Idx) {i j : ℕ} (h0 : (x 0).val = i) (h1 : (x 1).val = j) : a x = rd a i j := by
  subst h0 h1
  refine Eq.trans (congrArg a ?_) (rd_in a (x 0 : Fin M) (x 1 : Fin N)).symm
  exact funext fun k => by fin_cases k <;> rfl

theorem mat_ext {M N : ℕ} {a b : (Mat M N).Idx → EReal} (h : ∀ i j, i < M → j < N → rd a i j = rd b i j) : a = b := by
  funext x
  rw [rd_of a x rfl rfl, rd_of b x rfl rfl]
  exact h _ _ (x 0).isLt (x 1).isLt

/-- The entries of a block, which lie at a block's index. -/
theorem rd_slice {M N A B : ℕ} (x : (Mat M N).Idx → EReal) (e : (Mat A B).Idx → (Mat M N).Idx) (a : Fin 2 → ℕ) (h0 : ∀ y, (e y 0).val = a 0 * A + 1 * (y 0).val)
    (h1 : ∀ y, (e y 1).val = a 1 * B + 1 * (y 1).val) {p q : ℕ} (ha : a = ![p, q]) {i j : ℕ} (hi : i < A) (hj : j < B) :
    rd (fun y => x (e y)) i j = rd x (A * p + i) (B * q + j) := by
  subst ha
  refine (rd_in _ ⟨i, hi⟩ ⟨j, hj⟩).trans (rd_of x _ ?_ ?_)
  · rw [h0, Nat.one_mul, Nat.mul_comm]
    rfl
  · rw [h1, Nat.one_mul, Nat.mul_comm]
    rfl

/-- Where an entry of a block lies, -/
theorem at_index {a : Fin 2 → ℕ} {p q A B i j : ℕ} (ha : a = ![p, q]) : a 0 * A + 1 * i = A * p + i ∧ a 1 * B + 1 * j = B * q + j := by
  subst ha
  refine ⟨?_, ?_⟩ <;> rw [Nat.one_mul, Nat.mul_comm] <;> rfl
/-- and which places a block holds. -/
theorem in_block {a z : Fin 2 → ℕ} {p q A B : ℕ} (ha : a = ![p, q]) (h0 : A * p ≤ z 0 ∧ z 0 < A * p + A) (h1 : B * q ≤ z 1 ∧ z 1 < B * q + B) (k : Fin 2) :
    a k * (![A, B] : Fin 2 → ℕ) k ≤ z k ∧ z k < a k * (![A, B] : Fin 2 → ℕ) k + (![A, B] : Fin 2 → ℕ) k := by
  subst ha
  fin_cases k
  · rw [Nat.mul_comm] at h0
    exact h0
  · rw [Nat.mul_comm] at h1
    exact h1

/-- The three products over the first `K` contracted places. -/
def nn {M K N : ℕ} (a : (Mat M K).Idx → EReal) (b : (Mat K N).Idx → EReal) (n i j : ℕ) : EReal := ∑ k ∈ range n, rd a i k * rd b k j
def nt {M K N : ℕ} (a : (Mat M K).Idx → EReal) (b : (Mat N K).Idx → EReal) (n i j : ℕ) : EReal := ∑ k ∈ range n, rd a i k * rd b j k
def tn {M K N : ℕ} (a : (Mat K M).Idx → EReal) (b : (Mat K N).Idx → EReal) (n i j : ℕ) : EReal := ∑ k ∈ range n, rd a k i * rd b k j

/-- One block more of a sum. -/
theorem sum_block (B n : ℕ) (f : ℕ → EReal) : ∑ k ∈ range (B * (n + 1)), f k = ∑ k ∈ range (B * n), f k + ∑ k ∈ range B, f (B * n + k) := by
  rw [show B * (n + 1) = B * n + B by ring, sum_range_add]
theorem sum_first (B : ℕ) (f : ℕ → EReal) : ∑ k ∈ range (B * (0 + 1)), f k = ∑ k ∈ range B, f (B * 0 + k) := by
  rw [sum_block, Nat.mul_zero, range_zero, sum_empty, zero_add]

/-- The product that contracts the rows of both operands. -/
def rowsDims (M K N : ℕ) : DotDims (Mat K M) (Mat K N) (Mat M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem rows_rank (M K N : ℕ) : (rowsDims M K N).contr.rank = 1 := rfl
theorem rows_size (M K N : ℕ) : (rowsDims M K N).contr.size ⟨0, by rw [rows_rank]; exact Nat.one_pos⟩ = K := rfl

/-- A sum over the contracted places of each of the three products. -/
theorem nn_contr {M K N : ℕ} (a : (Mat M K).Idx → EReal) (b : (Mat K N).Idx → EReal) (r : Fin M) (c : Fin N) :
    ∑ k : (DotDims.plain M K N).contr.Idx, a ((DotDims.plain M K N).lhsIdx (ValueIdx.ix2 r c) k) * b ((DotDims.plain M K N).rhsIdx (ValueIdx.ix2 r c) k) = nn a b K r.val c.val := by
  unfold nn
  rw [← Equiv.sum_comp (contrEquiv1 _ K (DotDims.plain_contr_rank M K N) (DotDims.plain_contr_size M K N)).symm, ← Fin.sum_univ_eq_sum_range (fun k => rd a r.val k * rd b k c.val) K]
  refine sum_congr rfl fun k _ => ?_
  have hk := contrEquiv1_symm_val _ K (DotDims.plain_contr_rank M K N) (DotDims.plain_contr_size M K N) k
  exact congrArg₂ (· * ·) (rd_of a _ rfl hk) (rd_of b _ hk rfl)
theorem nt_contr {M K N : ℕ} (a : (Mat M K).Idx → EReal) (b : (Mat N K).Idx → EReal) (r : Fin M) (c : Fin N) :
    ∑ k : (DotDims.transposedRhs M K N).contr.Idx, a ((DotDims.transposedRhs M K N).lhsIdx (ValueIdx.ix2 r c) k) * b ((DotDims.transposedRhs M K N).rhsIdx (ValueIdx.ix2 r c) k) = nt a b K r.val c.val := by
  unfold nt
  rw [← Equiv.sum_comp (contrEquiv1 _ K (DotDims.transposedRhs_contr_rank M K N) (DotDims.transposedRhs_contr_size M K N)).symm,
    ← Fin.sum_univ_eq_sum_range (fun k => rd a r.val k * rd b c.val k) K]
  refine sum_congr rfl fun k _ => ?_
  have hk := contrEquiv1_symm_val _ K (DotDims.transposedRhs_contr_rank M K N) (DotDims.transposedRhs_contr_size M K N) k
  exact congrArg₂ (· * ·) (rd_of a _ rfl hk) (rd_of b _ rfl hk)
theorem tn_contr {M K N : ℕ} (a : (Mat K M).Idx → EReal) (b : (Mat K N).Idx → EReal) (r : Fin M) (c : Fin N) :
    ∑ k : (rowsDims M K N).contr.Idx, a ((rowsDims M K N).lhsIdx (ValueIdx.ix2 r c) k) * b ((rowsDims M K N).rhsIdx (ValueIdx.ix2 r c) k) = tn a b K r.val c.val := by
  unfold tn
  rw [← Equiv.sum_comp (contrEquiv1 _ K (rows_rank M K N) (rows_size M K N)).symm, ← Fin.sum_univ_eq_sum_range (fun k => rd a k r.val * rd b k c.val) K]
  refine sum_congr rfl fun k _ => ?_
  have hk := contrEquiv1_symm_val _ K (rows_rank M K N) (rows_size M K N) k
  exact congrArg₂ (· * ·) (rd_of a _ hk rfl) (rd_of b _ hk rfl)

section
variable {M K N : ℕ} {φ₁ φ₂ : FTy}

/-- The kernels' products, into zeros, -/
theorem matmul_nn (a : FVec Ideal (Mat M K) φ₁) (b : FVec Ideal (Mat K N) φ₂) {i j : ℕ} (hi : i < M) (hj : j < N) :
    rd (matmul (DotDims.plain M K N) none a b (constant (Mat M N) .f32 0x00000000#32)) i j = nn a b K i j := by
  refine (rd_in _ ⟨i, hi⟩ ⟨j, hj⟩).trans ?_
  simp only [matmul]
  exact (Ideal.matmul_constant_zero_apply _ _ a b _).trans (nn_contr a b ⟨i, hi⟩ ⟨j, hj⟩)
theorem matmul_nt (a : FVec Ideal (Mat M K) φ₁) (b : FVec Ideal (Mat N K) φ₂) {i j : ℕ} (hi : i < M) (hj : j < N) :
    rd (matmul (DotDims.transposedRhs M K N) none a b (constant (Mat M N) .f32 0x00000000#32)) i j = nt a b K i j := by
  refine (rd_in _ ⟨i, hi⟩ ⟨j, hj⟩).trans ?_
  simp only [matmul]
  exact (Ideal.matmul_constant_zero_apply _ _ a b _).trans (nt_contr a b ⟨i, hi⟩ ⟨j, hj⟩)
theorem matmul_tn (a : FVec Ideal (Mat K M) φ₁) (b : FVec Ideal (Mat K N) φ₂) {i j : ℕ} (hi : i < M) (hj : j < N) :
    rd (matmul (rowsDims M K N) none a b (constant (Mat M N) .f32 0x00000000#32)) i j = tn a b K i j := by
  refine (rd_in _ ⟨i, hi⟩ ⟨j, hj⟩).trans ?_
  simp only [matmul]
  exact (Ideal.matmul_constant_zero_apply _ _ a b _).trans (tn_contr a b ⟨i, hi⟩ ⟨j, hj⟩)

/-- and the references'. -/
theorem dot_nn (a : FVec Ideal (Mat M K) φ₁) (b : FVec Ideal (Mat K N) φ₂) {i j : ℕ} (hi : i < M) (hj : j < N) :
    rd (Host.dotGeneral (DotDims.plain M K N) none a b) i j = nn a b K i j := by
  refine (rd_in _ ⟨i, hi⟩ ⟨j, hj⟩).trans ?_
  simp only [Host.dotGeneral]
  exact (Ideal.dotGeneral_apply _ _ _ a b _).trans (nn_contr a b ⟨i, hi⟩ ⟨j, hj⟩)
theorem dot_nt (a : FVec Ideal (Mat M K) φ₁) (b : FVec Ideal (Mat N K) φ₂) {i j : ℕ} (hi : i < M) (hj : j < N) :
    rd (Host.dotGeneral (DotDims.transposedRhs M K N) none a b) i j = nt a b K i j := by
  refine (rd_in _ ⟨i, hi⟩ ⟨j, hj⟩).trans ?_
  simp only [Host.dotGeneral]
  exact (Ideal.dotGeneral_apply _ _ _ a b _).trans (nt_contr a b ⟨i, hi⟩ ⟨j, hj⟩)
theorem dot_tn (a : FVec Ideal (Mat K M) φ₁) (b : FVec Ideal (Mat K N) φ₂) {i j : ℕ} (hi : i < M) (hj : j < N) :
    rd (Host.dotGeneral (rowsDims M K N) none a b) i j = tn a b K i j := by
  refine (rd_in _ ⟨i, hi⟩ ⟨j, hj⟩).trans ?_
  simp only [Host.dotGeneral]
  exact (Ideal.dotGeneral_apply _ _ _ a b _).trans (tn_contr a b ⟨i, hi⟩ ⟨j, hj⟩)
end

/-- The references' products as functions of the index. The weight's gradient is computed with its operands in the other order, and
laid out accordingly. -/
theorem dot_nn_eq {M K N : ℕ} (a : FVec Ideal (Mat M K) .f32) (b : FVec Ideal (Mat K N) .f32) :
    Host.dotGeneral (φ₁ := .f32) (φ₂ := .f32) (DotDims.plain M K N) none a b = fun x : (Mat M N).Idx => nn a b K (x 0).val (x 1).val :=
  mat_ext fun i j hi hj => (dot_nn a b hi hj).trans (rd_in (fun x : (Mat M N).Idx => nn a b K (x 0).val (x 1).val) ⟨i, hi⟩ ⟨j, hj⟩).symm
theorem dot_nt_eq {M K N : ℕ} (a : FVec Ideal (Mat M K) .f32) (b : FVec Ideal (Mat N K) .f32) :
    Host.dotGeneral (φ₁ := .f32) (φ₂ := .f32) (DotDims.transposedRhs M K N) none a b = fun x : (Mat M N).Idx => nt a b K (x 0).val (x 1).val :=
  mat_ext fun i j hi hj => (dot_nt a b hi hj).trans (rd_in (fun x : (Mat M N).Idx => nt a b K (x 0).val (x 1).val) ⟨i, hi⟩ ⟨j, hj⟩).symm
theorem dot_tn_swap {M K N : ℕ} (a : FVec Ideal (Mat K M) .f32) (b : FVec Ideal (Mat K N) .f32) (x : (Mat M N).Idx) (y : (Mat N M).Idx)
    (h0 : (y 0).val = (x 1).val) (h1 : (y 1).val = (x 0).val) :
    Host.dotGeneral (φ₁ := .f32) (φ₂ := .f32) (rowsDims N K M) none b a y = tn a b K (x 0).val (x 1).val :=
  (rd_of _ y h0 h1).trans ((dot_tn b a (x 1).isLt (x 0).isLt).trans (sum_congr rfl fun _ _ => mul_comm _ _))

/-- A block of zeros. -/
theorem rd_zero {M N : ℕ} {z : FVec Ideal (Mat M N) .f32} (h : z = broadcast (Mat M N) (Scalar.ofBits .f32 0x00000000#32)) {i j : ℕ} (hi : i < M) (hj : j < N) : rd z i j = 0 := by
  rw [h]
  exact (rd_in _ ⟨i, hi⟩ ⟨j, hj⟩).trans Ideal.ofBits_zero_f32

end Cert.Proof.Linear
end
-- ==== Proof.Lin2.lean ====
module

public import proofs.«01_k».proof.Defs
public import proofs.«01_k».proof.Proof.Linear
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run

@[expose] public section
set_option maxRecDepth 16384
noncomputable section
namespace Cert.Proof.Linear.L2

open Cert.Kernel2Ideal Cert.Kernel2Ideal.Gen Cert.Kernel2Ideal.Value
open Idealize.ShloMosaic Idealize.ShloMosaic.ValueIdx Idealize.ShloMosaic.Tactic
open Idealize.ShloMosaic.TcCoe
open Idealize.SL.Sem
open Finset

/-! # The gradient of the input of the feed-forward block’s first layer: the blocked product is the product -/

variable (m : (ℓ : Loc nD τ sig) → Buf (Elt Ideal) ℓ)

/-- The two operands, -/
def opA (c : Dev nD) : (Mat 8320 11264).Idx → EReal := m ((c : Thread nD τ).loc main_arg2)
def opB (c : Dev nD) : (Mat 2048 11264).Idx → EReal := m ((c : Thread nD τ).loc main_arg1)
/-- and a point's blocks of them. -/
def bA (c : Dev nD) (t : Fin cfg0.N) : (Mat 1664 2816).Idx → EReal := iblk m c 0 t
def bB (c : Dev nD) (t : Fin cfg0.N) : (Mat 512 2816).Idx → EReal := iblk m c 1 t

/-! ## Which blocks a point sees -/

theorem coord0 (t : Fin grid0.N) : (grid0.coords t 0).val = t.val / 16 := by
  have h : t.val < 80 := N_0 ▸ t.isLt
  exact (Pipeline.Grid.coords_val t 0 (S := 16) (B := 5) (by decide) rfl).trans (by omega)
theorem coord1 (t : Fin grid0.N) : (grid0.coords t 1).val = t.val / 4 % 4 := by
  have h : t.val < 80 := N_0 ▸ t.isLt
  exact (Pipeline.Grid.coords_val t 1 (S := 4) (B := 4) (by decide) rfl).trans (by omega)
theorem coord2 (t : Fin grid0.N) : (grid0.coords t 2).val = t.val % 4 := by
  have h : t.val < 80 := N_0 ▸ t.isLt
  exact (Pipeline.Grid.coords_val t 2 (S := 1) (B := 4) (by decide) rfl).trans (by omega)
theorem tr0 (t : Fin grid0.N) : cc0_transform_0 (grid0.coords t) = ![t.val / 16, t.val % 4] :=
  index_of (coord0 t) (coord2 t)
theorem rdA (c : Dev nD) (t : Fin cfg0.N) {i j : ℕ} (hi : i < 1664) (hj : j < 2816) :
    rd (bA m c t) i j = rd (opA m c) (1664 * (t.val / 16) + i) (2816 * (t.val % 4) + j) :=
  rd_slice (opA m c) ((cfg0.win 0).blk t).view.emb _ (fun _ => rfl) (fun _ => rfl) (tr0 t) hi hj
theorem tr1 (t : Fin grid0.N) : cc0_transform_1 (grid0.coords t) = ![t.val / 4 % 4, t.val % 4] :=
  index_of (coord1 t) (coord2 t)
theorem rdB (c : Dev nD) (t : Fin cfg0.N) {i j : ℕ} (hi : i < 512) (hj : j < 2816) :
    rd (bB m c t) i j = rd (opB m c) (512 * (t.val / 4 % 4) + i) (2816 * (t.val % 4) + j) :=
  rd_slice (opB m c) ((cfg0.win 1).blk t).view.emb _ (fun _ => rfl) (fun _ => rfl) (tr1 t) hi hj
theorem tr2 (t : Fin grid0.N) : cc0_transform_2 (grid0.coords t) = ![t.val / 16, t.val / 4 % 4] :=
  index_of (coord0 t) (coord1 t)

/-- The summand of the whole product at row `i` and column `j`, -/
def term (c : Dev nD) (i j k : ℕ) : EReal := rd (opA m c) i k * rd (opB m c) j k

/-- and the product of a point's blocks, a stretch of the whole product's sum. -/
theorem block_prod (c : Dev nD) (t : Fin cfg0.N) {i j : ℕ} (hi : i < 1664) (hj : j < 512) :
    nt (bA m c t) (bB m c t) 2816 i j = ∑ k ∈ range 2816, term m c (1664 * (t.val / 16) + i) (512 * (t.val / 4 % 4) + j) (2816 * (t.val % 4) + k) := by
  refine sum_congr rfl fun k hk => ?_
  have hk' : k < 2816 := mem_range.mp hk
  exact congrArg₂ (· * ·) (rdA m c t hi hk') (rdB m c t hj hk')

/-- The product the call should leave. -/
def G (c : Dev nD) : (Mat 8320 2048).Idx → EReal := fun x => nt (opA m c) (opB m c) 11264 (x 0).val (x 1).val

/-! ## What the steps compute -/

/-- One step of the accumulation. -/
theorem step_at (acc : Vec Ideal S1664x512 .f32) (X : Vec Ideal S1664x2816 .bf16) (Y : Vec Ideal S512x2816 .bf16) {i j : ℕ} (hi : i < 1664) (hj : j < 512) :
    rd (k0_pay2 acc X Y : (Mat 1664 512).Idx → EReal) i j = rd (acc : (Mat 1664 512).Idx → EReal) i j + nt (X : (Mat 1664 2816).Idx → EReal) (Y : (Mat 512 2816).Idx → EReal) 2816 i j := by
  have h : k0_pay2 acc X Y = addf acc (matmul (φ₁ := .bf16) (φ₂ := .bf16) dot_S1664x2816_S512x2816_S1664x512_1_1_0_0_n_n none X Y (constant S1664x512 .f32 0x00000000#32)) := by
    unfold k0_pay2
    simp only [shapeCast_self]
  rw [h, ← matmul_nt (M := 1664) (K := 2816) (N := 512) (φ₁ := .bf16) (φ₂ := .bf16) X Y hi hj]
  refine (rd_in _ ⟨i, hi⟩ ⟨j, hj⟩).trans (congrArg₂ (· + ·) (rd_in _ ⟨i, hi⟩ ⟨j, hj⟩).symm (rd_in _ ⟨i, hi⟩ ⟨j, hj⟩).symm)
theorem zero_at {i j : ℕ} (hi : i < 1664) (hj : j < 512) : rd (k0_pay1 (F := Ideal) : (Mat 1664 512).Idx → EReal) i j = 0 :=
  rd_zero (by
    unfold k0_pay1
    simp only [shapeCast_self]) hi hj

/-! ## A run of points -/

/-- The product of the blocks of a run's point. -/
theorem block_at (c : Dev nD) (q s : ℕ) (hs : s < 4) (h : 4 * q + s < cfg0.N) {i j : ℕ} (hi : i < 1664) (hj : j < 512) :
    nt (bA m c ⟨4 * q + s, h⟩) (bB m c ⟨4 * q + s, h⟩) 2816 i j = ∑ k ∈ range 2816, term m c (1664 * (q / 4) + i) (512 * (q % 4) + j) (2816 * s + k) := by
  have hq0 : (4 * q + s) / 16 = q / 4 := by omega
  have hq1 : (4 * q + s) / 4 = q := by omega
  have hq2 : (4 * q + s) % 4 = s := by omega
  rw [block_prod m c _ hi hj]
  dsimp only
  rw [hq0, hq1, hq2]

/-- What the scratch holds on entering a point. -/
abbrev prev (c : Dev nD) (t : Fin cfg0.N) : Vec Ideal S1664x512 .f32 := (outsAt0 m c (t.val - 1) (Nat.lt_of_le_of_lt (Nat.sub_le _ _) t.isLt)).2
theorem scr_first (c : Dev nD) (t : Fin cfg0.N) (h0 : t.val % 4 = 0) : (outsAt0 m c t.val t.isLt).2 = k0_pay2 k0_pay1 (iblk m c 0 t) (iblk m c 1 t) := by
  have h1 : ¬t.val % 4 = 3 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, (Memref.isWhole_whole cc0_scratch0).read_unread, View.ld_unit_zero (S := S1664x2816) hz, View.ld_unit_zero (S := S512x2816) hz, View.ld_unit_zero (S := S1664x512) hz]
  rw [View.canon_cons_unit_zero (S := S1664x512) hz, View.readCov_unit_zero (S := S1664x512) _ hz]

theorem scr_next (c : Dev nD) (t : Fin cfg0.N) (h0 : ¬t.val % 4 = 0) : (outsAt0 m c t.val t.isLt).2 = k0_pay2 (prev m c t) (iblk m c 0 t) (iblk m c 1 t) := by
  by_cases h1 : t.val % 4 = 3
  · rw [outsAt0_C m c t h0 h1]
    dsimp only
    unfold sout0_C_0
    rw [View.read_writes_eq_canon _ _ _ (scover0_C_0 c _ _ _ _ _ _ _ _ _ _ _ _ _ _)]
    unfold kernelRun0_C
    dsimp only
    sl_unfold_words
    simp only [View.readAt_eq_ld, (hs0_0 t).read_unread, (hs0_1 t).read_unread, (Memref.isWhole_whole cc0_scratch0).read_unread, View.ld_unit_zero (S := S1664x2816) hz, View.ld_unit_zero (S := S512x2816) hz, View.ld_unit_zero (S := S1664x512) hz]
    rw [View.canon_unit_zero hz]
  · rw [outsAt0_B m c t h0 h1]
    dsimp only
    unfold sout0_B_0
    rw [View.read_writes_eq_canon _ _ _ (scover0_B_0 c _ _ _ _ _ _ _ _ _ _ _ _ _ _)]
    unfold kernelRun0_B
    dsimp only
    sl_unfold_words
    simp only [View.readAt_eq_ld, (hs0_0 t).read_unread, (hs0_1 t).read_unread, (Memref.isWhole_whole cc0_scratch0).read_unread, View.ld_unit_zero (S := S1664x2816) hz, View.ld_unit_zero (S := S512x2816) hz, View.ld_unit_zero (S := S1664x512) hz]
    rw [View.canon_unit_zero hz]

theorem out_last (c : Dev nD) (t : Fin cfg0.N) (h1 : t.val % 4 = 3) : (outsAt0 m c t.val t.isLt).1 = k0_pay2 (prev m c t) (iblk m c 0 t) (iblk m c 1 t) := by
  have h0 : ¬t.val % 4 = 0 := by omega
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (Memref.isWhole_whole cc0_scratch0).read_unread, View.ld_unit_zero (S := S1664x2816) hz, View.ld_unit_zero (S := S512x2816) hz, View.ld_unit_zero (S := S1664x512) hz]
  rw [View.canon_unit_zero hz, View.readCov_unit_zero (S := S1664x512) _ hz]

/-- After each point the scratch holds the part of the sum so far. -/
theorem carried (c : Dev nD) (q : ℕ) {i j : ℕ} (hi : i < 1664) (hj : j < 512) : ∀ (s : ℕ) (_ : s < 3) (h : 4 * q + s < cfg0.N),
    rd ((outsAt0 m c (4 * q + s) h).2 : (Mat 1664 512).Idx → EReal) i j = ∑ k ∈ range (2816 * (s + 1)), term m c (1664 * (q / 4) + i) (512 * (q % 4) + j) k
  | 0, _, h => by
    have e := scr_first m c ⟨4 * q + 0, h⟩ (by dsimp only; omega)
    dsimp only at e
    rw [e, step_at _ _ _ hi hj, zero_at hi hj, zero_add, sum_first]
    exact block_at m c q 0 (by decide) h hi hj
  | s + 1, hs, h => by
    have e := scr_next m c ⟨4 * q + (s + 1), h⟩ (by dsimp only; omega)
    dsimp only at e
    have ih := carried c q hi hj s (by omega) (by omega)
    rw [e, step_at _ _ _ hi hj, sum_block]
    exact congrArg₂ (· + ·) ih (block_at m c q (s + 1) (by omega) h hi hj)

/-- The last point of a run stores the whole sum. -/
theorem whole (c : Dev nD) (q : ℕ) {i j : ℕ} (hi : i < 1664) (hj : j < 512) (h : 4 * q + 3 < cfg0.N) :
    rd ((outsAt0 m c (4 * q + 3) h).1 : (Mat 1664 512).Idx → EReal) i j = ∑ k ∈ range 11264, term m c (1664 * (q / 4) + i) (512 * (q % 4) + j) k := by
  have e := out_last m c ⟨4 * q + 3, h⟩ (by dsimp only; omega)
  dsimp only at e
  rw [e]
  have hp := carried m c q hi hj 2 (by omega) (by omega)
  refine Eq.trans (step_at _ _ _ hi hj) ?_
  rw [show 11264 = 2816 * (3 + 1) from rfl, sum_block]
  exact congrArg₂ (· + ·) hp (block_at m c q 3 (by decide) h hi hj)

theorem G2_eq (c : Dev nD) : G2 m c = G m c := by
  refine funext fun (x : S8320x2048.Idx) => ?_
  have h0 : (x 0).val < 8320 := (x 0).isLt
  have h1 : (x 1).val < 2048 := (x 1).isLt
  have hp : 4 * (4 * ((x 0).val / 1664) + (x 1).val / 512) + 3 < cfg0.N := by
    rw [show cfg0.N = 80 from N_0]
    omega
  have hq : pt2Of x = 4 * (4 * ((x 0).val / 1664) + (x 1).val / 512) + 3 := by
    show 4 * (4 * ((x 0).val / 1664 - 0) + 1 * ((x 1).val / 512 - 0)) + 3 = _
    omega
  have hb : pt2Of x < cfg0.N := hq ▸ hp
  unfold G2
  rw [dif_pos hb, ← outsAt0_sweep m c (pt2Of x) hb]
  have e : outsAt0 m c (pt2Of x) hb = outsAt0 m c _ hp := by
    congr 1
  rw [e]
  refine Eq.trans (rd_of ((outsAt0 m c _ hp).1 : (Mat 1664 512).Idx → EReal) (loc2Of x) rfl rfl) ?_
  refine (whole m c _ (Nat.mod_lt _ (by decide)) (Nat.mod_lt _ (by decide)) hp).trans ?_
  rw [show 1664 * ((4 * ((x 0).val / 1664) + (x 1).val / 512) / 4) + (x 0).val % 1664 = (x 0).val by omega,
    show 512 * ((4 * ((x 0).val / 1664) + (x 1).val / 512) % 4) + (x 1).val % 512 = (x 1).val by omega]
  rfl

/-- The kernel's result is the reference's. -/
theorem agree : Cert.algebraic_Kernel2Ideal_Reference2Ideal := by
  intro m g m' g' _ harg
  refine ⟨fun c => G m c, ?_, ?_⟩
  · refine (θ_run Cert.Kernel2Ideal.defs _ _).mono (fun r h c => ?_) (Cert.Kernel2Ideal.Value.run (F := Ideal) m g)
    obtain ⟨hv, hargs⟩ := h c
    exact ⟨hv.trans (G2_eq m c), hargs⟩
  · refine (θ_run Cert.Reference2Ideal.defs _ _).mono (fun r h c => ?_) (Cert.Reference2Ideal.Value.run (F := Ideal) m' g')
    obtain ⟨hv, hargs⟩ := h c
    obtain ⟨e0, e1, e2⟩ := harg c
    refine ⟨hv.trans ?_, hargs⟩
    rw [e2, e1]
    exact dot_nt_eq (M := 8320) (K := 11264) (N := 2048) (opA m c) (opB m c)

end Cert.Proof.Linear.L2
end
-- ==== Proof.Lin3.lean ====
module

public import proofs.«01_k».proof.Defs
public import proofs.«01_k».proof.Proof.Linear
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run

@[expose] public section
set_option maxRecDepth 16384
noncomputable section
namespace Cert.Proof.Linear.L3

open Cert.Kernel3Ideal Cert.Kernel3Ideal.Gen Cert.Kernel3Ideal.Value
open Idealize.ShloMosaic Idealize.ShloMosaic.ValueIdx Idealize.ShloMosaic.Tactic
open Idealize.ShloMosaic.TcCoe
open Idealize.SL.Sem
open Finset

/-! # The gradient of the weight of the feed-forward block’s first layer: the blocked product is the product -/

variable (m : (ℓ : Loc nD τ sig) → Buf (Elt Ideal) ℓ)

/-- The two operands, -/
def opA (c : Dev nD) : (Mat 8320 2048).Idx → EReal := m ((c : Thread nD τ).loc main_arg0)
def opB (c : Dev nD) : (Mat 8320 11264).Idx → EReal := m ((c : Thread nD τ).loc main_arg2)
/-- and a point's blocks of them. -/
def bA (c : Dev nD) (t : Fin cfg0.N) : (Mat 1664 2048).Idx → EReal := iblk m c 0 t
def bB (c : Dev nD) (t : Fin cfg0.N) : (Mat 1664 1024).Idx → EReal := iblk m c 1 t

/-! ## Which blocks a point sees -/

theorem coord0 (t : Fin grid0.N) : (grid0.coords t 0).val = t.val / 55 := by
  have h : t.val < 55 := N_0 ▸ t.isLt
  exact (Pipeline.Grid.coords_val t 0 (S := 55) (B := 1) (by decide) rfl).trans (by omega)
theorem coord1 (t : Fin grid0.N) : (grid0.coords t 1).val = t.val / 5 % 11 := by
  have h : t.val < 55 := N_0 ▸ t.isLt
  exact (Pipeline.Grid.coords_val t 1 (S := 5) (B := 11) (by decide) rfl).trans (by omega)
theorem coord2 (t : Fin grid0.N) : (grid0.coords t 2).val = t.val % 5 := by
  have h : t.val < 55 := N_0 ▸ t.isLt
  exact (Pipeline.Grid.coords_val t 2 (S := 1) (B := 5) (by decide) rfl).trans (by omega)
theorem tr0 (t : Fin grid0.N) : cc0_transform_0 (grid0.coords t) = ![t.val % 5, t.val / 55] :=
  index_of (coord2 t) (coord0 t)
theorem rdA (c : Dev nD) (t : Fin cfg0.N) {i j : ℕ} (hi : i < 1664) (hj : j < 2048) :
    rd (bA m c t) i j = rd (opA m c) (1664 * (t.val % 5) + i) (2048 * (t.val / 55) + j) :=
  rd_slice (opA m c) ((cfg0.win 0).blk t).view.emb _ (fun _ => rfl) (fun _ => rfl) (tr0 t) hi hj
theorem tr1 (t : Fin grid0.N) : cc0_transform_1 (grid0.coords t) = ![t.val % 5, t.val / 5 % 11] :=
  index_of (coord2 t) (coord1 t)
theorem rdB (c : Dev nD) (t : Fin cfg0.N) {i j : ℕ} (hi : i < 1664) (hj : j < 1024) :
    rd (bB m c t) i j = rd (opB m c) (1664 * (t.val % 5) + i) (1024 * (t.val / 5 % 11) + j) :=
  rd_slice (opB m c) ((cfg0.win 1).blk t).view.emb _ (fun _ => rfl) (fun _ => rfl) (tr1 t) hi hj
theorem tr2 (t : Fin grid0.N) : cc0_transform_2 (grid0.coords t) = ![t.val / 55, t.val / 5 % 11] :=
  index_of (coord0 t) (coord1 t)

/-- The summand of the whole product at row `i` and column `j`, -/
def term (c : Dev nD) (i j k : ℕ) : EReal := rd (opA m c) k i * rd (opB m c) k j

/-- and the product of a point's blocks, a stretch of the whole product's sum. -/
theorem block_prod (c : Dev nD) (t : Fin cfg0.N) {i j : ℕ} (hi : i < 2048) (hj : j < 1024) :
    tn (bA m c t) (bB m c t) 1664 i j = ∑ k ∈ range 1664, term m c (2048 * (t.val / 55) + i) (1024 * (t.val / 5 % 11) + j) (1664 * (t.val % 5) + k) := by
  refine sum_congr rfl fun k hk => ?_
  have hk' : k < 1664 := mem_range.mp hk
  exact congrArg₂ (· * ·) (rdA m c t hk' hi) (rdB m c t hk' hj)

/-- The product the call should leave. -/
def G (c : Dev nD) : (Mat 2048 11264).Idx → EReal := fun x => tn (opA m c) (opB m c) 8320 (x 0).val (x 1).val

/-! ## What the steps compute -/

/-- One step of the accumulation. -/
theorem step_at (acc : Vec Ideal S2048x1024 .f32) (X : Vec Ideal S1664x2048 .bf16) (Y : Vec Ideal S1664x1024 .bf16) {i j : ℕ} (hi : i < 2048) (hj : j < 1024) :
    rd (k0_pay2 acc X Y : (Mat 2048 1024).Idx → EReal) i j = rd (acc : (Mat 2048 1024).Idx → EReal) i j + tn (X : (Mat 1664 2048).Idx → EReal) (Y : (Mat 1664 1024).Idx → EReal) 1664 i j := by
  have h : k0_pay2 acc X Y = addf acc (matmul (φ₁ := .bf16) (φ₂ := .bf16) dot_S1664x2048_S1664x1024_S2048x1024_0_0_1_1_n_n none X Y (constant S2048x1024 .f32 0x00000000#32)) := by
    unfold k0_pay2
    simp only [shapeCast_self]
  rw [h, ← matmul_tn (M := 2048) (K := 1664) (N := 1024) (φ₁ := .bf16) (φ₂ := .bf16) X Y hi hj]
  refine (rd_in _ ⟨i, hi⟩ ⟨j, hj⟩).trans (congrArg₂ (· + ·) (rd_in _ ⟨i, hi⟩ ⟨j, hj⟩).symm (rd_in _ ⟨i, hi⟩ ⟨j, hj⟩).symm)
theorem zero_at {i j : ℕ} (hi : i < 2048) (hj : j < 1024) : rd (k0_pay1 (F := Ideal) : (Mat 2048 1024).Idx → EReal) i j = 0 :=
  rd_zero (by
    unfold k0_pay1
    simp only [shapeCast_self]) hi hj

/-! ## A run of points -/

/-- The product of the blocks of a run's point. -/
theorem block_at (c : Dev nD) (q s : ℕ) (hs : s < 5) (h : 5 * q + s < cfg0.N) {i j : ℕ} (hi : i < 2048) (hj : j < 1024) :
    tn (bA m c ⟨5 * q + s, h⟩) (bB m c ⟨5 * q + s, h⟩) 1664 i j = ∑ k ∈ range 1664, term m c (2048 * (q / 11) + i) (1024 * (q % 11) + j) (1664 * s + k) := by
  have hq0 : (5 * q + s) / 55 = q / 11 := by omega
  have hq1 : (5 * q + s) / 5 = q := by omega
  have hq2 : (5 * q + s) % 5 = s := by omega
  rw [block_prod m c _ hi hj]
  dsimp only
  rw [hq0, hq1, hq2]

/-- What the scratch holds on entering a point. -/
abbrev prev (c : Dev nD) (t : Fin cfg0.N) : Vec Ideal S2048x1024 .f32 := (outsAt0 m c (t.val - 1) (Nat.lt_of_le_of_lt (Nat.sub_le _ _) t.isLt)).2
theorem scr_first (c : Dev nD) (t : Fin cfg0.N) (h0 : t.val % 5 = 0) : (outsAt0 m c t.val t.isLt).2 = k0_pay2 k0_pay1 (iblk m c 0 t) (iblk m c 1 t) := by
  have h1 : ¬t.val % 5 = 4 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, (Memref.isWhole_whole cc0_scratch0).read_unread, View.ld_unit_zero (S := S1664x2048) hz, View.ld_unit_zero (S := S1664x1024) hz, View.ld_unit_zero (S := S2048x1024) hz]
  rw [View.canon_cons_unit_zero (S := S2048x1024) hz, View.readCov_unit_zero (S := S2048x1024) _ hz]

theorem scr_next (c : Dev nD) (t : Fin cfg0.N) (h0 : ¬t.val % 5 = 0) : (outsAt0 m c t.val t.isLt).2 = k0_pay2 (prev m c t) (iblk m c 0 t) (iblk m c 1 t) := by
  by_cases h1 : t.val % 5 = 4
  · rw [outsAt0_C m c t h0 h1]
    dsimp only
    unfold sout0_C_0
    rw [View.read_writes_eq_canon _ _ _ (scover0_C_0 c _ _ _ _ _ _ _ _ _ _ _ _ _ _)]
    unfold kernelRun0_C
    dsimp only
    sl_unfold_words
    simp only [View.readAt_eq_ld, (hs0_0 t).read_unread, (hs0_1 t).read_unread, (Memref.isWhole_whole cc0_scratch0).read_unread, View.ld_unit_zero (S := S1664x2048) hz, View.ld_unit_zero (S := S1664x1024) hz, View.ld_unit_zero (S := S2048x1024) hz]
    rw [View.canon_unit_zero hz]
  · rw [outsAt0_B m c t h0 h1]
    dsimp only
    unfold sout0_B_0
    rw [View.read_writes_eq_canon _ _ _ (scover0_B_0 c _ _ _ _ _ _ _ _ _ _ _ _ _ _)]
    unfold kernelRun0_B
    dsimp only
    sl_unfold_words
    simp only [View.readAt_eq_ld, (hs0_0 t).read_unread, (hs0_1 t).read_unread, (Memref.isWhole_whole cc0_scratch0).read_unread, View.ld_unit_zero (S := S1664x2048) hz, View.ld_unit_zero (S := S1664x1024) hz, View.ld_unit_zero (S := S2048x1024) hz]
    rw [View.canon_unit_zero hz]

theorem out_last (c : Dev nD) (t : Fin cfg0.N) (h1 : t.val % 5 = 4) : (outsAt0 m c t.val t.isLt).1 = k0_pay3 (k0_pay2 (prev m c t) (iblk m c 0 t) (iblk m c 1 t)) := by
  have h0 : ¬t.val % 5 = 0 := by omega
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (Memref.isWhole_whole cc0_scratch0).read_unread, View.ld_unit_zero (S := S1664x2048) hz, View.ld_unit_zero (S := S1664x1024) hz, View.ld_unit_zero (S := S2048x1024) hz]
  rw [View.canon_unit_zero hz, View.readCov_unit_zero (S := S2048x1024) _ hz]

/-- After each point the scratch holds the part of the sum so far. -/
theorem carried (c : Dev nD) (q : ℕ) {i j : ℕ} (hi : i < 2048) (hj : j < 1024) : ∀ (s : ℕ) (_ : s < 4) (h : 5 * q + s < cfg0.N),
    rd ((outsAt0 m c (5 * q + s) h).2 : (Mat 2048 1024).Idx → EReal) i j = ∑ k ∈ range (1664 * (s + 1)), term m c (2048 * (q / 11) + i) (1024 * (q % 11) + j) k
  | 0, _, h => by
    have e := scr_first m c ⟨5 * q + 0, h⟩ (by dsimp only; omega)
    dsimp only at e
    rw [e, step_at _ _ _ hi hj, zero_at hi hj, zero_add, sum_first]
    exact block_at m c q 0 (by decide) h hi hj
  | s + 1, hs, h => by
    have e := scr_next m c ⟨5 * q + (s + 1), h⟩ (by dsimp only; omega)
    dsimp only at e
    have ih := carried c q hi hj s (by omega) (by omega)
    rw [e, step_at _ _ _ hi hj, sum_block]
    exact congrArg₂ (· + ·) ih (block_at m c q (s + 1) (by omega) h hi hj)

/-- The last point of a run stores the whole sum. -/
theorem whole (c : Dev nD) (q : ℕ) {i j : ℕ} (hi : i < 2048) (hj : j < 1024) (h : 5 * q + 4 < cfg0.N) :
    rd ((outsAt0 m c (5 * q + 4) h).1 : (Mat 2048 1024).Idx → EReal) i j = ∑ k ∈ range 8320, term m c (2048 * (q / 11) + i) (1024 * (q % 11) + j) k := by
  have e := out_last m c ⟨5 * q + 4, h⟩ (by dsimp only; omega)
  dsimp only at e
  rw [e]
  have hp := carried m c q hi hj 3 (by omega) (by omega)
  refine Eq.trans (step_at _ _ _ hi hj) ?_
  rw [show 8320 = 1664 * (4 + 1) from rfl, sum_block]
  exact congrArg₂ (· + ·) hp (block_at m c q 4 (by decide) h hi hj)

theorem G2_eq (c : Dev nD) : G2 m c = G m c := by
  refine funext fun (x : S2048x11264.Idx) => ?_
  have h0 : (x 0).val < 2048 := (x 0).isLt
  have h1 : (x 1).val < 11264 := (x 1).isLt
  have hp : 5 * (11 * ((x 0).val / 2048) + (x 1).val / 1024) + 4 < cfg0.N := by
    rw [show cfg0.N = 55 from N_0]
    omega
  have hq : pt2Of x = 5 * (11 * ((x 0).val / 2048) + (x 1).val / 1024) + 4 := by
    show 5 * (11 * ((x 0).val / 2048 - 0) + 1 * ((x 1).val / 1024 - 0)) + 4 = _
    omega
  have hb : pt2Of x < cfg0.N := hq ▸ hp
  unfold G2
  rw [dif_pos hb, ← outsAt0_sweep m c (pt2Of x) hb]
  have e : outsAt0 m c (pt2Of x) hb = outsAt0 m c _ hp := by
    congr 1
  rw [e]
  refine Eq.trans (rd_of ((outsAt0 m c _ hp).1 : (Mat 2048 1024).Idx → EReal) (loc2Of x) rfl rfl) ?_
  refine (whole m c _ (Nat.mod_lt _ (by decide)) (Nat.mod_lt _ (by decide)) hp).trans ?_
  rw [show 2048 * ((11 * ((x 0).val / 2048) + (x 1).val / 1024) / 11) + (x 0).val % 2048 = (x 0).val by omega,
    show 1024 * ((11 * ((x 0).val / 2048) + (x 1).val / 1024) % 11) + (x 1).val % 1024 = (x 1).val by omega]
  rfl

/-- The kernel's result is the reference's. -/
theorem agree : Cert.algebraic_Kernel3Ideal_Reference3Ideal := by
  intro m g m' g' _ harg
  refine ⟨fun c => G m c, ?_, ?_⟩
  · refine (θ_run Cert.Kernel3Ideal.defs _ _).mono (fun r h c => ?_) (Cert.Kernel3Ideal.Value.run (F := Ideal) m g)
    obtain ⟨hv, hargs⟩ := h c
    exact ⟨hv.trans (G2_eq m c), hargs⟩
  · refine (θ_run Cert.Reference3Ideal.defs _ _).mono (fun r h c => ?_) (Cert.Reference3Ideal.Value.run (F := Ideal) m' g')
    obtain ⟨hv, hargs⟩ := h c
    obtain ⟨e0, e1, e2⟩ := harg c
    refine ⟨hv.trans ?_, hargs⟩
    rw [e0, e2]
    refine funext fun (x : (Mat 2048 11264).Idx) => ?_
    exact dot_tn_swap (opA m c) (opB m c) x _ rfl rfl

end Cert.Proof.Linear.L3
end
-- ==== Proof.Lin4.lean ====
module

public import proofs.«01_k».proof.Defs
public import proofs.«01_k».proof.Proof.Linear
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run

@[expose] public section
set_option maxRecDepth 16384
noncomputable section
namespace Cert.Proof.Linear.L4

open Cert.Kernel4Ideal Cert.Kernel4Ideal.Gen Cert.Kernel4Ideal.Value
open Idealize.ShloMosaic Idealize.ShloMosaic.ValueIdx Idealize.ShloMosaic.Tactic
open Idealize.ShloMosaic.TcCoe
open Idealize.SL.Sem
open Finset

/-! # The gradient of the input of the feed-forward block’s second layer: the blocked product is the product -/

variable (m : (ℓ : Loc nD τ sig) → Buf (Elt Ideal) ℓ)

/-- The two operands, -/
def opA (c : Dev nD) : (Mat 8320 2048).Idx → EReal := m ((c : Thread nD τ).loc main_arg2)
def opB (c : Dev nD) : (Mat 5632 2048).Idx → EReal := m ((c : Thread nD τ).loc main_arg1)
/-- and a point's blocks of them. -/
def bA (c : Dev nD) (t : Fin cfg0.N) : (Mat 640 2048).Idx → EReal := iblk m c 0 t
def bB (c : Dev nD) (t : Fin cfg0.N) : (Mat 1408 2048).Idx → EReal := iblk m c 1 t

/-! ## Which blocks a point sees -/

theorem coord0 (t : Fin grid0.N) : (grid0.coords t 0).val = t.val / 4 := by
  have h : t.val < 52 := N_0 ▸ t.isLt
  exact (Pipeline.Grid.coords_val t 0 (S := 4) (B := 13) (by decide) rfl).trans (by omega)
theorem coord1 (t : Fin grid0.N) : (grid0.coords t 1).val = t.val / 1 % 4 := by
  have h : t.val < 52 := N_0 ▸ t.isLt
  exact (Pipeline.Grid.coords_val t 1 (S := 1) (B := 4) (by decide) rfl).trans (by omega)
theorem coord2 (t : Fin grid0.N) : (grid0.coords t 2).val = t.val % 1 := by
  have h : t.val < 52 := N_0 ▸ t.isLt
  exact (Pipeline.Grid.coords_val t 2 (S := 1) (B := 1) (by decide) rfl).trans (by omega)
theorem tr0 (t : Fin grid0.N) : cc0_transform_0 (grid0.coords t) = ![t.val / 4, t.val % 1] :=
  index_of (coord0 t) (coord2 t)
theorem rdA (c : Dev nD) (t : Fin cfg0.N) {i j : ℕ} (hi : i < 640) (hj : j < 2048) :
    rd (bA m c t) i j = rd (opA m c) (640 * (t.val / 4) + i) (2048 * (t.val % 1) + j) :=
  rd_slice (opA m c) ((cfg0.win 0).blk t).view.emb _ (fun _ => rfl) (fun _ => rfl) (tr0 t) hi hj
theorem tr1 (t : Fin grid0.N) : cc0_transform_1 (grid0.coords t) = ![t.val / 1 % 4, t.val % 1] :=
  index_of (coord1 t) (coord2 t)
theorem rdB (c : Dev nD) (t : Fin cfg0.N) {i j : ℕ} (hi : i < 1408) (hj : j < 2048) :
    rd (bB m c t) i j = rd (opB m c) (1408 * (t.val / 1 % 4) + i) (2048 * (t.val % 1) + j) :=
  rd_slice (opB m c) ((cfg0.win 1).blk t).view.emb _ (fun _ => rfl) (fun _ => rfl) (tr1 t) hi hj
theorem tr2 (t : Fin grid0.N) : cc0_transform_2 (grid0.coords t) = ![t.val / 4, t.val / 1 % 4] :=
  index_of (coord0 t) (coord1 t)

/-- The summand of the whole product at row `i` and column `j`, -/
def term (c : Dev nD) (i j k : ℕ) : EReal := rd (opA m c) i k * rd (opB m c) j k

/-- and the product of a point's blocks, a stretch of the whole product's sum. -/
theorem block_prod (c : Dev nD) (t : Fin cfg0.N) {i j : ℕ} (hi : i < 640) (hj : j < 1408) :
    nt (bA m c t) (bB m c t) 2048 i j = ∑ k ∈ range 2048, term m c (640 * (t.val / 4) + i) (1408 * (t.val / 1 % 4) + j) (2048 * (t.val % 1) + k) := by
  refine sum_congr rfl fun k hk => ?_
  have hk' : k < 2048 := mem_range.mp hk
  exact congrArg₂ (· * ·) (rdA m c t hi hk') (rdB m c t hj hk')

/-- The product the call should leave. -/
def G (c : Dev nD) : (Mat 8320 5632).Idx → EReal := fun x => nt (opA m c) (opB m c) 2048 (x 0).val (x 1).val

/-- What a point stores. -/
theorem stored (X : Vec Ideal S640x2048 .f32) (Y : Vec Ideal S1408x2048 .bf16) {i j : ℕ} (hi : i < 640) (hj : j < 1408) :
    rd (out0_2 X Y : (Mat 640 1408).Idx → EReal) i j = nt (X : (Mat 640 2048).Idx → EReal) (Y : (Mat 1408 2048).Idx → EReal) 2048 i j := by
  have h : out0_2 X Y = k0_pay1 X Y := by
    unfold out0_2
    refine (View.canon_unit_zero hz _ _).trans ?_
    rw [View.ld_unit_zero (S := S640x2048) hz, View.ld_unit_zero (S := S1408x2048) hz]
  rw [h]
  exact matmul_nt (M := 640) (K := 2048) (N := 1408) X Y hi hj

/-- An index of the array is in a point's block when its row and column are. -/
theorem mem_blk (t : Fin cfg0.N) (x : S8320x5632.Idx) :
    x ∈ ((cfg0.win 2).blk t).view.set ↔ ∀ a : Fin 2, win0_2.index t a * S640x1408.size a ≤ (x a).val ∧ (x a).val < win0_2.index t a * S640x1408.size a + S640x1408.size a := by
  show x ∈ ((View.whole main_v0).slice (win0_2.rect t)).set ↔ _
  rw [View.set_slice_whole, Rect.mem_set_unit]
  exact Iff.rfl

theorem final (c : Dev nD) : (dats m 0 c).arrAt 2 cfg0.N = G m c := by
  refine (dats m 0 c).arrAt_eq_of_cover 2 _ (fun t _ => ?_) (fun x => ?_)
  · rw [flushed2]
    refine funext fun (y : S640x1408.Idx) => ?_
    have h0 : (y 0).val < 640 := (y 0).isLt
    have h1 : (y 1).val < 1408 := (y 1).isLt
    have e0 : (((cfg0.win 2).blk t).view.emb y 0).val = _ := (at_index (i := (y 0).val) (j := (y 1).val) (A := 640) (B := 1408) (tr2 t)).1
    have e1 : (((cfg0.win 2).blk t).view.emb y 1).val = _ := (at_index (i := (y 0).val) (j := (y 1).val) (A := 640) (B := 1408) (tr2 t)).2
    refine Eq.trans (?_ : _ = rd (out0_2 (iblk m c 0 t) (iblk m c 1 t) : (Mat 640 1408).Idx → EReal) (y 0).val (y 1).val) ?_
    · exact rd_of (out0_2 (iblk m c 0 t) (iblk m c 1 t) : (Mat 640 1408).Idx → EReal) y rfl rfl
    · refine (stored (iblk m c 0 t) (iblk m c 1 t) h0 h1).trans ?_
      refine (block_prod m c t h0 h1).trans ?_
      show _ = nt (opA m c) (opB m c) 2048 (((cfg0.win 2).blk t).view.emb y 0).val (((cfg0.win 2).blk t).view.emb y 1).val
      rw [e0, e1]
      refine sum_congr rfl fun k _ => ?_
      have hk : 2048 * (t.val % 1) + k = k := by omega
      rw [hk]
      rfl
  · have h0 : (x 0).val < 8320 := (x 0).isLt
    have h1 : (x 1).val < 5632 := (x 1).isLt
    have ht : 4 * ((x 0).val / 640) + (x 1).val / 1408 < grid0.N := by
      rw [N_0]
      omega
    refine ⟨⟨4 * ((x 0).val / 640) + (x 1).val / 1408, ht⟩, flush0_2 _, ?_⟩
    rw [mem_blk]
    exact in_block (z := fun k => (x k).val) (A := 640) (B := 1408) (tr2 ⟨_, ht⟩) (by dsimp only; omega) (by dsimp only; omega)

/-- The kernel's result is the reference's. -/
theorem agree : Cert.algebraic_Kernel4Ideal_Reference4Ideal := by
  intro m g m' g' _ harg
  refine ⟨fun c => G m c, ?_, ?_⟩
  · refine (θ_run Cert.Kernel4Ideal.defs _ _).mono (fun r h c => ?_) (Cert.Kernel4Ideal.Value.run_blocks (F := Ideal) m g)
    obtain ⟨hv, hargs⟩ := h c
    exact ⟨hv.trans (final m c), hargs⟩
  · refine (θ_run Cert.Reference4Ideal.defs _ _).mono (fun r h c => ?_) (Cert.Reference4Ideal.Value.run (F := Ideal) m' g')
    obtain ⟨hv, hargs⟩ := h c
    obtain ⟨e0, e1, e2⟩ := harg c
    refine ⟨hv.trans ?_, hargs⟩
    rw [e2, e1]
    exact dot_nt_eq (M := 8320) (K := 2048) (N := 5632) (opA m c) (opB m c)

end Cert.Proof.Linear.L4
end
-- ==== Proof.Lin5.lean ====
module

public import proofs.«01_k».proof.Defs
public import proofs.«01_k».proof.Proof.Linear
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run

@[expose] public section
set_option maxRecDepth 16384
noncomputable section
namespace Cert.Proof.Linear.L5

open Cert.Kernel5Ideal Cert.Kernel5Ideal.Gen Cert.Kernel5Ideal.Value
open Idealize.ShloMosaic Idealize.ShloMosaic.ValueIdx Idealize.ShloMosaic.Tactic
open Idealize.ShloMosaic.TcCoe
open Idealize.SL.Sem
open Finset

/-! # The gradient of the weight of the feed-forward block’s second layer: the blocked product is the product -/

variable (m : (ℓ : Loc nD τ sig) → Buf (Elt Ideal) ℓ)

/-- The two operands, -/
def opA (c : Dev nD) : (Mat 8320 5632).Idx → EReal := m ((c : Thread nD τ).loc main_arg0)
def opB (c : Dev nD) : (Mat 8320 2048).Idx → EReal := m ((c : Thread nD τ).loc main_arg2)
/-- and a point's blocks of them. -/
def bA (c : Dev nD) (t : Fin cfg0.N) : (Mat 1664 1408).Idx → EReal := iblk m c 0 t
def bB (c : Dev nD) (t : Fin cfg0.N) : (Mat 1664 1024).Idx → EReal := iblk m c 1 t

/-! ## Which blocks a point sees -/

theorem coord0 (t : Fin grid0.N) : (grid0.coords t 0).val = t.val / 10 := by
  have h : t.val < 40 := N_0 ▸ t.isLt
  exact (Pipeline.Grid.coords_val t 0 (S := 10) (B := 4) (by decide) rfl).trans (by omega)
theorem coord1 (t : Fin grid0.N) : (grid0.coords t 1).val = t.val / 5 % 2 := by
  have h : t.val < 40 := N_0 ▸ t.isLt
  exact (Pipeline.Grid.coords_val t 1 (S := 5) (B := 2) (by decide) rfl).trans (by omega)
theorem coord2 (t : Fin grid0.N) : (grid0.coords t 2).val = t.val % 5 := by
  have h : t.val < 40 := N_0 ▸ t.isLt
  exact (Pipeline.Grid.coords_val t 2 (S := 1) (B := 5) (by decide) rfl).trans (by omega)
theorem tr0 (t : Fin grid0.N) : cc0_transform_0 (grid0.coords t) = ![t.val % 5, t.val / 10] :=
  index_of (coord2 t) (coord0 t)
theorem rdA (c : Dev nD) (t : Fin cfg0.N) {i j : ℕ} (hi : i < 1664) (hj : j < 1408) :
    rd (bA m c t) i j = rd (opA m c) (1664 * (t.val % 5) + i) (1408 * (t.val / 10) + j) :=
  rd_slice (opA m c) ((cfg0.win 0).blk t).view.emb _ (fun _ => rfl) (fun _ => rfl) (tr0 t) hi hj
theorem tr1 (t : Fin grid0.N) : cc0_transform_1 (grid0.coords t) = ![t.val % 5, t.val / 5 % 2] :=
  index_of (coord2 t) (coord1 t)
theorem rdB (c : Dev nD) (t : Fin cfg0.N) {i j : ℕ} (hi : i < 1664) (hj : j < 1024) :
    rd (bB m c t) i j = rd (opB m c) (1664 * (t.val % 5) + i) (1024 * (t.val / 5 % 2) + j) :=
  rd_slice (opB m c) ((cfg0.win 1).blk t).view.emb _ (fun _ => rfl) (fun _ => rfl) (tr1 t) hi hj
theorem tr2 (t : Fin grid0.N) : cc0_transform_2 (grid0.coords t) = ![t.val / 10, t.val / 5 % 2] :=
  index_of (coord0 t) (coord1 t)

/-- The summand of the whole product at row `i` and column `j`, -/
def term (c : Dev nD) (i j k : ℕ) : EReal := rd (opA m c) k i * rd (opB m c) k j

/-- and the product of a point's blocks, a stretch of the whole product's sum. -/
theorem block_prod (c : Dev nD) (t : Fin cfg0.N) {i j : ℕ} (hi : i < 1408) (hj : j < 1024) :
    tn (bA m c t) (bB m c t) 1664 i j = ∑ k ∈ range 1664, term m c (1408 * (t.val / 10) + i) (1024 * (t.val / 5 % 2) + j) (1664 * (t.val % 5) + k) := by
  refine sum_congr rfl fun k hk => ?_
  have hk' : k < 1664 := mem_range.mp hk
  exact congrArg₂ (· * ·) (rdA m c t hk' hi) (rdB m c t hk' hj)

/-- The product the call should leave. -/
def G (c : Dev nD) : (Mat 5632 2048).Idx → EReal := fun x => tn (opA m c) (opB m c) 8320 (x 0).val (x 1).val

/-! ## What the steps compute -/

/-- One step of the accumulation. -/
theorem step_at (acc : Vec Ideal S1408x1024 .f32) (X : Vec Ideal S1664x1408 .bf16) (Y : Vec Ideal S1664x1024 .f32) {i j : ℕ} (hi : i < 1408) (hj : j < 1024) :
    rd (k0_pay2 acc X Y : (Mat 1408 1024).Idx → EReal) i j = rd (acc : (Mat 1408 1024).Idx → EReal) i j + tn (X : (Mat 1664 1408).Idx → EReal) (Y : (Mat 1664 1024).Idx → EReal) 1664 i j := by
  have h : k0_pay2 acc X Y = addf acc (matmul (φ₁ := .bf16) (φ₂ := .bf16) dot_S1664x1408_S1664x1024_S1408x1024_0_0_1_1_n_n none X (truncf .bf16 Y bitsLt_bf16_f32) (constant S1408x1024 .f32 0x00000000#32)) := by
    unfold k0_pay2
    simp only [shapeCast_self]
  rw [h, ← matmul_tn (M := 1408) (K := 1664) (N := 1024) (φ₁ := .bf16) (φ₂ := .bf16) X Y hi hj]
  refine (rd_in _ ⟨i, hi⟩ ⟨j, hj⟩).trans (congrArg₂ (· + ·) (rd_in _ ⟨i, hi⟩ ⟨j, hj⟩).symm (rd_in _ ⟨i, hi⟩ ⟨j, hj⟩).symm)
theorem zero_at {i j : ℕ} (hi : i < 1408) (hj : j < 1024) : rd (k0_pay1 (F := Ideal) : (Mat 1408 1024).Idx → EReal) i j = 0 :=
  rd_zero (by
    unfold k0_pay1
    simp only [shapeCast_self]) hi hj

/-! ## A run of points -/

/-- The product of the blocks of a run's point. -/
theorem block_at (c : Dev nD) (q s : ℕ) (hs : s < 5) (h : 5 * q + s < cfg0.N) {i j : ℕ} (hi : i < 1408) (hj : j < 1024) :
    tn (bA m c ⟨5 * q + s, h⟩) (bB m c ⟨5 * q + s, h⟩) 1664 i j = ∑ k ∈ range 1664, term m c (1408 * (q / 2) + i) (1024 * (q % 2) + j) (1664 * s + k) := by
  have hq0 : (5 * q + s) / 10 = q / 2 := by omega
  have hq1 : (5 * q + s) / 5 = q := by omega
  have hq2 : (5 * q + s) % 5 = s := by omega
  rw [block_prod m c _ hi hj]
  dsimp only
  rw [hq0, hq1, hq2]

/-- What the scratch holds on entering a point. -/
abbrev prev (c : Dev nD) (t : Fin cfg0.N) : Vec Ideal S1408x1024 .f32 := (outsAt0 m c (t.val - 1) (Nat.lt_of_le_of_lt (Nat.sub_le _ _) t.isLt)).2
theorem scr_first (c : Dev nD) (t : Fin cfg0.N) (h0 : t.val % 5 = 0) : (outsAt0 m c t.val t.isLt).2 = k0_pay2 k0_pay1 (iblk m c 0 t) (iblk m c 1 t) := by
  have h1 : ¬t.val % 5 = 4 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, (Memref.isWhole_whole cc0_scratch0).read_unread, View.ld_unit_zero (S := S1664x1408) hz, View.ld_unit_zero (S := S1664x1024) hz, View.ld_unit_zero (S := S1408x1024) hz]
  rw [View.canon_cons_unit_zero (S := S1408x1024) hz, View.readCov_unit_zero (S := S1408x1024) _ hz]

theorem scr_next (c : Dev nD) (t : Fin cfg0.N) (h0 : ¬t.val % 5 = 0) : (outsAt0 m c t.val t.isLt).2 = k0_pay2 (prev m c t) (iblk m c 0 t) (iblk m c 1 t) := by
  by_cases h1 : t.val % 5 = 4
  · rw [outsAt0_C m c t h0 h1]
    dsimp only
    unfold sout0_C_0
    rw [View.read_writes_eq_canon _ _ _ (scover0_C_0 c _ _ _ _ _ _ _ _ _ _ _ _ _ _)]
    unfold kernelRun0_C
    dsimp only
    sl_unfold_words
    simp only [View.readAt_eq_ld, (hs0_0 t).read_unread, (hs0_1 t).read_unread, (Memref.isWhole_whole cc0_scratch0).read_unread, View.ld_unit_zero (S := S1664x1408) hz, View.ld_unit_zero (S := S1664x1024) hz, View.ld_unit_zero (S := S1408x1024) hz]
    rw [View.canon_unit_zero hz]
  · rw [outsAt0_B m c t h0 h1]
    dsimp only
    unfold sout0_B_0
    rw [View.read_writes_eq_canon _ _ _ (scover0_B_0 c _ _ _ _ _ _ _ _ _ _ _ _ _ _)]
    unfold kernelRun0_B
    dsimp only
    sl_unfold_words
    simp only [View.readAt_eq_ld, (hs0_0 t).read_unread, (hs0_1 t).read_unread, (Memref.isWhole_whole cc0_scratch0).read_unread, View.ld_unit_zero (S := S1664x1408) hz, View.ld_unit_zero (S := S1664x1024) hz, View.ld_unit_zero (S := S1408x1024) hz]
    rw [View.canon_unit_zero hz]

theorem out_last (c : Dev nD) (t : Fin cfg0.N) (h1 : t.val % 5 = 4) : (outsAt0 m c t.val t.isLt).1 = k0_pay3 (k0_pay2 (prev m c t) (iblk m c 0 t) (iblk m c 1 t)) := by
  have h0 : ¬t.val % 5 = 0 := by omega
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (Memref.isWhole_whole cc0_scratch0).read_unread, View.ld_unit_zero (S := S1664x1408) hz, View.ld_unit_zero (S := S1664x1024) hz, View.ld_unit_zero (S := S1408x1024) hz]
  rw [View.canon_unit_zero hz, View.readCov_unit_zero (S := S1408x1024) _ hz]

/-- After each point the scratch holds the part of the sum so far. -/
theorem carried (c : Dev nD) (q : ℕ) {i j : ℕ} (hi : i < 1408) (hj : j < 1024) : ∀ (s : ℕ) (_ : s < 4) (h : 5 * q + s < cfg0.N),
    rd ((outsAt0 m c (5 * q + s) h).2 : (Mat 1408 1024).Idx → EReal) i j = ∑ k ∈ range (1664 * (s + 1)), term m c (1408 * (q / 2) + i) (1024 * (q % 2) + j) k
  | 0, _, h => by
    have e := scr_first m c ⟨5 * q + 0, h⟩ (by dsimp only; omega)
    dsimp only at e
    rw [e, step_at _ _ _ hi hj, zero_at hi hj, zero_add, sum_first]
    exact block_at m c q 0 (by decide) h hi hj
  | s + 1, hs, h => by
    have e := scr_next m c ⟨5 * q + (s + 1), h⟩ (by dsimp only; omega)
    dsimp only at e
    have ih := carried c q hi hj s (by omega) (by omega)
    rw [e, step_at _ _ _ hi hj, sum_block]
    exact congrArg₂ (· + ·) ih (block_at m c q (s + 1) (by omega) h hi hj)

/-- The last point of a run stores the whole sum. -/
theorem whole (c : Dev nD) (q : ℕ) {i j : ℕ} (hi : i < 1408) (hj : j < 1024) (h : 5 * q + 4 < cfg0.N) :
    rd ((outsAt0 m c (5 * q + 4) h).1 : (Mat 1408 1024).Idx → EReal) i j = ∑ k ∈ range 8320, term m c (1408 * (q / 2) + i) (1024 * (q % 2) + j) k := by
  have e := out_last m c ⟨5 * q + 4, h⟩ (by dsimp only; omega)
  dsimp only at e
  rw [e]
  have hp := carried m c q hi hj 3 (by omega) (by omega)
  refine Eq.trans (step_at _ _ _ hi hj) ?_
  rw [show 8320 = 1664 * (4 + 1) from rfl, sum_block]
  exact congrArg₂ (· + ·) hp (block_at m c q 4 (by decide) h hi hj)

theorem G2_eq (c : Dev nD) : G2 m c = G m c := by
  refine funext fun (x : S5632x2048.Idx) => ?_
  have h0 : (x 0).val < 5632 := (x 0).isLt
  have h1 : (x 1).val < 2048 := (x 1).isLt
  have hp : 5 * (2 * ((x 0).val / 1408) + (x 1).val / 1024) + 4 < cfg0.N := by
    rw [show cfg0.N = 40 from N_0]
    omega
  have hq : pt2Of x = 5 * (2 * ((x 0).val / 1408) + (x 1).val / 1024) + 4 := by
    show 5 * (2 * ((x 0).val / 1408 - 0) + 1 * ((x 1).val / 1024 - 0)) + 4 = _
    omega
  have hb : pt2Of x < cfg0.N := hq ▸ hp
  unfold G2
  rw [dif_pos hb, ← outsAt0_sweep m c (pt2Of x) hb]
  have e : outsAt0 m c (pt2Of x) hb = outsAt0 m c _ hp := by
    congr 1
  rw [e]
  refine Eq.trans (rd_of ((outsAt0 m c _ hp).1 : (Mat 1408 1024).Idx → EReal) (loc2Of x) rfl rfl) ?_
  refine (whole m c _ (Nat.mod_lt _ (by decide)) (Nat.mod_lt _ (by decide)) hp).trans ?_
  rw [show 1408 * ((2 * ((x 0).val / 1408) + (x 1).val / 1024) / 2) + (x 0).val % 1408 = (x 0).val by omega,
    show 1024 * ((2 * ((x 0).val / 1408) + (x 1).val / 1024) % 2) + (x 1).val % 1024 = (x 1).val by omega]
  rfl

/-- The kernel's result is the reference's. -/
theorem agree : Cert.algebraic_Kernel5Ideal_Reference5Ideal := by
  intro m g m' g' _ harg
  refine ⟨fun c => G m c, ?_, ?_⟩
  · refine (θ_run Cert.Kernel5Ideal.defs _ _).mono (fun r h c => ?_) (Cert.Kernel5Ideal.Value.run (F := Ideal) m g)
    obtain ⟨hv, hargs⟩ := h c
    exact ⟨hv.trans (G2_eq m c), hargs⟩
  · refine (θ_run Cert.Reference5Ideal.defs _ _).mono (fun r h c => ?_) (Cert.Reference5Ideal.Value.run (F := Ideal) m' g')
    obtain ⟨hv, hargs⟩ := h c
    obtain ⟨e0, e1, e2⟩ := harg c
    refine ⟨hv.trans ?_, hargs⟩
    rw [e0, e2]
    refine funext fun (x : (Mat 5632 2048).Idx) => ?_
    exact dot_tn_swap (opA m c) (opB m c) x _ rfl rfl

end Cert.Proof.Linear.L5
end
-- ==== Proof.Lin6.lean ====
module

public import proofs.«01_k».proof.Defs
public import proofs.«01_k».proof.Proof.Linear
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run

@[expose] public section
set_option maxRecDepth 16384
noncomputable section
namespace Cert.Proof.Linear.L6

open Cert.Kernel6Ideal Cert.Kernel6Ideal.Gen Cert.Kernel6Ideal.Value
open Idealize.ShloMosaic Idealize.ShloMosaic.ValueIdx Idealize.ShloMosaic.Tactic
open Idealize.ShloMosaic.TcCoe
open Idealize.SL.Sem
open Finset

/-! # The feed-forward block’s first layer: the blocked product is the product -/

variable (m : (ℓ : Loc nD τ sig) → Buf (Elt Ideal) ℓ)

/-- The two operands, -/
def opA (c : Dev nD) : (Mat 8320 2048).Idx → EReal := m ((c : Thread nD τ).loc main_arg0)
def opB (c : Dev nD) : (Mat 2048 11264).Idx → EReal := m ((c : Thread nD τ).loc main_arg1)
/-- and a point's blocks of them. -/
def bA (c : Dev nD) (t : Fin cfg0.N) : (Mat 1664 2048).Idx → EReal := iblk m c 0 t
def bB (c : Dev nD) (t : Fin cfg0.N) : (Mat 2048 1024).Idx → EReal := iblk m c 1 t

/-! ## Which blocks a point sees -/

theorem coord0 (t : Fin grid0.N) : (grid0.coords t 0).val = t.val / 11 := by
  have h : t.val < 55 := N_0 ▸ t.isLt
  exact (Pipeline.Grid.coords_val t 0 (S := 11) (B := 5) (by decide) rfl).trans (by omega)
theorem coord1 (t : Fin grid0.N) : (grid0.coords t 1).val = t.val / 1 % 11 := by
  have h : t.val < 55 := N_0 ▸ t.isLt
  exact (Pipeline.Grid.coords_val t 1 (S := 1) (B := 11) (by decide) rfl).trans (by omega)
theorem coord2 (t : Fin grid0.N) : (grid0.coords t 2).val = t.val % 1 := by
  have h : t.val < 55 := N_0 ▸ t.isLt
  exact (Pipeline.Grid.coords_val t 2 (S := 1) (B := 1) (by decide) rfl).trans (by omega)
theorem tr0 (t : Fin grid0.N) : cc0_transform_0 (grid0.coords t) = ![t.val / 11, t.val % 1] :=
  index_of (coord0 t) (coord2 t)
theorem rdA (c : Dev nD) (t : Fin cfg0.N) {i j : ℕ} (hi : i < 1664) (hj : j < 2048) :
    rd (bA m c t) i j = rd (opA m c) (1664 * (t.val / 11) + i) (2048 * (t.val % 1) + j) :=
  rd_slice (opA m c) ((cfg0.win 0).blk t).view.emb _ (fun _ => rfl) (fun _ => rfl) (tr0 t) hi hj
theorem tr1 (t : Fin grid0.N) : cc0_transform_1 (grid0.coords t) = ![t.val % 1, t.val / 1 % 11] :=
  index_of (coord2 t) (coord1 t)
theorem rdB (c : Dev nD) (t : Fin cfg0.N) {i j : ℕ} (hi : i < 2048) (hj : j < 1024) :
    rd (bB m c t) i j = rd (opB m c) (2048 * (t.val % 1) + i) (1024 * (t.val / 1 % 11) + j) :=
  rd_slice (opB m c) ((cfg0.win 1).blk t).view.emb _ (fun _ => rfl) (fun _ => rfl) (tr1 t) hi hj
theorem tr2 (t : Fin grid0.N) : cc0_transform_2 (grid0.coords t) = ![t.val / 11, t.val / 1 % 11] :=
  index_of (coord0 t) (coord1 t)

/-- The summand of the whole product at row `i` and column `j`, -/
def term (c : Dev nD) (i j k : ℕ) : EReal := rd (opA m c) i k * rd (opB m c) k j

/-- and the product of a point's blocks, a stretch of the whole product's sum. -/
theorem block_prod (c : Dev nD) (t : Fin cfg0.N) {i j : ℕ} (hi : i < 1664) (hj : j < 1024) :
    nn (bA m c t) (bB m c t) 2048 i j = ∑ k ∈ range 2048, term m c (1664 * (t.val / 11) + i) (1024 * (t.val / 1 % 11) + j) (2048 * (t.val % 1) + k) := by
  refine sum_congr rfl fun k hk => ?_
  have hk' : k < 2048 := mem_range.mp hk
  exact congrArg₂ (· * ·) (rdA m c t hi hk') (rdB m c t hk' hj)

/-- The product the call should leave. -/
def G (c : Dev nD) : (Mat 8320 11264).Idx → EReal := fun x => nn (opA m c) (opB m c) 2048 (x 0).val (x 1).val

/-- What a point stores. -/
theorem stored (X : Vec Ideal S1664x2048 .bf16) (Y : Vec Ideal S2048x1024 .bf16) {i j : ℕ} (hi : i < 1664) (hj : j < 1024) :
    rd (out0_2 X Y : (Mat 1664 1024).Idx → EReal) i j = nn (X : (Mat 1664 2048).Idx → EReal) (Y : (Mat 2048 1024).Idx → EReal) 2048 i j := by
  have h : out0_2 X Y = k0_pay1 X Y := by
    unfold out0_2
    refine (View.canon_unit_zero hz _ _).trans ?_
    rw [View.ld_unit_zero (S := S1664x2048) hz, View.ld_unit_zero (S := S2048x1024) hz]
  rw [h]
  exact matmul_nn (M := 1664) (K := 2048) (N := 1024) X Y hi hj

/-- An index of the array is in a point's block when its row and column are. -/
theorem mem_blk (t : Fin cfg0.N) (x : S8320x11264.Idx) :
    x ∈ ((cfg0.win 2).blk t).view.set ↔ ∀ a : Fin 2, win0_2.index t a * S1664x1024.size a ≤ (x a).val ∧ (x a).val < win0_2.index t a * S1664x1024.size a + S1664x1024.size a := by
  show x ∈ ((View.whole main_v0).slice (win0_2.rect t)).set ↔ _
  rw [View.set_slice_whole, Rect.mem_set_unit]
  exact Iff.rfl

theorem final (c : Dev nD) : (dats m 0 c).arrAt 2 cfg0.N = G m c := by
  refine (dats m 0 c).arrAt_eq_of_cover 2 _ (fun t _ => ?_) (fun x => ?_)
  · rw [flushed2]
    refine funext fun (y : S1664x1024.Idx) => ?_
    have h0 : (y 0).val < 1664 := (y 0).isLt
    have h1 : (y 1).val < 1024 := (y 1).isLt
    have e0 : (((cfg0.win 2).blk t).view.emb y 0).val = _ := (at_index (i := (y 0).val) (j := (y 1).val) (A := 1664) (B := 1024) (tr2 t)).1
    have e1 : (((cfg0.win 2).blk t).view.emb y 1).val = _ := (at_index (i := (y 0).val) (j := (y 1).val) (A := 1664) (B := 1024) (tr2 t)).2
    refine Eq.trans (?_ : _ = rd (out0_2 (iblk m c 0 t) (iblk m c 1 t) : (Mat 1664 1024).Idx → EReal) (y 0).val (y 1).val) ?_
    · exact rd_of (out0_2 (iblk m c 0 t) (iblk m c 1 t) : (Mat 1664 1024).Idx → EReal) y rfl rfl
    · refine (stored (iblk m c 0 t) (iblk m c 1 t) h0 h1).trans ?_
      refine (block_prod m c t h0 h1).trans ?_
      show _ = nn (opA m c) (opB m c) 2048 (((cfg0.win 2).blk t).view.emb y 0).val (((cfg0.win 2).blk t).view.emb y 1).val
      rw [e0, e1]
      refine sum_congr rfl fun k _ => ?_
      have hk : 2048 * (t.val % 1) + k = k := by omega
      rw [hk]
      rfl
  · have h0 : (x 0).val < 8320 := (x 0).isLt
    have h1 : (x 1).val < 11264 := (x 1).isLt
    have ht : 11 * ((x 0).val / 1664) + (x 1).val / 1024 < grid0.N := by
      rw [N_0]
      omega
    refine ⟨⟨11 * ((x 0).val / 1664) + (x 1).val / 1024, ht⟩, flush0_2 _, ?_⟩
    rw [mem_blk]
    exact in_block (z := fun k => (x k).val) (A := 1664) (B := 1024) (tr2 ⟨_, ht⟩) (by dsimp only; omega) (by dsimp only; omega)

/-- The kernel's result is the reference's. -/
theorem agree : Cert.algebraic_Kernel6Ideal_Reference6Ideal := by
  intro m g m' g' _ harg
  refine ⟨fun c => G m c, ?_, ?_⟩
  · refine (θ_run Cert.Kernel6Ideal.defs _ _).mono (fun r h c => ?_) (Cert.Kernel6Ideal.Value.run_blocks (F := Ideal) m g)
    obtain ⟨hv, hargs⟩ := h c
    exact ⟨hv.trans (final m c), hargs⟩
  · refine (θ_run Cert.Reference6Ideal.defs _ _).mono (fun r h c => ?_) (Cert.Reference6Ideal.Value.run (F := Ideal) m' g')
    obtain ⟨hv, hargs⟩ := h c
    obtain ⟨e0, e1⟩ := harg c
    refine ⟨hv.trans ?_, hargs⟩
    rw [e0, e1]
    exact dot_nn_eq (M := 8320) (K := 2048) (N := 11264) (opA m c) (opB m c)

end Cert.Proof.Linear.L6
end
-- ==== Proof.Lin7.lean ====
module

public import proofs.«01_k».proof.Defs
public import proofs.«01_k».proof.Proof.Linear
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run

@[expose] public section
set_option maxRecDepth 16384
noncomputable section
namespace Cert.Proof.Linear.L7

open Cert.Kernel7Ideal Cert.Kernel7Ideal.Gen Cert.Kernel7Ideal.Value
open Idealize.ShloMosaic Idealize.ShloMosaic.ValueIdx Idealize.ShloMosaic.Tactic
open Idealize.ShloMosaic.TcCoe
open Idealize.SL.Sem
open Finset

/-! # The feed-forward block’s second layer: the blocked product is the product -/

variable (m : (ℓ : Loc nD τ sig) → Buf (Elt Ideal) ℓ)

/-- The two operands, -/
def opA (c : Dev nD) : (Mat 8320 5632).Idx → EReal := m ((c : Thread nD τ).loc main_arg0)
def opB (c : Dev nD) : (Mat 5632 2048).Idx → EReal := m ((c : Thread nD τ).loc main_arg1)
/-- and a point's blocks of them. -/
def bA (c : Dev nD) (t : Fin cfg0.N) : (Mat 1664 2816).Idx → EReal := iblk m c 0 t
def bB (c : Dev nD) (t : Fin cfg0.N) : (Mat 2816 512).Idx → EReal := iblk m c 1 t

/-! ## Which blocks a point sees -/

theorem coord0 (t : Fin grid0.N) : (grid0.coords t 0).val = t.val / 8 := by
  have h : t.val < 40 := N_0 ▸ t.isLt
  exact (Pipeline.Grid.coords_val t 0 (S := 8) (B := 5) (by decide) rfl).trans (by omega)
theorem coord1 (t : Fin grid0.N) : (grid0.coords t 1).val = t.val / 2 % 4 := by
  have h : t.val < 40 := N_0 ▸ t.isLt
  exact (Pipeline.Grid.coords_val t 1 (S := 2) (B := 4) (by decide) rfl).trans (by omega)
theorem coord2 (t : Fin grid0.N) : (grid0.coords t 2).val = t.val % 2 := by
  have h : t.val < 40 := N_0 ▸ t.isLt
  exact (Pipeline.Grid.coords_val t 2 (S := 1) (B := 2) (by decide) rfl).trans (by omega)
theorem tr0 (t : Fin grid0.N) : cc0_transform_0 (grid0.coords t) = ![t.val / 8, t.val % 2] :=
  index_of (coord0 t) (coord2 t)
theorem rdA (c : Dev nD) (t : Fin cfg0.N) {i j : ℕ} (hi : i < 1664) (hj : j < 2816) :
    rd (bA m c t) i j = rd (opA m c) (1664 * (t.val / 8) + i) (2816 * (t.val % 2) + j) :=
  rd_slice (opA m c) ((cfg0.win 0).blk t).view.emb _ (fun _ => rfl) (fun _ => rfl) (tr0 t) hi hj
theorem tr1 (t : Fin grid0.N) : cc0_transform_1 (grid0.coords t) = ![t.val % 2, t.val / 2 % 4] :=
  index_of (coord2 t) (coord1 t)
theorem rdB (c : Dev nD) (t : Fin cfg0.N) {i j : ℕ} (hi : i < 2816) (hj : j < 512) :
    rd (bB m c t) i j = rd (opB m c) (2816 * (t.val % 2) + i) (512 * (t.val / 2 % 4) + j) :=
  rd_slice (opB m c) ((cfg0.win 1).blk t).view.emb _ (fun _ => rfl) (fun _ => rfl) (tr1 t) hi hj
theorem tr2 (t : Fin grid0.N) : cc0_transform_2 (grid0.coords t) = ![t.val / 8, t.val / 2 % 4] :=
  index_of (coord0 t) (coord1 t)

/-- The summand of the whole product at row `i` and column `j`, -/
def term (c : Dev nD) (i j k : ℕ) : EReal := rd (opA m c) i k * rd (opB m c) k j

/-- and the product of a point's blocks, a stretch of the whole product's sum. -/
theorem block_prod (c : Dev nD) (t : Fin cfg0.N) {i j : ℕ} (hi : i < 1664) (hj : j < 512) :
    nn (bA m c t) (bB m c t) 2816 i j = ∑ k ∈ range 2816, term m c (1664 * (t.val / 8) + i) (512 * (t.val / 2 % 4) + j) (2816 * (t.val % 2) + k) := by
  refine sum_congr rfl fun k hk => ?_
  have hk' : k < 2816 := mem_range.mp hk
  exact congrArg₂ (· * ·) (rdA m c t hi hk') (rdB m c t hk' hj)

/-- The product the call should leave. -/
def G (c : Dev nD) : (Mat 8320 2048).Idx → EReal := fun x => nn (opA m c) (opB m c) 5632 (x 0).val (x 1).val

/-! ## What the steps compute -/

/-- One step of the accumulation. -/
theorem step_at (acc : Vec Ideal S1664x512 .f32) (X : Vec Ideal S1664x2816 .bf16) (Y : Vec Ideal S2816x512 .bf16) {i j : ℕ} (hi : i < 1664) (hj : j < 512) :
    rd (k0_pay2 acc X Y : (Mat 1664 512).Idx → EReal) i j = rd (acc : (Mat 1664 512).Idx → EReal) i j + nn (X : (Mat 1664 2816).Idx → EReal) (Y : (Mat 2816 512).Idx → EReal) 2816 i j := by
  have h : k0_pay2 acc X Y = addf acc (matmul (φ₁ := .bf16) (φ₂ := .bf16) dot_S1664x2816_S2816x512_S1664x512_1_0_0_1_n_n none X Y (constant S1664x512 .f32 0x00000000#32)) := by
    unfold k0_pay2
    simp only [shapeCast_self]
  rw [h, ← matmul_nn (M := 1664) (K := 2816) (N := 512) (φ₁ := .bf16) (φ₂ := .bf16) X Y hi hj]
  refine (rd_in _ ⟨i, hi⟩ ⟨j, hj⟩).trans (congrArg₂ (· + ·) (rd_in _ ⟨i, hi⟩ ⟨j, hj⟩).symm (rd_in _ ⟨i, hi⟩ ⟨j, hj⟩).symm)
theorem zero_at {i j : ℕ} (hi : i < 1664) (hj : j < 512) : rd (k0_pay1 (F := Ideal) : (Mat 1664 512).Idx → EReal) i j = 0 :=
  rd_zero (by
    unfold k0_pay1
    simp only [shapeCast_self]) hi hj

/-! ## A run of points -/

/-- The product of the blocks of a run's point. -/
theorem block_at (c : Dev nD) (q s : ℕ) (hs : s < 2) (h : 2 * q + s < cfg0.N) {i j : ℕ} (hi : i < 1664) (hj : j < 512) :
    nn (bA m c ⟨2 * q + s, h⟩) (bB m c ⟨2 * q + s, h⟩) 2816 i j = ∑ k ∈ range 2816, term m c (1664 * (q / 4) + i) (512 * (q % 4) + j) (2816 * s + k) := by
  have hq0 : (2 * q + s) / 8 = q / 4 := by omega
  have hq1 : (2 * q + s) / 2 = q := by omega
  have hq2 : (2 * q + s) % 2 = s := by omega
  rw [block_prod m c _ hi hj]
  dsimp only
  rw [hq0, hq1, hq2]

/-- What the scratch holds on entering a point. -/
abbrev prev (c : Dev nD) (t : Fin cfg0.N) : Vec Ideal S1664x512 .f32 := (outsAt0 m c (t.val - 1) (Nat.lt_of_le_of_lt (Nat.sub_le _ _) t.isLt)).2
theorem scr_first (c : Dev nD) (t : Fin cfg0.N) (h0 : t.val % 2 = 0) : (outsAt0 m c t.val t.isLt).2 = k0_pay2 k0_pay1 (iblk m c 0 t) (iblk m c 1 t) := by
  have h1 : ¬t.val % 2 = 1 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, (Memref.isWhole_whole cc0_scratch0).read_unread, View.ld_unit_zero (S := S1664x2816) hz, View.ld_unit_zero (S := S2816x512) hz, View.ld_unit_zero (S := S1664x512) hz]
  rw [View.canon_cons_unit_zero (S := S1664x512) hz, View.readCov_unit_zero (S := S1664x512) _ hz]

theorem out_last (c : Dev nD) (t : Fin cfg0.N) (h1 : t.val % 2 = 1) : (outsAt0 m c t.val t.isLt).1 = k0_pay2 (prev m c t) (iblk m c 0 t) (iblk m c 1 t) := by
  have h0 : ¬t.val % 2 = 0 := by omega
  rw [outsAt0_B m c t h0 h1]
  dsimp only
  unfold out0_B_2
  rw [View.read_writes_eq_canon _ _ _ (cover0_B_2 c _ _ _ _ _ _ _ _ _ _ _ _ _ _)]
  unfold kernelRun0_B
  dsimp only
  sl_unfold_words
  simp only [View.readAt_eq_ld, (hs0_0 t).read_unread, (hs0_1 t).read_unread, (Memref.isWhole_whole cc0_scratch0).read_unread, View.ld_unit_zero (S := S1664x2816) hz, View.ld_unit_zero (S := S2816x512) hz, View.ld_unit_zero (S := S1664x512) hz]
  rw [View.canon_unit_zero hz, View.readCov_unit_zero (S := S1664x512) _ hz]

/-- After each point the scratch holds the part of the sum so far. -/
theorem carried (c : Dev nD) (q : ℕ) {i j : ℕ} (hi : i < 1664) (hj : j < 512) : ∀ (s : ℕ) (_ : s < 1) (h : 2 * q + s < cfg0.N),
    rd ((outsAt0 m c (2 * q + s) h).2 : (Mat 1664 512).Idx → EReal) i j = ∑ k ∈ range (2816 * (s + 1)), term m c (1664 * (q / 4) + i) (512 * (q % 4) + j) k
  | 0, _, h => by
    have e := scr_first m c ⟨2 * q + 0, h⟩ (by dsimp only; omega)
    dsimp only at e
    rw [e, step_at _ _ _ hi hj, zero_at hi hj, zero_add, sum_first]
    exact block_at m c q 0 (by decide) h hi hj
  | s + 1, hs, h => absurd hs (by omega)

/-- The last point of a run stores the whole sum. -/
theorem whole (c : Dev nD) (q : ℕ) {i j : ℕ} (hi : i < 1664) (hj : j < 512) (h : 2 * q + 1 < cfg0.N) :
    rd ((outsAt0 m c (2 * q + 1) h).1 : (Mat 1664 512).Idx → EReal) i j = ∑ k ∈ range 5632, term m c (1664 * (q / 4) + i) (512 * (q % 4) + j) k := by
  have e := out_last m c ⟨2 * q + 1, h⟩ (by dsimp only; omega)
  dsimp only at e
  rw [e]
  have hp := carried m c q hi hj 0 (by omega) (by omega)
  refine Eq.trans (step_at _ _ _ hi hj) ?_
  rw [show 5632 = 2816 * (1 + 1) from rfl, sum_block]
  exact congrArg₂ (· + ·) hp (block_at m c q 1 (by decide) h hi hj)

theorem G2_eq (c : Dev nD) : G2 m c = G m c := by
  refine funext fun (x : S8320x2048.Idx) => ?_
  have h0 : (x 0).val < 8320 := (x 0).isLt
  have h1 : (x 1).val < 2048 := (x 1).isLt
  have hp : 2 * (4 * ((x 0).val / 1664) + (x 1).val / 512) + 1 < cfg0.N := by
    rw [show cfg0.N = 40 from N_0]
    omega
  have hq : pt2Of x = 2 * (4 * ((x 0).val / 1664) + (x 1).val / 512) + 1 := by
    show 2 * (4 * ((x 0).val / 1664 - 0) + 1 * ((x 1).val / 512 - 0)) + 1 = _
    omega
  have hb : pt2Of x < cfg0.N := hq ▸ hp
  unfold G2
  rw [dif_pos hb, ← outsAt0_sweep m c (pt2Of x) hb]
  have e : outsAt0 m c (pt2Of x) hb = outsAt0 m c _ hp := by
    congr 1
  rw [e]
  refine Eq.trans (rd_of ((outsAt0 m c _ hp).1 : (Mat 1664 512).Idx → EReal) (loc2Of x) rfl rfl) ?_
  refine (whole m c _ (Nat.mod_lt _ (by decide)) (Nat.mod_lt _ (by decide)) hp).trans ?_
  rw [show 1664 * ((4 * ((x 0).val / 1664) + (x 1).val / 512) / 4) + (x 0).val % 1664 = (x 0).val by omega,
    show 512 * ((4 * ((x 0).val / 1664) + (x 1).val / 512) % 4) + (x 1).val % 512 = (x 1).val by omega]
  rfl

/-- The kernel's result is the reference's. -/
theorem agree : Cert.algebraic_Kernel7Ideal_Reference7Ideal := by
  intro m g m' g' _ harg
  refine ⟨fun c => G m c, ?_, ?_⟩
  · refine (θ_run Cert.Kernel7Ideal.defs _ _).mono (fun r h c => ?_) (Cert.Kernel7Ideal.Value.run (F := Ideal) m g)
    obtain ⟨hv, hargs⟩ := h c
    exact ⟨hv.trans (G2_eq m c), hargs⟩
  · refine (θ_run Cert.Reference7Ideal.defs _ _).mono (fun r h c => ?_) (Cert.Reference7Ideal.Value.run (F := Ideal) m' g')
    obtain ⟨hv, hargs⟩ := h c
    obtain ⟨e0, e1⟩ := harg c
    refine ⟨hv.trans ?_, hargs⟩
    rw [e0, e1]
    exact dot_nn_eq (M := 8320) (K := 5632) (N := 2048) (opA m c) (opB m c)

end Cert.Proof.Linear.L7
end
-- ==== Proof.Lin8.lean ====
module

public import proofs.«01_k».proof.Defs
public import proofs.«01_k».proof.Proof.Linear
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run

@[expose] public section
set_option maxRecDepth 16384
noncomputable section
namespace Cert.Proof.Linear.L8

open Cert.Kernel8Ideal Cert.Kernel8Ideal.Gen Cert.Kernel8Ideal.Value
open Idealize.ShloMosaic Idealize.ShloMosaic.ValueIdx Idealize.ShloMosaic.Tactic
open Idealize.ShloMosaic.TcCoe
open Idealize.SL.Sem
open Finset

/-! # The gradient of the input of the projection into the attentions: the blocked product is the product -/

variable (m : (ℓ : Loc nD τ sig) → Buf (Elt Ideal) ℓ)

/-- The two operands, -/
def opA (c : Dev nD) : (Mat 8320 5376).Idx → EReal := m ((c : Thread nD τ).loc main_arg2)
def opB (c : Dev nD) : (Mat 2048 5376).Idx → EReal := m ((c : Thread nD τ).loc main_arg1)
/-- and a point's blocks of them. -/
def bA (c : Dev nD) (t : Fin cfg0.N) : (Mat 1664 2688).Idx → EReal := iblk m c 0 t
def bB (c : Dev nD) (t : Fin cfg0.N) : (Mat 512 2688).Idx → EReal := iblk m c 1 t

/-! ## Which blocks a point sees -/

theorem coord0 (t : Fin grid0.N) : (grid0.coords t 0).val = t.val / 8 := by
  have h : t.val < 40 := N_0 ▸ t.isLt
  exact (Pipeline.Grid.coords_val t 0 (S := 8) (B := 5) (by decide) rfl).trans (by omega)
theorem coord1 (t : Fin grid0.N) : (grid0.coords t 1).val = t.val / 2 % 4 := by
  have h : t.val < 40 := N_0 ▸ t.isLt
  exact (Pipeline.Grid.coords_val t 1 (S := 2) (B := 4) (by decide) rfl).trans (by omega)
theorem coord2 (t : Fin grid0.N) : (grid0.coords t 2).val = t.val % 2 := by
  have h : t.val < 40 := N_0 ▸ t.isLt
  exact (Pipeline.Grid.coords_val t 2 (S := 1) (B := 2) (by decide) rfl).trans (by omega)
theorem tr0 (t : Fin grid0.N) : cc0_transform_0 (grid0.coords t) = ![t.val / 8, t.val % 2] :=
  index_of (coord0 t) (coord2 t)
theorem rdA (c : Dev nD) (t : Fin cfg0.N) {i j : ℕ} (hi : i < 1664) (hj : j < 2688) :
    rd (bA m c t) i j = rd (opA m c) (1664 * (t.val / 8) + i) (2688 * (t.val % 2) + j) :=
  rd_slice (opA m c) ((cfg0.win 0).blk t).view.emb _ (fun _ => rfl) (fun _ => rfl) (tr0 t) hi hj
theorem tr1 (t : Fin grid0.N) : cc0_transform_1 (grid0.coords t) = ![t.val / 2 % 4, t.val % 2] :=
  index_of (coord1 t) (coord2 t)
theorem rdB (c : Dev nD) (t : Fin cfg0.N) {i j : ℕ} (hi : i < 512) (hj : j < 2688) :
    rd (bB m c t) i j = rd (opB m c) (512 * (t.val / 2 % 4) + i) (2688 * (t.val % 2) + j) :=
  rd_slice (opB m c) ((cfg0.win 1).blk t).view.emb _ (fun _ => rfl) (fun _ => rfl) (tr1 t) hi hj
theorem tr2 (t : Fin grid0.N) : cc0_transform_2 (grid0.coords t) = ![t.val / 8, t.val / 2 % 4] :=
  index_of (coord0 t) (coord1 t)

/-- The summand of the whole product at row `i` and column `j`, -/
def term (c : Dev nD) (i j k : ℕ) : EReal := rd (opA m c) i k * rd (opB m c) j k

/-- and the product of a point's blocks, a stretch of the whole product's sum. -/
theorem block_prod (c : Dev nD) (t : Fin cfg0.N) {i j : ℕ} (hi : i < 1664) (hj : j < 512) :
    nt (bA m c t) (bB m c t) 2688 i j = ∑ k ∈ range 2688, term m c (1664 * (t.val / 8) + i) (512 * (t.val / 2 % 4) + j) (2688 * (t.val % 2) + k) := by
  refine sum_congr rfl fun k hk => ?_
  have hk' : k < 2688 := mem_range.mp hk
  exact congrArg₂ (· * ·) (rdA m c t hi hk') (rdB m c t hj hk')

/-- The product the call should leave. -/
def G (c : Dev nD) : (Mat 8320 2048).Idx → EReal := fun x => nt (opA m c) (opB m c) 5376 (x 0).val (x 1).val

/-! ## What the steps compute -/

/-- One step of the accumulation. -/
theorem step_at (acc : Vec Ideal S1664x512 .f32) (X : Vec Ideal S1664x2688 .bf16) (Y : Vec Ideal S512x2688 .bf16) {i j : ℕ} (hi : i < 1664) (hj : j < 512) :
    rd (k0_pay2 acc X Y : (Mat 1664 512).Idx → EReal) i j = rd (acc : (Mat 1664 512).Idx → EReal) i j + nt (X : (Mat 1664 2688).Idx → EReal) (Y : (Mat 512 2688).Idx → EReal) 2688 i j := by
  have h : k0_pay2 acc X Y = addf acc (matmul (φ₁ := .bf16) (φ₂ := .bf16) dot_S1664x2688_S512x2688_S1664x512_1_1_0_0_n_n none X Y (constant S1664x512 .f32 0x00000000#32)) := by
    unfold k0_pay2
    simp only [shapeCast_self]
  rw [h, ← matmul_nt (M := 1664) (K := 2688) (N := 512) (φ₁ := .bf16) (φ₂ := .bf16) X Y hi hj]
  refine (rd_in _ ⟨i, hi⟩ ⟨j, hj⟩).trans (congrArg₂ (· + ·) (rd_in _ ⟨i, hi⟩ ⟨j, hj⟩).symm (rd_in _ ⟨i, hi⟩ ⟨j, hj⟩).symm)
theorem zero_at {i j : ℕ} (hi : i < 1664) (hj : j < 512) : rd (k0_pay1 (F := Ideal) : (Mat 1664 512).Idx → EReal) i j = 0 :=
  rd_zero (by
    unfold k0_pay1
    simp only [shapeCast_self]) hi hj

/-! ## A run of points -/

/-- The product of the blocks of a run's point. -/
theorem block_at (c : Dev nD) (q s : ℕ) (hs : s < 2) (h : 2 * q + s < cfg0.N) {i j : ℕ} (hi : i < 1664) (hj : j < 512) :
    nt (bA m c ⟨2 * q + s, h⟩) (bB m c ⟨2 * q + s, h⟩) 2688 i j = ∑ k ∈ range 2688, term m c (1664 * (q / 4) + i) (512 * (q % 4) + j) (2688 * s + k) := by
  have hq0 : (2 * q + s) / 8 = q / 4 := by omega
  have hq1 : (2 * q + s) / 2 = q := by omega
  have hq2 : (2 * q + s) % 2 = s := by omega
  rw [block_prod m c _ hi hj]
  dsimp only
  rw [hq0, hq1, hq2]

/-- What the scratch holds on entering a point. -/
abbrev prev (c : Dev nD) (t : Fin cfg0.N) : Vec Ideal S1664x512 .f32 := (outsAt0 m c (t.val - 1) (Nat.lt_of_le_of_lt (Nat.sub_le _ _) t.isLt)).2
theorem scr_first (c : Dev nD) (t : Fin cfg0.N) (h0 : t.val % 2 = 0) : (outsAt0 m c t.val t.isLt).2 = k0_pay2 k0_pay1 (iblk m c 0 t) (iblk m c 1 t) := by
  have h1 : ¬t.val % 2 = 1 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, (Memref.isWhole_whole cc0_scratch0).read_unread, View.ld_unit_zero (S := S1664x2688) hz, View.ld_unit_zero (S := S512x2688) hz, View.ld_unit_zero (S := S1664x512) hz]
  rw [View.canon_cons_unit_zero (S := S1664x512) hz, View.readCov_unit_zero (S := S1664x512) _ hz]

theorem out_last (c : Dev nD) (t : Fin cfg0.N) (h1 : t.val % 2 = 1) : (outsAt0 m c t.val t.isLt).1 = k0_pay2 (prev m c t) (iblk m c 0 t) (iblk m c 1 t) := by
  have h0 : ¬t.val % 2 = 0 := by omega
  rw [outsAt0_B m c t h0 h1]
  dsimp only
  unfold out0_B_2
  rw [View.read_writes_eq_canon _ _ _ (cover0_B_2 c _ _ _ _ _ _ _ _ _ _ _ _ _ _)]
  unfold kernelRun0_B
  dsimp only
  sl_unfold_words
  simp only [View.readAt_eq_ld, (hs0_0 t).read_unread, (hs0_1 t).read_unread, (Memref.isWhole_whole cc0_scratch0).read_unread, View.ld_unit_zero (S := S1664x2688) hz, View.ld_unit_zero (S := S512x2688) hz, View.ld_unit_zero (S := S1664x512) hz]
  rw [View.canon_unit_zero hz, View.readCov_unit_zero (S := S1664x512) _ hz]

/-- After each point the scratch holds the part of the sum so far. -/
theorem carried (c : Dev nD) (q : ℕ) {i j : ℕ} (hi : i < 1664) (hj : j < 512) : ∀ (s : ℕ) (_ : s < 1) (h : 2 * q + s < cfg0.N),
    rd ((outsAt0 m c (2 * q + s) h).2 : (Mat 1664 512).Idx → EReal) i j = ∑ k ∈ range (2688 * (s + 1)), term m c (1664 * (q / 4) + i) (512 * (q % 4) + j) k
  | 0, _, h => by
    have e := scr_first m c ⟨2 * q + 0, h⟩ (by dsimp only; omega)
    dsimp only at e
    rw [e, step_at _ _ _ hi hj, zero_at hi hj, zero_add, sum_first]
    exact block_at m c q 0 (by decide) h hi hj
  | s + 1, hs, h => absurd hs (by omega)

/-- The last point of a run stores the whole sum. -/
theorem whole (c : Dev nD) (q : ℕ) {i j : ℕ} (hi : i < 1664) (hj : j < 512) (h : 2 * q + 1 < cfg0.N) :
    rd ((outsAt0 m c (2 * q + 1) h).1 : (Mat 1664 512).Idx → EReal) i j = ∑ k ∈ range 5376, term m c (1664 * (q / 4) + i) (512 * (q % 4) + j) k := by
  have e := out_last m c ⟨2 * q + 1, h⟩ (by dsimp only; omega)
  dsimp only at e
  rw [e]
  have hp := carried m c q hi hj 0 (by omega) (by omega)
  refine Eq.trans (step_at _ _ _ hi hj) ?_
  rw [show 5376 = 2688 * (1 + 1) from rfl, sum_block]
  exact congrArg₂ (· + ·) hp (block_at m c q 1 (by decide) h hi hj)

theorem G2_eq (c : Dev nD) : G2 m c = G m c := by
  refine funext fun (x : S8320x2048.Idx) => ?_
  have h0 : (x 0).val < 8320 := (x 0).isLt
  have h1 : (x 1).val < 2048 := (x 1).isLt
  have hp : 2 * (4 * ((x 0).val / 1664) + (x 1).val / 512) + 1 < cfg0.N := by
    rw [show cfg0.N = 40 from N_0]
    omega
  have hq : pt2Of x = 2 * (4 * ((x 0).val / 1664) + (x 1).val / 512) + 1 := by
    show 2 * (4 * ((x 0).val / 1664 - 0) + 1 * ((x 1).val / 512 - 0)) + 1 = _
    omega
  have hb : pt2Of x < cfg0.N := hq ▸ hp
  unfold G2
  rw [dif_pos hb, ← outsAt0_sweep m c (pt2Of x) hb]
  have e : outsAt0 m c (pt2Of x) hb = outsAt0 m c _ hp := by
    congr 1
  rw [e]
  refine Eq.trans (rd_of ((outsAt0 m c _ hp).1 : (Mat 1664 512).Idx → EReal) (loc2Of x) rfl rfl) ?_
  refine (whole m c _ (Nat.mod_lt _ (by decide)) (Nat.mod_lt _ (by decide)) hp).trans ?_
  rw [show 1664 * ((4 * ((x 0).val / 1664) + (x 1).val / 512) / 4) + (x 0).val % 1664 = (x 0).val by omega,
    show 512 * ((4 * ((x 0).val / 1664) + (x 1).val / 512) % 4) + (x 1).val % 512 = (x 1).val by omega]
  rfl

/-- The kernel's result is the reference's. -/
theorem agree : Cert.algebraic_Kernel8Ideal_Reference8Ideal := by
  intro m g m' g' _ harg
  refine ⟨fun c => G m c, ?_, ?_⟩
  · refine (θ_run Cert.Kernel8Ideal.defs _ _).mono (fun r h c => ?_) (Cert.Kernel8Ideal.Value.run (F := Ideal) m g)
    obtain ⟨hv, hargs⟩ := h c
    exact ⟨hv.trans (G2_eq m c), hargs⟩
  · refine (θ_run Cert.Reference8Ideal.defs _ _).mono (fun r h c => ?_) (Cert.Reference8Ideal.Value.run (F := Ideal) m' g')
    obtain ⟨hv, hargs⟩ := h c
    obtain ⟨e0, e1, e2⟩ := harg c
    refine ⟨hv.trans ?_, hargs⟩
    rw [e2, e1]
    exact dot_nt_eq (M := 8320) (K := 5376) (N := 2048) (opA m c) (opB m c)

end Cert.Proof.Linear.L8
end
-- ==== Proof.Lin9.lean ====
module

public import proofs.«01_k».proof.Defs
public import proofs.«01_k».proof.Proof.Linear
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run

@[expose] public section
set_option maxRecDepth 16384
noncomputable section
namespace Cert.Proof.Linear.L9

open Cert.Kernel9Ideal Cert.Kernel9Ideal.Gen Cert.Kernel9Ideal.Value
open Idealize.ShloMosaic Idealize.ShloMosaic.ValueIdx Idealize.ShloMosaic.Tactic
open Idealize.ShloMosaic.TcCoe
open Idealize.SL.Sem
open Finset

/-! # The gradient of the weight of the projection into the attentions: the blocked product is the product -/

variable (m : (ℓ : Loc nD τ sig) → Buf (Elt Ideal) ℓ)

/-- The two operands, -/
def opA (c : Dev nD) : (Mat 8320 2048).Idx → EReal := m ((c : Thread nD τ).loc main_arg0)
def opB (c : Dev nD) : (Mat 8320 5376).Idx → EReal := m ((c : Thread nD τ).loc main_arg2)
/-- and a point's blocks of them. -/
def bA (c : Dev nD) (t : Fin cfg0.N) : (Mat 1664 1024).Idx → EReal := iblk m c 0 t
def bB (c : Dev nD) (t : Fin cfg0.N) : (Mat 1664 1792).Idx → EReal := iblk m c 1 t

/-! ## Which blocks a point sees -/

theorem coord0 (t : Fin grid0.N) : (grid0.coords t 0).val = t.val / 15 := by
  have h : t.val < 30 := N_0 ▸ t.isLt
  exact (Pipeline.Grid.coords_val t 0 (S := 15) (B := 2) (by decide) rfl).trans (by omega)
theorem coord1 (t : Fin grid0.N) : (grid0.coords t 1).val = t.val / 5 % 3 := by
  have h : t.val < 30 := N_0 ▸ t.isLt
  exact (Pipeline.Grid.coords_val t 1 (S := 5) (B := 3) (by decide) rfl).trans (by omega)
theorem coord2 (t : Fin grid0.N) : (grid0.coords t 2).val = t.val % 5 := by
  have h : t.val < 30 := N_0 ▸ t.isLt
  exact (Pipeline.Grid.coords_val t 2 (S := 1) (B := 5) (by decide) rfl).trans (by omega)
theorem tr0 (t : Fin grid0.N) : cc0_transform_0 (grid0.coords t) = ![t.val % 5, t.val / 15] :=
  index_of (coord2 t) (coord0 t)
theorem rdA (c : Dev nD) (t : Fin cfg0.N) {i j : ℕ} (hi : i < 1664) (hj : j < 1024) :
    rd (bA m c t) i j = rd (opA m c) (1664 * (t.val % 5) + i) (1024 * (t.val / 15) + j) :=
  rd_slice (opA m c) ((cfg0.win 0).blk t).view.emb _ (fun _ => rfl) (fun _ => rfl) (tr0 t) hi hj
theorem tr1 (t : Fin grid0.N) : cc0_transform_1 (grid0.coords t) = ![t.val % 5, t.val / 5 % 3] :=
  index_of (coord2 t) (coord1 t)
theorem rdB (c : Dev nD) (t : Fin cfg0.N) {i j : ℕ} (hi : i < 1664) (hj : j < 1792) :
    rd (bB m c t) i j = rd (opB m c) (1664 * (t.val % 5) + i) (1792 * (t.val / 5 % 3) + j) :=
  rd_slice (opB m c) ((cfg0.win 1).blk t).view.emb _ (fun _ => rfl) (fun _ => rfl) (tr1 t) hi hj
theorem tr2 (t : Fin grid0.N) : cc0_transform_2 (grid0.coords t) = ![t.val / 15, t.val / 5 % 3] :=
  index_of (coord0 t) (coord1 t)

/-- The summand of the whole product at row `i` and column `j`, -/
def term (c : Dev nD) (i j k : ℕ) : EReal := rd (opA m c) k i * rd (opB m c) k j

/-- and the product of a point's blocks, a stretch of the whole product's sum. -/
theorem block_prod (c : Dev nD) (t : Fin cfg0.N) {i j : ℕ} (hi : i < 1024) (hj : j < 1792) :
    tn (bA m c t) (bB m c t) 1664 i j = ∑ k ∈ range 1664, term m c (1024 * (t.val / 15) + i) (1792 * (t.val / 5 % 3) + j) (1664 * (t.val % 5) + k) := by
  refine sum_congr rfl fun k hk => ?_
  have hk' : k < 1664 := mem_range.mp hk
  exact congrArg₂ (· * ·) (rdA m c t hk' hi) (rdB m c t hk' hj)

/-- The product the call should leave. -/
def G (c : Dev nD) : (Mat 2048 5376).Idx → EReal := fun x => tn (opA m c) (opB m c) 8320 (x 0).val (x 1).val

/-! ## What the steps compute -/

/-- One step of the accumulation. -/
theorem step_at (acc : Vec Ideal S1024x1792 .f32) (X : Vec Ideal S1664x1024 .bf16) (Y : Vec Ideal S1664x1792 .bf16) {i j : ℕ} (hi : i < 1024) (hj : j < 1792) :
    rd (k0_pay2 acc X Y : (Mat 1024 1792).Idx → EReal) i j = rd (acc : (Mat 1024 1792).Idx → EReal) i j + tn (X : (Mat 1664 1024).Idx → EReal) (Y : (Mat 1664 1792).Idx → EReal) 1664 i j := by
  have h : k0_pay2 acc X Y = addf acc (matmul (φ₁ := .bf16) (φ₂ := .bf16) dot_S1664x1024_S1664x1792_S1024x1792_0_0_1_1_n_n none X Y (constant S1024x1792 .f32 0x00000000#32)) := by
    unfold k0_pay2
    simp only [shapeCast_self]
  rw [h, ← matmul_tn (M := 1024) (K := 1664) (N := 1792) (φ₁ := .bf16) (φ₂ := .bf16) X Y hi hj]
  refine (rd_in _ ⟨i, hi⟩ ⟨j, hj⟩).trans (congrArg₂ (· + ·) (rd_in _ ⟨i, hi⟩ ⟨j, hj⟩).symm (rd_in _ ⟨i, hi⟩ ⟨j, hj⟩).symm)
theorem zero_at {i j : ℕ} (hi : i < 1024) (hj : j < 1792) : rd (k0_pay1 (F := Ideal) : (Mat 1024 1792).Idx → EReal) i j = 0 :=
  rd_zero (by
    unfold k0_pay1
    simp only [shapeCast_self]) hi hj

/-! ## A run of points -/

/-- The product of the blocks of a run's point. -/
theorem block_at (c : Dev nD) (q s : ℕ) (hs : s < 5) (h : 5 * q + s < cfg0.N) {i j : ℕ} (hi : i < 1024) (hj : j < 1792) :
    tn (bA m c ⟨5 * q + s, h⟩) (bB m c ⟨5 * q + s, h⟩) 1664 i j = ∑ k ∈ range 1664, term m c (1024 * (q / 3) + i) (1792 * (q % 3) + j) (1664 * s + k) := by
  have hq0 : (5 * q + s) / 15 = q / 3 := by omega
  have hq1 : (5 * q + s) / 5 = q := by omega
  have hq2 : (5 * q + s) % 5 = s := by omega
  rw [block_prod m c _ hi hj]
  dsimp only
  rw [hq0, hq1, hq2]

/-- What the scratch holds on entering a point. -/
abbrev prev (c : Dev nD) (t : Fin cfg0.N) : Vec Ideal S1024x1792 .f32 := (outsAt0 m c (t.val - 1) (Nat.lt_of_le_of_lt (Nat.sub_le _ _) t.isLt)).2
theorem scr_first (c : Dev nD) (t : Fin cfg0.N) (h0 : t.val % 5 = 0) : (outsAt0 m c t.val t.isLt).2 = k0_pay2 k0_pay1 (iblk m c 0 t) (iblk m c 1 t) := by
  have h1 : ¬t.val % 5 = 4 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, (Memref.isWhole_whole cc0_scratch0).read_unread, View.ld_unit_zero (S := S1664x1024) hz, View.ld_unit_zero (S := S1664x1792) hz, View.ld_unit_zero (S := S1024x1792) hz]
  rw [View.canon_cons_unit_zero (S := S1024x1792) hz, View.readCov_unit_zero (S := S1024x1792) _ hz]

theorem scr_next (c : Dev nD) (t : Fin cfg0.N) (h0 : ¬t.val % 5 = 0) : (outsAt0 m c t.val t.isLt).2 = k0_pay2 (prev m c t) (iblk m c 0 t) (iblk m c 1 t) := by
  by_cases h1 : t.val % 5 = 4
  · rw [outsAt0_C m c t h0 h1]
    dsimp only
    unfold sout0_C_0
    rw [View.read_writes_eq_canon _ _ _ (scover0_C_0 c _ _ _ _ _ _ _ _ _ _ _ _ _ _)]
    unfold kernelRun0_C
    dsimp only
    sl_unfold_words
    simp only [View.readAt_eq_ld, (hs0_0 t).read_unread, (hs0_1 t).read_unread, (Memref.isWhole_whole cc0_scratch0).read_unread, View.ld_unit_zero (S := S1664x1024) hz, View.ld_unit_zero (S := S1664x1792) hz, View.ld_unit_zero (S := S1024x1792) hz]
    rw [View.canon_unit_zero hz]
  · rw [outsAt0_B m c t h0 h1]
    dsimp only
    unfold sout0_B_0
    rw [View.read_writes_eq_canon _ _ _ (scover0_B_0 c _ _ _ _ _ _ _ _ _ _ _ _ _ _)]
    unfold kernelRun0_B
    dsimp only
    sl_unfold_words
    simp only [View.readAt_eq_ld, (hs0_0 t).read_unread, (hs0_1 t).read_unread, (Memref.isWhole_whole cc0_scratch0).read_unread, View.ld_unit_zero (S := S1664x1024) hz, View.ld_unit_zero (S := S1664x1792) hz, View.ld_unit_zero (S := S1024x1792) hz]
    rw [View.canon_unit_zero hz]

theorem out_last (c : Dev nD) (t : Fin cfg0.N) (h1 : t.val % 5 = 4) : (outsAt0 m c t.val t.isLt).1 = k0_pay3 (k0_pay2 (prev m c t) (iblk m c 0 t) (iblk m c 1 t)) := by
  have h0 : ¬t.val % 5 = 0 := by omega
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (Memref.isWhole_whole cc0_scratch0).read_unread, View.ld_unit_zero (S := S1664x1024) hz, View.ld_unit_zero (S := S1664x1792) hz, View.ld_unit_zero (S := S1024x1792) hz]
  rw [View.canon_unit_zero hz, View.readCov_unit_zero (S := S1024x1792) _ hz]

/-- After each point the scratch holds the part of the sum so far. -/
theorem carried (c : Dev nD) (q : ℕ) {i j : ℕ} (hi : i < 1024) (hj : j < 1792) : ∀ (s : ℕ) (_ : s < 4) (h : 5 * q + s < cfg0.N),
    rd ((outsAt0 m c (5 * q + s) h).2 : (Mat 1024 1792).Idx → EReal) i j = ∑ k ∈ range (1664 * (s + 1)), term m c (1024 * (q / 3) + i) (1792 * (q % 3) + j) k
  | 0, _, h => by
    have e := scr_first m c ⟨5 * q + 0, h⟩ (by dsimp only; omega)
    dsimp only at e
    rw [e, step_at _ _ _ hi hj, zero_at hi hj, zero_add, sum_first]
    exact block_at m c q 0 (by decide) h hi hj
  | s + 1, hs, h => by
    have e := scr_next m c ⟨5 * q + (s + 1), h⟩ (by dsimp only; omega)
    dsimp only at e
    have ih := carried c q hi hj s (by omega) (by omega)
    rw [e, step_at _ _ _ hi hj, sum_block]
    exact congrArg₂ (· + ·) ih (block_at m c q (s + 1) (by omega) h hi hj)

/-- The last point of a run stores the whole sum. -/
theorem whole (c : Dev nD) (q : ℕ) {i j : ℕ} (hi : i < 1024) (hj : j < 1792) (h : 5 * q + 4 < cfg0.N) :
    rd ((outsAt0 m c (5 * q + 4) h).1 : (Mat 1024 1792).Idx → EReal) i j = ∑ k ∈ range 8320, term m c (1024 * (q / 3) + i) (1792 * (q % 3) + j) k := by
  have e := out_last m c ⟨5 * q + 4, h⟩ (by dsimp only; omega)
  dsimp only at e
  rw [e]
  have hp := carried m c q hi hj 3 (by omega) (by omega)
  refine Eq.trans (step_at _ _ _ hi hj) ?_
  rw [show 8320 = 1664 * (4 + 1) from rfl, sum_block]
  exact congrArg₂ (· + ·) hp (block_at m c q 4 (by decide) h hi hj)

theorem G2_eq (c : Dev nD) : G2 m c = G m c := by
  refine funext fun (x : S2048x5376.Idx) => ?_
  have h0 : (x 0).val < 2048 := (x 0).isLt
  have h1 : (x 1).val < 5376 := (x 1).isLt
  have hp : 5 * (3 * ((x 0).val / 1024) + (x 1).val / 1792) + 4 < cfg0.N := by
    rw [show cfg0.N = 30 from N_0]
    omega
  have hq : pt2Of x = 5 * (3 * ((x 0).val / 1024) + (x 1).val / 1792) + 4 := by
    show 5 * (3 * ((x 0).val / 1024 - 0) + 1 * ((x 1).val / 1792 - 0)) + 4 = _
    omega
  have hb : pt2Of x < cfg0.N := hq ▸ hp
  unfold G2
  rw [dif_pos hb, ← outsAt0_sweep m c (pt2Of x) hb]
  have e : outsAt0 m c (pt2Of x) hb = outsAt0 m c _ hp := by
    congr 1
  rw [e]
  refine Eq.trans (rd_of ((outsAt0 m c _ hp).1 : (Mat 1024 1792).Idx → EReal) (loc2Of x) rfl rfl) ?_
  refine (whole m c _ (Nat.mod_lt _ (by decide)) (Nat.mod_lt _ (by decide)) hp).trans ?_
  rw [show 1024 * ((3 * ((x 0).val / 1024) + (x 1).val / 1792) / 3) + (x 0).val % 1024 = (x 0).val by omega,
    show 1792 * ((3 * ((x 0).val / 1024) + (x 1).val / 1792) % 3) + (x 1).val % 1792 = (x 1).val by omega]
  rfl

/-- The kernel's result is the reference's. -/
theorem agree : Cert.algebraic_Kernel9Ideal_Reference9Ideal := by
  intro m g m' g' _ harg
  refine ⟨fun c => G m c, ?_, ?_⟩
  · refine (θ_run Cert.Kernel9Ideal.defs _ _).mono (fun r h c => ?_) (Cert.Kernel9Ideal.Value.run (F := Ideal) m g)
    obtain ⟨hv, hargs⟩ := h c
    exact ⟨hv.trans (G2_eq m c), hargs⟩
  · refine (θ_run Cert.Reference9Ideal.defs _ _).mono (fun r h c => ?_) (Cert.Reference9Ideal.Value.run (F := Ideal) m' g')
    obtain ⟨hv, hargs⟩ := h c
    obtain ⟨e0, e1, e2⟩ := harg c
    refine ⟨hv.trans ?_, hargs⟩
    rw [e0, e2]
    refine funext fun (x : (Mat 2048 5376).Idx) => ?_
    exact dot_tn_swap (opA m c) (opB m c) x _ rfl rfl

end Cert.Proof.Linear.L9
end
-- ==== Proof.Lin10.lean ====
module

public import proofs.«01_k».proof.Defs
public import proofs.«01_k».proof.Proof.Linear
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run

@[expose] public section
set_option maxRecDepth 16384
noncomputable section
namespace Cert.Proof.Linear.L10

open Cert.Kernel10Ideal Cert.Kernel10Ideal.Gen Cert.Kernel10Ideal.Value
open Idealize.ShloMosaic Idealize.ShloMosaic.ValueIdx Idealize.ShloMosaic.Tactic
open Idealize.ShloMosaic.TcCoe
open Idealize.SL.Sem
open Finset

/-! # The projection into the attentions: the blocked product is the product -/

variable (m : (ℓ : Loc nD τ sig) → Buf (Elt Ideal) ℓ)

/-- The two operands, -/
def opA (c : Dev nD) : (Mat 8320 2048).Idx → EReal := m ((c : Thread nD τ).loc main_arg0)
def opB (c : Dev nD) : (Mat 2048 5376).Idx → EReal := m ((c : Thread nD τ).loc main_arg1)
/-- and a point's blocks of them. -/
def bA (c : Dev nD) (t : Fin cfg0.N) : (Mat 1664 2048).Idx → EReal := iblk m c 0 t
def bB (c : Dev nD) (t : Fin cfg0.N) : (Mat 2048 768).Idx → EReal := iblk m c 1 t

/-! ## Which blocks a point sees -/

theorem coord0 (t : Fin grid0.N) : (grid0.coords t 0).val = t.val / 7 := by
  have h : t.val < 35 := N_0 ▸ t.isLt
  exact (Pipeline.Grid.coords_val t 0 (S := 7) (B := 5) (by decide) rfl).trans (by omega)
theorem coord1 (t : Fin grid0.N) : (grid0.coords t 1).val = t.val / 1 % 7 := by
  have h : t.val < 35 := N_0 ▸ t.isLt
  exact (Pipeline.Grid.coords_val t 1 (S := 1) (B := 7) (by decide) rfl).trans (by omega)
theorem coord2 (t : Fin grid0.N) : (grid0.coords t 2).val = t.val % 1 := by
  have h : t.val < 35 := N_0 ▸ t.isLt
  exact (Pipeline.Grid.coords_val t 2 (S := 1) (B := 1) (by decide) rfl).trans (by omega)
theorem tr0 (t : Fin grid0.N) : cc0_transform_0 (grid0.coords t) = ![t.val / 7, t.val % 1] :=
  index_of (coord0 t) (coord2 t)
theorem rdA (c : Dev nD) (t : Fin cfg0.N) {i j : ℕ} (hi : i < 1664) (hj : j < 2048) :
    rd (bA m c t) i j = rd (opA m c) (1664 * (t.val / 7) + i) (2048 * (t.val % 1) + j) :=
  rd_slice (opA m c) ((cfg0.win 0).blk t).view.emb _ (fun _ => rfl) (fun _ => rfl) (tr0 t) hi hj
theorem tr1 (t : Fin grid0.N) : cc0_transform_1 (grid0.coords t) = ![t.val % 1, t.val / 1 % 7] :=
  index_of (coord2 t) (coord1 t)
theorem rdB (c : Dev nD) (t : Fin cfg0.N) {i j : ℕ} (hi : i < 2048) (hj : j < 768) :
    rd (bB m c t) i j = rd (opB m c) (2048 * (t.val % 1) + i) (768 * (t.val / 1 % 7) + j) :=
  rd_slice (opB m c) ((cfg0.win 1).blk t).view.emb _ (fun _ => rfl) (fun _ => rfl) (tr1 t) hi hj
theorem tr2 (t : Fin grid0.N) : cc0_transform_2 (grid0.coords t) = ![t.val / 7, t.val / 1 % 7] :=
  index_of (coord0 t) (coord1 t)

/-- The summand of the whole product at row `i` and column `j`, -/
def term (c : Dev nD) (i j k : ℕ) : EReal := rd (opA m c) i k * rd (opB m c) k j

/-- and the product of a point's blocks, a stretch of the whole product's sum. -/
theorem block_prod (c : Dev nD) (t : Fin cfg0.N) {i j : ℕ} (hi : i < 1664) (hj : j < 768) :
    nn (bA m c t) (bB m c t) 2048 i j = ∑ k ∈ range 2048, term m c (1664 * (t.val / 7) + i) (768 * (t.val / 1 % 7) + j) (2048 * (t.val % 1) + k) := by
  refine sum_congr rfl fun k hk => ?_
  have hk' : k < 2048 := mem_range.mp hk
  exact congrArg₂ (· * ·) (rdA m c t hi hk') (rdB m c t hk' hj)

/-- The product the call should leave. -/
def G (c : Dev nD) : (Mat 8320 5376).Idx → EReal := fun x => nn (opA m c) (opB m c) 2048 (x 0).val (x 1).val

/-- What a point stores. -/
theorem stored (X : Vec Ideal S1664x2048 .bf16) (Y : Vec Ideal S2048x768 .bf16) {i j : ℕ} (hi : i < 1664) (hj : j < 768) :
    rd (out0_2 X Y : (Mat 1664 768).Idx → EReal) i j = nn (X : (Mat 1664 2048).Idx → EReal) (Y : (Mat 2048 768).Idx → EReal) 2048 i j := by
  have h : out0_2 X Y = k0_pay1 X Y := by
    unfold out0_2
    refine (View.canon_unit_zero hz _ _).trans ?_
    rw [View.ld_unit_zero (S := S1664x2048) hz, View.ld_unit_zero (S := S2048x768) hz]
  rw [h]
  exact matmul_nn (M := 1664) (K := 2048) (N := 768) X Y hi hj

/-- An index of the array is in a point's block when its row and column are. -/
theorem mem_blk (t : Fin cfg0.N) (x : S8320x5376.Idx) :
    x ∈ ((cfg0.win 2).blk t).view.set ↔ ∀ a : Fin 2, win0_2.index t a * S1664x768.size a ≤ (x a).val ∧ (x a).val < win0_2.index t a * S1664x768.size a + S1664x768.size a := by
  show x ∈ ((View.whole main_v0).slice (win0_2.rect t)).set ↔ _
  rw [View.set_slice_whole, Rect.mem_set_unit]
  exact Iff.rfl

theorem final (c : Dev nD) : (dats m 0 c).arrAt 2 cfg0.N = G m c := by
  refine (dats m 0 c).arrAt_eq_of_cover 2 _ (fun t _ => ?_) (fun x => ?_)
  · rw [flushed2]
    refine funext fun (y : S1664x768.Idx) => ?_
    have h0 : (y 0).val < 1664 := (y 0).isLt
    have h1 : (y 1).val < 768 := (y 1).isLt
    have e0 : (((cfg0.win 2).blk t).view.emb y 0).val = _ := (at_index (i := (y 0).val) (j := (y 1).val) (A := 1664) (B := 768) (tr2 t)).1
    have e1 : (((cfg0.win 2).blk t).view.emb y 1).val = _ := (at_index (i := (y 0).val) (j := (y 1).val) (A := 1664) (B := 768) (tr2 t)).2
    refine Eq.trans (?_ : _ = rd (out0_2 (iblk m c 0 t) (iblk m c 1 t) : (Mat 1664 768).Idx → EReal) (y 0).val (y 1).val) ?_
    · exact rd_of (out0_2 (iblk m c 0 t) (iblk m c 1 t) : (Mat 1664 768).Idx → EReal) y rfl rfl
    · refine (stored (iblk m c 0 t) (iblk m c 1 t) h0 h1).trans ?_
      refine (block_prod m c t h0 h1).trans ?_
      show _ = nn (opA m c) (opB m c) 2048 (((cfg0.win 2).blk t).view.emb y 0).val (((cfg0.win 2).blk t).view.emb y 1).val
      rw [e0, e1]
      refine sum_congr rfl fun k _ => ?_
      have hk : 2048 * (t.val % 1) + k = k := by omega
      rw [hk]
      rfl
  · have h0 : (x 0).val < 8320 := (x 0).isLt
    have h1 : (x 1).val < 5376 := (x 1).isLt
    have ht : 7 * ((x 0).val / 1664) + (x 1).val / 768 < grid0.N := by
      rw [N_0]
      omega
    refine ⟨⟨7 * ((x 0).val / 1664) + (x 1).val / 768, ht⟩, flush0_2 _, ?_⟩
    rw [mem_blk]
    exact in_block (z := fun k => (x k).val) (A := 1664) (B := 768) (tr2 ⟨_, ht⟩) (by dsimp only; omega) (by dsimp only; omega)

/-- The kernel's result is the reference's. -/
theorem agree : Cert.algebraic_Kernel10Ideal_Reference10Ideal := by
  intro m g m' g' _ harg
  refine ⟨fun c => G m c, ?_, ?_⟩
  · refine (θ_run Cert.Kernel10Ideal.defs _ _).mono (fun r h c => ?_) (Cert.Kernel10Ideal.Value.run_blocks (F := Ideal) m g)
    obtain ⟨hv, hargs⟩ := h c
    exact ⟨hv.trans (final m c), hargs⟩
  · refine (θ_run Cert.Reference10Ideal.defs _ _).mono (fun r h c => ?_) (Cert.Reference10Ideal.Value.run (F := Ideal) m' g')
    obtain ⟨hv, hargs⟩ := h c
    obtain ⟨e0, e1⟩ := harg c
    refine ⟨hv.trans ?_, hargs⟩
    rw [e0, e1]
    exact dot_nn_eq (M := 8320) (K := 2048) (N := 5376) (opA m c) (opB m c)

end Cert.Proof.Linear.L10
end
-- ==== Proof.Lin11.lean ====
module

public import proofs.«01_k».proof.Defs
public import proofs.«01_k».proof.Proof.Linear
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run

@[expose] public section
set_option maxRecDepth 16384
noncomputable section
namespace Cert.Proof.Linear.L11

open Cert.Kernel11Ideal Cert.Kernel11Ideal.Gen Cert.Kernel11Ideal.Value
open Idealize.ShloMosaic Idealize.ShloMosaic.ValueIdx Idealize.ShloMosaic.Tactic
open Idealize.ShloMosaic.TcCoe
open Idealize.SL.Sem
open Finset

/-! # The gradient of one attention’s output, through its half of the output projection: the blocked product is the product -/

variable (m : (ℓ : Loc nD τ sig) → Buf (Elt Ideal) ℓ)

/-- The two operands, -/
def opA (c : Dev nD) : (Mat 8320 2048).Idx → EReal := m ((c : Thread nD τ).loc main_arg2)
def opB (c : Dev nD) : (Mat 1024 2048).Idx → EReal := m ((c : Thread nD τ).loc main_arg1)
/-- and a point's blocks of them. -/
def bA (c : Dev nD) (t : Fin cfg0.N) : (Mat 1664 2048).Idx → EReal := iblk m c 0 t
def bB (c : Dev nD) (t : Fin cfg0.N) : (Mat 256 2048).Idx → EReal := iblk m c 1 t

/-! ## Which blocks a point sees -/

theorem coord0 (t : Fin grid0.N) : (grid0.coords t 0).val = t.val / 4 := by
  have h : t.val < 20 := N_0 ▸ t.isLt
  exact (Pipeline.Grid.coords_val t 0 (S := 4) (B := 5) (by decide) rfl).trans (by omega)
theorem coord1 (t : Fin grid0.N) : (grid0.coords t 1).val = t.val / 1 % 4 := by
  have h : t.val < 20 := N_0 ▸ t.isLt
  exact (Pipeline.Grid.coords_val t 1 (S := 1) (B := 4) (by decide) rfl).trans (by omega)
theorem coord2 (t : Fin grid0.N) : (grid0.coords t 2).val = t.val % 1 := by
  have h : t.val < 20 := N_0 ▸ t.isLt
  exact (Pipeline.Grid.coords_val t 2 (S := 1) (B := 1) (by decide) rfl).trans (by omega)
theorem tr0 (t : Fin grid0.N) : cc0_transform_0 (grid0.coords t) = ![t.val / 4, t.val % 1] :=
  index_of (coord0 t) (coord2 t)
theorem rdA (c : Dev nD) (t : Fin cfg0.N) {i j : ℕ} (hi : i < 1664) (hj : j < 2048) :
    rd (bA m c t) i j = rd (opA m c) (1664 * (t.val / 4) + i) (2048 * (t.val % 1) + j) :=
  rd_slice (opA m c) ((cfg0.win 0).blk t).view.emb _ (fun _ => rfl) (fun _ => rfl) (tr0 t) hi hj
theorem tr1 (t : Fin grid0.N) : cc0_transform_1 (grid0.coords t) = ![t.val / 1 % 4, t.val % 1] :=
  index_of (coord1 t) (coord2 t)
theorem rdB (c : Dev nD) (t : Fin cfg0.N) {i j : ℕ} (hi : i < 256) (hj : j < 2048) :
    rd (bB m c t) i j = rd (opB m c) (256 * (t.val / 1 % 4) + i) (2048 * (t.val % 1) + j) :=
  rd_slice (opB m c) ((cfg0.win 1).blk t).view.emb _ (fun _ => rfl) (fun _ => rfl) (tr1 t) hi hj
theorem tr2 (t : Fin grid0.N) : cc0_transform_2 (grid0.coords t) = ![t.val / 4, t.val / 1 % 4] :=
  index_of (coord0 t) (coord1 t)

/-- The summand of the whole product at row `i` and column `j`, -/
def term (c : Dev nD) (i j k : ℕ) : EReal := rd (opA m c) i k * rd (opB m c) j k

/-- and the product of a point's blocks, a stretch of the whole product's sum. -/
theorem block_prod (c : Dev nD) (t : Fin cfg0.N) {i j : ℕ} (hi : i < 1664) (hj : j < 256) :
    nt (bA m c t) (bB m c t) 2048 i j = ∑ k ∈ range 2048, term m c (1664 * (t.val / 4) + i) (256 * (t.val / 1 % 4) + j) (2048 * (t.val % 1) + k) := by
  refine sum_congr rfl fun k hk => ?_
  have hk' : k < 2048 := mem_range.mp hk
  exact congrArg₂ (· * ·) (rdA m c t hi hk') (rdB m c t hj hk')

/-- The product the call should leave. -/
def G (c : Dev nD) : (Mat 8320 1024).Idx → EReal := fun x => nt (opA m c) (opB m c) 2048 (x 0).val (x 1).val

/-- What a point stores. -/
theorem stored (X : Vec Ideal S1664x2048 .f32) (Y : Vec Ideal S256x2048 .bf16) {i j : ℕ} (hi : i < 1664) (hj : j < 256) :
    rd (out0_2 X Y : (Mat 1664 256).Idx → EReal) i j = nt (X : (Mat 1664 2048).Idx → EReal) (Y : (Mat 256 2048).Idx → EReal) 2048 i j := by
  have h : out0_2 X Y = k0_pay1 X Y := by
    unfold out0_2
    refine (View.canon_unit_zero hz _ _).trans ?_
    rw [View.ld_unit_zero (S := S1664x2048) hz, View.ld_unit_zero (S := S256x2048) hz]
  rw [h]
  exact matmul_nt (M := 1664) (K := 2048) (N := 256) X Y hi hj

/-- An index of the array is in a point's block when its row and column are. -/
theorem mem_blk (t : Fin cfg0.N) (x : S8320x1024.Idx) :
    x ∈ ((cfg0.win 2).blk t).view.set ↔ ∀ a : Fin 2, win0_2.index t a * S1664x256.size a ≤ (x a).val ∧ (x a).val < win0_2.index t a * S1664x256.size a + S1664x256.size a := by
  show x ∈ ((View.whole main_v0).slice (win0_2.rect t)).set ↔ _
  rw [View.set_slice_whole, Rect.mem_set_unit]
  exact Iff.rfl

theorem final (c : Dev nD) : (dats m 0 c).arrAt 2 cfg0.N = G m c := by
  refine (dats m 0 c).arrAt_eq_of_cover 2 _ (fun t _ => ?_) (fun x => ?_)
  · rw [flushed2]
    refine funext fun (y : S1664x256.Idx) => ?_
    have h0 : (y 0).val < 1664 := (y 0).isLt
    have h1 : (y 1).val < 256 := (y 1).isLt
    have e0 : (((cfg0.win 2).blk t).view.emb y 0).val = _ := (at_index (i := (y 0).val) (j := (y 1).val) (A := 1664) (B := 256) (tr2 t)).1
    have e1 : (((cfg0.win 2).blk t).view.emb y 1).val = _ := (at_index (i := (y 0).val) (j := (y 1).val) (A := 1664) (B := 256) (tr2 t)).2
    refine Eq.trans (?_ : _ = rd (out0_2 (iblk m c 0 t) (iblk m c 1 t) : (Mat 1664 256).Idx → EReal) (y 0).val (y 1).val) ?_
    · exact rd_of (out0_2 (iblk m c 0 t) (iblk m c 1 t) : (Mat 1664 256).Idx → EReal) y rfl rfl
    · refine (stored (iblk m c 0 t) (iblk m c 1 t) h0 h1).trans ?_
      refine (block_prod m c t h0 h1).trans ?_
      show _ = nt (opA m c) (opB m c) 2048 (((cfg0.win 2).blk t).view.emb y 0).val (((cfg0.win 2).blk t).view.emb y 1).val
      rw [e0, e1]
      refine sum_congr rfl fun k _ => ?_
      have hk : 2048 * (t.val % 1) + k = k := by omega
      rw [hk]
      rfl
  · have h0 : (x 0).val < 8320 := (x 0).isLt
    have h1 : (x 1).val < 1024 := (x 1).isLt
    have ht : 4 * ((x 0).val / 1664) + (x 1).val / 256 < grid0.N := by
      rw [N_0]
      omega
    refine ⟨⟨4 * ((x 0).val / 1664) + (x 1).val / 256, ht⟩, flush0_2 _, ?_⟩
    rw [mem_blk]
    exact in_block (z := fun k => (x k).val) (A := 1664) (B := 256) (tr2 ⟨_, ht⟩) (by dsimp only; omega) (by dsimp only; omega)

/-- The kernel's result is the reference's. -/
theorem agree : Cert.algebraic_Kernel11Ideal_Reference11Ideal := by
  intro m g m' g' _ harg
  refine ⟨fun c => G m c, ?_, ?_⟩
  · refine (θ_run Cert.Kernel11Ideal.defs _ _).mono (fun r h c => ?_) (Cert.Kernel11Ideal.Value.run_blocks (F := Ideal) m g)
    obtain ⟨hv, hargs⟩ := h c
    exact ⟨hv.trans (final m c), hargs⟩
  · refine (θ_run Cert.Reference11Ideal.defs _ _).mono (fun r h c => ?_) (Cert.Reference11Ideal.Value.run (F := Ideal) m' g')
    obtain ⟨hv, hargs⟩ := h c
    obtain ⟨e0, e1, e2⟩ := harg c
    refine ⟨hv.trans ?_, hargs⟩
    rw [e2, e1]
    exact dot_nt_eq (M := 8320) (K := 2048) (N := 1024) (opA m c) (opB m c)

end Cert.Proof.Linear.L11
end
-- ==== Proof.Lin12.lean ====
module

public import proofs.«01_k».proof.Defs
public import proofs.«01_k».proof.Proof.Linear
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run

@[expose] public section
set_option maxRecDepth 16384
noncomputable section
namespace Cert.Proof.Linear.L12

open Cert.Kernel12Ideal Cert.Kernel12Ideal.Gen Cert.Kernel12Ideal.Value
open Idealize.ShloMosaic Idealize.ShloMosaic.ValueIdx Idealize.ShloMosaic.Tactic
open Idealize.ShloMosaic.TcCoe
open Idealize.SL.Sem
open Finset

/-! # The gradient of the weight of one half of the output projection: the blocked product is the product -/

variable (m : (ℓ : Loc nD τ sig) → Buf (Elt Ideal) ℓ)

/-- The two operands, -/
def opA (c : Dev nD) : (Mat 8320 1024).Idx → EReal := m ((c : Thread nD τ).loc main_arg0)
def opB (c : Dev nD) : (Mat 8320 2048).Idx → EReal := m ((c : Thread nD τ).loc main_arg2)
/-- and a point's blocks of them. -/
def bA (c : Dev nD) (t : Fin cfg0.N) : (Mat 1664 1024).Idx → EReal := iblk m c 0 t
def bB (c : Dev nD) (t : Fin cfg0.N) : (Mat 1664 1024).Idx → EReal := iblk m c 1 t

/-! ## Which blocks a point sees -/

theorem coord0 (t : Fin grid0.N) : (grid0.coords t 0).val = t.val / 10 := by
  have h : t.val < 10 := N_0 ▸ t.isLt
  exact (Pipeline.Grid.coords_val t 0 (S := 10) (B := 1) (by decide) rfl).trans (by omega)
theorem coord1 (t : Fin grid0.N) : (grid0.coords t 1).val = t.val / 5 % 2 := by
  have h : t.val < 10 := N_0 ▸ t.isLt
  exact (Pipeline.Grid.coords_val t 1 (S := 5) (B := 2) (by decide) rfl).trans (by omega)
theorem coord2 (t : Fin grid0.N) : (grid0.coords t 2).val = t.val % 5 := by
  have h : t.val < 10 := N_0 ▸ t.isLt
  exact (Pipeline.Grid.coords_val t 2 (S := 1) (B := 5) (by decide) rfl).trans (by omega)
theorem tr0 (t : Fin grid0.N) : cc0_transform_0 (grid0.coords t) = ![t.val % 5, t.val / 10] :=
  index_of (coord2 t) (coord0 t)
theorem rdA (c : Dev nD) (t : Fin cfg0.N) {i j : ℕ} (hi : i < 1664) (hj : j < 1024) :
    rd (bA m c t) i j = rd (opA m c) (1664 * (t.val % 5) + i) (1024 * (t.val / 10) + j) :=
  rd_slice (opA m c) ((cfg0.win 0).blk t).view.emb _ (fun _ => rfl) (fun _ => rfl) (tr0 t) hi hj
theorem tr1 (t : Fin grid0.N) : cc0_transform_1 (grid0.coords t) = ![t.val % 5, t.val / 5 % 2] :=
  index_of (coord2 t) (coord1 t)
theorem rdB (c : Dev nD) (t : Fin cfg0.N) {i j : ℕ} (hi : i < 1664) (hj : j < 1024) :
    rd (bB m c t) i j = rd (opB m c) (1664 * (t.val % 5) + i) (1024 * (t.val / 5 % 2) + j) :=
  rd_slice (opB m c) ((cfg0.win 1).blk t).view.emb _ (fun _ => rfl) (fun _ => rfl) (tr1 t) hi hj
theorem tr2 (t : Fin grid0.N) : cc0_transform_2 (grid0.coords t) = ![t.val / 10, t.val / 5 % 2] :=
  index_of (coord0 t) (coord1 t)

/-- The summand of the whole product at row `i` and column `j`, -/
def term (c : Dev nD) (i j k : ℕ) : EReal := rd (opA m c) k i * rd (opB m c) k j

/-- and the product of a point's blocks, a stretch of the whole product's sum. -/
theorem block_prod (c : Dev nD) (t : Fin cfg0.N) {i j : ℕ} (hi : i < 1024) (hj : j < 1024) :
    tn (bA m c t) (bB m c t) 1664 i j = ∑ k ∈ range 1664, term m c (1024 * (t.val / 10) + i) (1024 * (t.val / 5 % 2) + j) (1664 * (t.val % 5) + k) := by
  refine sum_congr rfl fun k hk => ?_
  have hk' : k < 1664 := mem_range.mp hk
  exact congrArg₂ (· * ·) (rdA m c t hk' hi) (rdB m c t hk' hj)

/-- The product the call should leave. -/
def G (c : Dev nD) : (Mat 1024 2048).Idx → EReal := fun x => tn (opA m c) (opB m c) 8320 (x 0).val (x 1).val

/-! ## What the steps compute -/

/-- One step of the accumulation. -/
theorem step_at (acc : Vec Ideal S1024x1024 .f32) (X : Vec Ideal S1664x1024 .f32) (Y : Vec Ideal S1664x1024 .f32) {i j : ℕ} (hi : i < 1024) (hj : j < 1024) :
    rd (k0_pay2 acc X Y : (Mat 1024 1024).Idx → EReal) i j = rd (acc : (Mat 1024 1024).Idx → EReal) i j + tn (X : (Mat 1664 1024).Idx → EReal) (Y : (Mat 1664 1024).Idx → EReal) 1664 i j := by
  have h : k0_pay2 acc X Y = addf acc (matmul (φ₁ := .bf16) (φ₂ := .bf16) dot_S1664x1024_S1664x1024_S1024x1024_0_0_1_1_n_n none (truncf .bf16 X bitsLt_bf16_f32) (truncf .bf16 Y bitsLt_bf16_f32) (constant S1024x1024 .f32 0x00000000#32)) := by
    unfold k0_pay2
    simp only [shapeCast_self]
  rw [h, ← matmul_tn (M := 1024) (K := 1664) (N := 1024) (φ₁ := .bf16) (φ₂ := .bf16) X Y hi hj]
  refine (rd_in _ ⟨i, hi⟩ ⟨j, hj⟩).trans (congrArg₂ (· + ·) (rd_in _ ⟨i, hi⟩ ⟨j, hj⟩).symm (rd_in _ ⟨i, hi⟩ ⟨j, hj⟩).symm)
theorem zero_at {i j : ℕ} (hi : i < 1024) (hj : j < 1024) : rd (k0_pay1 (F := Ideal) : (Mat 1024 1024).Idx → EReal) i j = 0 :=
  rd_zero (by
    unfold k0_pay1
    simp only [shapeCast_self]) hi hj

/-! ## A run of points -/

/-- The product of the blocks of a run's point. -/
theorem block_at (c : Dev nD) (q s : ℕ) (hs : s < 5) (h : 5 * q + s < cfg0.N) {i j : ℕ} (hi : i < 1024) (hj : j < 1024) :
    tn (bA m c ⟨5 * q + s, h⟩) (bB m c ⟨5 * q + s, h⟩) 1664 i j = ∑ k ∈ range 1664, term m c (1024 * (q / 2) + i) (1024 * (q % 2) + j) (1664 * s + k) := by
  have hq0 : (5 * q + s) / 10 = q / 2 := by omega
  have hq1 : (5 * q + s) / 5 = q := by omega
  have hq2 : (5 * q + s) % 5 = s := by omega
  rw [block_prod m c _ hi hj]
  dsimp only
  rw [hq0, hq1, hq2]

/-- What the scratch holds on entering a point. -/
abbrev prev (c : Dev nD) (t : Fin cfg0.N) : Vec Ideal S1024x1024 .f32 := (outsAt0 m c (t.val - 1) (Nat.lt_of_le_of_lt (Nat.sub_le _ _) t.isLt)).2
theorem scr_first (c : Dev nD) (t : Fin cfg0.N) (h0 : t.val % 5 = 0) : (outsAt0 m c t.val t.isLt).2 = k0_pay2 k0_pay1 (iblk m c 0 t) (iblk m c 1 t) := by
  have h1 : ¬t.val % 5 = 4 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, (Memref.isWhole_whole cc0_scratch0).read_unread, View.ld_unit_zero (S := S1664x1024) hz, View.ld_unit_zero (S := S1664x1024) hz, View.ld_unit_zero (S := S1024x1024) hz]
  rw [View.canon_cons_unit_zero (S := S1024x1024) hz, View.readCov_unit_zero (S := S1024x1024) _ hz]

theorem scr_next (c : Dev nD) (t : Fin cfg0.N) (h0 : ¬t.val % 5 = 0) : (outsAt0 m c t.val t.isLt).2 = k0_pay2 (prev m c t) (iblk m c 0 t) (iblk m c 1 t) := by
  by_cases h1 : t.val % 5 = 4
  · rw [outsAt0_C m c t h0 h1]
    dsimp only
    unfold sout0_C_0
    rw [View.read_writes_eq_canon _ _ _ (scover0_C_0 c _ _ _ _ _ _ _ _ _ _ _ _ _ _)]
    unfold kernelRun0_C
    dsimp only
    sl_unfold_words
    simp only [View.readAt_eq_ld, (hs0_0 t).read_unread, (hs0_1 t).read_unread, (Memref.isWhole_whole cc0_scratch0).read_unread, View.ld_unit_zero (S := S1664x1024) hz, View.ld_unit_zero (S := S1664x1024) hz, View.ld_unit_zero (S := S1024x1024) hz]
    rw [View.canon_unit_zero hz]
  · rw [outsAt0_B m c t h0 h1]
    dsimp only
    unfold sout0_B_0
    rw [View.read_writes_eq_canon _ _ _ (scover0_B_0 c _ _ _ _ _ _ _ _ _ _ _ _ _ _)]
    unfold kernelRun0_B
    dsimp only
    sl_unfold_words
    simp only [View.readAt_eq_ld, (hs0_0 t).read_unread, (hs0_1 t).read_unread, (Memref.isWhole_whole cc0_scratch0).read_unread, View.ld_unit_zero (S := S1664x1024) hz, View.ld_unit_zero (S := S1664x1024) hz, View.ld_unit_zero (S := S1024x1024) hz]
    rw [View.canon_unit_zero hz]

theorem out_last (c : Dev nD) (t : Fin cfg0.N) (h1 : t.val % 5 = 4) : (outsAt0 m c t.val t.isLt).1 = k0_pay3 (k0_pay2 (prev m c t) (iblk m c 0 t) (iblk m c 1 t)) := by
  have h0 : ¬t.val % 5 = 0 := by omega
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (Memref.isWhole_whole cc0_scratch0).read_unread, View.ld_unit_zero (S := S1664x1024) hz, View.ld_unit_zero (S := S1664x1024) hz, View.ld_unit_zero (S := S1024x1024) hz]
  rw [View.canon_unit_zero hz, View.readCov_unit_zero (S := S1024x1024) _ hz]

/-- After each point the scratch holds the part of the sum so far. -/
theorem carried (c : Dev nD) (q : ℕ) {i j : ℕ} (hi : i < 1024) (hj : j < 1024) : ∀ (s : ℕ) (_ : s < 4) (h : 5 * q + s < cfg0.N),
    rd ((outsAt0 m c (5 * q + s) h).2 : (Mat 1024 1024).Idx → EReal) i j = ∑ k ∈ range (1664 * (s + 1)), term m c (1024 * (q / 2) + i) (1024 * (q % 2) + j) k
  | 0, _, h => by
    have e := scr_first m c ⟨5 * q + 0, h⟩ (by dsimp only; omega)
    dsimp only at e
    rw [e, step_at _ _ _ hi hj, zero_at hi hj, zero_add, sum_first]
    exact block_at m c q 0 (by decide) h hi hj
  | s + 1, hs, h => by
    have e := scr_next m c ⟨5 * q + (s + 1), h⟩ (by dsimp only; omega)
    dsimp only at e
    have ih := carried c q hi hj s (by omega) (by omega)
    rw [e, step_at _ _ _ hi hj, sum_block]
    exact congrArg₂ (· + ·) ih (block_at m c q (s + 1) (by omega) h hi hj)

/-- The last point of a run stores the whole sum. -/
theorem whole (c : Dev nD) (q : ℕ) {i j : ℕ} (hi : i < 1024) (hj : j < 1024) (h : 5 * q + 4 < cfg0.N) :
    rd ((outsAt0 m c (5 * q + 4) h).1 : (Mat 1024 1024).Idx → EReal) i j = ∑ k ∈ range 8320, term m c (1024 * (q / 2) + i) (1024 * (q % 2) + j) k := by
  have e := out_last m c ⟨5 * q + 4, h⟩ (by dsimp only; omega)
  dsimp only at e
  rw [e]
  have hp := carried m c q hi hj 3 (by omega) (by omega)
  refine Eq.trans (step_at _ _ _ hi hj) ?_
  rw [show 8320 = 1664 * (4 + 1) from rfl, sum_block]
  exact congrArg₂ (· + ·) hp (block_at m c q 4 (by decide) h hi hj)

theorem G2_eq (c : Dev nD) : G2 m c = G m c := by
  refine funext fun (x : S1024x2048.Idx) => ?_
  have h0 : (x 0).val < 1024 := (x 0).isLt
  have h1 : (x 1).val < 2048 := (x 1).isLt
  have hp : 5 * (2 * ((x 0).val / 1024) + (x 1).val / 1024) + 4 < cfg0.N := by
    rw [show cfg0.N = 10 from N_0]
    omega
  have hq : pt2Of x = 5 * (2 * ((x 0).val / 1024) + (x 1).val / 1024) + 4 := by
    show 5 * (2 * ((x 0).val / 1024 - 0) + 1 * ((x 1).val / 1024 - 0)) + 4 = _
    omega
  have hb : pt2Of x < cfg0.N := hq ▸ hp
  unfold G2
  rw [dif_pos hb, ← outsAt0_sweep m c (pt2Of x) hb]
  have e : outsAt0 m c (pt2Of x) hb = outsAt0 m c _ hp := by
    congr 1
  rw [e]
  refine Eq.trans (rd_of ((outsAt0 m c _ hp).1 : (Mat 1024 1024).Idx → EReal) (loc2Of x) rfl rfl) ?_
  refine (whole m c _ (Nat.mod_lt _ (by decide)) (Nat.mod_lt _ (by decide)) hp).trans ?_
  rw [show 1024 * ((2 * ((x 0).val / 1024) + (x 1).val / 1024) / 2) + (x 0).val % 1024 = (x 0).val by omega,
    show 1024 * ((2 * ((x 0).val / 1024) + (x 1).val / 1024) % 2) + (x 1).val % 1024 = (x 1).val by omega]
  rfl

/-- The kernel's result is the reference's. -/
theorem agree : Cert.algebraic_Kernel12Ideal_Reference12Ideal := by
  intro m g m' g' _ harg
  refine ⟨fun c => G m c, ?_, ?_⟩
  · refine (θ_run Cert.Kernel12Ideal.defs _ _).mono (fun r h c => ?_) (Cert.Kernel12Ideal.Value.run (F := Ideal) m g)
    obtain ⟨hv, hargs⟩ := h c
    exact ⟨hv.trans (G2_eq m c), hargs⟩
  · refine (θ_run Cert.Reference12Ideal.defs _ _).mono (fun r h c => ?_) (Cert.Reference12Ideal.Value.run (F := Ideal) m' g')
    obtain ⟨hv, hargs⟩ := h c
    obtain ⟨e0, e1, e2⟩ := harg c
    refine ⟨hv.trans ?_, hargs⟩
    rw [e0, e2]
    refine funext fun (x : (Mat 1024 2048).Idx) => ?_
    exact dot_tn_swap (opA m c) (opB m c) x _ rfl rfl

end Cert.Proof.Linear.L12
end
-- ==== Proof.Lin13.lean ====
module

public import proofs.«01_k».proof.Defs
public import proofs.«01_k».proof.Proof.Linear
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run

@[expose] public section
set_option maxRecDepth 16384
noncomputable section
namespace Cert.Proof.Linear.L13

open Cert.Kernel13Ideal Cert.Kernel13Ideal.Gen Cert.Kernel13Ideal.Value
open Idealize.ShloMosaic Idealize.ShloMosaic.ValueIdx Idealize.ShloMosaic.Tactic
open Idealize.ShloMosaic.TcCoe
open Idealize.SL.Sem
open Finset

/-! # The output projection: the product of two inputs side by side is the sum of their products with the weight's halves -/

variable (m : (ℓ : Loc nD τ sig) → Buf (Elt Ideal) ℓ)

/-- The two inputs, the weight, -/
def opA (c : Dev nD) : (Mat 8320 1024).Idx → EReal := m ((c : Thread nD τ).loc main_arg0)
def opB (c : Dev nD) : (Mat 8320 1024).Idx → EReal := m ((c : Thread nD τ).loc main_arg1)
def opW (c : Dev nD) : (Mat 2048 2048).Idx → EReal := m ((c : Thread nD τ).loc main_arg2)
/-- and its upper and lower rows. -/
def upper (W : (Mat 2048 2048).Idx → EReal) : (Mat 1024 2048).Idx → EReal := extractStridedSlice S1024x2048 ![0, 0] W slices_S2048x2048_S1024x2048_0_0
def lower (W : (Mat 2048 2048).Idx → EReal) : (Mat 1024 2048).Idx → EReal := extractStridedSlice S1024x2048 ![1024, 0] W slices_S2048x2048_S1024x2048_1024_0

theorem rd_upper (W : (Mat 2048 2048).Idx → EReal) {k j : ℕ} (hk : k < 1024) (hj : j < 2048) : rd (upper W) k j = rd W k j := by
  refine (rd_in _ ⟨k, hk⟩ ⟨j, hj⟩).trans ?_
  refine (extractStridedSlice_apply _ W _ _ (ValueIdx.ix2 (⟨k, by omega⟩ : Fin 2048) (⟨j, hj⟩ : Fin 2048)) fun a => ?_).trans (rd_in W ⟨k, by omega⟩ ⟨j, hj⟩).symm
  fin_cases a <;> exact (Nat.zero_add _).symm
theorem rd_lower (W : (Mat 2048 2048).Idx → EReal) {k j : ℕ} (hk : k < 1024) (hj : j < 2048) : rd (lower W) k j = rd W (1024 + k) j := by
  refine (rd_in _ ⟨k, hk⟩ ⟨j, hj⟩).trans ?_
  refine (extractStridedSlice_apply _ W _ _ (ValueIdx.ix2 (⟨1024 + k, by omega⟩ : Fin 2048) (⟨j, hj⟩ : Fin 2048)) fun a => ?_).trans (rd_in W ⟨1024 + k, by omega⟩ ⟨j, hj⟩).symm
  fin_cases a
  · rfl
  · exact (Nat.zero_add _).symm

theorem upper_entry (c : Dev nD) : V m c main_v0 = upper (opW m c) := by
  show StableHlo.after hostOps0 (fun b => m (c, b)) main_v0 = _
  refine Eq.trans (by after_results) (rfl : extractStridedSlice S1024x2048 ![0, 0] (m ((c : Thread nD τ).loc main_arg2)) slices_S2048x2048_S1024x2048_0_0 = _)
theorem lower_entry (c : Dev nD) : V m c main_v1 = lower (opW m c) := by
  show StableHlo.after hostOps0 (fun b => m (c, b)) main_v1 = _
  refine Eq.trans (by after_results) (rfl : extractStridedSlice S1024x2048 ![1024, 0] (m ((c : Thread nD τ).loc main_arg2)) slices_S2048x2048_S1024x2048_1024_0 = _)

/-! ## Which blocks a point sees -/

theorem coord0 (t : Fin grid0.N) : (grid0.coords t 0).val = t.val / 8 := by
  have h : t.val < 40 := N_0 ▸ t.isLt
  exact (Pipeline.Grid.coords_val t 0 (S := 8) (B := 5) (by decide) rfl).trans (by omega)
theorem coord1 (t : Fin grid0.N) : (grid0.coords t 1).val = t.val % 8 := by
  have h : t.val < 40 := N_0 ▸ t.isLt
  exact (Pipeline.Grid.coords_val t 1 (S := 1) (B := 8) (by decide) rfl).trans (by omega)
theorem tr0 (t : Fin grid0.N) : cc0_transform_0 (grid0.coords t) = ![t.val / 8, 0] := by
  rw [← coord0 t, ← small (by decide) (grid0.coords t 0)]
  rfl
theorem tr2 (t : Fin grid0.N) : cc0_transform_2 (grid0.coords t) = ![0, t.val % 8] := by
  rw [← coord1 t, ← small (by decide) (grid0.coords t 1)]
  rfl
theorem tr4 (t : Fin grid0.N) : cc0_transform_4 (grid0.coords t) = ![t.val / 8, t.val % 8] :=
  index_of (coord0 t) (coord1 t)

theorem rdA (c : Dev nD) (t : Fin cfg0.N) {i k : ℕ} (hi : i < 1664) (hk : k < 1024) :
    rd (iblk m c 0 t : (Mat 1664 1024).Idx → EReal) i k = rd (opA m c) (1664 * (t.val / 8) + i) (1024 * 0 + k) := by
  unfold iblk
  rw [show V m c (Pipeline.arrRef spec0 0) = opA m c from V_main_arg0 m c]
  exact rd_slice (opA m c) ((cfg0.win 0).blk t).view.emb _ (fun _ => rfl) (fun _ => rfl) (tr0 t) hi hk
theorem rdB (c : Dev nD) (t : Fin cfg0.N) {i k : ℕ} (hi : i < 1664) (hk : k < 1024) :
    rd (iblk m c 1 t : (Mat 1664 1024).Idx → EReal) i k = rd (opB m c) (1664 * (t.val / 8) + i) (1024 * 0 + k) := by
  unfold iblk
  rw [show V m c (Pipeline.arrRef spec0 1) = opB m c from V_main_arg1 m c]
  exact rd_slice (opB m c) ((cfg0.win 1).blk t).view.emb _ (fun _ => rfl) (fun _ => rfl) (tr0 t) hi hk
theorem rdU (c : Dev nD) (t : Fin cfg0.N) {k j : ℕ} (hk : k < 1024) (hj : j < 256) :
    rd (iblk m c 2 t : (Mat 1024 256).Idx → EReal) k j = rd (upper (opW m c)) (1024 * 0 + k) (256 * (t.val % 8) + j) := by
  unfold iblk
  rw [show V m c (Pipeline.arrRef spec0 2) = upper (opW m c) from upper_entry m c]
  exact rd_slice (upper (opW m c)) ((cfg0.win 2).blk t).view.emb _ (fun _ => rfl) (fun _ => rfl) (tr2 t) hk hj
theorem rdL (c : Dev nD) (t : Fin cfg0.N) {k j : ℕ} (hk : k < 1024) (hj : j < 256) :
    rd (iblk m c 3 t : (Mat 1024 256).Idx → EReal) k j = rd (lower (opW m c)) (1024 * 0 + k) (256 * (t.val % 8) + j) := by
  unfold iblk
  rw [show V m c (Pipeline.arrRef spec0 3) = lower (opW m c) from lower_entry m c]
  exact rd_slice (lower (opW m c)) ((cfg0.win 3).blk t).view.emb _ (fun _ => rfl) (fun _ => rfl) (tr2 t) hk hj

/-- The two products at row `i` and column `j`, and what the call should leave. -/
def at_ (c : Dev nD) (i j : ℕ) : EReal := nn (opA m c) (upper (opW m c)) 1024 i j + nn (opB m c) (lower (opW m c)) 1024 i j
def G (c : Dev nD) : (Mat 8320 2048).Idx → EReal := fun x => at_ m c (x 0).val (x 1).val

/-- What a point stores. -/
theorem stored (X Y : Vec Ideal S1664x1024 .f32) (U L : Vec Ideal S1024x256 .bf16) {i j : ℕ} (hi : i < 1664) (hj : j < 256) :
    rd (out0_4 X Y U L : (Mat 1664 256).Idx → EReal) i j = nn (X : (Mat 1664 1024).Idx → EReal) (U : (Mat 1024 256).Idx → EReal) 1024 i j
      + nn (Y : (Mat 1664 1024).Idx → EReal) (L : (Mat 1024 256).Idx → EReal) 1024 i j := by
  have h : out0_4 X Y U L = k0_pay1 X U Y L := by
    unfold out0_4
    refine (View.canon_unit_zero hz _ _).trans ?_
    rw [View.ld_unit_zero (S := S1664x1024) hz, View.ld_unit_zero (S := S1664x1024) hz, View.ld_unit_zero (S := S1024x256) hz, View.ld_unit_zero (S := S1024x256) hz]
  have h' : k0_pay1 X U Y L = addf (matmul (φ₁ := .bf16) (φ₂ := .bf16) dot_S1664x1024_S1024x256_S1664x256_1_0_0_1_n_n none (truncf .bf16 X bitsLt_bf16_f32) U (constant S1664x256 .f32 0x00000000#32))
      (matmul (φ₁ := .bf16) (φ₂ := .bf16) dot_S1664x1024_S1024x256_S1664x256_1_0_0_1_n_n none (truncf .bf16 Y bitsLt_bf16_f32) L (constant S1664x256 .f32 0x00000000#32)) := by
    unfold k0_pay1
    simp only [shapeCast_self]
  rw [h, h', ← matmul_nn (M := 1664) (K := 1024) (N := 256) (φ₁ := .bf16) (φ₂ := .bf16) X U hi hj, ← matmul_nn (M := 1664) (K := 1024) (N := 256) (φ₁ := .bf16) (φ₂ := .bf16) Y L hi hj]
  exact (rd_in _ ⟨i, hi⟩ ⟨j, hj⟩).trans (congrArg₂ (· + ·) (rd_in _ ⟨i, hi⟩ ⟨j, hj⟩).symm (rd_in _ ⟨i, hi⟩ ⟨j, hj⟩).symm)

theorem block_prod (c : Dev nD) (t : Fin cfg0.N) {i j : ℕ} (hi : i < 1664) (hj : j < 256) :
    nn (iblk m c 0 t : (Mat 1664 1024).Idx → EReal) (iblk m c 2 t : (Mat 1024 256).Idx → EReal) 1024 i j
      + nn (iblk m c 1 t : (Mat 1664 1024).Idx → EReal) (iblk m c 3 t : (Mat 1024 256).Idx → EReal) 1024 i j = at_ m c (1664 * (t.val / 8) + i) (256 * (t.val % 8) + j) := by
  refine congrArg₂ (· + ·) (sum_congr rfl fun k hk => ?_) (sum_congr rfl fun k hk => ?_)
  · rw [rdA m c t hi (mem_range.mp hk), rdU m c t (mem_range.mp hk) hj, Nat.mul_zero, Nat.zero_add]
  · rw [rdB m c t hi (mem_range.mp hk), rdL m c t (mem_range.mp hk) hj, Nat.mul_zero, Nat.zero_add]

/-- An index of the array is in a point's block when its row and column are. -/
theorem mem_blk (t : Fin cfg0.N) (x : S8320x2048.Idx) :
    x ∈ ((cfg0.win 4).blk t).view.set ↔ ∀ a : Fin 2, win0_4.index t a * S1664x256.size a ≤ (x a).val ∧ (x a).val < win0_4.index t a * S1664x256.size a + S1664x256.size a := by
  show x ∈ ((View.whole main_v2).slice (win0_4.rect t)).set ↔ _
  rw [View.set_slice_whole, Rect.mem_set_unit]
  exact Iff.rfl

theorem final (c : Dev nD) : (dats m 0 c).arrAt 4 cfg0.N = G m c := by
  refine (dats m 0 c).arrAt_eq_of_cover 4 _ (fun t _ => ?_) (fun x => ?_)
  · rw [flushed4]
    refine funext fun (y : S1664x256.Idx) => ?_
    have h0 : (y 0).val < 1664 := (y 0).isLt
    have h1 : (y 1).val < 256 := (y 1).isLt
    have e0 : (((cfg0.win 4).blk t).view.emb y 0).val = _ := (at_index (i := (y 0).val) (j := (y 1).val) (A := 1664) (B := 256) (tr4 t)).1
    have e1 : (((cfg0.win 4).blk t).view.emb y 1).val = _ := (at_index (i := (y 0).val) (j := (y 1).val) (A := 1664) (B := 256) (tr4 t)).2
    refine Eq.trans (?_ : _ = rd (out0_4 (iblk m c 0 t) (iblk m c 1 t) (iblk m c 2 t) (iblk m c 3 t) : (Mat 1664 256).Idx → EReal) (y 0).val (y 1).val) ?_
    · exact rd_of (out0_4 (iblk m c 0 t) (iblk m c 1 t) (iblk m c 2 t) (iblk m c 3 t) : (Mat 1664 256).Idx → EReal) y rfl rfl
    · refine (stored (iblk m c 0 t) (iblk m c 1 t) (iblk m c 2 t) (iblk m c 3 t) h0 h1).trans ?_
      refine (block_prod m c t h0 h1).trans ?_
      show _ = at_ m c (((cfg0.win 4).blk t).view.emb y 0).val (((cfg0.win 4).blk t).view.emb y 1).val
      rw [e0, e1]
  · have h0 : (x 0).val < 8320 := (x 0).isLt
    have h1 : (x 1).val < 2048 := (x 1).isLt
    have ht : 8 * ((x 0).val / 1664) + (x 1).val / 256 < grid0.N := by
      rw [N_0]
      omega
    refine ⟨⟨8 * ((x 0).val / 1664) + (x 1).val / 256, ht⟩, flush0_4 _, ?_⟩
    rw [mem_blk]
    exact in_block (z := fun k => (x k).val) (A := 1664) (B := 256) (tr4 ⟨_, ht⟩) (by dsimp only; omega) (by dsimp only; omega)

/-! ## The reference's product -/

theorem ref (A B : (Mat 8320 1024).Idx → EReal) (W : (Mat 2048 2048).Idx → EReal)
    (h : Shape.Concatenates [Mat 8320 1024, Mat 8320 1024] (Mat 8320 2048) 1) :
    (Host.dotGeneral (F := Ideal) (φ₁ := .f32) (φ₂ := .f32) Cert.Reference13Ideal.dot_S8320x2048_S2048x2048_S8320x2048_1_0_0_1_n_n none
      (concatenate (Mat 8320 2048) 1 [⟨Mat 8320 1024, A⟩, ⟨Mat 8320 1024, B⟩] h) W : (Mat 8320 2048).Idx → EReal)
      = fun x => nn A (upper W) 1024 (x 0).val (x 1).val + nn B (lower W) 1024 (x 0).val (x 1).val := by
  refine mat_ext fun i j hi hj => ?_
  refine (dot_nn (M := 8320) (K := 2048) (N := 2048) (φ₁ := .f32) (φ₂ := .f32) _ W hi hj).trans ?_
  refine Eq.trans ?_ (rd_in (fun x : (Mat 8320 2048).Idx => nn A (upper W) 1024 (x 0).val (x 1).val + nn B (lower W) 1024 (x 0).val (x 1).val) ⟨i, hi⟩ ⟨j, hj⟩).symm
  unfold nn
  refine (sum_range_add _ 1024 1024).trans ?_
  refine congrArg₂ (· + ·) (sum_congr rfl fun k hk => ?_) (sum_congr rfl fun k hk => ?_)
  · have hk' : k < 1024 := mem_range.mp hk
    refine congrArg₂ (· * ·) ?_ (rd_upper W hk' hj).symm
    refine (rd_in _ ⟨i, hi⟩ (⟨k, by omega⟩ : Fin 2048)).trans (Eq.trans ?_ (rd_in A ⟨i, hi⟩ ⟨k, hk'⟩).symm)
    exact concatenate_pair_apply_left (t := Mat 8320 2048) (s₁ := Mat 8320 1024) (s₂ := Mat 8320 1024) 1 A B _ _ rfl _ fun b => by fin_cases b <;> rfl
  · have hk' : k < 1024 := mem_range.mp hk
    refine congrArg₂ (· * ·) ?_ (rd_lower W hk' hj).symm
    refine (rd_in _ ⟨i, hi⟩ (⟨1024 + k, by omega⟩ : Fin 2048)).trans (Eq.trans ?_ (rd_in B ⟨i, hi⟩ ⟨k, hk'⟩).symm)
    refine concatenate_pair_apply_right (t := Mat 8320 2048) (s₁ := Mat 8320 1024) (s₂ := Mat 8320 1024) 1 A B _ _ rfl rfl _ (fun b hb => ?_) ?_
    · fin_cases b
      · rfl
      · exact absurd rfl hb
    · exact Nat.add_comm _ _

theorem agree : Cert.algebraic_Kernel13Ideal_Reference13Ideal := by
  intro m g m' g' _ harg
  refine ⟨fun c => G m c, ?_, ?_⟩
  · refine (θ_run Cert.Kernel13Ideal.defs _ _).mono (fun r h c => ?_) (Cert.Kernel13Ideal.Value.run_blocks (F := Ideal) m g)
    obtain ⟨hv, hargs⟩ := h c
    exact ⟨hv.trans (final m c), hargs⟩
  · refine (θ_run Cert.Reference13Ideal.defs _ _).mono (fun r h c => ?_) (Cert.Reference13Ideal.Value.run (F := Ideal) m' g')
    obtain ⟨hv, hargs⟩ := h c
    obtain ⟨e0, e1, e2⟩ := harg c
    refine ⟨hv.trans ?_, hargs⟩
    rw [e0, e1, e2]
    exact ref (opA m c) (opB m c) (opW m c) _

end Cert.Proof.Linear.L13
end
-- ==== Proof.Lin14.lean ====
module

public import proofs.«01_k».proof.Defs
public import proofs.«01_k».proof.Proof.Linear
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run

@[expose] public section
set_option maxRecDepth 16384
noncomputable section
namespace Cert.Proof.Linear.L14

open Cert.Kernel14Ideal Cert.Kernel14Ideal.Gen Cert.Kernel14Ideal.Value
open Idealize.ShloMosaic Idealize.ShloMosaic.ValueIdx Idealize.ShloMosaic.Tactic
open Idealize.ShloMosaic.TcCoe
open Idealize.SL.Sem
open Finset

/-! # The gradient of the latent keys and values: the blocked product is the product -/

variable (m : (ℓ : Loc nD τ sig) → Buf (Elt Ideal) ℓ)

/-- The two operands, -/
def opA (c : Dev nD) : (Mat 8320 2048).Idx → EReal := m ((c : Thread nD τ).loc main_arg2)
def opB (c : Dev nD) : (Mat 512 2048).Idx → EReal := m ((c : Thread nD τ).loc main_arg1)
/-- and a point's blocks of them. -/
def bA (c : Dev nD) (t : Fin cfg0.N) : (Mat 1664 2048).Idx → EReal := iblk m c 0 t
def bB (c : Dev nD) (t : Fin cfg0.N) : (Mat 512 2048).Idx → EReal := iblk m c 1 t

/-! ## Which blocks a point sees -/

theorem coord0 (t : Fin grid0.N) : (grid0.coords t 0).val = t.val / 1 := by
  have h : t.val < 5 := N_0 ▸ t.isLt
  exact (Pipeline.Grid.coords_val t 0 (S := 1) (B := 5) (by decide) rfl).trans (by omega)
theorem coord1 (t : Fin grid0.N) : (grid0.coords t 1).val = t.val / 1 % 1 := by
  have h : t.val < 5 := N_0 ▸ t.isLt
  exact (Pipeline.Grid.coords_val t 1 (S := 1) (B := 1) (by decide) rfl).trans (by omega)
theorem coord2 (t : Fin grid0.N) : (grid0.coords t 2).val = t.val % 1 := by
  have h : t.val < 5 := N_0 ▸ t.isLt
  exact (Pipeline.Grid.coords_val t 2 (S := 1) (B := 1) (by decide) rfl).trans (by omega)
theorem tr0 (t : Fin grid0.N) : cc0_transform_0 (grid0.coords t) = ![t.val / 1, t.val % 1] :=
  index_of (coord0 t) (coord2 t)
theorem rdA (c : Dev nD) (t : Fin cfg0.N) {i j : ℕ} (hi : i < 1664) (hj : j < 2048) :
    rd (bA m c t) i j = rd (opA m c) (1664 * (t.val / 1) + i) (2048 * (t.val % 1) + j) :=
  rd_slice (opA m c) ((cfg0.win 0).blk t).view.emb _ (fun _ => rfl) (fun _ => rfl) (tr0 t) hi hj
theorem tr1 (t : Fin grid0.N) : cc0_transform_1 (grid0.coords t) = ![t.val / 1 % 1, t.val % 1] :=
  index_of (coord1 t) (coord2 t)
theorem rdB (c : Dev nD) (t : Fin cfg0.N) {i j : ℕ} (hi : i < 512) (hj : j < 2048) :
    rd (bB m c t) i j = rd (opB m c) (512 * (t.val / 1 % 1) + i) (2048 * (t.val % 1) + j) :=
  rd_slice (opB m c) ((cfg0.win 1).blk t).view.emb _ (fun _ => rfl) (fun _ => rfl) (tr1 t) hi hj
theorem tr2 (t : Fin grid0.N) : cc0_transform_2 (grid0.coords t) = ![t.val / 1, t.val / 1 % 1] :=
  index_of (coord0 t) (coord1 t)

/-- The summand of the whole product at row `i` and column `j`, -/
def term (c : Dev nD) (i j k : ℕ) : EReal := rd (opA m c) i k * rd (opB m c) j k

/-- and the product of a point's blocks, a stretch of the whole product's sum. -/
theorem block_prod (c : Dev nD) (t : Fin cfg0.N) {i j : ℕ} (hi : i < 1664) (hj : j < 512) :
    nt (bA m c t) (bB m c t) 2048 i j = ∑ k ∈ range 2048, term m c (1664 * (t.val / 1) + i) (512 * (t.val / 1 % 1) + j) (2048 * (t.val % 1) + k) := by
  refine sum_congr rfl fun k hk => ?_
  have hk' : k < 2048 := mem_range.mp hk
  exact congrArg₂ (· * ·) (rdA m c t hi hk') (rdB m c t hj hk')

/-- The product the call should leave. -/
def G (c : Dev nD) : (Mat 8320 512).Idx → EReal := fun x => nt (opA m c) (opB m c) 2048 (x 0).val (x 1).val

/-- What a point stores. -/
theorem stored (X : Vec Ideal S1664x2048 .bf16) (Y : Vec Ideal S512x2048 .bf16) {i j : ℕ} (hi : i < 1664) (hj : j < 512) :
    rd (out0_2 X Y : (Mat 1664 512).Idx → EReal) i j = nt (X : (Mat 1664 2048).Idx → EReal) (Y : (Mat 512 2048).Idx → EReal) 2048 i j := by
  have h : out0_2 X Y = k0_pay1 X Y := by
    unfold out0_2
    refine (View.canon_unit_zero hz _ _).trans ?_
    rw [View.ld_unit_zero (S := S1664x2048) hz, View.ld_unit_zero (S := S512x2048) hz]
  rw [h]
  exact matmul_nt (M := 1664) (K := 2048) (N := 512) X Y hi hj

/-- An index of the array is in a point's block when its row and column are. -/
theorem mem_blk (t : Fin cfg0.N) (x : S8320x512.Idx) :
    x ∈ ((cfg0.win 2).blk t).view.set ↔ ∀ a : Fin 2, win0_2.index t a * S1664x512.size a ≤ (x a).val ∧ (x a).val < win0_2.index t a * S1664x512.size a + S1664x512.size a := by
  show x ∈ ((View.whole main_v0).slice (win0_2.rect t)).set ↔ _
  rw [View.set_slice_whole, Rect.mem_set_unit]
  exact Iff.rfl

theorem final (c : Dev nD) : (dats m 0 c).arrAt 2 cfg0.N = G m c := by
  refine (dats m 0 c).arrAt_eq_of_cover 2 _ (fun t _ => ?_) (fun x => ?_)
  · rw [flushed2]
    refine funext fun (y : S1664x512.Idx) => ?_
    have h0 : (y 0).val < 1664 := (y 0).isLt
    have h1 : (y 1).val < 512 := (y 1).isLt
    have e0 : (((cfg0.win 2).blk t).view.emb y 0).val = _ := (at_index (i := (y 0).val) (j := (y 1).val) (A := 1664) (B := 512) (tr2 t)).1
    have e1 : (((cfg0.win 2).blk t).view.emb y 1).val = _ := (at_index (i := (y 0).val) (j := (y 1).val) (A := 1664) (B := 512) (tr2 t)).2
    refine Eq.trans (?_ : _ = rd (out0_2 (iblk m c 0 t) (iblk m c 1 t) : (Mat 1664 512).Idx → EReal) (y 0).val (y 1).val) ?_
    · exact rd_of (out0_2 (iblk m c 0 t) (iblk m c 1 t) : (Mat 1664 512).Idx → EReal) y rfl rfl
    · refine (stored (iblk m c 0 t) (iblk m c 1 t) h0 h1).trans ?_
      refine (block_prod m c t h0 h1).trans ?_
      show _ = nt (opA m c) (opB m c) 2048 (((cfg0.win 2).blk t).view.emb y 0).val (((cfg0.win 2).blk t).view.emb y 1).val
      rw [e0, e1]
      refine sum_congr rfl fun k _ => ?_
      have hk : 2048 * (t.val % 1) + k = k := by omega
      rw [hk]
      rfl
  · have h0 : (x 0).val < 8320 := (x 0).isLt
    have h1 : (x 1).val < 512 := (x 1).isLt
    have ht : 1 * ((x 0).val / 1664) + (x 1).val / 512 < grid0.N := by
      rw [N_0]
      omega
    refine ⟨⟨1 * ((x 0).val / 1664) + (x 1).val / 512, ht⟩, flush0_2 _, ?_⟩
    rw [mem_blk]
    exact in_block (z := fun k => (x k).val) (A := 1664) (B := 512) (tr2 ⟨_, ht⟩) (by dsimp only; omega) (by dsimp only; omega)

/-- The kernel's result is the reference's. -/
theorem agree : Cert.algebraic_Kernel14Ideal_Reference14Ideal := by
  intro m g m' g' _ harg
  refine ⟨fun c => G m c, ?_, ?_⟩
  · refine (θ_run Cert.Kernel14Ideal.defs _ _).mono (fun r h c => ?_) (Cert.Kernel14Ideal.Value.run_blocks (F := Ideal) m g)
    obtain ⟨hv, hargs⟩ := h c
    exact ⟨hv.trans (final m c), hargs⟩
  · refine (θ_run Cert.Reference14Ideal.defs _ _).mono (fun r h c => ?_) (Cert.Reference14Ideal.Value.run (F := Ideal) m' g')
    obtain ⟨hv, hargs⟩ := h c
    obtain ⟨e0, e1, e2⟩ := harg c
    refine ⟨hv.trans ?_, hargs⟩
    rw [e2, e1]
    exact dot_nt_eq (M := 8320) (K := 2048) (N := 512) (opA m c) (opB m c)

end Cert.Proof.Linear.L14
end
-- ==== Proof.Lin15.lean ====
module

public import proofs.«01_k».proof.Defs
public import proofs.«01_k».proof.Proof.Linear
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run

@[expose] public section
set_option maxRecDepth 16384
noncomputable section
namespace Cert.Proof.Linear.L15

open Cert.Kernel15Ideal Cert.Kernel15Ideal.Gen Cert.Kernel15Ideal.Value
open Idealize.ShloMosaic Idealize.ShloMosaic.ValueIdx Idealize.ShloMosaic.Tactic
open Idealize.ShloMosaic.TcCoe
open Idealize.SL.Sem
open Finset

/-! # The projection of the latent keys and values: the blocked product is the product -/

variable (m : (ℓ : Loc nD τ sig) → Buf (Elt Ideal) ℓ)

/-- The two operands, -/
def opA (c : Dev nD) : (Mat 8320 512).Idx → EReal := m ((c : Thread nD τ).loc main_arg0)
def opB (c : Dev nD) : (Mat 512 2048).Idx → EReal := m ((c : Thread nD τ).loc main_arg1)
/-- and a point's blocks of them. -/
def bA (c : Dev nD) (t : Fin cfg0.N) : (Mat 1664 512).Idx → EReal := iblk m c 0 t
def bB (c : Dev nD) (t : Fin cfg0.N) : (Mat 512 2048).Idx → EReal := iblk m c 1 t

/-! ## Which blocks a point sees -/

theorem coord0 (t : Fin grid0.N) : (grid0.coords t 0).val = t.val / 1 := by
  have h : t.val < 5 := N_0 ▸ t.isLt
  exact (Pipeline.Grid.coords_val t 0 (S := 1) (B := 5) (by decide) rfl).trans (by omega)
theorem coord1 (t : Fin grid0.N) : (grid0.coords t 1).val = t.val / 1 % 1 := by
  have h : t.val < 5 := N_0 ▸ t.isLt
  exact (Pipeline.Grid.coords_val t 1 (S := 1) (B := 1) (by decide) rfl).trans (by omega)
theorem coord2 (t : Fin grid0.N) : (grid0.coords t 2).val = t.val % 1 := by
  have h : t.val < 5 := N_0 ▸ t.isLt
  exact (Pipeline.Grid.coords_val t 2 (S := 1) (B := 1) (by decide) rfl).trans (by omega)
theorem tr0 (t : Fin grid0.N) : cc0_transform_0 (grid0.coords t) = ![t.val / 1, t.val % 1] :=
  index_of (coord0 t) (coord2 t)
theorem rdA (c : Dev nD) (t : Fin cfg0.N) {i j : ℕ} (hi : i < 1664) (hj : j < 512) :
    rd (bA m c t) i j = rd (opA m c) (1664 * (t.val / 1) + i) (512 * (t.val % 1) + j) :=
  rd_slice (opA m c) ((cfg0.win 0).blk t).view.emb _ (fun _ => rfl) (fun _ => rfl) (tr0 t) hi hj
theorem tr1 (t : Fin grid0.N) : cc0_transform_1 (grid0.coords t) = ![t.val % 1, t.val / 1 % 1] :=
  index_of (coord2 t) (coord1 t)
theorem rdB (c : Dev nD) (t : Fin cfg0.N) {i j : ℕ} (hi : i < 512) (hj : j < 2048) :
    rd (bB m c t) i j = rd (opB m c) (512 * (t.val % 1) + i) (2048 * (t.val / 1 % 1) + j) :=
  rd_slice (opB m c) ((cfg0.win 1).blk t).view.emb _ (fun _ => rfl) (fun _ => rfl) (tr1 t) hi hj
theorem tr2 (t : Fin grid0.N) : cc0_transform_2 (grid0.coords t) = ![t.val / 1, t.val / 1 % 1] :=
  index_of (coord0 t) (coord1 t)

/-- The summand of the whole product at row `i` and column `j`, -/
def term (c : Dev nD) (i j k : ℕ) : EReal := rd (opA m c) i k * rd (opB m c) k j

/-- and the product of a point's blocks, a stretch of the whole product's sum. -/
theorem block_prod (c : Dev nD) (t : Fin cfg0.N) {i j : ℕ} (hi : i < 1664) (hj : j < 2048) :
    nn (bA m c t) (bB m c t) 512 i j = ∑ k ∈ range 512, term m c (1664 * (t.val / 1) + i) (2048 * (t.val / 1 % 1) + j) (512 * (t.val % 1) + k) := by
  refine sum_congr rfl fun k hk => ?_
  have hk' : k < 512 := mem_range.mp hk
  exact congrArg₂ (· * ·) (rdA m c t hi hk') (rdB m c t hk' hj)

/-- The product the call should leave. -/
def G (c : Dev nD) : (Mat 8320 2048).Idx → EReal := fun x => nn (opA m c) (opB m c) 512 (x 0).val (x 1).val

/-- What a point stores. -/
theorem stored (X : Vec Ideal S1664x512 .bf16) (Y : Vec Ideal S512x2048 .bf16) {i j : ℕ} (hi : i < 1664) (hj : j < 2048) :
    rd (out0_2 X Y : (Mat 1664 2048).Idx → EReal) i j = nn (X : (Mat 1664 512).Idx → EReal) (Y : (Mat 512 2048).Idx → EReal) 512 i j := by
  have h : out0_2 X Y = k0_pay1 X Y := by
    unfold out0_2
    refine (View.canon_unit_zero hz _ _).trans ?_
    rw [View.ld_unit_zero (S := S1664x512) hz, View.ld_unit_zero (S := S512x2048) hz]
  rw [h]
  exact matmul_nn (M := 1664) (K := 512) (N := 2048) X Y hi hj

/-- An index of the array is in a point's block when its row and column are. -/
theorem mem_blk (t : Fin cfg0.N) (x : S8320x2048.Idx) :
    x ∈ ((cfg0.win 2).blk t).view.set ↔ ∀ a : Fin 2, win0_2.index t a * S1664x2048.size a ≤ (x a).val ∧ (x a).val < win0_2.index t a * S1664x2048.size a + S1664x2048.size a := by
  show x ∈ ((View.whole main_v0).slice (win0_2.rect t)).set ↔ _
  rw [View.set_slice_whole, Rect.mem_set_unit]
  exact Iff.rfl

theorem final (c : Dev nD) : (dats m 0 c).arrAt 2 cfg0.N = G m c := by
  refine (dats m 0 c).arrAt_eq_of_cover 2 _ (fun t _ => ?_) (fun x => ?_)
  · rw [flushed2]
    refine funext fun (y : S1664x2048.Idx) => ?_
    have h0 : (y 0).val < 1664 := (y 0).isLt
    have h1 : (y 1).val < 2048 := (y 1).isLt
    have e0 : (((cfg0.win 2).blk t).view.emb y 0).val = _ := (at_index (i := (y 0).val) (j := (y 1).val) (A := 1664) (B := 2048) (tr2 t)).1
    have e1 : (((cfg0.win 2).blk t).view.emb y 1).val = _ := (at_index (i := (y 0).val) (j := (y 1).val) (A := 1664) (B := 2048) (tr2 t)).2
    refine Eq.trans (?_ : _ = rd (out0_2 (iblk m c 0 t) (iblk m c 1 t) : (Mat 1664 2048).Idx → EReal) (y 0).val (y 1).val) ?_
    · exact rd_of (out0_2 (iblk m c 0 t) (iblk m c 1 t) : (Mat 1664 2048).Idx → EReal) y rfl rfl
    · refine (stored (iblk m c 0 t) (iblk m c 1 t) h0 h1).trans ?_
      refine (block_prod m c t h0 h1).trans ?_
      show _ = nn (opA m c) (opB m c) 512 (((cfg0.win 2).blk t).view.emb y 0).val (((cfg0.win 2).blk t).view.emb y 1).val
      rw [e0, e1]
      refine sum_congr rfl fun k _ => ?_
      have hk : 512 * (t.val % 1) + k = k := by omega
      rw [hk]
      rfl
  · have h0 : (x 0).val < 8320 := (x 0).isLt
    have h1 : (x 1).val < 2048 := (x 1).isLt
    have ht : 1 * ((x 0).val / 1664) + (x 1).val / 2048 < grid0.N := by
      rw [N_0]
      omega
    refine ⟨⟨1 * ((x 0).val / 1664) + (x 1).val / 2048, ht⟩, flush0_2 _, ?_⟩
    rw [mem_blk]
    exact in_block (z := fun k => (x k).val) (A := 1664) (B := 2048) (tr2 ⟨_, ht⟩) (by dsimp only; omega) (by dsimp only; omega)

/-- The kernel's result is the reference's. -/
theorem agree : Cert.algebraic_Kernel15Ideal_Reference15Ideal := by
  intro m g m' g' _ harg
  refine ⟨fun c => G m c, ?_, ?_⟩
  · refine (θ_run Cert.Kernel15Ideal.defs _ _).mono (fun r h c => ?_) (Cert.Kernel15Ideal.Value.run_blocks (F := Ideal) m g)
    obtain ⟨hv, hargs⟩ := h c
    exact ⟨hv.trans (final m c), hargs⟩
  · refine (θ_run Cert.Reference15Ideal.defs _ _).mono (fun r h c => ?_) (Cert.Reference15Ideal.Value.run (F := Ideal) m' g')
    obtain ⟨hv, hargs⟩ := h c
    obtain ⟨e0, e1⟩ := harg c
    refine ⟨hv.trans ?_, hargs⟩
    rw [e0, e1]
    exact dot_nn_eq (M := 8320) (K := 512) (N := 2048) (opA m c) (opB m c)

end Cert.Proof.Linear.L15
end
-- ==== Proof.Lin16.lean ====
module

public import proofs.«01_k».proof.Defs
public import proofs.«01_k».proof.Proof.Linear
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run

@[expose] public section
set_option maxRecDepth 16384
noncomputable section
namespace Cert.Proof.Linear.L16

open Cert.Kernel16Ideal Cert.Kernel16Ideal.Gen Cert.Kernel16Ideal.Value
open Idealize.ShloMosaic Idealize.ShloMosaic.ValueIdx Idealize.ShloMosaic.Tactic
open Idealize.ShloMosaic.TcCoe
open Idealize.SL.Sem
open Finset

/-! # The gradient of the weight of the latent keys and values: the blocked product is the product -/

variable (m : (ℓ : Loc nD τ sig) → Buf (Elt Ideal) ℓ)

/-- The two operands, -/
def opA (c : Dev nD) : (Mat 8320 512).Idx → EReal := m ((c : Thread nD τ).loc main_arg0)
def opB (c : Dev nD) : (Mat 8320 2048).Idx → EReal := m ((c : Thread nD τ).loc main_arg2)
/-- and a point's blocks of them. -/
def bA (c : Dev nD) (t : Fin cfg0.N) : (Mat 1664 512).Idx → EReal := iblk m c 0 t
def bB (c : Dev nD) (t : Fin cfg0.N) : (Mat 1664 2048).Idx → EReal := iblk m c 1 t

/-! ## Which blocks a point sees -/

theorem coord0 (t : Fin grid0.N) : (grid0.coords t 0).val = t.val / 5 := by
  have h : t.val < 5 := N_0 ▸ t.isLt
  exact (Pipeline.Grid.coords_val t 0 (S := 5) (B := 1) (by decide) rfl).trans (by omega)
theorem coord1 (t : Fin grid0.N) : (grid0.coords t 1).val = t.val / 5 % 1 := by
  have h : t.val < 5 := N_0 ▸ t.isLt
  exact (Pipeline.Grid.coords_val t 1 (S := 5) (B := 1) (by decide) rfl).trans (by omega)
theorem coord2 (t : Fin grid0.N) : (grid0.coords t 2).val = t.val % 5 := by
  have h : t.val < 5 := N_0 ▸ t.isLt
  exact (Pipeline.Grid.coords_val t 2 (S := 1) (B := 5) (by decide) rfl).trans (by omega)
theorem tr0 (t : Fin grid0.N) : cc0_transform_0 (grid0.coords t) = ![t.val % 5, t.val / 5] :=
  index_of (coord2 t) (coord0 t)
theorem rdA (c : Dev nD) (t : Fin cfg0.N) {i j : ℕ} (hi : i < 1664) (hj : j < 512) :
    rd (bA m c t) i j = rd (opA m c) (1664 * (t.val % 5) + i) (512 * (t.val / 5) + j) :=
  rd_slice (opA m c) ((cfg0.win 0).blk t).view.emb _ (fun _ => rfl) (fun _ => rfl) (tr0 t) hi hj
theorem tr1 (t : Fin grid0.N) : cc0_transform_1 (grid0.coords t) = ![t.val % 5, t.val / 5 % 1] :=
  index_of (coord2 t) (coord1 t)
theorem rdB (c : Dev nD) (t : Fin cfg0.N) {i j : ℕ} (hi : i < 1664) (hj : j < 2048) :
    rd (bB m c t) i j = rd (opB m c) (1664 * (t.val % 5) + i) (2048 * (t.val / 5 % 1) + j) :=
  rd_slice (opB m c) ((cfg0.win 1).blk t).view.emb _ (fun _ => rfl) (fun _ => rfl) (tr1 t) hi hj
theorem tr2 (t : Fin grid0.N) : cc0_transform_2 (grid0.coords t) = ![t.val / 5, t.val / 5 % 1] :=
  index_of (coord0 t) (coord1 t)

/-- The summand of the whole product at row `i` and column `j`, -/
def term (c : Dev nD) (i j k : ℕ) : EReal := rd (opA m c) k i * rd (opB m c) k j

/-- and the product of a point's blocks, a stretch of the whole product's sum. -/
theorem block_prod (c : Dev nD) (t : Fin cfg0.N) {i j : ℕ} (hi : i < 512) (hj : j < 2048) :
    tn (bA m c t) (bB m c t) 1664 i j = ∑ k ∈ range 1664, term m c (512 * (t.val / 5) + i) (2048 * (t.val / 5 % 1) + j) (1664 * (t.val % 5) + k) := by
  refine sum_congr rfl fun k hk => ?_
  have hk' : k < 1664 := mem_range.mp hk
  exact congrArg₂ (· * ·) (rdA m c t hk' hi) (rdB m c t hk' hj)

/-- The product the call should leave. -/
def G (c : Dev nD) : (Mat 512 2048).Idx → EReal := fun x => tn (opA m c) (opB m c) 8320 (x 0).val (x 1).val

/-! ## What the steps compute -/

/-- One step of the accumulation. -/
theorem step_at (acc : Vec Ideal S512x2048 .f32) (X : Vec Ideal S1664x512 .bf16) (Y : Vec Ideal S1664x2048 .bf16) {i j : ℕ} (hi : i < 512) (hj : j < 2048) :
    rd (k0_pay2 acc X Y : (Mat 512 2048).Idx → EReal) i j = rd (acc : (Mat 512 2048).Idx → EReal) i j + tn (X : (Mat 1664 512).Idx → EReal) (Y : (Mat 1664 2048).Idx → EReal) 1664 i j := by
  have h : k0_pay2 acc X Y = addf acc (matmul (φ₁ := .bf16) (φ₂ := .bf16) dot_S1664x512_S1664x2048_S512x2048_0_0_1_1_n_n none X Y (constant S512x2048 .f32 0x00000000#32)) := by
    unfold k0_pay2
    simp only [shapeCast_self]
  rw [h, ← matmul_tn (M := 512) (K := 1664) (N := 2048) (φ₁ := .bf16) (φ₂ := .bf16) X Y hi hj]
  refine (rd_in _ ⟨i, hi⟩ ⟨j, hj⟩).trans (congrArg₂ (· + ·) (rd_in _ ⟨i, hi⟩ ⟨j, hj⟩).symm (rd_in _ ⟨i, hi⟩ ⟨j, hj⟩).symm)
theorem zero_at {i j : ℕ} (hi : i < 512) (hj : j < 2048) : rd (k0_pay1 (F := Ideal) : (Mat 512 2048).Idx → EReal) i j = 0 :=
  rd_zero (by
    unfold k0_pay1
    simp only [shapeCast_self]) hi hj

/-! ## A run of points -/

/-- The product of the blocks of a run's point. -/
theorem block_at (c : Dev nD) (q s : ℕ) (hs : s < 5) (h : 5 * q + s < cfg0.N) {i j : ℕ} (hi : i < 512) (hj : j < 2048) :
    tn (bA m c ⟨5 * q + s, h⟩) (bB m c ⟨5 * q + s, h⟩) 1664 i j = ∑ k ∈ range 1664, term m c (512 * (q / 1) + i) (2048 * (q % 1) + j) (1664 * s + k) := by
  have hq0 : (5 * q + s) / 5 = q / 1 := by omega
  have hq1 : (5 * q + s) / 5 = q := by omega
  have hq2 : (5 * q + s) % 5 = s := by omega
  rw [block_prod m c _ hi hj]
  dsimp only
  rw [hq0, hq2, Nat.div_one]

/-- What the scratch holds on entering a point. -/
abbrev prev (c : Dev nD) (t : Fin cfg0.N) : Vec Ideal S512x2048 .f32 := (outsAt0 m c (t.val - 1) (Nat.lt_of_le_of_lt (Nat.sub_le _ _) t.isLt)).2
theorem scr_first (c : Dev nD) (t : Fin cfg0.N) (h0 : t.val % 5 = 0) : (outsAt0 m c t.val t.isLt).2 = k0_pay2 k0_pay1 (iblk m c 0 t) (iblk m c 1 t) := by
  have h1 : ¬t.val % 5 = 4 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, (Memref.isWhole_whole cc0_scratch0).read_unread, View.ld_unit_zero (S := S1664x512) hz, View.ld_unit_zero (S := S1664x2048) hz, View.ld_unit_zero (S := S512x2048) hz]
  rw [View.canon_cons_unit_zero (S := S512x2048) hz, View.readCov_unit_zero (S := S512x2048) _ hz]

theorem scr_next (c : Dev nD) (t : Fin cfg0.N) (h0 : ¬t.val % 5 = 0) : (outsAt0 m c t.val t.isLt).2 = k0_pay2 (prev m c t) (iblk m c 0 t) (iblk m c 1 t) := by
  by_cases h1 : t.val % 5 = 4
  · rw [outsAt0_C m c t h0 h1]
    dsimp only
    unfold sout0_C_0
    rw [View.read_writes_eq_canon _ _ _ (scover0_C_0 c _ _ _ _ _ _ _ _ _ _ _ _ _ _)]
    unfold kernelRun0_C
    dsimp only
    sl_unfold_words
    simp only [View.readAt_eq_ld, (hs0_0 t).read_unread, (hs0_1 t).read_unread, (Memref.isWhole_whole cc0_scratch0).read_unread, View.ld_unit_zero (S := S1664x512) hz, View.ld_unit_zero (S := S1664x2048) hz, View.ld_unit_zero (S := S512x2048) hz]
    rw [View.canon_unit_zero hz]
  · rw [outsAt0_B m c t h0 h1]
    dsimp only
    unfold sout0_B_0
    rw [View.read_writes_eq_canon _ _ _ (scover0_B_0 c _ _ _ _ _ _ _ _ _ _ _ _ _ _)]
    unfold kernelRun0_B
    dsimp only
    sl_unfold_words
    simp only [View.readAt_eq_ld, (hs0_0 t).read_unread, (hs0_1 t).read_unread, (Memref.isWhole_whole cc0_scratch0).read_unread, View.ld_unit_zero (S := S1664x512) hz, View.ld_unit_zero (S := S1664x2048) hz, View.ld_unit_zero (S := S512x2048) hz]
    rw [View.canon_unit_zero hz]

theorem out_last (c : Dev nD) (t : Fin cfg0.N) (h1 : t.val % 5 = 4) : (outsAt0 m c t.val t.isLt).1 = k0_pay3 (k0_pay2 (prev m c t) (iblk m c 0 t) (iblk m c 1 t)) := by
  have h0 : ¬t.val % 5 = 0 := by omega
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (Memref.isWhole_whole cc0_scratch0).read_unread, View.ld_unit_zero (S := S1664x512) hz, View.ld_unit_zero (S := S1664x2048) hz, View.ld_unit_zero (S := S512x2048) hz]
  rw [View.canon_unit_zero hz, View.readCov_unit_zero (S := S512x2048) _ hz]

/-- After each point the scratch holds the part of the sum so far. -/
theorem carried (c : Dev nD) (q : ℕ) {i j : ℕ} (hi : i < 512) (hj : j < 2048) : ∀ (s : ℕ) (_ : s < 4) (h : 5 * q + s < cfg0.N),
    rd ((outsAt0 m c (5 * q + s) h).2 : (Mat 512 2048).Idx → EReal) i j = ∑ k ∈ range (1664 * (s + 1)), term m c (512 * (q / 1) + i) (2048 * (q % 1) + j) k
  | 0, _, h => by
    have e := scr_first m c ⟨5 * q + 0, h⟩ (by dsimp only; omega)
    dsimp only at e
    rw [e, step_at _ _ _ hi hj, zero_at hi hj, zero_add, sum_first]
    exact block_at m c q 0 (by decide) h hi hj
  | s + 1, hs, h => by
    have e := scr_next m c ⟨5 * q + (s + 1), h⟩ (by dsimp only; omega)
    dsimp only at e
    have ih := carried c q hi hj s (by omega) (by omega)
    rw [e, step_at _ _ _ hi hj, sum_block]
    exact congrArg₂ (· + ·) ih (block_at m c q (s + 1) (by omega) h hi hj)

/-- The last point of a run stores the whole sum. -/
theorem whole (c : Dev nD) (q : ℕ) {i j : ℕ} (hi : i < 512) (hj : j < 2048) (h : 5 * q + 4 < cfg0.N) :
    rd ((outsAt0 m c (5 * q + 4) h).1 : (Mat 512 2048).Idx → EReal) i j = ∑ k ∈ range 8320, term m c (512 * (q / 1) + i) (2048 * (q % 1) + j) k := by
  have e := out_last m c ⟨5 * q + 4, h⟩ (by dsimp only; omega)
  dsimp only at e
  rw [e]
  have hp := carried m c q hi hj 3 (by omega) (by omega)
  refine Eq.trans (step_at _ _ _ hi hj) ?_
  rw [show 8320 = 1664 * (4 + 1) from rfl, sum_block]
  exact congrArg₂ (· + ·) hp (block_at m c q 4 (by decide) h hi hj)

theorem G2_eq (c : Dev nD) : G2 m c = G m c := by
  refine funext fun (x : S512x2048.Idx) => ?_
  have h0 : (x 0).val < 512 := (x 0).isLt
  have h1 : (x 1).val < 2048 := (x 1).isLt
  have hp : 5 * (1 * ((x 0).val / 512) + (x 1).val / 2048) + 4 < cfg0.N := by
    rw [show cfg0.N = 5 from N_0]
    omega
  have hq : pt2Of x = 5 * (1 * ((x 0).val / 512) + (x 1).val / 2048) + 4 := by
    show 5 * (1 * ((x 0).val / 512 - 0) + 1 * ((x 1).val / 2048 - 0)) + 4 = _
    omega
  have hb : pt2Of x < cfg0.N := hq ▸ hp
  unfold G2
  rw [dif_pos hb, ← outsAt0_sweep m c (pt2Of x) hb]
  have e : outsAt0 m c (pt2Of x) hb = outsAt0 m c _ hp := by
    congr 1
  rw [e]
  refine Eq.trans (rd_of ((outsAt0 m c _ hp).1 : (Mat 512 2048).Idx → EReal) (loc2Of x) rfl rfl) ?_
  refine (whole m c _ (Nat.mod_lt _ (by decide)) (Nat.mod_lt _ (by decide)) hp).trans ?_
  rw [show 512 * ((1 * ((x 0).val / 512) + (x 1).val / 2048) / 1) + (x 0).val % 512 = (x 0).val by omega,
    show 2048 * ((1 * ((x 0).val / 512) + (x 1).val / 2048) % 1) + (x 1).val % 2048 = (x 1).val by omega]
  rfl

/-- The kernel's result is the reference's. -/
theorem agree : Cert.algebraic_Kernel16Ideal_Reference16Ideal := by
  intro m g m' g' _ harg
  refine ⟨fun c => G m c, ?_, ?_⟩
  · refine (θ_run Cert.Kernel16Ideal.defs _ _).mono (fun r h c => ?_) (Cert.Kernel16Ideal.Value.run (F := Ideal) m g)
    obtain ⟨hv, hargs⟩ := h c
    exact ⟨hv.trans (G2_eq m c), hargs⟩
  · refine (θ_run Cert.Reference16Ideal.defs _ _).mono (fun r h c => ?_) (Cert.Reference16Ideal.Value.run (F := Ideal) m' g')
    obtain ⟨hv, hargs⟩ := h c
    obtain ⟨e0, e1, e2⟩ := harg c
    refine ⟨hv.trans ?_, hargs⟩
    rw [e0, e2]
    refine funext fun (x : (Mat 512 2048).Idx) => ?_
    exact dot_tn_swap (opA m c) (opB m c) x _ rfl rfl

end Cert.Proof.Linear.L16
end
-- ==== Proof.FwdBody.lean ====
module

public import proofs.«01_k».proof.Proof.Gen.KernelIdeal.Launch
public import proofs.«01_k».proof.Proof.Gen.KernelIdeal.Skeleton
public import Idealize.ShloMosaic.Lib.Pipeline.TableIdle
public import Idealize.ShloMosaic.Lib.VecWindow
public import Idealize.ShloMosaic.Lib.Tactic

@[expose] public section
noncomputable section
namespace Cert.Proof.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU : Type := UR sig nD τ
local notation "𝕄" => MT nD τ sig Unit (Elt F) ℕ UU ℕ

abbrev pt (c : Dev nD) {sp : Space} {S : Shape} {e : EltTy} (M : Memref sig .tc sp S e) (X : S.Idx → Elt F e) : sProp 𝕄 :=
  M.view.loc (c : Thread nD τ) ↦[M.view.set]{fullShare} M.view.rep X

/-- The word a table holds for the point `i`. -/
abbrev word (i : grid0.Coords) (a : Memref sig .tc .smem S91 .i32) (T : S91.Idx → Elt F .i32) : BitVec 32 :=
  View.readAt (Elt F) a.view (Rect.unit (s := S91) (k0_off1 i) S1.size (k0_off1_inb i)).toLoadRect (a.view.rep T)
    (Shape.Idx.first (Nat.lt_of_sub_eq_succ numel1_S1))

theorem writes_full {sp : Space} {S : Shape} {e : EltTy} (v : View sig .tc sp S e) (off : Fin S.rank → ℕ) (h : ∀ a, off a + S.size a ≤ S.size a)
    (x : S.Idx → Elt F e) (L : List (View.Piece (Elt F) S e)) : v.writes (Elt F) v.junk (⟨Rect.unit off S.size h, x⟩ :: L) = v.rep x := by
  refine View.contents_ext v (fun y => ?_) (fun i hi => ?_)
  · rw [View.read_writes_full, View.read_rep]
  · rw [View.writes_apply_of_forall_ne v _ _ hi, View.rep]
    exact (View.writes_apply_of_forall_ne v v.junk [⟨Rect.whole S, x⟩] hi).symm

set_option maxHeartbeats 1000000 in
/-- A block below the diagonal that is not the first of its row. -/
theorem fwd_mid (c : Dev nD) (i : grid0.Coords) (a2 : Memref sig .tc .smem S91 .i32) (h2 : a2.IsWhole) (a3 : Memref sig .tc .smem S91 .i32) (h3 : a3.IsWhole)
    (a4 : Memref sig .tc .vmem S640x128 .f32) (h4 : a4.IsWhole) (a5 : Memref sig .tc .vmem S640x128 .f32) (h5 : a5.IsWhole)
    (a6 : Memref sig .tc .vmem S640x128 .f32) (h6 : a6.IsWhole) (a7 : Memref sig .tc .vmem S1x1x640 .f32) (h7 : a7.IsWhole)
    (a8 : Memref sig .tc .vmem S640x128 .f32) (h8 : a8.IsWhole) (a9 : Memref sig .tc .vmem S1x640x1 .f32) (h9 : a9.IsWhole)
    (a10 : Memref sig .tc .vmem S640x1 .f32) (h10 : a10.IsWhole) (a11 : Memref sig .tc .vmem S640x1 .f32) (h11 : a11.IsWhole)
    (a12 : Memref sig .tc .vmem S640x128 .f32) (h12 : a12.IsWhole)
    (T2 T3 : S91.Idx → Elt F .i32) (q k v : FVec F S640x128 .f32) (e : FVec F S1x1x640 .f32)
    (o : FVec F S640x128 .f32) (lse : FVec F S1x640x1 .f32) (m l : FVec F S640x1 .f32) (acc : FVec F S640x128 .f32)
    (E : Set ℕ) (Q : PUnit → sProp 𝕄)
    (c1 : ¬ (Scalar.cmpi .ne (Scalar.extui (Scalar.cmpi .eq (word i a3 T3) 0#32)) 0#32 = 1#1))
    (c2 : Scalar.cmpi .ne (Scalar.extui (Scalar.cmpi .slt (word i a3 T3) (word i a2 T2))) 0#32 = 1#1)
    (c3 : ¬ (Scalar.cmpi .ne (Scalar.extui (Scalar.cmpi .sge (word i a3 T3) (word i a2 T2))) 0#32 = 1#1))
    (c4 : ¬ (k0_cond4 (word i a2 T2) (word i a3 T3) = 1#1)) :
    iprop((pt c a2 T2 ∗ pt c a3 T3 ∗ pt c a4 q ∗ pt c a5 k ∗ pt c a6 v ∗ pt c a7 e ∗ pt c a8 o ∗ pt c a9 lse ∗ pt c a10 m ∗ pt c a11 l ∗ pt c a12 acc)
     ∗ ((pt c a2 T2 ∗ pt c a3 T3 ∗ pt c a4 q ∗ pt c a5 k ∗ pt c a6 v ∗ pt c a7 e ∗ pt c a8 o ∗ pt c a9 lse ∗ pt c a10 (k0_pay15 q k e m) ∗ pt c a11 (k0_pay14 q k e m l) ∗ pt c a12 (k0_pay4 (k0_pay12 q k e m) (k0_pay13 q k e m) (k0_pay16 v) (k0_pay18 q k e m v) (k0_pay19 q k e m) acc)) -∗ Q ⟨⟩))
      ⊢ wp frame (wpE (defs₀ (F := F)) Variants.none c none) E (cc0_fox_attn_fwd i a2 h2 a3 h3 a4 h4 a5 h5 a6 h6 a7 h7 a8 h8 a9 h9 a10 h10 a11 h11 a12 h12) Q := by
  rw [cc0_fox_attn_fwd_eq_skeleton]; unfold cc0_fox_attn_fwd_skel
  iintro ⟨⟨H2, H3, H4, H5, H6, H7, H8, H9, H10, H11, H12⟩, HQ⟩
  sl_exec! (disch := first | sl_exact c1 | sl_exact c2 | sl_exact c3 | sl_exact c4)
  delta fwd_mid.sl.H10_1 fwd_mid.sl.H11_1 fwd_mid.sl.H12_1 fwd_mid.sl.r fwd_mid.sl.r_1 fwd_mid.sl.r_2 fwd_mid.sl.r_3 fwd_mid.sl.r_4 fwd_mid.sl.r_5 fwd_mid.sl.r_6
  simp (config := { iota := false, proj := false, eta := false }) only [View.readAt_full, View.read_rep, View.readCov_full, writes_full]
  sl_step
  iapply HQ
  iframe H2 H3 H4 H5 H6 H7 H8 H9 H10 H11 H12

set_option maxHeartbeats 1000000 in
/-- The first block of a row, below the diagonal. -/
theorem fwd_first (c : Dev nD) (i : grid0.Coords) (a2 : Memref sig .tc .smem S91 .i32) (h2 : a2.IsWhole) (a3 : Memref sig .tc .smem S91 .i32) (h3 : a3.IsWhole)
    (a4 : Memref sig .tc .vmem S640x128 .f32) (h4 : a4.IsWhole) (a5 : Memref sig .tc .vmem S640x128 .f32) (h5 : a5.IsWhole)
    (a6 : Memref sig .tc .vmem S640x128 .f32) (h6 : a6.IsWhole) (a7 : Memref sig .tc .vmem S1x1x640 .f32) (h7 : a7.IsWhole)
    (a8 : Memref sig .tc .vmem S640x128 .f32) (h8 : a8.IsWhole) (a9 : Memref sig .tc .vmem S1x640x1 .f32) (h9 : a9.IsWhole)
    (a10 : Memref sig .tc .vmem S640x1 .f32) (h10 : a10.IsWhole) (a11 : Memref sig .tc .vmem S640x1 .f32) (h11 : a11.IsWhole)
    (a12 : Memref sig .tc .vmem S640x128 .f32) (h12 : a12.IsWhole)
    (T2 T3 : S91.Idx → Elt F .i32) (q k v : FVec F S640x128 .f32) (e : FVec F S1x1x640 .f32)
    (o : FVec F S640x128 .f32) (lse : FVec F S1x640x1 .f32) (m l : FVec F S640x1 .f32) (acc : FVec F S640x128 .f32)
    (E : Set ℕ) (Q : PUnit → sProp 𝕄)
    (c1 : Scalar.cmpi .ne (Scalar.extui (Scalar.cmpi .eq (word i a3 T3) 0#32)) 0#32 = 1#1)
    (c2 : Scalar.cmpi .ne (Scalar.extui (Scalar.cmpi .slt (word i a3 T3) (word i a2 T2))) 0#32 = 1#1)
    (c3 : ¬ (Scalar.cmpi .ne (Scalar.extui (Scalar.cmpi .sge (word i a3 T3) (word i a2 T2))) 0#32 = 1#1))
    (c4 : ¬ (k0_cond4 (word i a2 T2) (word i a3 T3) = 1#1)) :
    iprop((pt c a2 T2 ∗ pt c a3 T3 ∗ pt c a4 q ∗ pt c a5 k ∗ pt c a6 v ∗ pt c a7 e ∗ pt c a8 o ∗ pt c a9 lse ∗ pt c a10 m ∗ pt c a11 l ∗ pt c a12 acc)
     ∗ ((pt c a2 T2 ∗ pt c a3 T3 ∗ pt c a4 q ∗ pt c a5 k ∗ pt c a6 v ∗ pt c a7 e ∗ pt c a8 o ∗ pt c a9 lse ∗ pt c a10 (k0_pay15 q k e k0_pay1) ∗ pt c a11 (k0_pay14 q k e k0_pay1 k0_pay2) ∗ pt c a12 (k0_pay4 (k0_pay12 q k e k0_pay1) (k0_pay13 q k e k0_pay1) (k0_pay16 v) (k0_pay18 q k e k0_pay1 v) (k0_pay19 q k e k0_pay1) k0_pay3)) -∗ Q ⟨⟩))
      ⊢ wp frame (wpE (defs₀ (F := F)) Variants.none c none) E (cc0_fox_attn_fwd i a2 h2 a3 h3 a4 h4 a5 h5 a6 h6 a7 h7 a8 h8 a9 h9 a10 h10 a11 h11 a12 h12) Q := by
  rw [cc0_fox_attn_fwd_eq_skeleton]; unfold cc0_fox_attn_fwd_skel
  iintro ⟨⟨H2, H3, H4, H5, H6, H7, H8, H9, H10, H11, H12⟩, HQ⟩
  sl_exec! (disch := first | sl_exact c1 | sl_exact c2 | sl_exact c3 | sl_exact c4)
  delta fwd_first.sl.H10_1 fwd_first.sl.H10_2 fwd_first.sl.H11_1 fwd_first.sl.H11_2 fwd_first.sl.H12_1 fwd_first.sl.H12_2 fwd_first.sl.r fwd_first.sl.r_1 fwd_first.sl.r_2 fwd_first.sl.r_3 fwd_first.sl.r_4 fwd_first.sl.r_5 fwd_first.sl.r_6 fwd_first.sl.v29 fwd_first.sl.v38 fwd_first.sl.v58
  simp (config := { iota := false, proj := false, eta := false }) only [View.readAt_full, View.read_rep, View.readCov_full, writes_full]
  sl_step
  iapply HQ
  iframe H2 H3 H4 H5 H6 H7 H8 H9 H10 H11 H12

set_option maxHeartbeats 1000000 in
/-- The diagonal block, the last of its row. -/
theorem fwd_diag (c : Dev nD) (i : grid0.Coords) (a2 : Memref sig .tc .smem S91 .i32) (h2 : a2.IsWhole) (a3 : Memref sig .tc .smem S91 .i32) (h3 : a3.IsWhole)
    (a4 : Memref sig .tc .vmem S640x128 .f32) (h4 : a4.IsWhole) (a5 : Memref sig .tc .vmem S640x128 .f32) (h5 : a5.IsWhole)
    (a6 : Memref sig .tc .vmem S640x128 .f32) (h6 : a6.IsWhole) (a7 : Memref sig .tc .vmem S1x1x640 .f32) (h7 : a7.IsWhole)
    (a8 : Memref sig .tc .vmem S640x128 .f32) (h8 : a8.IsWhole) (a9 : Memref sig .tc .vmem S1x640x1 .f32) (h9 : a9.IsWhole)
    (a10 : Memref sig .tc .vmem S640x1 .f32) (h10 : a10.IsWhole) (a11 : Memref sig .tc .vmem S640x1 .f32) (h11 : a11.IsWhole)
    (a12 : Memref sig .tc .vmem S640x128 .f32) (h12 : a12.IsWhole)
    (T2 T3 : S91.Idx → Elt F .i32) (q k v : FVec F S640x128 .f32) (e : FVec F S1x1x640 .f32)
    (o : FVec F S640x128 .f32) (lse : FVec F S1x640x1 .f32) (m l : FVec F S640x1 .f32) (acc : FVec F S640x128 .f32)
    (E : Set ℕ) (Q : PUnit → sProp 𝕄)
    (c1 : ¬ (Scalar.cmpi .ne (Scalar.extui (Scalar.cmpi .eq (word i a3 T3) 0#32)) 0#32 = 1#1))
    (c2 : ¬ (Scalar.cmpi .ne (Scalar.extui (Scalar.cmpi .slt (word i a3 T3) (word i a2 T2))) 0#32 = 1#1))
    (c3 : Scalar.cmpi .ne (Scalar.extui (Scalar.cmpi .sge (word i a3 T3) (word i a2 T2))) 0#32 = 1#1)
    (c4 : k0_cond4 (word i a2 T2) (word i a3 T3) = 1#1) :
    iprop((pt c a2 T2 ∗ pt c a3 T3 ∗ pt c a4 q ∗ pt c a5 k ∗ pt c a6 v ∗ pt c a7 e ∗ pt c a8 o ∗ pt c a9 lse ∗ pt c a10 m ∗ pt c a11 l ∗ pt c a12 acc)
     ∗ ((pt c a2 T2 ∗ pt c a3 T3 ∗ pt c a4 q ∗ pt c a5 k ∗ pt c a6 v ∗ pt c a7 e ∗ pt c a8 (k0_pay8 (k0_pay7 (k0_pay22 (word i a2 T2) (word i a3 T3) q k e m) (k0_pay23 (word i a2 T2) (word i a3 T3) q k e m) v acc) (k0_pay5 (k0_pay24 (word i a2 T2) (word i a3 T3) q k e m l))) ∗ pt c a9 (k0_pay9 (k0_pay6 (k0_pay21 (word i a2 T2) (word i a3 T3) q k e m)) (k0_pay5 (k0_pay24 (word i a2 T2) (word i a3 T3) q k e m l))) ∗ pt c a10 (k0_pay6 (k0_pay21 (word i a2 T2) (word i a3 T3) q k e m)) ∗ pt c a11 (k0_pay5 (k0_pay24 (word i a2 T2) (word i a3 T3) q k e m l)) ∗ pt c a12 (k0_pay7 (k0_pay22 (word i a2 T2) (word i a3 T3) q k e m) (k0_pay23 (word i a2 T2) (word i a3 T3) q k e m) v acc)) -∗ Q ⟨⟩))
      ⊢ wp frame (wpE (defs₀ (F := F)) Variants.none c none) E (cc0_fox_attn_fwd i a2 h2 a3 h3 a4 h4 a5 h5 a6 h6 a7 h7 a8 h8 a9 h9 a10 h10 a11 h11 a12 h12) Q := by
  rw [cc0_fox_attn_fwd_eq_skeleton]; unfold cc0_fox_attn_fwd_skel
  iintro ⟨⟨H2, H3, H4, H5, H6, H7, H8, H9, H10, H11, H12⟩, HQ⟩
  sl_exec! (disch := first | sl_exact c1 | sl_exact c2 | sl_exact c3 | sl_exact c4)
  delta fwd_diag.sl.H10_1 fwd_diag.sl.H11_1 fwd_diag.sl.H12_1 fwd_diag.sl.H8_1 fwd_diag.sl.H9_1 fwd_diag.sl.r fwd_diag.sl.r_1 fwd_diag.sl.r_2 fwd_diag.sl.r_3 fwd_diag.sl.r_4 fwd_diag.sl.r_5 fwd_diag.sl.v18 fwd_diag.sl.v19 fwd_diag.sl.v23
  simp (config := { iota := false, proj := false, eta := false }) only [View.readAt_full, View.read_rep, View.readCov_full, writes_full]
  sl_step
  iapply HQ
  iframe H2 H3 H4 H5 H6 H7 H8 H9 H10 H11 H12

set_option maxHeartbeats 1000000 in
/-- The one block of the first row. -/
theorem fwd_only (c : Dev nD) (i : grid0.Coords) (a2 : Memref sig .tc .smem S91 .i32) (h2 : a2.IsWhole) (a3 : Memref sig .tc .smem S91 .i32) (h3 : a3.IsWhole)
    (a4 : Memref sig .tc .vmem S640x128 .f32) (h4 : a4.IsWhole) (a5 : Memref sig .tc .vmem S640x128 .f32) (h5 : a5.IsWhole)
    (a6 : Memref sig .tc .vmem S640x128 .f32) (h6 : a6.IsWhole) (a7 : Memref sig .tc .vmem S1x1x640 .f32) (h7 : a7.IsWhole)
    (a8 : Memref sig .tc .vmem S640x128 .f32) (h8 : a8.IsWhole) (a9 : Memref sig .tc .vmem S1x640x1 .f32) (h9 : a9.IsWhole)
    (a10 : Memref sig .tc .vmem S640x1 .f32) (h10 : a10.IsWhole) (a11 : Memref sig .tc .vmem S640x1 .f32) (h11 : a11.IsWhole)
    (a12 : Memref sig .tc .vmem S640x128 .f32) (h12 : a12.IsWhole)
    (T2 T3 : S91.Idx → Elt F .i32) (q k v : FVec F S640x128 .f32) (e : FVec F S1x1x640 .f32)
    (o : FVec F S640x128 .f32) (lse : FVec F S1x640x1 .f32) (m l : FVec F S640x1 .f32) (acc : FVec F S640x128 .f32)
    (E : Set ℕ) (Q : PUnit → sProp 𝕄)
    (c1 : Scalar.cmpi .ne (Scalar.extui (Scalar.cmpi .eq (word i a3 T3) 0#32)) 0#32 = 1#1)
    (c2 : ¬ (Scalar.cmpi .ne (Scalar.extui (Scalar.cmpi .slt (word i a3 T3) (word i a2 T2))) 0#32 = 1#1))
    (c3 : Scalar.cmpi .ne (Scalar.extui (Scalar.cmpi .sge (word i a3 T3) (word i a2 T2))) 0#32 = 1#1)
    (c4 : k0_cond4 (word i a2 T2) (word i a3 T3) = 1#1) :
    iprop((pt c a2 T2 ∗ pt c a3 T3 ∗ pt c a4 q ∗ pt c a5 k ∗ pt c a6 v ∗ pt c a7 e ∗ pt c a8 o ∗ pt c a9 lse ∗ pt c a10 m ∗ pt c a11 l ∗ pt c a12 acc)
     ∗ ((pt c a2 T2 ∗ pt c a3 T3 ∗ pt c a4 q ∗ pt c a5 k ∗ pt c a6 v ∗ pt c a7 e ∗ pt c a8 (k0_pay8 (k0_pay7 (k0_pay22 (word i a2 T2) (word i a3 T3) q k e k0_pay1) (k0_pay23 (word i a2 T2) (word i a3 T3) q k e k0_pay1) v k0_pay3) (k0_pay5 (k0_pay24 (word i a2 T2) (word i a3 T3) q k e k0_pay1 k0_pay2))) ∗ pt c a9 (k0_pay9 (k0_pay6 (k0_pay21 (word i a2 T2) (word i a3 T3) q k e k0_pay1)) (k0_pay5 (k0_pay24 (word i a2 T2) (word i a3 T3) q k e k0_pay1 k0_pay2))) ∗ pt c a10 (k0_pay6 (k0_pay21 (word i a2 T2) (word i a3 T3) q k e k0_pay1)) ∗ pt c a11 (k0_pay5 (k0_pay24 (word i a2 T2) (word i a3 T3) q k e k0_pay1 k0_pay2)) ∗ pt c a12 (k0_pay7 (k0_pay22 (word i a2 T2) (word i a3 T3) q k e k0_pay1) (k0_pay23 (word i a2 T2) (word i a3 T3) q k e k0_pay1) v k0_pay3)) -∗ Q ⟨⟩))
      ⊢ wp frame (wpE (defs₀ (F := F)) Variants.none c none) E (cc0_fox_attn_fwd i a2 h2 a3 h3 a4 h4 a5 h5 a6 h6 a7 h7 a8 h8 a9 h9 a10 h10 a11 h11 a12 h12) Q := by
  rw [cc0_fox_attn_fwd_eq_skeleton]; unfold cc0_fox_attn_fwd_skel
  iintro ⟨⟨H2, H3, H4, H5, H6, H7, H8, H9, H10, H11, H12⟩, HQ⟩
  sl_exec! (disch := first | sl_exact c1 | sl_exact c2 | sl_exact c3 | sl_exact c4)
  delta fwd_only.sl.H10_1 fwd_only.sl.H10_2 fwd_only.sl.H11_1 fwd_only.sl.H11_2 fwd_only.sl.H12_1 fwd_only.sl.H12_2 fwd_only.sl.H8_1 fwd_only.sl.H9_1 fwd_only.sl.r fwd_only.sl.r_1 fwd_only.sl.r_2 fwd_only.sl.r_3 fwd_only.sl.r_4 fwd_only.sl.r_5 fwd_only.sl.v18 fwd_only.sl.v19 fwd_only.sl.v23 fwd_only.sl.v42 fwd_only.sl.v51 fwd_only.sl.v71
  simp (config := { iota := false, proj := false, eta := false }) only [View.readAt_full, View.read_rep, View.readCov_full, writes_full]
  sl_step
  iapply HQ
  iframe H2 H3 H4 H5 H6 H7 H8 H9 H10 H11 H12

end Cert.Proof.Fox
end
-- ==== Proof.BwdBody.lean ====
module

public import proofs.«01_k».proof.Proof.Gen.KernelIdeal.Launch
public import proofs.«01_k».proof.Proof.Gen.KernelIdeal.Skeleton
public import Idealize.ShloMosaic.Lib.Pipeline.TableIdle
public import Idealize.ShloMosaic.Lib.VecWindow
public import proofs.«01_k».proof.Proof.FwdBody
public import Idealize.ShloMosaic.Lib.Tactic

@[expose] public section
noncomputable section
namespace Cert.Proof.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The word a table holds for the point `i`. -/
abbrev word2 (i : grid2.Coords) (a : Memref sig .tc .smem S91 .i32) (T : S91.Idx → Elt F .i32) : BitVec 32 :=
  View.readAt (Elt F) a.view (Rect.unit (s := S91) (k2_off1 i) S1.size (k2_off1_inb i)).toLoadRect (a.view.rep T)
    (Shape.Idx.first (Nat.lt_of_sub_eq_succ numel1_S1))

/-- An array with one box of it replaced. -/
def put {S : Shape} {e : EltTy} (r : Rect S) (X : r.shape.Idx → Elt F e) (d : S.Idx → Elt F e) : S.Idx → Elt F e :=
  open Classical in fun y => if h : ∃ z, r.emb z = y then X h.choose else d y

theorem put_emb {S : Shape} {e : EltTy} (r : Rect S) (X : r.shape.Idx → Elt F e) (d : S.Idx → Elt F e) (z : r.shape.Idx) :
    put r X d (r.emb z) = X z := by
  have h : ∃ z', r.emb z' = r.emb z := ⟨z, rfl⟩
  rw [put, dif_pos h]
  exact congrArg X (r.emb.injective h.choose_spec)

theorem put_of_not {S : Shape} {e : EltTy} (r : Rect S) (X : r.shape.Idx → Elt F e) (d : S.Idx → Elt F e) (y : S.Idx)
    (h : ∀ z, r.emb z ≠ y) : put r X d y = d y := by
  rw [put, dif_neg (fun ⟨z, hz⟩ => h z hz)]

theorem writes_put {sp : Space} {S : Shape} {e : EltTy} (v : View sig .tc sp S e) (r : Rect S)
    (X : r.shape.Idx → Elt F e) (d : S.Idx → Elt F e) : v.writes (Elt F) (v.rep d) [⟨r, X⟩] = v.rep (put r X d) := by
  refine View.contents_ext v (fun y => ?_) (fun i hi => ?_)
  · rw [View.read_rep]
    by_cases h : ∃ z, r.emb z = y
    · obtain ⟨z, rfl⟩ := h
      rw [put_emb, View.writes_singleton]
      exact View.read_slice_write_emb r _ X (Finset.mem_univ z)
    · rw [put_of_not _ _ _ _ (fun z hz => h ⟨z, hz⟩), View.writes_singleton, View.read_slice_write_of_not_mem, View.read_rep]
      rintro hm; obtain ⟨z, -, hz⟩ := Finset.mem_map.mp hm; exact h ⟨z, hz⟩
  · rw [View.writes_apply_of_forall_ne v _ _ hi, View.rep, View.writes_apply_of_forall_ne v _ _ hi, View.rep, View.writes_apply_of_forall_ne v _ _ hi]

theorem writes_put_full {sp : Space} {S : Shape} {e : EltTy} (v : View sig .tc sp S e) (r : Rect S)
    (X : r.shape.Idx → Elt F e) (off : Fin S.rank → ℕ) (h : ∀ a, off a + S.size a ≤ S.size a) (d : S.Idx → Elt F e) :
    v.writes (Elt F) v.junk [⟨r, X⟩, ⟨Rect.unit off S.size h, d⟩] = v.rep (put r X d) := by
  rw [← writes_put, View.writes_cons, writes_full v off h d []]; rfl

theorem readCov_box {sp : Space} {S : Shape} {e : EltTy} (v : View sig .tc sp S e) (off : Fin S.rank → ℕ) (h : ∀ a, off a + S.size a ≤ S.size a)
    (d : S.Idx → Elt F e) (B : LoadRect S) : v.readCov [⟨Rect.unit off S.size h, d⟩] B = fun y => d (B.idx y) := by
  rw [View.readCov, writes_full, View.readAt_rep]

theorem readCov_put {sp : Space} {S : Shape} {e : EltTy} (v : View sig .tc sp S e) (r : Rect S) (X : r.shape.Idx → Elt F e)
    (off : Fin S.rank → ℕ) (h : ∀ a, off a + S.size a ≤ S.size a) (d : S.Idx → Elt F e) (B : LoadRect S) :
    v.readCov [⟨r, X⟩, ⟨Rect.unit off S.size h, d⟩] B = fun y => put r X d (B.idx y) := by
  rw [View.readCov, writes_put_full, View.readAt_rep]

set_option maxRecDepth 20000 in
theorem readAt_box (v : View sig .tc .vmem S8320x128 .f32) (off : Fin S8320x128.rank → ℕ) (h : ∀ a, off a + S640x128.size a ≤ S8320x128.size a)
    (d : FVec F S8320x128 .f32) :
    v.readAt (Elt F) (Rect.unit (s := S8320x128) off S640x128.size h).toLoadRect (v.rep d)
      = fun y => d ((Rect.unit (s := S8320x128) off S640x128.size h).toLoadRect.idx y) := by
  rw [View.readAt_rep]

theorem writes_full_rep {sp : Space} {S : Shape} {e : EltTy} (v : View sig .tc sp S e) (off : Fin S.rank → ℕ) (h : ∀ a, off a + S.size a ≤ S.size a)
    (x d : S.Idx → Elt F e) (L : List (View.Piece (Elt F) S e)) : v.writes (Elt F) (v.rep d) (⟨Rect.unit off S.size h, x⟩ :: L) = v.rep x := by
  refine View.contents_ext v (fun y => ?_) (fun i hi => ?_)
  · rw [View.read_writes_full, View.read_rep]
  · rw [View.writes_apply_of_forall_ne v _ _ hi, View.rep, View.rep, View.writes_apply_of_forall_ne v _ _ hi, View.writes_apply_of_forall_ne v _ _ hi]

/-- The 640 rows from `off` replaced in an array of 8320 rows; -/
abbrev putBox (off : Fin S8320x128.rank → ℕ) (h : ∀ a, off a + S640x128.size a ≤ S8320x128.size a) (X : FVec F S640x128 .f32) (d : FVec F S8320x128 .f32) : FVec F S8320x128 .f32 :=
  put (F := F) (e := .f32) (Rect.unit (s := S8320x128) off S640x128.size h) X d
/-- and taken from it. -/
abbrev getBox (off : Fin S8320x128.rank → ℕ) (h : ∀ a, off a + S640x128.size a ≤ S8320x128.size a) (d : FVec F S8320x128 .f32) : FVec F S640x128 .f32 :=
  fun y => d ((Rect.unit (s := S8320x128) off S640x128.size h).toLoadRect.idx y)

set_option maxHeartbeats 400000 in
/-- The first block of all: the query gradient starts at zero. -/
theorem bwd_zero (c : Dev nD) (i : grid2.Coords) (a2 : Memref sig .tc .smem S91 .i32) (h2 : a2.IsWhole)
    (a3 : Memref sig .tc .smem S91 .i32) (h3 : a3.IsWhole)
    (a4 : Memref sig .tc .vmem S640x128 .f32) (h4 : a4.IsWhole)
    (a5 : Memref sig .tc .vmem S640x128 .f32) (h5 : a5.IsWhole)
    (a6 : Memref sig .tc .vmem S640x128 .f32) (h6 : a6.IsWhole)
    (a7 : Memref sig .tc .vmem S1x640x1 .f32) (h7 : a7.IsWhole)
    (a8 : Memref sig .tc .vmem S640x128 .f32) (h8 : a8.IsWhole)
    (a9 : Memref sig .tc .vmem S1x1x640 .f32) (h9 : a9.IsWhole)
    (a10 : Memref sig .tc .vmem S1x1x640 .f32) (h10 : a10.IsWhole)
    (a11 : Memref sig .tc .vmem S640x128 .f32) (h11 : a11.IsWhole)
    (a12 : Memref sig .tc .vmem S640x128 .f32) (h12 : a12.IsWhole)
    (a13 : Memref sig .tc .vmem S1x640x1 .f32) (h13 : a13.IsWhole)
    (a14 : Memref sig .tc .vmem S8320x128 .f32) (h14 : a14.IsWhole)
    (a15 : Memref sig .tc .vmem S640x128 .f32) (h15 : a15.IsWhole)
    (a16 : Memref sig .tc .vmem S640x128 .f32) (h16 : a16.IsWhole)
    (a17 : Memref sig .tc .vmem S640x1 .f32) (h17 : a17.IsWhole)
    (T2 T3 : S91.Idx → Elt F .i32) (q k v : FVec F S640x128 .f32) (e : FVec F S1x640x1 .f32) (g : FVec F S640x128 .f32)
    (lse de : FVec F S1x1x640 .f32) (ok ov : FVec F S640x128 .f32) (oc : FVec F S1x640x1 .f32) (dq : FVec F S8320x128 .f32)
    (dk dv : FVec F S640x128 .f32) (dc : FVec F S640x1 .f32) (E : Set ℕ) (Q : PUnit → sProp 𝕄)
    (c0 : k2_chk1 (word2 i a2 T2) (word2 i a3 T3))
    (c1 : k2_cond1 i = 1#1)
    (c2 : Scalar.cmpi .ne (Scalar.extui (Scalar.cmpi .eq (word2 i a3 T3) (Scalar.maxsi (Scalar.subi (word2 i a2 T2) 0#32) 0#32))) 0#32 = 1#1)
    (c3 : ¬ (k2_cond3 (word2 i a2 T2) (word2 i a3 T3) = 1#1))
    (c4 : k2_cond4 (word2 i a2 T2) (word2 i a3 T3) = 1#1)
    (c5 : ¬ (k2_cond5 (word2 i a3 T3) = 1#1))
    (c6 : ¬ (k2_cond6 i = 1#1)) :
    iprop((pt c a2 T2 ∗ pt c a3 T3 ∗ pt c a4 q ∗ pt c a5 k ∗ pt c a6 v ∗ pt c a7 e ∗ pt c a8 g ∗ pt c a9 lse ∗ pt c a10 de ∗ pt c a11 ok ∗ pt c a12 ov ∗ pt c a13 oc ∗ pt c a14 dq ∗ pt c a15 dk ∗ pt c a16 dv ∗ pt c a17 dc)
     ∗ ((pt c a2 T2 ∗ pt c a3 T3 ∗ pt c a4 q ∗ pt c a5 k ∗ pt c a6 v ∗ pt c a7 e ∗ pt c a8 g ∗ pt c a9 lse ∗ pt c a10 de ∗ pt c a11 ok ∗ pt c a12 ov ∗ pt c a13 oc ∗ pt c a14 (putBox (k2_off3 (word2 i a3 T3)) (k2_off3_inb (word2 i a2 T2) (word2 i a3 T3) c0 c4) (k2_pay11 (k2_pay22 k) (k2_pay24 (word2 i a2 T2) (word2 i a3 T3) k q e lse) (k2_pay25 g) v de (getBox (k2_off3 (word2 i a3 T3)) (k2_off3_inb (word2 i a2 T2) (word2 i a3 T3) c0 c4) k2_pay1)) k2_pay1) ∗ pt c a15 (k2_pay10 (k2_pay23 q) (k2_pay24 (word2 i a2 T2) (word2 i a3 T3) k q e lse) (k2_pay25 g) v de k2_pay2) ∗ pt c a16 (k2_pay26 (word2 i a2 T2) (word2 i a3 T3) k q e lse g k2_pay3) ∗ pt c a17 (k2_pay12 (k2_pay24 (word2 i a2 T2) (word2 i a3 T3) k q e lse) (k2_pay25 g) v de k2_pay4)) -∗ Q ⟨⟩))
      ⊢ wp frame (wpE (defs₀ (F := F)) Variants.none c none) E (cc2_fox_attn_bwd i a2 h2 a3 h3 a4 h4 a5 h5 a6 h6 a7 h7 a8 h8 a9 h9 a10 h10 a11 h11 a12 h12 a13 h13 a14 h14 a15 h15 a16 h16 a17 h17) Q := by
  rw [cc2_fox_attn_bwd_eq_skeleton]; unfold cc2_fox_attn_bwd_skel
  iintro ⟨⟨H2, H3, H4, H5, H6, H7, H8, H9, H10, H11, H12, H13, H14, H15, H16, H17⟩, HQ⟩
  sl_exec! (disch := first | sl_exact c0 | sl_exact c1 | sl_exact c2 | sl_exact c3 | sl_exact c4 | sl_exact c5 | sl_exact c6)
  delta bwd_zero.sl.H14_1 bwd_zero.sl.H15_1 bwd_zero.sl.H15_2 bwd_zero.sl.H16_1 bwd_zero.sl.H16_2 bwd_zero.sl.H17_1 bwd_zero.sl.H17_2 bwd_zero.sl.r bwd_zero.sl.r_1 bwd_zero.sl.r_2 bwd_zero.sl.r_3 bwd_zero.sl.r_4 bwd_zero.sl.r_5 bwd_zero.sl.r_6 bwd_zero.sl.v57 bwd_zero.sl.v75 bwd_zero.sl.v86
  simp (config := { iota := false, proj := false, eta := false }) only [View.readAt_full, View.read_rep, View.readCov_full, writes_full, writes_full_rep]
  simp (config := { iota := false, proj := false, eta := false }) only [View.readAt_full, View.read_rep, writes_put, writes_put_full, readAt_box, readCov_box, readCov_put]
  sl_step
  iapply HQ
  iframe H2 H3 H4 H5 H6 H7 H8 H9 H10 H11 H12 H13 H14 H15 H16 H17

set_option maxHeartbeats 400000 in
/-- The diagonal block of a column of keys that has further blocks. -/
theorem bwd_start (c : Dev nD) (i : grid2.Coords) (a2 : Memref sig .tc .smem S91 .i32) (h2 : a2.IsWhole)
    (a3 : Memref sig .tc .smem S91 .i32) (h3 : a3.IsWhole)
    (a4 : Memref sig .tc .vmem S640x128 .f32) (h4 : a4.IsWhole)
    (a5 : Memref sig .tc .vmem S640x128 .f32) (h5 : a5.IsWhole)
    (a6 : Memref sig .tc .vmem S640x128 .f32) (h6 : a6.IsWhole)
    (a7 : Memref sig .tc .vmem S1x640x1 .f32) (h7 : a7.IsWhole)
    (a8 : Memref sig .tc .vmem S640x128 .f32) (h8 : a8.IsWhole)
    (a9 : Memref sig .tc .vmem S1x1x640 .f32) (h9 : a9.IsWhole)
    (a10 : Memref sig .tc .vmem S1x1x640 .f32) (h10 : a10.IsWhole)
    (a11 : Memref sig .tc .vmem S640x128 .f32) (h11 : a11.IsWhole)
    (a12 : Memref sig .tc .vmem S640x128 .f32) (h12 : a12.IsWhole)
    (a13 : Memref sig .tc .vmem S1x640x1 .f32) (h13 : a13.IsWhole)
    (a14 : Memref sig .tc .vmem S8320x128 .f32) (h14 : a14.IsWhole)
    (a15 : Memref sig .tc .vmem S640x128 .f32) (h15 : a15.IsWhole)
    (a16 : Memref sig .tc .vmem S640x128 .f32) (h16 : a16.IsWhole)
    (a17 : Memref sig .tc .vmem S640x1 .f32) (h17 : a17.IsWhole)
    (T2 T3 : S91.Idx → Elt F .i32) (q k v : FVec F S640x128 .f32) (e : FVec F S1x640x1 .f32) (g : FVec F S640x128 .f32)
    (lse de : FVec F S1x1x640 .f32) (ok ov : FVec F S640x128 .f32) (oc : FVec F S1x640x1 .f32) (dq : FVec F S8320x128 .f32)
    (dk dv : FVec F S640x128 .f32) (dc : FVec F S640x1 .f32) (E : Set ℕ) (Q : PUnit → sProp 𝕄)
    (c0 : k2_chk1 (word2 i a2 T2) (word2 i a3 T3))
    (c1 : ¬ (k2_cond1 i = 1#1))
    (c2 : Scalar.cmpi .ne (Scalar.extui (Scalar.cmpi .eq (word2 i a3 T3) (Scalar.maxsi (Scalar.subi (word2 i a2 T2) 0#32) 0#32))) 0#32 = 1#1)
    (c3 : ¬ (k2_cond3 (word2 i a2 T2) (word2 i a3 T3) = 1#1))
    (c4 : k2_cond4 (word2 i a2 T2) (word2 i a3 T3) = 1#1)
    (c5 : ¬ (k2_cond5 (word2 i a3 T3) = 1#1))
    (c6 : ¬ (k2_cond6 i = 1#1)) :
    iprop((pt c a2 T2 ∗ pt c a3 T3 ∗ pt c a4 q ∗ pt c a5 k ∗ pt c a6 v ∗ pt c a7 e ∗ pt c a8 g ∗ pt c a9 lse ∗ pt c a10 de ∗ pt c a11 ok ∗ pt c a12 ov ∗ pt c a13 oc ∗ pt c a14 dq ∗ pt c a15 dk ∗ pt c a16 dv ∗ pt c a17 dc)
     ∗ ((pt c a2 T2 ∗ pt c a3 T3 ∗ pt c a4 q ∗ pt c a5 k ∗ pt c a6 v ∗ pt c a7 e ∗ pt c a8 g ∗ pt c a9 lse ∗ pt c a10 de ∗ pt c a11 ok ∗ pt c a12 ov ∗ pt c a13 oc ∗ pt c a14 (putBox (k2_off3 (word2 i a3 T3)) (k2_off3_inb (word2 i a2 T2) (word2 i a3 T3) c0 c4) (k2_pay11 (k2_pay22 k) (k2_pay24 (word2 i a2 T2) (word2 i a3 T3) k q e lse) (k2_pay25 g) v de (getBox (k2_off3 (word2 i a3 T3)) (k2_off3_inb (word2 i a2 T2) (word2 i a3 T3) c0 c4) dq)) dq) ∗ pt c a15 (k2_pay10 (k2_pay23 q) (k2_pay24 (word2 i a2 T2) (word2 i a3 T3) k q e lse) (k2_pay25 g) v de k2_pay2) ∗ pt c a16 (k2_pay26 (word2 i a2 T2) (word2 i a3 T3) k q e lse g k2_pay3) ∗ pt c a17 (k2_pay12 (k2_pay24 (word2 i a2 T2) (word2 i a3 T3) k q e lse) (k2_pay25 g) v de k2_pay4)) -∗ Q ⟨⟩))
      ⊢ wp frame (wpE (defs₀ (F := F)) Variants.none c none) E (cc2_fox_attn_bwd i a2 h2 a3 h3 a4 h4 a5 h5 a6 h6 a7 h7 a8 h8 a9 h9 a10 h10 a11 h11 a12 h12 a13 h13 a14 h14 a15 h15 a16 h16 a17 h17) Q := by
  rw [cc2_fox_attn_bwd_eq_skeleton]; unfold cc2_fox_attn_bwd_skel
  iintro ⟨⟨H2, H3, H4, H5, H6, H7, H8, H9, H10, H11, H12, H13, H14, H15, H16, H17⟩, HQ⟩
  sl_exec! (disch := first | sl_exact c0 | sl_exact c1 | sl_exact c2 | sl_exact c3 | sl_exact c4 | sl_exact c5 | sl_exact c6)
  delta bwd_start.sl.H15_1 bwd_start.sl.H15_2 bwd_start.sl.H16_1 bwd_start.sl.H16_2 bwd_start.sl.H17_1 bwd_start.sl.H17_2 bwd_start.sl.r bwd_start.sl.r_1 bwd_start.sl.r_2 bwd_start.sl.r_3 bwd_start.sl.r_4 bwd_start.sl.r_5 bwd_start.sl.r_6 bwd_start.sl.v57 bwd_start.sl.v75 bwd_start.sl.v86
  simp (config := { iota := false, proj := false, eta := false }) only [View.readAt_full, View.read_rep, View.readCov_full, writes_full, writes_full_rep]
  simp (config := { iota := false, proj := false, eta := false }) only [View.readAt_full, View.read_rep, writes_put, writes_put_full, readAt_box, readCov_box, readCov_put]
  sl_step
  iapply HQ
  iframe H2 H3 H4 H5 H6 H7 H8 H9 H10 H11 H12 H13 H14 H15 H16 H17

set_option maxHeartbeats 400000 in
/-- The last block of all: the query gradient takes its scale. -/
theorem bwd_end (c : Dev nD) (i : grid2.Coords) (a2 : Memref sig .tc .smem S91 .i32) (h2 : a2.IsWhole)
    (a3 : Memref sig .tc .smem S91 .i32) (h3 : a3.IsWhole)
    (a4 : Memref sig .tc .vmem S640x128 .f32) (h4 : a4.IsWhole)
    (a5 : Memref sig .tc .vmem S640x128 .f32) (h5 : a5.IsWhole)
    (a6 : Memref sig .tc .vmem S640x128 .f32) (h6 : a6.IsWhole)
    (a7 : Memref sig .tc .vmem S1x640x1 .f32) (h7 : a7.IsWhole)
    (a8 : Memref sig .tc .vmem S640x128 .f32) (h8 : a8.IsWhole)
    (a9 : Memref sig .tc .vmem S1x1x640 .f32) (h9 : a9.IsWhole)
    (a10 : Memref sig .tc .vmem S1x1x640 .f32) (h10 : a10.IsWhole)
    (a11 : Memref sig .tc .vmem S640x128 .f32) (h11 : a11.IsWhole)
    (a12 : Memref sig .tc .vmem S640x128 .f32) (h12 : a12.IsWhole)
    (a13 : Memref sig .tc .vmem S1x640x1 .f32) (h13 : a13.IsWhole)
    (a14 : Memref sig .tc .vmem S8320x128 .f32) (h14 : a14.IsWhole)
    (a15 : Memref sig .tc .vmem S640x128 .f32) (h15 : a15.IsWhole)
    (a16 : Memref sig .tc .vmem S640x128 .f32) (h16 : a16.IsWhole)
    (a17 : Memref sig .tc .vmem S640x1 .f32) (h17 : a17.IsWhole)
    (T2 T3 : S91.Idx → Elt F .i32) (q k v : FVec F S640x128 .f32) (e : FVec F S1x640x1 .f32) (g : FVec F S640x128 .f32)
    (lse de : FVec F S1x1x640 .f32) (ok ov : FVec F S640x128 .f32) (oc : FVec F S1x640x1 .f32) (dq : FVec F S8320x128 .f32)
    (dk dv : FVec F S640x128 .f32) (dc : FVec F S640x1 .f32) (E : Set ℕ) (Q : PUnit → sProp 𝕄)
    (c0 : k2_chk1 (word2 i a2 T2) (word2 i a3 T3))
    (c1 : ¬ (k2_cond1 i = 1#1))
    (c2 : Scalar.cmpi .ne (Scalar.extui (Scalar.cmpi .eq (word2 i a3 T3) (Scalar.maxsi (Scalar.subi (word2 i a2 T2) 0#32) 0#32))) 0#32 = 1#1)
    (c3 : ¬ (k2_cond3 (word2 i a2 T2) (word2 i a3 T3) = 1#1))
    (c4 : k2_cond4 (word2 i a2 T2) (word2 i a3 T3) = 1#1)
    (c5 : k2_cond5 (word2 i a3 T3) = 1#1)
    (c6 : k2_cond6 i = 1#1) :
    iprop((pt c a2 T2 ∗ pt c a3 T3 ∗ pt c a4 q ∗ pt c a5 k ∗ pt c a6 v ∗ pt c a7 e ∗ pt c a8 g ∗ pt c a9 lse ∗ pt c a10 de ∗ pt c a11 ok ∗ pt c a12 ov ∗ pt c a13 oc ∗ pt c a14 dq ∗ pt c a15 dk ∗ pt c a16 dv ∗ pt c a17 dc)
     ∗ ((pt c a2 T2 ∗ pt c a3 T3 ∗ pt c a4 q ∗ pt c a5 k ∗ pt c a6 v ∗ pt c a7 e ∗ pt c a8 g ∗ pt c a9 lse ∗ pt c a10 de ∗ pt c a11 (k2_pay10 (k2_pay23 q) (k2_pay24 (word2 i a2 T2) (word2 i a3 T3) k q e lse) (k2_pay25 g) v de k2_pay2) ∗ pt c a12 (k2_pay26 (word2 i a2 T2) (word2 i a3 T3) k q e lse g k2_pay3) ∗ pt c a13 (k2_pay13 (k2_pay12 (k2_pay24 (word2 i a2 T2) (word2 i a3 T3) k q e lse) (k2_pay25 g) v de k2_pay4)) ∗ pt c a14 (k2_pay14 (putBox (k2_off3 (word2 i a3 T3)) (k2_off3_inb (word2 i a2 T2) (word2 i a3 T3) c0 c4) (k2_pay11 (k2_pay22 k) (k2_pay24 (word2 i a2 T2) (word2 i a3 T3) k q e lse) (k2_pay25 g) v de (getBox (k2_off3 (word2 i a3 T3)) (k2_off3_inb (word2 i a2 T2) (word2 i a3 T3) c0 c4) dq)) dq)) ∗ pt c a15 (k2_pay10 (k2_pay23 q) (k2_pay24 (word2 i a2 T2) (word2 i a3 T3) k q e lse) (k2_pay25 g) v de k2_pay2) ∗ pt c a16 (k2_pay26 (word2 i a2 T2) (word2 i a3 T3) k q e lse g k2_pay3) ∗ pt c a17 (k2_pay12 (k2_pay24 (word2 i a2 T2) (word2 i a3 T3) k q e lse) (k2_pay25 g) v de k2_pay4)) -∗ Q ⟨⟩))
      ⊢ wp frame (wpE (defs₀ (F := F)) Variants.none c none) E (cc2_fox_attn_bwd i a2 h2 a3 h3 a4 h4 a5 h5 a6 h6 a7 h7 a8 h8 a9 h9 a10 h10 a11 h11 a12 h12 a13 h13 a14 h14 a15 h15 a16 h16 a17 h17) Q := by
  rw [cc2_fox_attn_bwd_eq_skeleton]; unfold cc2_fox_attn_bwd_skel
  iintro ⟨⟨H2, H3, H4, H5, H6, H7, H8, H9, H10, H11, H12, H13, H14, H15, H16, H17⟩, HQ⟩
  sl_exec! (disch := first | sl_exact c0 | sl_exact c1 | sl_exact c2 | sl_exact c3 | sl_exact c4 | sl_exact c5 | sl_exact c6)
  delta bwd_end.sl.H11_1 bwd_end.sl.H12_1 bwd_end.sl.H13_1 bwd_end.sl.H14_1 bwd_end.sl.H15_1 bwd_end.sl.H15_2 bwd_end.sl.H16_1 bwd_end.sl.H16_2 bwd_end.sl.H17_1 bwd_end.sl.H17_2 bwd_end.sl.r bwd_end.sl.r_1 bwd_end.sl.r_2 bwd_end.sl.r_3 bwd_end.sl.r_4 bwd_end.sl.r_5 bwd_end.sl.r_6 bwd_end.sl.v26 bwd_end.sl.v28 bwd_end.sl.v30 bwd_end.sl.v57 bwd_end.sl.v75 bwd_end.sl.v86
  simp (config := { iota := false, proj := false, eta := false }) only [View.readAt_full, View.read_rep, View.readCov_full, writes_full, writes_full_rep]
  simp (config := { iota := false, proj := false, eta := false }) only [View.readAt_full, View.read_rep, writes_put, writes_put_full, readAt_box, readCov_box, readCov_put]
  sl_step
  iapply HQ
  iframe H2 H3 H4 H5 H6 H7 H8 H9 H10 H11 H12 H13 H14 H15 H16 H17

set_option maxHeartbeats 400000 in
/-- A block below the diagonal that is not the last of its column. -/
theorem bwd_mid (c : Dev nD) (i : grid2.Coords) (a2 : Memref sig .tc .smem S91 .i32) (h2 : a2.IsWhole)
    (a3 : Memref sig .tc .smem S91 .i32) (h3 : a3.IsWhole)
    (a4 : Memref sig .tc .vmem S640x128 .f32) (h4 : a4.IsWhole)
    (a5 : Memref sig .tc .vmem S640x128 .f32) (h5 : a5.IsWhole)
    (a6 : Memref sig .tc .vmem S640x128 .f32) (h6 : a6.IsWhole)
    (a7 : Memref sig .tc .vmem S1x640x1 .f32) (h7 : a7.IsWhole)
    (a8 : Memref sig .tc .vmem S640x128 .f32) (h8 : a8.IsWhole)
    (a9 : Memref sig .tc .vmem S1x1x640 .f32) (h9 : a9.IsWhole)
    (a10 : Memref sig .tc .vmem S1x1x640 .f32) (h10 : a10.IsWhole)
    (a11 : Memref sig .tc .vmem S640x128 .f32) (h11 : a11.IsWhole)
    (a12 : Memref sig .tc .vmem S640x128 .f32) (h12 : a12.IsWhole)
    (a13 : Memref sig .tc .vmem S1x640x1 .f32) (h13 : a13.IsWhole)
    (a14 : Memref sig .tc .vmem S8320x128 .f32) (h14 : a14.IsWhole)
    (a15 : Memref sig .tc .vmem S640x128 .f32) (h15 : a15.IsWhole)
    (a16 : Memref sig .tc .vmem S640x128 .f32) (h16 : a16.IsWhole)
    (a17 : Memref sig .tc .vmem S640x1 .f32) (h17 : a17.IsWhole)
    (T2 T3 : S91.Idx → Elt F .i32) (q k v : FVec F S640x128 .f32) (e : FVec F S1x640x1 .f32) (g : FVec F S640x128 .f32)
    (lse de : FVec F S1x1x640 .f32) (ok ov : FVec F S640x128 .f32) (oc : FVec F S1x640x1 .f32) (dq : FVec F S8320x128 .f32)
    (dk dv : FVec F S640x128 .f32) (dc : FVec F S640x1 .f32) (E : Set ℕ) (Q : PUnit → sProp 𝕄)
    (c0 : k2_chk1 (word2 i a2 T2) (word2 i a3 T3))
    (c1 : ¬ (k2_cond1 i = 1#1))
    (c2 : ¬ (Scalar.cmpi .ne (Scalar.extui (Scalar.cmpi .eq (word2 i a3 T3) (Scalar.maxsi (Scalar.subi (word2 i a2 T2) 0#32) 0#32))) 0#32 = 1#1))
    (c3 : k2_cond3 (word2 i a2 T2) (word2 i a3 T3) = 1#1)
    (c4 : ¬ (k2_cond4 (word2 i a2 T2) (word2 i a3 T3) = 1#1))
    (c5 : ¬ (k2_cond5 (word2 i a3 T3) = 1#1))
    (c6 : ¬ (k2_cond6 i = 1#1)) :
    iprop((pt c a2 T2 ∗ pt c a3 T3 ∗ pt c a4 q ∗ pt c a5 k ∗ pt c a6 v ∗ pt c a7 e ∗ pt c a8 g ∗ pt c a9 lse ∗ pt c a10 de ∗ pt c a11 ok ∗ pt c a12 ov ∗ pt c a13 oc ∗ pt c a14 dq ∗ pt c a15 dk ∗ pt c a16 dv ∗ pt c a17 dc)
     ∗ ((pt c a2 T2 ∗ pt c a3 T3 ∗ pt c a4 q ∗ pt c a5 k ∗ pt c a6 v ∗ pt c a7 e ∗ pt c a8 g ∗ pt c a9 lse ∗ pt c a10 de ∗ pt c a11 ok ∗ pt c a12 ov ∗ pt c a13 oc ∗ pt c a14 (putBox (k2_off2 (word2 i a3 T3)) (k2_off2_inb (word2 i a2 T2) (word2 i a3 T3) c0 c3) (k2_pay6 (k2_pay15 k) (k2_pay21 k q e lse g v de) (getBox (k2_off2 (word2 i a3 T3)) (k2_off2_inb (word2 i a2 T2) (word2 i a3 T3) c0 c3) dq)) dq) ∗ pt c a15 (k2_pay5 (k2_pay16 q) (k2_pay21 k q e lse g v de) dk) ∗ pt c a16 (k2_pay19 k q e lse g dv) ∗ pt c a17 (k2_pay7 (k2_pay20 k q e lse g v de) dc)) -∗ Q ⟨⟩))
      ⊢ wp frame (wpE (defs₀ (F := F)) Variants.none c none) E (cc2_fox_attn_bwd i a2 h2 a3 h3 a4 h4 a5 h5 a6 h6 a7 h7 a8 h8 a9 h9 a10 h10 a11 h11 a12 h12 a13 h13 a14 h14 a15 h15 a16 h16 a17 h17) Q := by
  rw [cc2_fox_attn_bwd_eq_skeleton]; unfold cc2_fox_attn_bwd_skel
  iintro ⟨⟨H2, H3, H4, H5, H6, H7, H8, H9, H10, H11, H12, H13, H14, H15, H16, H17⟩, HQ⟩
  sl_exec! (disch := first | sl_exact c0 | sl_exact c1 | sl_exact c2 | sl_exact c3 | sl_exact c4 | sl_exact c5 | sl_exact c6)
  delta bwd_mid.sl.H15_1 bwd_mid.sl.H16_1 bwd_mid.sl.H17_1 bwd_mid.sl.r bwd_mid.sl.r_1 bwd_mid.sl.r_2 bwd_mid.sl.r_3 bwd_mid.sl.r_4 bwd_mid.sl.r_5
  simp (config := { iota := false, proj := false, eta := false }) only [View.readAt_full, View.read_rep, View.readCov_full, writes_full, writes_full_rep]
  simp (config := { iota := false, proj := false, eta := false }) only [View.readAt_full, View.read_rep, writes_put, writes_put_full, readAt_box, readCov_box, readCov_put]
  sl_step
  iapply HQ
  iframe H2 H3 H4 H5 H6 H7 H8 H9 H10 H11 H12 H13 H14 H15 H16 H17

set_option maxHeartbeats 400000 in
/-- The last block of a column of keys, below the diagonal. -/
theorem bwd_last (c : Dev nD) (i : grid2.Coords) (a2 : Memref sig .tc .smem S91 .i32) (h2 : a2.IsWhole)
    (a3 : Memref sig .tc .smem S91 .i32) (h3 : a3.IsWhole)
    (a4 : Memref sig .tc .vmem S640x128 .f32) (h4 : a4.IsWhole)
    (a5 : Memref sig .tc .vmem S640x128 .f32) (h5 : a5.IsWhole)
    (a6 : Memref sig .tc .vmem S640x128 .f32) (h6 : a6.IsWhole)
    (a7 : Memref sig .tc .vmem S1x640x1 .f32) (h7 : a7.IsWhole)
    (a8 : Memref sig .tc .vmem S640x128 .f32) (h8 : a8.IsWhole)
    (a9 : Memref sig .tc .vmem S1x1x640 .f32) (h9 : a9.IsWhole)
    (a10 : Memref sig .tc .vmem S1x1x640 .f32) (h10 : a10.IsWhole)
    (a11 : Memref sig .tc .vmem S640x128 .f32) (h11 : a11.IsWhole)
    (a12 : Memref sig .tc .vmem S640x128 .f32) (h12 : a12.IsWhole)
    (a13 : Memref sig .tc .vmem S1x640x1 .f32) (h13 : a13.IsWhole)
    (a14 : Memref sig .tc .vmem S8320x128 .f32) (h14 : a14.IsWhole)
    (a15 : Memref sig .tc .vmem S640x128 .f32) (h15 : a15.IsWhole)
    (a16 : Memref sig .tc .vmem S640x128 .f32) (h16 : a16.IsWhole)
    (a17 : Memref sig .tc .vmem S640x1 .f32) (h17 : a17.IsWhole)
    (T2 T3 : S91.Idx → Elt F .i32) (q k v : FVec F S640x128 .f32) (e : FVec F S1x640x1 .f32) (g : FVec F S640x128 .f32)
    (lse de : FVec F S1x1x640 .f32) (ok ov : FVec F S640x128 .f32) (oc : FVec F S1x640x1 .f32) (dq : FVec F S8320x128 .f32)
    (dk dv : FVec F S640x128 .f32) (dc : FVec F S640x1 .f32) (E : Set ℕ) (Q : PUnit → sProp 𝕄)
    (c0 : k2_chk1 (word2 i a2 T2) (word2 i a3 T3))
    (c1 : ¬ (k2_cond1 i = 1#1))
    (c2 : ¬ (Scalar.cmpi .ne (Scalar.extui (Scalar.cmpi .eq (word2 i a3 T3) (Scalar.maxsi (Scalar.subi (word2 i a2 T2) 0#32) 0#32))) 0#32 = 1#1))
    (c3 : k2_cond3 (word2 i a2 T2) (word2 i a3 T3) = 1#1)
    (c4 : ¬ (k2_cond4 (word2 i a2 T2) (word2 i a3 T3) = 1#1))
    (c5 : k2_cond5 (word2 i a3 T3) = 1#1)
    (c6 : ¬ (k2_cond6 i = 1#1)) :
    iprop((pt c a2 T2 ∗ pt c a3 T3 ∗ pt c a4 q ∗ pt c a5 k ∗ pt c a6 v ∗ pt c a7 e ∗ pt c a8 g ∗ pt c a9 lse ∗ pt c a10 de ∗ pt c a11 ok ∗ pt c a12 ov ∗ pt c a13 oc ∗ pt c a14 dq ∗ pt c a15 dk ∗ pt c a16 dv ∗ pt c a17 dc)
     ∗ ((pt c a2 T2 ∗ pt c a3 T3 ∗ pt c a4 q ∗ pt c a5 k ∗ pt c a6 v ∗ pt c a7 e ∗ pt c a8 g ∗ pt c a9 lse ∗ pt c a10 de ∗ pt c a11 (k2_pay5 (k2_pay16 q) (k2_pay21 k q e lse g v de) dk) ∗ pt c a12 (k2_pay19 k q e lse g dv) ∗ pt c a13 (k2_pay13 (k2_pay7 (k2_pay20 k q e lse g v de) dc)) ∗ pt c a14 (putBox (k2_off2 (word2 i a3 T3)) (k2_off2_inb (word2 i a2 T2) (word2 i a3 T3) c0 c3) (k2_pay6 (k2_pay15 k) (k2_pay21 k q e lse g v de) (getBox (k2_off2 (word2 i a3 T3)) (k2_off2_inb (word2 i a2 T2) (word2 i a3 T3) c0 c3) dq)) dq) ∗ pt c a15 (k2_pay5 (k2_pay16 q) (k2_pay21 k q e lse g v de) dk) ∗ pt c a16 (k2_pay19 k q e lse g dv) ∗ pt c a17 (k2_pay7 (k2_pay20 k q e lse g v de) dc)) -∗ Q ⟨⟩))
      ⊢ wp frame (wpE (defs₀ (F := F)) Variants.none c none) E (cc2_fox_attn_bwd i a2 h2 a3 h3 a4 h4 a5 h5 a6 h6 a7 h7 a8 h8 a9 h9 a10 h10 a11 h11 a12 h12 a13 h13 a14 h14 a15 h15 a16 h16 a17 h17) Q := by
  rw [cc2_fox_attn_bwd_eq_skeleton]; unfold cc2_fox_attn_bwd_skel
  iintro ⟨⟨H2, H3, H4, H5, H6, H7, H8, H9, H10, H11, H12, H13, H14, H15, H16, H17⟩, HQ⟩
  sl_exec! (disch := first | sl_exact c0 | sl_exact c1 | sl_exact c2 | sl_exact c3 | sl_exact c4 | sl_exact c5 | sl_exact c6)
  delta bwd_last.sl.H11_1 bwd_last.sl.H12_1 bwd_last.sl.H13_1 bwd_last.sl.H15_1 bwd_last.sl.H16_1 bwd_last.sl.H17_1 bwd_last.sl.r bwd_last.sl.r_1 bwd_last.sl.r_2 bwd_last.sl.r_3 bwd_last.sl.r_4 bwd_last.sl.r_5 bwd_last.sl.v26 bwd_last.sl.v28 bwd_last.sl.v30
  simp (config := { iota := false, proj := false, eta := false }) only [View.readAt_full, View.read_rep, View.readCov_full, writes_full, writes_full_rep]
  simp (config := { iota := false, proj := false, eta := false }) only [View.readAt_full, View.read_rep, writes_put, writes_put_full, readAt_box, readCov_box, readCov_put]
  sl_step
  iapply HQ
  iframe H2 H3 H4 H5 H6 H7 H8 H9 H10 H11 H12 H13 H14 H15 H16 H17

end Cert.Proof.Fox
end
-- ==== Proof.Tables.lean ====
module

public import proofs.«01_k».proof.Proof.BwdBody

@[expose] public section
noncomputable section
namespace Cert.Proof.Fox

open Cert.KernelIdeal Cert.KernelIdeal.Gen
open Idealize.ShloMosaic
open Idealize.ShloMosaic.TcCoe

variable {F : FTy → Type} [FloatOps F] [Named F]

/-! # The four tables, and what each of the 728 points of a grid reads off them -/

/-- The row of point `n` of a head in the forward walk (its block of queries), -/
def rowF (n : ℕ) : ℕ := if h : n < 91 then (lit0 ⟨n, h⟩).toNat else 0
/-- its column (its block of keys), -/
def colF (n : ℕ) : ℕ := if h : n < 91 then (lit1 ⟨n, h⟩).toNat else 0
/-- the block of keys of point `n` in the backward walk, -/
def keyB (n : ℕ) : ℕ := if h : n < 91 then (lit2 ⟨n, h⟩).toNat else 0
/-- and its block of queries. -/
def qryB (n : ℕ) : ℕ := if h : n < 91 then (lit3 ⟨n, h⟩).toNat else 0

abbrev tab0 : S91.Idx → Elt F .i32 := fun i => lit0 (S91.rowMajor i)
abbrev tab1 : S91.Idx → Elt F .i32 := fun i => lit1 (S91.rowMajor i)
abbrev tab2 : S91.Idx → Elt F .i32 := fun i => lit2 (S91.rowMajor i)
abbrev tab3 : S91.Idx → Elt F .i32 := fun i => lit3 (S91.rowMajor i)

def pf0 : pre0.Contents (Elt F) := fun | 0 => tab0 | 1 => tab1 | ⟨_ + 2, h⟩ => absurd h (Nat.not_lt.2 (Nat.le_add_left _ _))
def pf2 : pre2.Contents (Elt F) := fun | 0 => tab2 | 1 => tab3 | ⟨_ + 2, h⟩ => absurd h (Nat.not_lt.2 (Nat.le_add_left _ _))

theorem rowF_fin : ∀ n : Fin 91, lit0 n = BitVec.ofNat 32 (rowF n.val) := by decide +kernel
theorem colF_fin : ∀ n : Fin 91, lit1 n = BitVec.ofNat 32 (colF n.val) := by decide +kernel
theorem keyB_fin : ∀ n : Fin 91, lit2 n = BitVec.ofNat 32 (keyB n.val) := by decide +kernel
theorem qryB_fin : ∀ n : Fin 91, lit3 n = BitVec.ofNat 32 (qryB n.val) := by decide +kernel

/-- The index `n` of a table. -/
def ix91 (n : Fin 91) : S91.Idx := fun a => ⟨n.val, by fin_cases a; exact n.isLt⟩

theorem rowMajor91 (n : Fin 91) : S91.rowMajor (ix91 n) = n :=
  Fin.ext ((by decide +kernel : ∀ n : Fin 91, (S91.rowMajor (ix91 n)).val = n.val) n)

theorem ix91_of {x : S91.Idx} {n : Fin 91} (h : (x 0).val = n.val) : x = ix91 n := by
  funext a
  fin_cases a
  exact Fin.ext h

theorem idx91 (off : Fin 1 → ℕ) (h : ∀ a, off a + S1.size a ≤ S91.size a) (h1 : (Rect.unit (s := S91) off S1.size h).shape.numel = 1) (n : Fin 91)
    (e : off = ![n.val]) : S91.rowMajor ((Rect.unit (s := S91) off S1.size h).emb (Shape.Idx.first (h1.symm ▸ Nat.one_pos))) = n := by
  subst e
  rw [ix91_of (x := ((Rect.unit (s := S91) ![n.val] S1.size h).emb (Shape.Idx.first (h1.symm ▸ Nat.one_pos)))) (n := n) ?_, rowMajor91]
  change n.val + 1 * 0 = n.val
  omega

theorem row0_at (i : grid0.Coords) (h) (h1) : ((pf0 (F := F)).at 0 (Rect.unit (s := S91) (k0_off1 i) S1.size h) h1 : BitVec 32) = BitVec.ofNat 32 (rowF (i 1).val) := by
  refine (congrArg lit0 (idx91 _ h h1 (i 1) (k0_off1_eq i))).trans (rowF_fin (i 1))
theorem col0_at (i : grid0.Coords) (h) (h1) : ((pf0 (F := F)).at 1 (Rect.unit (s := S91) (k0_off1 i) S1.size h) h1 : BitVec 32) = BitVec.ofNat 32 (colF (i 1).val) := by
  refine (congrArg lit1 (idx91 _ h h1 (i 1) (k0_off1_eq i))).trans (colF_fin (i 1))
theorem key2_at (i : grid2.Coords) (h) (h1) : ((pf2 (F := F)).at 0 (Rect.unit (s := S91) (k2_off1 i) S1.size h) h1 : BitVec 32) = BitVec.ofNat 32 (keyB (i 1).val) := by
  refine (congrArg lit2 (idx91 _ h h1 (i 1) (k2_off1_eq i))).trans (keyB_fin (i 1))
theorem qry2_at (i : grid2.Coords) (h) (h1) : ((pf2 (F := F)).at 1 (Rect.unit (s := S91) (k2_off1 i) S1.size h) h1 : BitVec 32) = BitVec.ofNat 32 (qryB (i 1).val) := by
  refine (congrArg lit3 (idx91 _ h h1 (i 1) (k2_off1_eq i))).trans (qryB_fin (i 1))

/-! The words as the bodies and the idle tables read them. -/
theorem word_row (i : grid0.Coords) (a : Memref sig .tc .smem S91 .i32) : word i a (tab0 (F := F)) = BitVec.ofNat 32 (rowF (i 1).val) := by
  unfold word
  rw [View.readAt_rep]
  exact row0_at (F := F) i _ numel1_S1
theorem word_col (i : grid0.Coords) (a : Memref sig .tc .smem S91 .i32) : word i a (tab1 (F := F)) = BitVec.ofNat 32 (colF (i 1).val) := by
  unfold word
  rw [View.readAt_rep]
  exact col0_at (F := F) i _ numel1_S1
theorem word_key (i : grid2.Coords) (a : Memref sig .tc .smem S91 .i32) : word2 i a (tab2 (F := F)) = BitVec.ofNat 32 (keyB (i 1).val) := by
  unfold word2
  rw [View.readAt_rep]
  exact key2_at (F := F) i _ numel1_S1
theorem word_qry (i : grid2.Coords) (a : Memref sig .tc .smem S91 .i32) : word2 i a (tab3 (F := F)) = BitVec.ofNat 32 (qryB (i 1).val) := by
  unfold word2
  rw [View.readAt_rep]
  exact qry2_at (F := F) i _ numel1_S1

theorem atD_of {pre : Pipeline.Prefetch sig} (pf : pre.Contents (Elt F)) (k : Fin pre.K) [Inhabited (Elt F (pre.ref k).ty.elt)]
    (off : Fin (pre.ref k).ty.shape.rank → ℕ) (h : ∀ a, off a + 1 ≤ (pre.ref k).ty.shape.size a) : pf.atD k off = pf k (fun a => ⟨off a, h a⟩) := dif_pos h

theorem off91 (off : Fin 1 → ℕ) (n : Fin 91) (e : off = ![n.val]) (h : ∀ a, off a + 1 ≤ S91.size a) : S91.rowMajor (fun a => ⟨off a, h a⟩) = n := by
  subst e
  rw [ix91_of (x := (fun a : Fin 1 => (⟨(![n.val] : Fin 1 → ℕ) a, h a⟩ : Fin (S91.size a)))) (n := n) rfl, rowMajor91]

theorem row0_atD (i : grid0.Coords) : ((pf0 (F := F)).atD 0 (k0_off1 i) : BitVec 32) = BitVec.ofNat 32 (rowF (i 1).val) := by
  rw [atD_of (pf0 (F := F)) 0 (k0_off1 i) (fun a => by fin_cases a; exact k0_off1_inb i 0)]
  refine (congrArg lit0 (off91 _ (i 1) (k0_off1_eq i) (fun a => by fin_cases a; exact k0_off1_inb i 0))).trans (rowF_fin (i 1))
theorem col0_atD (i : grid0.Coords) : ((pf0 (F := F)).atD 1 (k0_off1 i) : BitVec 32) = BitVec.ofNat 32 (colF (i 1).val) := by
  rw [atD_of (pf0 (F := F)) 1 (k0_off1 i) (fun a => by fin_cases a; exact k0_off1_inb i 0)]
  refine (congrArg lit1 (off91 _ (i 1) (k0_off1_eq i) (fun a => by fin_cases a; exact k0_off1_inb i 0))).trans (colF_fin (i 1))
theorem key2_atD (i : grid2.Coords) : ((pf2 (F := F)).atD 0 (k2_off1 i) : BitVec 32) = BitVec.ofNat 32 (keyB (i 1).val) := by
  rw [atD_of (pf2 (F := F)) 0 (k2_off1 i) (fun a => by fin_cases a; exact k2_off1_inb i 0)]
  refine (congrArg lit2 (off91 _ (i 1) (k2_off1_eq i) (fun a => by fin_cases a; exact k2_off1_inb i 0))).trans (keyB_fin (i 1))
theorem qry2_atD (i : grid2.Coords) : ((pf2 (F := F)).atD 1 (k2_off1 i) : BitVec 32) = BitVec.ofNat 32 (qryB (i 1).val) := by
  rw [atD_of (pf2 (F := F)) 1 (k2_off1 i) (fun a => by fin_cases a; exact k2_off1_inb i 0)]
  refine (congrArg lit3 (off91 _ (i 1) (k2_off1_eq i) (fun a => by fin_cases a; exact k2_off1_inb i 0))).trans (qryB_fin (i 1))

/-! The blocks of the windows. -/

theorem rowF_lt (n : ℕ) : rowF n < 13 := by
  by_cases h : n < 91
  · exact (by decide +kernel : ∀ n : Fin 91, rowF n.val < 13) ⟨n, h⟩
  · simp [rowF, h]
theorem colF_lt (n : ℕ) : colF n < 13 := by
  by_cases h : n < 91
  · exact (by decide +kernel : ∀ n : Fin 91, colF n.val < 13) ⟨n, h⟩
  · simp [colF, h]
theorem keyB_lt (n : ℕ) : keyB n < 13 := by
  by_cases h : n < 91
  · exact (by decide +kernel : ∀ n : Fin 91, keyB n.val < 13) ⟨n, h⟩
  · simp [keyB, h]
theorem qryB_lt (n : ℕ) : qryB n < 13 := by
  by_cases h : n < 91
  · exact (by decide +kernel : ∀ n : Fin 91, qryB n.val < 13) ⟨n, h⟩
  · simp [qryB, h]

theorem toNat_small {n : ℕ} (h : n < 13) : (BitVec.ofNat 32 n).toNat = n := by
  rw [BitVec.toNat_ofNat]; exact Nat.mod_eq_of_lt (by omega)

theorem wd_nat {w : BitVec 32} {n : ℕ} (e : w = BitVec.ofNat 32 n) (h : n < 13) : w.toNat = n := by rw [e, toNat_small h]

theorem head_small (i : Fin 8) : (BitVec.ofNat 32 i.val).toNat = i.val := by
  rw [BitVec.toNat_ofNat]; exact Nat.mod_eq_of_lt (by omega)

theorem t0_0 (i : grid0.Coords) : cc0_transform_0 k0_off1_inb numel1_S1 (pf0 (F := F)) i = ![rowF (i 1).val, (i 0).val] :=
  congrArg₂ (fun a b => (![a, b] : Fin 2 → ℕ)) (wd_nat (row0_at (F := F) i (k0_off1_inb i) numel1_S1) (rowF_lt _)) (head_small (i 0))
theorem t0_1 (i : grid0.Coords) : cc0_transform_1 k0_off1_inb numel1_S1 (pf0 (F := F)) i = ![colF (i 1).val, (i 0).val] :=
  congrArg₂ (fun a b => (![a, b] : Fin 2 → ℕ)) (wd_nat (col0_at (F := F) i (k0_off1_inb i) numel1_S1) (colF_lt _)) (head_small (i 0))
theorem t0_2 (i : grid0.Coords) : cc0_transform_2 k0_off1_inb numel1_S1 (pf0 (F := F)) i = ![colF (i 1).val, (i 0).val] :=
  congrArg₂ (fun a b => (![a, b] : Fin 2 → ℕ)) (wd_nat (col0_at (F := F) i (k0_off1_inb i) numel1_S1) (colF_lt _)) (head_small (i 0))
theorem t0_3 (i : grid0.Coords) : cc0_transform_3 k0_off1_inb numel1_S1 (pf0 (F := F)) i = ![(i 0).val, 0, colF (i 1).val] :=
  congrArg₂ (fun a b => (![a, 0, b] : Fin 3 → ℕ)) (head_small (i 0)) (wd_nat (col0_at (F := F) i (k0_off1_inb i) numel1_S1) (colF_lt _))
theorem t0_4 (i : grid0.Coords) : cc0_transform_4 k0_off1_inb numel1_S1 (pf0 (F := F)) i = ![rowF (i 1).val, (i 0).val] :=
  congrArg₂ (fun a b => (![a, b] : Fin 2 → ℕ)) (wd_nat (row0_at (F := F) i (k0_off1_inb i) numel1_S1) (rowF_lt _)) (head_small (i 0))
theorem t0_5 (i : grid0.Coords) : cc0_transform_5 k0_off1_inb numel1_S1 (pf0 (F := F)) i = ![(i 0).val, rowF (i 1).val, 0] :=
  congrArg₂ (fun a b => (![a, b, 0] : Fin 3 → ℕ)) (head_small (i 0)) (wd_nat (row0_at (F := F) i (k0_off1_inb i) numel1_S1) (rowF_lt _))

theorem t2_0 (i : grid2.Coords) : cc2_transform_0 k2_off1_inb numel1_S1 (pf2 (F := F)) i = ![qryB (i 1).val, (i 0).val] :=
  congrArg₂ (fun a b => (![a, b] : Fin 2 → ℕ)) (wd_nat (qry2_at (F := F) i (k2_off1_inb i) numel1_S1) (qryB_lt _)) (head_small (i 0))
theorem t2_1 (i : grid2.Coords) : cc2_transform_1 k2_off1_inb numel1_S1 (pf2 (F := F)) i = ![keyB (i 1).val, (i 0).val] :=
  congrArg₂ (fun a b => (![a, b] : Fin 2 → ℕ)) (wd_nat (key2_at (F := F) i (k2_off1_inb i) numel1_S1) (keyB_lt _)) (head_small (i 0))
theorem t2_2 (i : grid2.Coords) : cc2_transform_2 k2_off1_inb numel1_S1 (pf2 (F := F)) i = ![keyB (i 1).val, (i 0).val] :=
  congrArg₂ (fun a b => (![a, b] : Fin 2 → ℕ)) (wd_nat (key2_at (F := F) i (k2_off1_inb i) numel1_S1) (keyB_lt _)) (head_small (i 0))
theorem t2_3 (i : grid2.Coords) : cc2_transform_3 k2_off1_inb numel1_S1 (pf2 (F := F)) i = ![(i 0).val, keyB (i 1).val, 0] :=
  congrArg₂ (fun a b => (![a, b, 0] : Fin 3 → ℕ)) (head_small (i 0)) (wd_nat (key2_at (F := F) i (k2_off1_inb i) numel1_S1) (keyB_lt _))
theorem t2_4 (i : grid2.Coords) : cc2_transform_4 k2_off1_inb numel1_S1 (pf2 (F := F)) i = ![qryB (i 1).val, (i 0).val] :=
  congrArg₂ (fun a b => (![a, b] : Fin 2 → ℕ)) (wd_nat (qry2_at (F := F) i (k2_off1_inb i) numel1_S1) (qryB_lt _)) (head_small (i 0))
theorem t2_5 (i : grid2.Coords) : cc2_transform_5 k2_off1_inb numel1_S1 (pf2 (F := F)) i = ![(i 0).val, 0, qryB (i 1).val] :=
  congrArg₂ (fun a b => (![a, 0, b] : Fin 3 → ℕ)) (head_small (i 0)) (wd_nat (qry2_at (F := F) i (k2_off1_inb i) numel1_S1) (qryB_lt _))
theorem t2_6 (i : grid2.Coords) : cc2_transform_6 k2_off1_inb numel1_S1 (pf2 (F := F)) i = ![(i 0).val, 0, qryB (i 1).val] :=
  congrArg₂ (fun a b => (![a, 0, b] : Fin 3 → ℕ)) (head_small (i 0)) (wd_nat (qry2_at (F := F) i (k2_off1_inb i) numel1_S1) (qryB_lt _))
theorem t2_7 (i : grid2.Coords) : cc2_transform_7 k2_off1_inb numel1_S1 (pf2 (F := F)) i = ![keyB (i 1).val, (i 0).val] :=
  congrArg₂ (fun a b => (![a, b] : Fin 2 → ℕ)) (wd_nat (key2_at (F := F) i (k2_off1_inb i) numel1_S1) (keyB_lt _)) (head_small (i 0))
theorem t2_8 (i : grid2.Coords) : cc2_transform_8 k2_off1_inb numel1_S1 (pf2 (F := F)) i = ![keyB (i 1).val, (i 0).val] :=
  congrArg₂ (fun a b => (![a, b] : Fin 2 → ℕ)) (wd_nat (key2_at (F := F) i (k2_off1_inb i) numel1_S1) (keyB_lt _)) (head_small (i 0))
theorem t2_9 (i : grid2.Coords) : cc2_transform_9 k2_off1_inb numel1_S1 (pf2 (F := F)) i = ![(i 0).val, keyB (i 1).val, 0] :=
  congrArg₂ (fun a b => (![a, b, 0] : Fin 3 → ℕ)) (head_small (i 0)) (wd_nat (key2_at (F := F) i (k2_off1_inb i) numel1_S1) (keyB_lt _))
theorem t2_10 (i : grid2.Coords) : cc2_transform_10 i = ![0, (i 0).val] := by
  unfold cc2_transform_10
  dsimp only; rw [head_small (i 0)]; rfl

theorem blk_row {n h : ℕ} (hn : n < 13) (hh : h < 8) : ∀ a, ((![n, h] : Fin 2 → ℕ) a + 1) * S640x128.size a ≤ S8320x1024.size a := by
  intro a; fin_cases a <;> simp [Fin.forall_fin_two] <;> omega
theorem blk_vec {n h : ℕ} (hn : n < 13) (hh : h < 8) : ∀ a, ((![h, 0, n] : Fin 3 → ℕ) a + 1) * S1x1x640.size a ≤ S8x1x8320.size a := by
  intro a; fin_cases a <;> simp <;> omega
theorem blk_col {n h : ℕ} (hn : n < 13) (hh : h < 8) : ∀ a, ((![h, n, 0] : Fin 3 → ℕ) a + 1) * S1x640x1.size a ≤ S8x8320x1.size a := by
  intro a; fin_cases a <;> simp <;> omega

/-- The tables keep every block inside its array. -/
theorem ok_pf0 : ok0 (pf0 (F := F)) := by
  unfold ok0
  refine ⟨fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩⟩
  · rw [t0_0]; exact blk_row (rowF_lt _) (i 0).isLt
  · rw [t0_1]; exact blk_row (colF_lt _) (i 0).isLt
  · rw [t0_2]; exact blk_row (colF_lt _) (i 0).isLt
  · rw [t0_3]; exact blk_vec (colF_lt _) (i 0).isLt
  · rw [t0_4]; exact blk_row (rowF_lt _) (i 0).isLt
  · rw [t0_5]; exact blk_col (rowF_lt _) (i 0).isLt

theorem ok_pf2 : ok2 (pf2 (F := F)) := by
  unfold ok2
  refine ⟨fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩⟩
  · rw [t2_0]; exact blk_row (qryB_lt _) (i 0).isLt
  · rw [t2_1]; exact blk_row (keyB_lt _) (i 0).isLt
  · rw [t2_2]; exact blk_row (keyB_lt _) (i 0).isLt
  · rw [t2_3]; exact blk_col (keyB_lt _) (i 0).isLt
  · rw [t2_4]; exact blk_row (qryB_lt _) (i 0).isLt
  · rw [t2_5]; exact blk_vec (qryB_lt _) (i 0).isLt
  · rw [t2_6]; exact blk_vec (qryB_lt _) (i 0).isLt
  · rw [t2_7]; exact blk_row (keyB_lt _) (i 0).isLt
  · rw [t2_8]; exact blk_row (keyB_lt _) (i 0).isLt
  · rw [t2_9]; exact blk_col (keyB_lt _) (i 0).isLt

end Cert.Proof.Fox
-- ==== Proof.FwdPoints.lean ====
module

public import proofs.«01_k».proof.Proof.Tables
public import Idealize.ShloMosaic.Lib.Pipeline.ValueKit
public import Idealize.ShloMosaic.Lib.Pipeline.FrameBody

@[expose] public section
noncomputable section
namespace Cert.Proof.Fox

open Cert.KernelIdeal Cert.KernelIdeal.Gen
open Idealize.ShloMosaic
open Idealize.ShloMosaic.TcCoe
open Idealize.ShloMosaic.Pipeline (Dat Cfg Window)

variable {F : FTy → Type} [FloatOps F] [Named F]

/-! # The forward call's points -/

theorem coord0_0 (t : Fin grid0.N) : (grid0.coords t 0).val = t.val / 91 := by
  have h : t.val < 728 := N_0 ▸ t.isLt
  have := Pipeline.Grid.coords_val t 0 (S := 91) (B := 8) (by decide) rfl
  omega
theorem coord0_1 (t : Fin grid0.N) : (grid0.coords t 1).val = t.val % 91 := by
  have := Pipeline.Grid.coords_val t 1 (S := 1) (B := 91) (by decide) rfl
  omega

/-! The walk: rows in turn, each from its first column to its diagonal. -/
theorem col_le_row (n : ℕ) : colF n ≤ rowF n := by
  by_cases h : n < 91
  · exact (by decide +kernel : ∀ n : Fin 91, colF n.val ≤ rowF n.val) ⟨n, h⟩
  · simp [rowF, colF, h]

/-- A row begins at the point: its first column. -/
def opens (n : ℕ) : Bool := colF n == 0
/-- A row ends at the point: its diagonal. -/
def closes (n : ℕ) : Bool := colF n == rowF n

abbrev ws (n : ℕ) : BitVec 32 := BitVec.ofNat 32 n

theorem fc1 : ∀ n : Fin 91, (Scalar.cmpi .ne (Scalar.extui (Scalar.cmpi .eq (ws (colF n.val)) 0#32)) 0#32 = 1#1) ↔ opens n.val = true := by decide +kernel
theorem fc2 : ∀ n : Fin 91, (Scalar.cmpi .ne (Scalar.extui (Scalar.cmpi .slt (ws (colF n.val)) (ws (rowF n.val)))) 0#32 = 1#1) ↔ closes n.val = false := by decide +kernel
theorem fc3 : ∀ n : Fin 91, (Scalar.cmpi .ne (Scalar.extui (Scalar.cmpi .sge (ws (colF n.val)) (ws (rowF n.val)))) 0#32 = 1#1) ↔ closes n.val = true := by decide +kernel
theorem fc4 : ∀ n : Fin 91, (k0_cond4 (ws (rowF n.val)) (ws (colF n.val)) = 1#1) ↔ closes n.val = true := by decide +kernel

/-- The forward call's tables, admissible. -/
def adm0 : (pcfg0 (F := F)).Adm := ⟨pf0, ok_pf0⟩

theorem idle0_eq (i : grid0.Coords) : idle0 (pf0 (F := F)) 4 i = !closes (i 1).val := by
  show (!(k0_cond4 ((pf0 (F := F)).atD 0 (k0_off1 i)) ((pf0 (F := F)).atD 1 (k0_off1 i)) == 1#1)) = _
  congr 1
  refine (congrArg (· == 1#1) (congrArg₂ k0_cond4 (row0_atD (F := F) i) (col0_atD (F := F) i))).trans ?_
  exact Bool.eq_iff_iff.mpr ((beq_iff_eq).trans (fc4 (i 1)))

theorem idle0_5 (i : grid0.Coords) : idle0 (pf0 (F := F)) 5 i = !closes (i 1).val := idle0_eq i

/-- Two points' blocks of a window agree just when the closed forms do. -/
theorem flush_of {G : Pipeline.Grid} (w : Window sig G) (hout : w.isOut = true) (N : ℕ) (hN : G.N = N) (f : ℕ → Fin w.shape.rank → ℕ)
    (hf : ∀ t, w.index t = f t.val) (t : Fin G.N) : w.flush t = (decide (t.val + 1 = N) || decide (f (t.val + 1) ≠ f t.val)) := by
  have ht := t.isLt
  unfold Pipeline.Window.flush
  subst hN
  rw [hout, Bool.true_and]
  by_cases h : t.val + 1 = G.N
  · simp [h]
  · have h' : t.val + 1 < G.N := by omega
    simp only [h, decide_false, Bool.false_or]
    congr 1
    apply propext
    constructor
    · rintro ⟨h1, h2⟩; rwa [hf, hf] at h2
    · intro h2; exact ⟨h', by rwa [hf, hf]⟩

theorem flush0_4 (t : Fin grid0.N) : ((cfg0 (adm0 (F := F))).win 4).flush t = closes (t.val % 91) := by
  rw [flush_of ((cfg0 (adm0 (F := F))).win 4) rfl 728 N_0 (fun n => ![rowF (n % 91), n / 91]) (fun t => (t0_4 (F := F) _).trans (by rw [coord0_0, coord0_1]))]
  have ht : t.val < 728 := N_0 ▸ t.isLt
  exact (by decide +kernel : ∀ n : Fin 728, (decide (n.val + 1 = 728) || decide ((![rowF ((n.val + 1) % 91), (n.val + 1) / 91] : Fin 2 → ℕ) ≠ ![rowF (n.val % 91), n.val / 91])) = closes (n.val % 91)) ⟨t.val, ht⟩
theorem flush0_5 (t : Fin grid0.N) : ((cfg0 (adm0 (F := F))).win 5).flush t = closes (t.val % 91) := by
  rw [flush_of ((cfg0 (adm0 (F := F))).win 5) rfl 728 N_0 (fun n => ![n / 91, rowF (n % 91), 0]) (fun t => (t0_5 (F := F) _).trans (by rw [coord0_0, coord0_1]))]
  have ht : t.val < 728 := N_0 ▸ t.isLt
  exact (by decide +kernel : ∀ n : Fin 728, (decide (n.val + 1 = 728) || decide ((![(n.val + 1) / 91, rowF ((n.val + 1) % 91), 0] : Fin 3 → ℕ) ≠ ![n.val / 91, rowF (n.val % 91), 0])) = closes (n.val % 91)) ⟨t.val, ht⟩

/-! ## Blocks of the arrays -/

/-- The block of 640 rows `b` and of 128 columns `h`. -/
def tile {α : Type} (a : S8320x1024.Idx → α) (b h : ℕ) : S640x128.Idx → α := fun y =>
  a (fun | 0 => ⟨(640 * b + (y 0).val) % 8320, Nat.mod_lt _ (by decide)⟩ | 1 => ⟨(128 * h + (y 1).val) % 1024, Nat.mod_lt _ (by decide)⟩)
/-- The 640 entries `b` of row `h`, laid out as a row, -/
def rowTile {α : Type} (a : S8x1x8320.Idx → α) (b h : ℕ) : S1x1x640.Idx → α := fun y =>
  a (fun | 0 => ⟨h % 8, Nat.mod_lt _ (by decide)⟩ | 1 => (⟨0, Nat.one_pos⟩ : Fin 1) | 2 => ⟨(640 * b + (y 2).val) % 8320, Nat.mod_lt _ (by decide)⟩)
/-- and as a column. -/
def colTile {α : Type} (a : S8x8320x1.Idx → α) (b h : ℕ) : S1x640x1.Idx → α := fun y =>
  a (fun | 0 => ⟨h % 8, Nat.mod_lt _ (by decide)⟩ | 1 => ⟨(640 * b + (y 1).val) % 8320, Nat.mod_lt _ (by decide)⟩ | 2 => (⟨0, Nat.one_pos⟩ : Fin 1))

theorem blk0_0 (t : Fin grid0.N) (A : S8320x1024.Idx → Elt F .f32) :
    (((cfg0 (adm0 (F := F))).win 0).blk t).view.read (Elt F) A = tile A (rowF (t.val % 91)) (t.val / 91) := by
  have ht : t.val < 728 := N_0 ▸ t.isLt
  refine funext fun (y : S640x128.Idx) => ?_
  have hi := (t0_0 (F := F) (grid0.coords t))
  rw [coord0_0, coord0_1] at hi
  have hr := rowF_lt (t.val % 91)
  blk_simp
  refine congrArg A (funext fun a => Fin.ext ?_)
  fin_cases a
  · show cc0_transform_0 k0_off1_inb numel1_S1 (pf0 (F := F)) (grid0.coords t) 0 * 640 + 1 * (y 0).val = (640 * rowF (t.val % 91) + (y 0).val) % 8320
    rw [hi]
    show rowF (t.val % 91) * 640 + 1 * (y 0).val = (640 * rowF (t.val % 91) + (y 0).val) % 8320
    have hy : (y 0).val < 640 := (y 0).isLt
    omega
  · show cc0_transform_0 k0_off1_inb numel1_S1 (pf0 (F := F)) (grid0.coords t) 1 * 128 + 1 * (y 1).val = (128 * (t.val / 91) + (y 1).val) % 1024
    rw [hi]
    show t.val / 91 * 128 + 1 * (y 1).val = (128 * (t.val / 91) + (y 1).val) % 1024
    have hy : (y 1).val < 128 := (y 1).isLt
    omega
theorem blk0_1 (t : Fin grid0.N) (A : S8320x1024.Idx → Elt F .f32) :
    (((cfg0 (adm0 (F := F))).win 1).blk t).view.read (Elt F) A = tile A (colF (t.val % 91)) (t.val / 91) := by
  have ht : t.val < 728 := N_0 ▸ t.isLt
  refine funext fun (y : S640x128.Idx) => ?_
  have hi := (t0_1 (F := F) (grid0.coords t))
  rw [coord0_0, coord0_1] at hi
  have hr := colF_lt (t.val % 91)
  blk_simp
  refine congrArg A (funext fun a => Fin.ext ?_)
  fin_cases a
  · show cc0_transform_1 k0_off1_inb numel1_S1 (pf0 (F := F)) (grid0.coords t) 0 * 640 + 1 * (y 0).val = (640 * colF (t.val % 91) + (y 0).val) % 8320
    rw [hi]
    show colF (t.val % 91) * 640 + 1 * (y 0).val = (640 * colF (t.val % 91) + (y 0).val) % 8320
    have hy : (y 0).val < 640 := (y 0).isLt
    omega
  · show cc0_transform_1 k0_off1_inb numel1_S1 (pf0 (F := F)) (grid0.coords t) 1 * 128 + 1 * (y 1).val = (128 * (t.val / 91) + (y 1).val) % 1024
    rw [hi]
    show t.val / 91 * 128 + 1 * (y 1).val = (128 * (t.val / 91) + (y 1).val) % 1024
    have hy : (y 1).val < 128 := (y 1).isLt
    omega
theorem blk0_2 (t : Fin grid0.N) (A : S8320x1024.Idx → Elt F .f32) :
    (((cfg0 (adm0 (F := F))).win 2).blk t).view.read (Elt F) A = tile A (colF (t.val % 91)) (t.val / 91) := by
  have ht : t.val < 728 := N_0 ▸ t.isLt
  refine funext fun (y : S640x128.Idx) => ?_
  have hi := (t0_2 (F := F) (grid0.coords t))
  rw [coord0_0, coord0_1] at hi
  have hr := colF_lt (t.val % 91)
  blk_simp
  refine congrArg A (funext fun a => Fin.ext ?_)
  fin_cases a
  · show cc0_transform_2 k0_off1_inb numel1_S1 (pf0 (F := F)) (grid0.coords t) 0 * 640 + 1 * (y 0).val = (640 * colF (t.val % 91) + (y 0).val) % 8320
    rw [hi]
    show colF (t.val % 91) * 640 + 1 * (y 0).val = (640 * colF (t.val % 91) + (y 0).val) % 8320
    have hy : (y 0).val < 640 := (y 0).isLt
    omega
  · show cc0_transform_2 k0_off1_inb numel1_S1 (pf0 (F := F)) (grid0.coords t) 1 * 128 + 1 * (y 1).val = (128 * (t.val / 91) + (y 1).val) % 1024
    rw [hi]
    show t.val / 91 * 128 + 1 * (y 1).val = (128 * (t.val / 91) + (y 1).val) % 1024
    have hy : (y 1).val < 128 := (y 1).isLt
    omega
theorem blk0_3 (t : Fin grid0.N) (A : S8x1x8320.Idx → Elt F .f32) :
    (((cfg0 (adm0 (F := F))).win 3).blk t).view.read (Elt F) A = rowTile A (colF (t.val % 91)) (t.val / 91) := by
  have ht : t.val < 728 := N_0 ▸ t.isLt
  refine funext fun (y : S1x1x640.Idx) => ?_
  have hi := (t0_3 (F := F) (grid0.coords t))
  rw [coord0_0, coord0_1] at hi
  have hr := colF_lt (t.val % 91)
  blk_simp
  refine congrArg A (funext fun a => Fin.ext ?_)
  fin_cases a
  · show cc0_transform_3 k0_off1_inb numel1_S1 (pf0 (F := F)) (grid0.coords t) 0 * 1 + 1 * (y 0).val = t.val / 91 % 8
    rw [hi]
    show t.val / 91 * 1 + 1 * (y 0).val = t.val / 91 % 8
    have hy : (y 0).val < 1 := (y 0).isLt
    omega
  · show cc0_transform_3 k0_off1_inb numel1_S1 (pf0 (F := F)) (grid0.coords t) 1 * 1 + 1 * (y 1).val = 0
    rw [hi]
    show 0 * 1 + 1 * (y 1).val = 0
    have hy : (y 1).val < 1 := (y 1).isLt
    omega
  · show cc0_transform_3 k0_off1_inb numel1_S1 (pf0 (F := F)) (grid0.coords t) 2 * 640 + 1 * (y 2).val = (640 * colF (t.val % 91) + (y 2).val) % 8320
    rw [hi]
    show colF (t.val % 91) * 640 + 1 * (y 2).val = (640 * colF (t.val % 91) + (y 2).val) % 8320
    have hy : (y 2).val < 640 := (y 2).isLt
    omega

end Cert.Proof.Fox
-- ==== Proof.FwdRegion.lean ====
module

public import proofs.«01_k».proof.Proof.FwdPoints

@[expose] public section
noncomputable section
namespace Cert.Proof.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [Named F]

local notation "𝕄" => MT nD τ sig Unit (Elt F) ℕ UU ℕ

/-! # The forward call over its grid

The scratch between points is a trajectory: maximum, sum and weighted sum of the row so far. -/

structure St (F : FTy → Type) [FloatOps F] where
  m : FVec F S640x1 .f32
  l : FVec F S640x1 .f32
  acc : FVec F S640x128 .f32

/-- What a row begins with. -/
def St.fresh : St F := ⟨k0_pay1, k0_pay2, k0_pay3⟩

/-- One block taken in: below the diagonal, -/
def St.off (q k v : FVec F S640x128 .f32) (e : FVec F S1x1x640 .f32) (s : St F) : St F :=
  ⟨k0_pay15 q k e s.m, k0_pay14 q k e s.m s.l, k0_pay4 (k0_pay12 q k e s.m) (k0_pay13 q k e s.m) (k0_pay16 v) (k0_pay18 q k e s.m v) (k0_pay19 q k e s.m) s.acc⟩
/-- and on it, of row `b`. -/
def St.diag (b : BitVec 32) (q k v : FVec F S640x128 .f32) (e : FVec F S1x1x640 .f32) (s : St F) : St F :=
  ⟨k0_pay6 (k0_pay21 b b q k e s.m), k0_pay5 (k0_pay24 b b q k e s.m s.l), k0_pay7 (k0_pay22 b b q k e s.m) (k0_pay23 b b q k e s.m) v s.acc⟩

variable (q k v : S8320x1024.Idx → Elt F .f32) (e : S8x1x8320.Idx → Elt F .f32)

/-- The point `n` taken from `s`, over its blocks; -/
def stepB (n : ℕ) (qb kb vb : FVec F S640x128 .f32) (eb : FVec F S1x1x640 .f32) (s : St F) : St F :=
  (if closes n then St.diag (ws (rowF n)) else St.off) qb kb vb eb (if opens n then St.fresh else s)
/-- over the arrays. -/
def stepAt (n : ℕ) (s : St F) : St F :=
  stepB (n % 91) (tile q (rowF (n % 91)) (n / 91)) (tile k (colF (n % 91)) (n / 91)) (tile v (colF (n % 91)) (n / 91)) (rowTile e (colF (n % 91)) (n / 91)) s

def traj : ℕ → St F
  | 0 => St.fresh
  | n + 1 => stepAt q k v e n (traj n)

theorem step_traj (n : ℕ) (s : St F) (h : n ≠ 0 → s = traj q k v e n) : stepAt q k v e n s = traj q k v e (n + 1) := by
  by_cases h0 : n = 0
  · subst h0
    rfl
  · rw [h h0]; rfl

theorem pt_whole (c : Dev nD) (b : Ref sig .tc) (f : b.ty.Contents (Elt F)) :
    ((c : Thread nD τ).loc b ↦{fullShare} f : sProp 𝕄) = pt c (Memref.whole b) f :=
  (owns_whole (c : Thread nD τ) b fullShare f).symm.trans (owns_eq_rep (c : Thread nD τ) _ _ _)

/-- Held between points: the buffers of the other calls, the two tables, and the scratch on the trajectory. -/
def PhiF (c : Dev nD) (n : ℕ) : sProp 𝕄 :=
  iprop(Pipeline.scopedRestBut (Ix := Unit) (Name := ℕ) (U := UU) (Lvl := ℕ) (Val := Elt F) spec0 c [cc0_scratch0, cc0_scratch1, cc0_scratch2]
    ∗ (pt c (Memref.whole main_c) tab0 ∗ pt c (Memref.whole main_c_0) tab1)
    ∗ ∃ s : St F, ⌜n ≠ 0 → s = traj q k v e n⌝ ∗ pt c (Memref.whole cc0_scratch0) s.m ∗ pt c (Memref.whole cc0_scratch1) s.l ∗ pt c (Memref.whole cc0_scratch2) s.acc)

variable (V : (c : Dev nD) → Valuation τ sig (Elt F))

abbrev fq (c : Dev nD) : S8320x1024.Idx → Elt F .f32 := V c main_arg0
abbrev fk (c : Dev nD) : S8320x1024.Idx → Elt F .f32 := V c main_arg1
abbrev fv (c : Dev nD) : S8320x1024.Idx → Elt F .f32 := V c main_arg2
abbrev fe (c : Dev nD) : S8x1x8320.Idx → Elt F .f32 := V c main_v0
/-- The trajectory from the arrays at entry. -/
abbrev ftr (c : Dev nD) (n : ℕ) : St F := traj (fq V c) (fk V c) (fv V c) (fe V c) n

def dat0 (c : Dev nD) : Dat τ (Elt F) Unit ℕ UU ℕ (cfg0 (adm0 (F := F))) c where
  A w := V c (Proc.devRef .tc (Pipeline.arrRef spec0 w))
  after w t := match w with
    | ⟨0, _⟩ => tile (fq V c) (rowF (t.val % 91)) (t.val / 91)
    | ⟨1, _⟩ => tile (fk V c) (colF (t.val % 91)) (t.val / 91)
    | ⟨2, _⟩ => tile (fv V c) (colF (t.val % 91)) (t.val / 91)
    | ⟨3, _⟩ => rowTile (fe V c) (colF (t.val % 91)) (t.val / 91)
    | ⟨4, _⟩ => k0_pay8 (ftr V c (t.val + 1)).acc (ftr V c (t.val + 1)).l
    | ⟨5, _⟩ => k0_pay9 (ftr V c (t.val + 1)).m (ftr V c (t.val + 1)).l
  Φ n := PhiF (fq V c) (fk V c) (fv V c) (fe V c) c n.val
  q _ := fullShare
  owed _ := 0

theorem before0_0 (c : Dev nD) (t : Fin grid0.N) (d) : (dat0 V c).before 0 t d = tile (fq V c) (rowF (t.val % 91)) (t.val / 91) :=
  (Dat.before_in_eq_fetched (dat0 V c) 0 rfl (fun _ => rfl) (fun _ _ _ => rfl) (fun t => (blk0_0 t (fq V c)).symm) t d).trans (blk0_0 t (fq V c))
theorem before0_1 (c : Dev nD) (t : Fin grid0.N) (d) : (dat0 V c).before 1 t d = tile (fk V c) (colF (t.val % 91)) (t.val / 91) :=
  (Dat.before_in_eq_fetched (dat0 V c) 1 rfl (fun _ => rfl) (fun _ _ _ => rfl) (fun t => (blk0_1 t (fk V c)).symm) t d).trans (blk0_1 t (fk V c))
theorem before0_2 (c : Dev nD) (t : Fin grid0.N) (d) : (dat0 V c).before 2 t d = tile (fv V c) (colF (t.val % 91)) (t.val / 91) :=
  (Dat.before_in_eq_fetched (dat0 V c) 2 rfl (fun _ => rfl) (fun _ _ _ => rfl) (fun t => (blk0_2 t (fv V c)).symm) t d).trans (blk0_2 t (fv V c))
theorem before0_3 (c : Dev nD) (t : Fin grid0.N) (d) : (dat0 V c).before 3 t d = rowTile (fe V c) (colF (t.val % 91)) (t.val / 91) :=
  (Dat.before_in_eq_fetched (dat0 V c) 3 rfl (fun _ => rfl) (fun _ _ _ => rfl) (fun t => (blk0_3 t (fe V c)).symm) t d).trans (blk0_3 t (fe V c))

theorem closes_eq {n : ℕ} (h : closes n = true) : colF n = rowF n := by unfold closes at h; simpa using h

set_option maxHeartbeats 1000000 in
/-- The body at point `n`, whatever its place in its row. -/
theorem fwd_body (c : Dev nD) (t : Fin grid0.N) (a2 : Memref sig .tc .smem S91 .i32) (h2 : a2.IsWhole) (a3 : Memref sig .tc .smem S91 .i32) (h3 : a3.IsWhole)
    (a4 : Memref sig .tc .vmem S640x128 .f32) (h4 : a4.IsWhole) (a5 : Memref sig .tc .vmem S640x128 .f32) (h5 : a5.IsWhole)
    (a6 : Memref sig .tc .vmem S640x128 .f32) (h6 : a6.IsWhole) (a7 : Memref sig .tc .vmem S1x1x640 .f32) (h7 : a7.IsWhole)
    (a8 : Memref sig .tc .vmem S640x128 .f32) (h8 : a8.IsWhole) (a9 : Memref sig .tc .vmem S1x640x1 .f32) (h9 : a9.IsWhole)
    (a10 : Memref sig .tc .vmem S640x1 .f32) (h10 : a10.IsWhole) (a11 : Memref sig .tc .vmem S640x1 .f32) (h11 : a11.IsWhole)
    (a12 : Memref sig .tc .vmem S640x128 .f32) (h12 : a12.IsWhole)
    (qb kb vb : FVec F S640x128 .f32) (eb : FVec F S1x1x640 .f32) (o : FVec F S640x128 .f32) (lse : FVec F S1x640x1 .f32) (s : St F) (E : Set ℕ) (Q : PUnit → sProp 𝕄) :
    iprop((pt c a2 tab0 ∗ pt c a3 tab1 ∗ pt c a4 qb ∗ pt c a5 kb ∗ pt c a6 vb
      ∗ pt c a7 eb ∗ pt c a8 o ∗ pt c a9 lse ∗ pt c a10 s.m ∗ pt c a11 s.l ∗ pt c a12 s.acc)
     ∗ ((pt c a2 tab0 ∗ pt c a3 tab1 ∗ pt c a4 qb ∗ pt c a5 kb ∗ pt c a6 vb
      ∗ pt c a7 eb
      ∗ pt c a8 (if closes (t.val % 91) then k0_pay8 (stepB (t.val % 91) qb kb vb eb s).acc (stepB (t.val % 91) qb kb vb eb s).l else o)
      ∗ pt c a9 (if closes (t.val % 91) then k0_pay9 (stepB (t.val % 91) qb kb vb eb s).m (stepB (t.val % 91) qb kb vb eb s).l else lse)
      ∗ pt c a10 (stepB (t.val % 91) qb kb vb eb s).m ∗ pt c a11 (stepB (t.val % 91) qb kb vb eb s).l ∗ pt c a12 (stepB (t.val % 91) qb kb vb eb s).acc) -∗ Q ⟨⟩))
      ⊢ wp frame (wpE (defs₀ (F := F)) Variants.none c none) E (cc0_fox_attn_fwd (grid0.coords t) a2 h2 a3 h3 a4 h4 a5 h5 a6 h6 a7 h7 a8 h8 a9 h9 a10 h10 a11 h11 a12 h12) Q := by
  have hw2 : word (F := F) (grid0.coords t) a2 tab0 = ws (rowF (t.val % 91)) := (word_row _ _).trans (by rw [coord0_1])
  have hw3 : word (F := F) (grid0.coords t) a3 tab1 = ws (colF (t.val % 91)) := (word_col _ _).trans (by rw [coord0_1])
  have hn : t.val % 91 < 91 := Nat.mod_lt _ (by decide)
  have g1 := fc1 ⟨_, hn⟩
  have g2 := fc2 ⟨_, hn⟩
  have g3 := fc3 ⟨_, hn⟩
  have g4 := fc4 ⟨_, hn⟩
  dsimp only at g1 g2 g3 g4
  rw [← hw3] at g1
  rw [← hw2, ← hw3] at g2 g3 g4
  unfold stepB
  cases ho : opens (t.val % 91) <;> cases hc : closes (t.val % 91) <;> simp only [ho, hc, Bool.false_eq_true, reduceIte, St.off, St.diag, iff_true, iff_false, reduceCtorEq] at g1 g2 g3 g4 ⊢
  · exact fwd_mid c (grid0.coords t) a2 h2 a3 h3 a4 h4 a5 h5 a6 h6 a7 h7 a8 h8 a9 h9 a10 h10 a11 h11 a12 h12 tab0 tab1 qb kb vb eb o lse s.m s.l s.acc E Q g1 g2 g3 g4
  · have hq := closes_eq hc
    have := fwd_diag c (grid0.coords t) a2 h2 a3 h3 a4 h4 a5 h5 a6 h6 a7 h7 a8 h8 a9 h9 a10 h10 a11 h11 a12 h12 tab0 tab1 qb kb vb eb o lse s.m s.l s.acc E Q g1 g2 g3 g4
    rw [hw2, hw3, hq] at this
    exact this
  · exact fwd_first c (grid0.coords t) a2 h2 a3 h3 a4 h4 a5 h5 a6 h6 a7 h7 a8 h8 a9 h9 a10 h10 a11 h11 a12 h12 tab0 tab1 qb kb vb eb o lse s.m s.l s.acc E Q g1 g2 g3 g4
  · have hq := closes_eq hc
    have := fwd_only c (grid0.coords t) a2 h2 a3 h3 a4 h4 a5 h5 a6 h6 a7 h7 a8 h8 a9 h9 a10 h10 a11 h11 a12 h12 tab0 tab1 qb kb vb eb o lse s.m s.l s.acc E Q g1 g2 g3 g4
    rw [hw2, hw3, hq] at this
    exact this

/-- A window stored only at the points where `b`: what the obligation asks of it. -/
theorem leaves_of {cfg : Pipeline.Cfg sig Λ₀} {c : Dev nD} (dat : Dat τ (Elt F) Unit ℕ UU ℕ cfg c) (w : Fin cfg.W) (t : Fin cfg.N)
    (b : Bool) (hi : cfg.idle w (cfg.grid.coords t) = !b) (hf : (cfg.win w).flush t = b) (d) (X) (hX : X = if b then dat.after w t else dat.before w t d) :
    (((cfg.win w).stage (cfg.slots t w)).view.loc (c : Thread nD τ) ↦[((cfg.win w).stage (cfg.slots t w)).view.set]{fullShare} ((cfg.win w).stage (cfg.slots t w)).view.rep X) ⊢ (dat.leavesExact w t : sProp 𝕄) := by
  subst hX
  refine (owns_of_rep (c : Thread nD τ) _ _ _).trans ?_
  unfold Dat.leavesExact
  rw [hi, hf]
  cases b
  · show _ ⊢ iprop(∃ d, owns (c : Thread nD τ) ((cfg.win w).stage (cfg.slots t w)) fullShare (dat.before w t d))
    iintro H; iexists d; iexact H
  · exact .rfl

theorem pt_of_owns (c : Dev nD) {sp : Space} {S : Shape} {e : EltTy} (M : Memref sig .tc sp S e) {X Y : S.Idx → Elt F e} (h : X = Y) :
    (owns (c : Thread nD τ) M fullShare X : sProp 𝕄) ⊢ pt c M Y := by
  subst h; exact rep_of_owns (c : Thread nD τ) M fullShare X

theorem closes_or_idle0_4 (t : Fin grid0.N) : (cfg0 (adm0 (F := F))).idle 4 ((cfg0 (adm0 (F := F))).grid.coords t) = !closes (t.val % 91) :=
  (idle0_eq (F := F) (grid0.coords t)).trans (by rw [coord0_1])

set_option maxHeartbeats 1000000 in
theorem body0 (c : Dev nD) : Pipeline.BodyObligation (dat0 V c) (defs₀ (F := F)) Variants.none () Set.univ := fun t => by
  rw [bigSep_W0, bigSep_W0]
  have hΦ : (dat0 V c).Φ t.castSucc = PhiF (fq V c) (fk V c) (fv V c) (fe V c) c t.val := by
    exact Dat.Φ_castSucc (fun n _ => PhiF (fq V c) (fk V c) (fv V c) (fe V c) c n) t
  have hΦ' : (dat0 V c).Φ t.succ = PhiF (fq V c) (fk V c) (fv V c) (fe V c) c (t.val + 1) := by
    dsimp only [dat0]; rw [Fin.val_succ]
  rewrite [hΦ, hΦ']
  unfold PhiF
  iintro ⟨⟨Hr, ⟨HT2, HT3⟩, ⟨%s, %hs, S0, S1, S2⟩⟩, Howes, ⟨%d0, H0⟩, ⟨%d1, H1⟩, ⟨%d2, H2⟩, ⟨%d3, H3⟩, ⟨%d4, H4⟩, ⟨%d5, H5⟩⟩
  ihave H0' := (pt_of_owns c (spec0_0.stage ((cfg0 (adm0 (F := F))).slots t 0)) (before0_0 V c t d0)) $$ H0
  ihave H1' := (pt_of_owns c (spec0_1.stage ((cfg0 (adm0 (F := F))).slots t 1)) (before0_1 V c t d1)) $$ H1
  ihave H2' := (pt_of_owns c (spec0_2.stage ((cfg0 (adm0 (F := F))).slots t 2)) (before0_2 V c t d2)) $$ H2
  ihave H3' := (pt_of_owns c (spec0_3.stage ((cfg0 (adm0 (F := F))).slots t 3)) (before0_3 V c t d3)) $$ H3
  ihave H4' := (pt_of_owns c (spec0_4.stage ((cfg0 (adm0 (F := F))).slots t 4)) rfl) $$ H4
  ihave H5' := (pt_of_owns c (spec0_5.stage ((cfg0 (adm0 (F := F))).slots t 5)) rfl) $$ H5
  have key := step_traj (fq V c) (fk V c) (fv V c) (fe V c) t.val s hs
  iapply (fwd_body c t (Memref.whole main_c) (Memref.isWhole_whole _) (Memref.whole main_c_0) (Memref.isWhole_whole _)
    (spec0_0.stage ((cfg0 (adm0 (F := F))).slots t 0)) (hstage0_0 (((cfg0 (adm0 (F := F))).slots t 0).cast nbuf0_0))
    (spec0_1.stage ((cfg0 (adm0 (F := F))).slots t 1)) (hstage0_1 (((cfg0 (adm0 (F := F))).slots t 1).cast nbuf0_1))
    (spec0_2.stage ((cfg0 (adm0 (F := F))).slots t 2)) (hstage0_2 (((cfg0 (adm0 (F := F))).slots t 2).cast nbuf0_2))
    (spec0_3.stage ((cfg0 (adm0 (F := F))).slots t 3)) (hstage0_3 (((cfg0 (adm0 (F := F))).slots t 3).cast nbuf0_3))
    (spec0_4.stage ((cfg0 (adm0 (F := F))).slots t 4)) (hstage0_4 (((cfg0 (adm0 (F := F))).slots t 4).cast nbuf0_4))
    (spec0_5.stage ((cfg0 (adm0 (F := F))).slots t 5)) (hstage0_5 (((cfg0 (adm0 (F := F))).slots t 5).cast nbuf0_5))
    (Memref.whole cc0_scratch0) (Memref.isWhole_whole _) (Memref.whole cc0_scratch1) (Memref.isWhole_whole _) (Memref.whole cc0_scratch2) (Memref.isWhole_whole _)
    _ _ _ _ _ _ s Set.univ _)
  isplitl [HT2 HT3 H0' H1' H2' H3' H4' H5' S0 S1 S2]
  · isplitl [HT2]; · iexact HT2
    isplitl [HT3]; · iexact HT3
    isplitl [H0']; · iexact H0'
    isplitl [H1']; · iexact H1'
    isplitl [H2']; · iexact H2'
    isplitl [H3']; · iexact H3'
    isplitl [H4']; · iexact H4'
    isplitl [H5']; · iexact H5'
    isplitl [S0]; · iexact S0
    isplitl [S1]; · iexact S1
    iexact S2
  iintro ⟨HT2, HT3, H0, H1, H2, H3, H4, H5, S0, S1, S2⟩
  isplitl [Hr HT2 HT3 S0 S1 S2]
  · isplitl [Hr]; · iexact Hr
    isplitl [HT2 HT3]
    · isplitl [HT2]; · iexact HT2
      iexact HT3
    iexists _
    isplitr
    · ipureintro; exact fun _ => key
    isplitl [S0]; · iexact S0
    isplitl [S1]; · iexact S1
    iexact S2
  isplitl [Howes]; · iexact Howes
  isplitl [H0]; · iapply (owns_of_rep (c : Thread nD τ) _ _ _); iexact H0
  isplitl [H1]; · iapply (owns_of_rep (c : Thread nD τ) _ _ _); iexact H1
  isplitl [H2]; · iapply (owns_of_rep (c : Thread nD τ) _ _ _); iexact H2
  isplitl [H3]; · iapply (owns_of_rep (c : Thread nD τ) _ _ _); iexact H3
  isplitl [H4]
  · iapply (leaves_of (dat0 V c) 4 t (closes (t.val % 91)) (closes_or_idle0_4 t) (flush0_4 t) d4 _ (by
      show _ = if closes (t.val % 91) = true then k0_pay8 (ftr V c (t.val + 1)).acc (ftr V c (t.val + 1)).l else _
      rw [ftr, ← key]; rfl))
    iexact H4
  · iapply (leaves_of (dat0 V c) 5 t (closes (t.val % 91)) (closes_or_idle0_4 t) (flush0_5 t) d5 _ (by
      show _ = if closes (t.val % 91) = true then k0_pay9 (ftr V c (t.val + 1)).m (ftr V c (t.val + 1)).l else _
      rw [ftr, ← key]; rfl))
    iexact H5

end Cert.Proof.Fox
-- ==== Proof.DeltaRegion.lean ====
module

public import proofs.«01_k».proof.Proof.FwdRegion
public import proofs.«01_k».proof.Proof.Gen.KernelIdeal.Points

@[expose] public section
noncomputable section
namespace Cert.Proof.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [Named F]

local notation "𝕄" => MT nD τ sig Unit (Elt F) ℕ UU ℕ

/-! # The inner products of the outputs with their cotangents -/

/-- The 128 columns `h` of a block of rows. -/
def cols {α : Type} (a : S640x1024.Idx → α) (h : ℕ) : S640x128.Idx → α := fun y =>
  a (fun | 0 => y 0 | 1 => ⟨(128 * h + (y 1).val) % 1024, Nat.mod_lt _ (by decide)⟩)

/-- The block of inner products: head `y 0`, row `y 1`. -/
def deltaB (o g : FVec F S640x1024 .f32) : FVec F S8x640x1 .f32 := fun y =>
  k1_pay3 (cols g (y 0).val) (cols o (y 0).val) (fun | 0 => (⟨0, Nat.one_pos⟩ : Fin 1) | 1 => y 1 | 2 => (⟨0, Nat.one_pos⟩ : Fin 1))

theorem cols_read (v : View sig .tc .vmem S640x1024 .f32) (a : FVec F S640x1024 .f32) (j n : ℕ) (hj : j < 8) (hn : n = 128 * j) (inb : ∀ x, (![0, n] : Fin 2 → ℕ) x + S640x128.size x ≤ S640x1024.size x) :
    v.readAt (Elt F) (Rect.unit (s := S640x1024) ![0, n] S640x128.size inb).toLoadRect (v.rep a) = cols a j := by
  rw [View.readAt_rep]
  subst hn
  refine funext fun (y : S640x128.Idx) => congrArg a (funext fun x => Fin.ext ?_)
  fin_cases x
  · show 0 + 1 * (y 0).val = (y 0).val
    omega
  · show 128 * j + 1 * (y 1).val = (128 * j + (y 1).val) % 1024
    have hy : (y 1).val < 128 := (y 1).isLt
    omega

theorem delta_piece (o g : FVec F S640x1024 .f32) (j : ℕ) (inb : ∀ x, (![j, 0, 0] : Fin 3 → ℕ) x + S1x640x1.size x ≤ S8x640x1.size x)
    (G O : FVec F S640x128 .f32) (hG : G = cols g j) (hO : O = cols o j) (x : S1x640x1.Idx) :
    k1_pay3 G O x = deltaB o g ((Rect.unit (s := S8x640x1) ![j, 0, 0] S1x640x1.size inb).emb x) := by
  subst hG hO
  have hx : (x 0).val < 1 := (x 0).isLt
  have hx2 : (x 2).val < 1 := (x 2).isLt
  have h0 : (((Rect.unit (s := S8x640x1) ![j, 0, 0] S1x640x1.size inb).emb x) 0).val = j := by
    show j + 1 * (x 0).val = j
    omega
  unfold deltaB
  rw [h0]
  refine congrArg _ (funext fun a => Fin.ext ?_)
  fin_cases a
  · show (x 0).val = 0
    omega
  · show (x 1).val = 0 + 1 * (x 1).val
    omega
  · show (x 2).val = 0
    omega

set_option maxHeartbeats 2000000 in
theorem delta_body (c : Dev nD) (i : grid1.Coords) (a1 : Memref sig .tc .vmem S640x1024 .f32) (h1 : a1.IsWhole) (a2 : Memref sig .tc .vmem S640x1024 .f32) (h2 : a2.IsWhole)
    (a3 : Memref sig .tc .vmem S8x640x1 .f32) (h3 : a3.IsWhole) (o g : FVec F S640x1024 .f32) (d : FVec F S8x640x1 .f32) (E : Set ℕ) (Q : PUnit → sProp 𝕄) :
    iprop((pt c a1 o ∗ pt c a2 g ∗ pt c a3 d) ∗ ((pt c a1 o ∗ pt c a2 g ∗ pt c a3 (deltaB o g)) -∗ Q ⟨⟩))
      ⊢ wp frame (wpE (defs₀ (F := F)) Variants.none c none) E (cc1_attn_delta i a1 h1 a2 h2 a3 h3) Q := by
  rw [cc1_attn_delta_eq_skeleton]; unfold cc1_attn_delta_skel
  rw [k1_part1_eq_skeleton, k1_part2_eq_skeleton]; unfold k1_part1_skel k1_part2_skel
  iintro ⟨⟨H1, H2, H3⟩, HQ⟩
  sl_exec!
  sl_step
  have hw : a3.view.writes (Elt F) a3.view.junk (delta_body.sl.H3_8 a1 a2 o g) = a3.view.rep (deltaB o g) := by
    refine View.contents_ext a3.view (fun y => ?_) (fun i hi => ?_)
    · rw [View.read_rep]
      refine View.read_writes_apply_of_pieces a3.view a3.view.junk (deltaB o g) (delta_body.sl.H3_8 a1 a2 o g) ?_ y (View.cover_of_tiled (s := S8x640x1) (delta_body.sl.H3_8 a1 a2 o g) S1x640x1.size (by delta delta_body.sl.H3_8; rfl) y)
      delta delta_body.sl.H3_8
      simp only [List.forall_mem_cons, List.not_mem_nil, false_implies, implies_true, _root_.and_true]
      exact ⟨delta_piece o g 7 _ _ _ (cols_read a2.view g 7 896 (by decide) rfl _) (cols_read a1.view o 7 896 (by decide) rfl _), delta_piece o g 6 _ _ _ (cols_read a2.view g 6 768 (by decide) rfl _) (cols_read a1.view o 6 768 (by decide) rfl _), delta_piece o g 5 _ _ _ (cols_read a2.view g 5 640 (by decide) rfl _) (cols_read a1.view o 5 640 (by decide) rfl _), delta_piece o g 4 _ _ _ (cols_read a2.view g 4 512 (by decide) rfl _) (cols_read a1.view o 4 512 (by decide) rfl _), delta_piece o g 3 _ _ _ (cols_read a2.view g 3 384 (by decide) rfl _) (cols_read a1.view o 3 384 (by decide) rfl _), delta_piece o g 2 _ _ _ (cols_read a2.view g 2 256 (by decide) rfl _) (cols_read a1.view o 2 256 (by decide) rfl _), delta_piece o g 1 _ _ _ (cols_read a2.view g 1 128 (by decide) rfl _) (cols_read a1.view o 1 128 (by decide) rfl _), delta_piece o g 0 _ _ _ (cols_read a2.view g 0 0 (by decide) rfl _) (cols_read a1.view o 0 0 (by decide) rfl _)⟩
    · rw [View.writes_apply_of_forall_ne a3.view _ _ hi, View.rep, View.writes_apply_of_forall_ne a3.view _ _ hi]
  rw [hw]
  iapply HQ
  iframe H1 H2 H3

/-! ## Over the grid -/

/-- The block of 640 rows `b`, all its columns. -/
def wide {α : Type} (a : S8320x1024.Idx → α) (b : ℕ) : S640x1024.Idx → α := fun y =>
  a (fun | 0 => ⟨(640 * b + (y 0).val) % 8320, Nat.mod_lt _ (by decide)⟩ | 1 => y 1)

theorem coord1_0 (t : Fin grid1.N) : (grid1.coords t 0).val = t.val := by
  have h : t.val < 13 := N_1 ▸ t.isLt
  have := Pipeline.Grid.coords_val t 0 (S := 1) (B := 13) (by decide) rfl
  omega

theorem row_small (i : Fin 13) : (BitVec.ofNat 32 i.val).toNat = i.val := by
  rw [BitVec.toNat_ofNat]; exact Nat.mod_eq_of_lt (by omega)

theorem t1_0 (i : grid1.Coords) : cc1_transform_0 i = ![(i 0).val, 0] := congrArg (fun a => (![a, 0] : Fin 2 → ℕ)) (row_small (i 0))
theorem t1_1 (i : grid1.Coords) : cc1_transform_1 i = ![(i 0).val, 0] := congrArg (fun a => (![a, 0] : Fin 2 → ℕ)) (row_small (i 0))
theorem t1_2 (i : grid1.Coords) : cc1_transform_2 i = ![0, (i 0).val, 0] := congrArg (fun a => (![0, a, 0] : Fin 3 → ℕ)) (row_small (i 0))

theorem blk1_0 (t : Fin grid1.N) (A : S8320x1024.Idx → Elt F .f32) : ((cfg1.win 0).blk t).view.read (Elt F) A = wide A t.val := by
  have ht : t.val < 13 := N_1 ▸ t.isLt
  refine funext fun (y : S640x1024.Idx) => ?_
  have hi := t1_0 (grid1.coords t)
  rw [coord1_0] at hi
  blk_simp
  refine congrArg A (funext fun a => Fin.ext ?_)
  fin_cases a
  · show cc1_transform_0 (grid1.coords t) 0 * 640 + 1 * (y 0).val = (640 * t.val + (y 0).val) % 8320
    rw [hi]
    show t.val * 640 + 1 * (y 0).val = (640 * t.val + (y 0).val) % 8320
    have hy : (y 0).val < 640 := (y 0).isLt
    omega
  · show cc1_transform_0 (grid1.coords t) 1 * 1024 + 1 * (y 1).val = (y 1).val
    rw [hi]
    show 0 * 1024 + 1 * (y 1).val = (y 1).val
    omega
theorem blk1_1 (t : Fin grid1.N) (A : S8320x1024.Idx → Elt F .f32) : ((cfg1.win 1).blk t).view.read (Elt F) A = wide A t.val := by
  have ht : t.val < 13 := N_1 ▸ t.isLt
  refine funext fun (y : S640x1024.Idx) => ?_
  have hi := t1_1 (grid1.coords t)
  rw [coord1_0] at hi
  blk_simp
  refine congrArg A (funext fun a => Fin.ext ?_)
  fin_cases a
  · show cc1_transform_1 (grid1.coords t) 0 * 640 + 1 * (y 0).val = (640 * t.val + (y 0).val) % 8320
    rw [hi]
    show t.val * 640 + 1 * (y 0).val = (640 * t.val + (y 0).val) % 8320
    have hy : (y 0).val < 640 := (y 0).isLt
    omega
  · show cc1_transform_1 (grid1.coords t) 1 * 1024 + 1 * (y 1).val = (y 1).val
    rw [hi]
    show 0 * 1024 + 1 * (y 1).val = (y 1).val
    omega
variable (V : (c : Dev nD) → Valuation τ sig (Elt F))

abbrev do_ (c : Dev nD) : S8320x1024.Idx → Elt F .f32 := V c main_v1_0
abbrev dg (c : Dev nD) : S8320x1024.Idx → Elt F .f32 := V c main_arg4

def dat1 (c : Dev nD) : Dat τ (Elt F) Unit ℕ UU ℕ cfg1 c where
  A w := V c (Proc.devRef .tc (Pipeline.arrRef spec1 w))
  after w t := match w with
    | ⟨0, _⟩ => wide (do_ V c) t.val
    | ⟨1, _⟩ => wide (dg V c) t.val
    | ⟨2, _⟩ => deltaB (wide (do_ V c) t.val) (wide (dg V c) t.val)
  Φ _ := Pipeline.scopedRest (Ix := Unit) (Name := ℕ) (U := UU) (Lvl := ℕ) (Val := Elt F) spec1 c
  q _ := fullShare
  owed _ := 0

theorem before1_0 (c : Dev nD) (t : Fin grid1.N) (d) : (dat1 V c).before 0 t d = wide (do_ V c) t.val :=
  (Dat.before_in_eq_fetched (dat1 V c) 0 rfl (fun _ => rfl) (fun _ _ _ => rfl) (fun t => (blk1_0 t (do_ V c)).symm) t d).trans (blk1_0 t (do_ V c))
theorem before1_1 (c : Dev nD) (t : Fin grid1.N) (d) : (dat1 V c).before 1 t d = wide (dg V c) t.val :=
  (Dat.before_in_eq_fetched (dat1 V c) 1 rfl (fun _ => rfl) (fun _ _ _ => rfl) (fun t => (blk1_1 t (dg V c)).symm) t d).trans (blk1_1 t (dg V c))

set_option maxHeartbeats 1000000 in
theorem body1 (c : Dev nD) : Pipeline.BodyObligation (dat1 V c) (defs₀ (F := F)) Variants.none () Set.univ := fun t => by
  rw [bigSep_W1, bigSep_W1]
  rewrite [show (dat1 V c).Φ t.castSucc = Pipeline.scopedRest (Ix := Unit) (Name := ℕ) (U := UU) (Lvl := ℕ) (Val := Elt F) spec1 c from rfl,
    show (dat1 V c).Φ t.succ = Pipeline.scopedRest (Ix := Unit) (Name := ℕ) (U := UU) (Lvl := ℕ) (Val := Elt F) spec1 c from rfl]
  iintro ⟨Hr, Howes, ⟨%d0, H0⟩, ⟨%d1, H1⟩, ⟨%d2, H2⟩⟩
  ihave H0' := (pt_of_owns c (win1_0.stage (cfg1.slots t 0)) (before1_0 V c t d0)) $$ H0
  ihave H1' := (pt_of_owns c (win1_1.stage (cfg1.slots t 1)) (before1_1 V c t d1)) $$ H1
  ihave H2' := (pt_of_owns c (win1_2.stage (cfg1.slots t 2)) rfl) $$ H2
  iapply (delta_body c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    _ _ _ Set.univ _)
  isplitl [H0' H1' H2']
  · isplitl [H0']; · iexact H0'
    isplitl [H1']; · iexact H1'
    iexact H2'
  iintro ⟨H0, H1, H2⟩
  isplitl [Hr]; · iexact Hr
  isplitl [Howes]; · iexact Howes
  isplitl [H0]; · iapply (owns_of_rep (c : Thread nD τ) _ _ _); iexact H0
  isplitl [H1]; · iapply (owns_of_rep (c : Thread nD τ) _ _ _); iexact H1
  iapply (owns_of_rep (c : Thread nD τ) _ _ _); iexact H2

end Cert.Proof.Fox
-- ==== Proof.BwdPoints.lean ====
module

public import proofs.«01_k».proof.Proof.FwdRegion

@[expose] public section
noncomputable section
namespace Cert.Proof.Fox

open Cert.KernelIdeal Cert.KernelIdeal.Gen
open Idealize.ShloMosaic
open Idealize.ShloMosaic.TcCoe
open Idealize.ShloMosaic.Pipeline (Dat Cfg Window)

variable {F : FTy → Type} [FloatOps F] [Named F]

/-! # The backward call's points -/

theorem coord2_0 (t : Fin grid2.N) : (grid2.coords t 0).val = t.val / 91 := by
  have h : t.val < 728 := N_2 ▸ t.isLt
  have := Pipeline.Grid.coords_val t 0 (S := 91) (B := 8) (by decide) rfl
  omega
theorem coord2_1 (t : Fin grid2.N) : (grid2.coords t 1).val = t.val % 91 := by
  have := Pipeline.Grid.coords_val t 1 (S := 1) (B := 91) (by decide) rfl
  omega

/-- A column of keys begins at the point: its diagonal. -/
def starts (n : ℕ) : Bool := qryB n == keyB n
/-- A column of keys ends at the point: the last block of queries. -/
def lasts (n : ℕ) : Bool := qryB n == 12

theorem bc0_fin : ∀ n : Fin 91, k2_chk1 (ws (keyB n.val)) (ws (qryB n.val)) := by decide +kernel
theorem bc0 (n : Fin 91) : k2_chk1 (ws (keyB n.val)) (ws (qryB n.val)) := bc0_fin n
theorem bc2 : ∀ n : Fin 91, (Scalar.cmpi .ne (Scalar.extui (Scalar.cmpi .eq (ws (qryB n.val)) (Scalar.maxsi (Scalar.subi (ws (keyB n.val)) 0#32) 0#32))) 0#32 = 1#1) ↔ starts n.val = true := by decide +kernel
theorem bc3 : ∀ n : Fin 91, (k2_cond3 (ws (keyB n.val)) (ws (qryB n.val)) = 1#1) ↔ starts n.val = false := by decide +kernel
theorem bc4 : ∀ n : Fin 91, (k2_cond4 (ws (keyB n.val)) (ws (qryB n.val)) = 1#1) ↔ starts n.val = true := by decide +kernel
theorem bc5 : ∀ n : Fin 91, (k2_cond5 (ws (qryB n.val)) = 1#1) ↔ lasts n.val = true := by decide +kernel
theorem bc1 (i : grid2.Coords) : (k2_cond1 i = 1#1) ↔ (i 1).val = 0 :=
  (by decide +kernel : ∀ n : Fin 91, (Scalar.cmpi .ne (Scalar.extui (Scalar.cmpi .eq (BitVec.ofNat 32 n.val) 0#32)) 0#32 = 1#1) ↔ n.val = 0) (i 1)
theorem bc6 (i : grid2.Coords) : (k2_cond6 i = 1#1) ↔ (i 1).val = 90 :=
  (by decide +kernel : ∀ n : Fin 91, (Scalar.cmpi .ne (Scalar.extui (Scalar.cmpi .eq (BitVec.ofNat 32 n.val) 90#32)) 0#32 = 1#1) ↔ n.val = 90) (i 1)
/-- The first point is on the diagonal and is not the last of its column; the last is on the diagonal and ends its column. -/
theorem first_point : starts 0 = true ∧ lasts 0 = false := by decide +kernel
theorem last_point : starts 90 = true ∧ lasts 90 = true := by decide +kernel
/-- Only the last point both begins and ends a column. -/
theorem only_point : ∀ n : Fin 91, starts n.val = true → lasts n.val = true → n.val = 90 := by decide +kernel

/-- The backward call's tables, admissible. -/
def adm2 : (pcfg2 (F := F)).Adm := ⟨pf2, ok_pf2⟩

theorem idle2_7 (i : grid2.Coords) : idle2 (pf2 (F := F)) 7 i = !lasts (i 1).val := by
  show (!(k2_cond5 ((pf2 (F := F)).atD 1 (k2_off1 i)) == 1#1)) = _
  congr 1
  refine (congrArg (· == 1#1) (congrArg k2_cond5 (qry2_atD (F := F) i))).trans ?_
  exact Bool.eq_iff_iff.mpr ((beq_iff_eq).trans (bc5 (i 1)))

theorem idle2_10 (i : grid2.Coords) : idle2 (pf2 (F := F)) 10 i = false := by
  show (!(k2_cond1 i == 1#1) && !(k2_cond3 ((pf2 (F := F)).atD 0 (k2_off1 i)) ((pf2 (F := F)).atD 1 (k2_off1 i)) == 1#1)
    && !(k2_cond4 ((pf2 (F := F)).atD 0 (k2_off1 i)) ((pf2 (F := F)).atD 1 (k2_off1 i)) == 1#1) && !(k2_cond6 i == 1#1)) = false
  have e3 : k2_cond3 ((pf2 (F := F)).atD 0 (k2_off1 i)) ((pf2 (F := F)).atD 1 (k2_off1 i)) = k2_cond3 (ws (keyB (i 1).val)) (ws (qryB (i 1).val)) :=
    congrArg₂ k2_cond3 (key2_atD (F := F) i) (qry2_atD (F := F) i)
  have e4 : k2_cond4 ((pf2 (F := F)).atD 0 (k2_off1 i)) ((pf2 (F := F)).atD 1 (k2_off1 i)) = k2_cond4 (ws (keyB (i 1).val)) (ws (qryB (i 1).val)) :=
    congrArg₂ k2_cond4 (key2_atD (F := F) i) (qry2_atD (F := F) i)
  rw [e3, e4]
  have h3 := bc3 (i 1)
  have h4 := bc4 (i 1)
  cases hs : starts (i 1).val
  · rw [h3.mpr hs]; simp
  · rw [h4.mpr hs]; simp

theorem flush2_7 (t : Fin grid2.N) : ((cfg2 (adm2 (F := F))).win 7).flush t = lasts (t.val % 91) := by
  rw [flush_of ((cfg2 (adm2 (F := F))).win 7) rfl 728 N_2 (fun n => ![keyB (n % 91), n / 91]) (fun t => (t2_7 (F := F) _).trans (by rw [coord2_0, coord2_1]))]
  have ht : t.val < 728 := N_2 ▸ t.isLt
  exact (by decide +kernel : ∀ n : Fin 728, (decide (n.val + 1 = 728) || decide ((![keyB ((n.val + 1) % 91), (n.val + 1) / 91] : Fin 2 → ℕ) ≠ ![keyB (n.val % 91), n.val / 91])) = lasts (n.val % 91)) ⟨t.val, ht⟩
theorem flush2_8 (t : Fin grid2.N) : ((cfg2 (adm2 (F := F))).win 8).flush t = lasts (t.val % 91) := by
  rw [flush_of ((cfg2 (adm2 (F := F))).win 8) rfl 728 N_2 (fun n => ![keyB (n % 91), n / 91]) (fun t => (t2_8 (F := F) _).trans (by rw [coord2_0, coord2_1]))]
  have ht : t.val < 728 := N_2 ▸ t.isLt
  exact (by decide +kernel : ∀ n : Fin 728, (decide (n.val + 1 = 728) || decide ((![keyB ((n.val + 1) % 91), (n.val + 1) / 91] : Fin 2 → ℕ) ≠ ![keyB (n.val % 91), n.val / 91])) = lasts (n.val % 91)) ⟨t.val, ht⟩
theorem flush2_9 (t : Fin grid2.N) : ((cfg2 (adm2 (F := F))).win 9).flush t = lasts (t.val % 91) := by
  rw [flush_of ((cfg2 (adm2 (F := F))).win 9) rfl 728 N_2 (fun n => ![n / 91, keyB (n % 91), 0]) (fun t => (t2_9 (F := F) _).trans (by rw [coord2_0, coord2_1]))]
  have ht : t.val < 728 := N_2 ▸ t.isLt
  exact (by decide +kernel : ∀ n : Fin 728, (decide (n.val + 1 = 728) || decide ((![(n.val + 1) / 91, keyB ((n.val + 1) % 91), 0] : Fin 3 → ℕ) ≠ ![n.val / 91, keyB (n.val % 91), 0])) = lasts (n.val % 91)) ⟨t.val, ht⟩
theorem flush2_10 (t : Fin grid2.N) : ((cfg2 (adm2 (F := F))).win 10).flush t = decide (t.val % 91 = 90) := by
  rw [flush_of ((cfg2 (adm2 (F := F))).win 10) rfl 728 N_2 (fun n => ![0, n / 91]) (fun t => (t2_10 _).trans (by rw [coord2_0]))]
  have ht : t.val < 728 := N_2 ▸ t.isLt
  exact (by decide +kernel : ∀ n : Fin 728, (decide (n.val + 1 = 728) || decide ((![0, (n.val + 1) / 91] : Fin 2 → ℕ) ≠ ![0, n.val / 91])) = decide (n.val % 91 = 90)) ⟨t.val, ht⟩

/-! ## Blocks of the arrays -/

theorem blk2_0 (t : Fin grid2.N) (A : S8320x1024.Idx → Elt F .f32) :
    (((cfg2 (adm2 (F := F))).win 0).blk t).view.read (Elt F) A = tile A (qryB (t.val % 91)) (t.val / 91) := by
  have ht : t.val < 728 := N_2 ▸ t.isLt
  refine funext fun (y : S640x128.Idx) => ?_
  have hi := (t2_0 (F := F) (grid2.coords t))
  rw [coord2_0, coord2_1] at hi
  have hr := qryB_lt (t.val % 91)
  blk_simp
  refine congrArg A (funext fun a => Fin.ext ?_)
  fin_cases a
  · show cc2_transform_0 k2_off1_inb numel1_S1 (pf2 (F := F)) (grid2.coords t) 0 * 640 + 1 * (y 0).val = (640 * qryB (t.val % 91) + (y 0).val) % 8320
    rw [hi]
    show qryB (t.val % 91) * 640 + 1 * (y 0).val = (640 * qryB (t.val % 91) + (y 0).val) % 8320
    have hy : (y 0).val < 640 := (y 0).isLt
    omega
  · show cc2_transform_0 k2_off1_inb numel1_S1 (pf2 (F := F)) (grid2.coords t) 1 * 128 + 1 * (y 1).val = (128 * (t.val / 91) + (y 1).val) % 1024
    rw [hi]
    show t.val / 91 * 128 + 1 * (y 1).val = (128 * (t.val / 91) + (y 1).val) % 1024
    have hy : (y 1).val < 128 := (y 1).isLt
    omega
theorem blk2_1 (t : Fin grid2.N) (A : S8320x1024.Idx → Elt F .f32) :
    (((cfg2 (adm2 (F := F))).win 1).blk t).view.read (Elt F) A = tile A (keyB (t.val % 91)) (t.val / 91) := by
  have ht : t.val < 728 := N_2 ▸ t.isLt
  refine funext fun (y : S640x128.Idx) => ?_
  have hi := (t2_1 (F := F) (grid2.coords t))
  rw [coord2_0, coord2_1] at hi
  have hr := keyB_lt (t.val % 91)
  blk_simp
  refine congrArg A (funext fun a => Fin.ext ?_)
  fin_cases a
  · show cc2_transform_1 k2_off1_inb numel1_S1 (pf2 (F := F)) (grid2.coords t) 0 * 640 + 1 * (y 0).val = (640 * keyB (t.val % 91) + (y 0).val) % 8320
    rw [hi]
    show keyB (t.val % 91) * 640 + 1 * (y 0).val = (640 * keyB (t.val % 91) + (y 0).val) % 8320
    have hy : (y 0).val < 640 := (y 0).isLt
    omega
  · show cc2_transform_1 k2_off1_inb numel1_S1 (pf2 (F := F)) (grid2.coords t) 1 * 128 + 1 * (y 1).val = (128 * (t.val / 91) + (y 1).val) % 1024
    rw [hi]
    show t.val / 91 * 128 + 1 * (y 1).val = (128 * (t.val / 91) + (y 1).val) % 1024
    have hy : (y 1).val < 128 := (y 1).isLt
    omega
theorem blk2_2 (t : Fin grid2.N) (A : S8320x1024.Idx → Elt F .f32) :
    (((cfg2 (adm2 (F := F))).win 2).blk t).view.read (Elt F) A = tile A (keyB (t.val % 91)) (t.val / 91) := by
  have ht : t.val < 728 := N_2 ▸ t.isLt
  refine funext fun (y : S640x128.Idx) => ?_
  have hi := (t2_2 (F := F) (grid2.coords t))
  rw [coord2_0, coord2_1] at hi
  have hr := keyB_lt (t.val % 91)
  blk_simp
  refine congrArg A (funext fun a => Fin.ext ?_)
  fin_cases a
  · show cc2_transform_2 k2_off1_inb numel1_S1 (pf2 (F := F)) (grid2.coords t) 0 * 640 + 1 * (y 0).val = (640 * keyB (t.val % 91) + (y 0).val) % 8320
    rw [hi]
    show keyB (t.val % 91) * 640 + 1 * (y 0).val = (640 * keyB (t.val % 91) + (y 0).val) % 8320
    have hy : (y 0).val < 640 := (y 0).isLt
    omega
  · show cc2_transform_2 k2_off1_inb numel1_S1 (pf2 (F := F)) (grid2.coords t) 1 * 128 + 1 * (y 1).val = (128 * (t.val / 91) + (y 1).val) % 1024
    rw [hi]
    show t.val / 91 * 128 + 1 * (y 1).val = (128 * (t.val / 91) + (y 1).val) % 1024
    have hy : (y 1).val < 128 := (y 1).isLt
    omega
theorem blk2_3 (t : Fin grid2.N) (A : S8x8320x1.Idx → Elt F .f32) :
    (((cfg2 (adm2 (F := F))).win 3).blk t).view.read (Elt F) A = colTile A (keyB (t.val % 91)) (t.val / 91) := by
  have ht : t.val < 728 := N_2 ▸ t.isLt
  refine funext fun (y : S1x640x1.Idx) => ?_
  have hi := (t2_3 (F := F) (grid2.coords t))
  rw [coord2_0, coord2_1] at hi
  have hr := keyB_lt (t.val % 91)
  blk_simp
  refine congrArg A (funext fun a => Fin.ext ?_)
  fin_cases a
  · show cc2_transform_3 k2_off1_inb numel1_S1 (pf2 (F := F)) (grid2.coords t) 0 * 1 + 1 * (y 0).val = t.val / 91 % 8
    rw [hi]
    show t.val / 91 * 1 + 1 * (y 0).val = t.val / 91 % 8
    have hy : (y 0).val < 1 := (y 0).isLt
    omega
  · show cc2_transform_3 k2_off1_inb numel1_S1 (pf2 (F := F)) (grid2.coords t) 1 * 640 + 1 * (y 1).val = (640 * keyB (t.val % 91) + (y 1).val) % 8320
    rw [hi]
    show keyB (t.val % 91) * 640 + 1 * (y 1).val = (640 * keyB (t.val % 91) + (y 1).val) % 8320
    have hy : (y 1).val < 640 := (y 1).isLt
    omega
  · show cc2_transform_3 k2_off1_inb numel1_S1 (pf2 (F := F)) (grid2.coords t) 2 * 1 + 1 * (y 2).val = 0
    rw [hi]
    show 0 * 1 + 1 * (y 2).val = 0
    have hy : (y 2).val < 1 := (y 2).isLt
    omega
theorem blk2_4 (t : Fin grid2.N) (A : S8320x1024.Idx → Elt F .f32) :
    (((cfg2 (adm2 (F := F))).win 4).blk t).view.read (Elt F) A = tile A (qryB (t.val % 91)) (t.val / 91) := by
  have ht : t.val < 728 := N_2 ▸ t.isLt
  refine funext fun (y : S640x128.Idx) => ?_
  have hi := (t2_4 (F := F) (grid2.coords t))
  rw [coord2_0, coord2_1] at hi
  have hr := qryB_lt (t.val % 91)
  blk_simp
  refine congrArg A (funext fun a => Fin.ext ?_)
  fin_cases a
  · show cc2_transform_4 k2_off1_inb numel1_S1 (pf2 (F := F)) (grid2.coords t) 0 * 640 + 1 * (y 0).val = (640 * qryB (t.val % 91) + (y 0).val) % 8320
    rw [hi]
    show qryB (t.val % 91) * 640 + 1 * (y 0).val = (640 * qryB (t.val % 91) + (y 0).val) % 8320
    have hy : (y 0).val < 640 := (y 0).isLt
    omega
  · show cc2_transform_4 k2_off1_inb numel1_S1 (pf2 (F := F)) (grid2.coords t) 1 * 128 + 1 * (y 1).val = (128 * (t.val / 91) + (y 1).val) % 1024
    rw [hi]
    show t.val / 91 * 128 + 1 * (y 1).val = (128 * (t.val / 91) + (y 1).val) % 1024
    have hy : (y 1).val < 128 := (y 1).isLt
    omega
theorem blk2_5 (t : Fin grid2.N) (A : S8x1x8320.Idx → Elt F .f32) :
    (((cfg2 (adm2 (F := F))).win 5).blk t).view.read (Elt F) A = rowTile A (qryB (t.val % 91)) (t.val / 91) := by
  have ht : t.val < 728 := N_2 ▸ t.isLt
  refine funext fun (y : S1x1x640.Idx) => ?_
  have hi := (t2_5 (F := F) (grid2.coords t))
  rw [coord2_0, coord2_1] at hi
  have hr := qryB_lt (t.val % 91)
  blk_simp
  refine congrArg A (funext fun a => Fin.ext ?_)
  fin_cases a
  · show cc2_transform_5 k2_off1_inb numel1_S1 (pf2 (F := F)) (grid2.coords t) 0 * 1 + 1 * (y 0).val = t.val / 91 % 8
    rw [hi]
    show t.val / 91 * 1 + 1 * (y 0).val = t.val / 91 % 8
    have hy : (y 0).val < 1 := (y 0).isLt
    omega
  · show cc2_transform_5 k2_off1_inb numel1_S1 (pf2 (F := F)) (grid2.coords t) 1 * 1 + 1 * (y 1).val = 0
    rw [hi]
    show 0 * 1 + 1 * (y 1).val = 0
    have hy : (y 1).val < 1 := (y 1).isLt
    omega
  · show cc2_transform_5 k2_off1_inb numel1_S1 (pf2 (F := F)) (grid2.coords t) 2 * 640 + 1 * (y 2).val = (640 * qryB (t.val % 91) + (y 2).val) % 8320
    rw [hi]
    show qryB (t.val % 91) * 640 + 1 * (y 2).val = (640 * qryB (t.val % 91) + (y 2).val) % 8320
    have hy : (y 2).val < 640 := (y 2).isLt
    omega
theorem blk2_6 (t : Fin grid2.N) (A : S8x1x8320.Idx → Elt F .f32) :
    (((cfg2 (adm2 (F := F))).win 6).blk t).view.read (Elt F) A = rowTile A (qryB (t.val % 91)) (t.val / 91) := by
  have ht : t.val < 728 := N_2 ▸ t.isLt
  refine funext fun (y : S1x1x640.Idx) => ?_
  have hi := (t2_6 (F := F) (grid2.coords t))
  rw [coord2_0, coord2_1] at hi
  have hr := qryB_lt (t.val % 91)
  blk_simp
  refine congrArg A (funext fun a => Fin.ext ?_)
  fin_cases a
  · show cc2_transform_6 k2_off1_inb numel1_S1 (pf2 (F := F)) (grid2.coords t) 0 * 1 + 1 * (y 0).val = t.val / 91 % 8
    rw [hi]
    show t.val / 91 * 1 + 1 * (y 0).val = t.val / 91 % 8
    have hy : (y 0).val < 1 := (y 0).isLt
    omega
  · show cc2_transform_6 k2_off1_inb numel1_S1 (pf2 (F := F)) (grid2.coords t) 1 * 1 + 1 * (y 1).val = 0
    rw [hi]
    show 0 * 1 + 1 * (y 1).val = 0
    have hy : (y 1).val < 1 := (y 1).isLt
    omega
  · show cc2_transform_6 k2_off1_inb numel1_S1 (pf2 (F := F)) (grid2.coords t) 2 * 640 + 1 * (y 2).val = (640 * qryB (t.val % 91) + (y 2).val) % 8320
    rw [hi]
    show qryB (t.val % 91) * 640 + 1 * (y 2).val = (640 * qryB (t.val % 91) + (y 2).val) % 8320
    have hy : (y 2).val < 640 := (y 2).isLt
    omega

end Cert.Proof.Fox
-- ==== Proof.BwdRegion.lean ====
module

public import proofs.«01_k».proof.Proof.BwdPoints

@[expose] public section
noncomputable section
namespace Cert.Proof.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [Named F]

local notation "𝕄" => MT nD τ sig Unit (Elt F) ℕ UU ℕ

/-! # The backward call over its grid

Between points: the gradients of the current block of keys, values and gates in the scratch, and the whole query gradient of
the head in its output block. -/

structure St2 (F : FTy → Type) [FloatOps F] where
  dk : FVec F S640x128 .f32
  dv : FVec F S640x128 .f32
  dc : FVec F S640x1 .f32
  dq : FVec F S8320x128 .f32

theorem boxIn (n : ℕ) : ∀ a, (![640 * qryB n, 0] : Fin 2 → ℕ) a + S640x128.size a ≤ S8320x128.size a := by
  have := qryB_lt n
  intro a
  fin_cases a
  · show 640 * qryB n + 640 ≤ 8320
    omega
  · show 0 + 128 ≤ 128
    omega

theorem putBox_congr {a b : Fin S8320x128.rank → ℕ} (h : a = b) (i : ∀ x, a x + S640x128.size x ≤ S8320x128.size x) (j : ∀ x, b x + S640x128.size x ≤ S8320x128.size x)
    (f : FVec F S640x128 .f32 → FVec F S640x128 .f32) (d : FVec F S8320x128 .f32) : putBox a i (f (getBox a i d)) d = putBox b j (f (getBox b j d)) d := by
  subst h; rfl

theorem off2_eq : ∀ n : Fin 91, k2_off2 (ws (qryB n.val)) = ![640 * qryB n.val, 0] := by decide +kernel
theorem off3_eq : ∀ n : Fin 91, k2_off3 (ws (qryB n.val)) = ![640 * qryB n.val, 0] := by decide +kernel

/-- One block taken in: below the diagonal, -/
def St2.off (n : ℕ) (q k v : FVec F S640x128 .f32) (e : FVec F S1x640x1 .f32) (g : FVec F S640x128 .f32) (l d : FVec F S1x1x640 .f32) (s : St2 F) : St2 F :=
  ⟨k2_pay5 (k2_pay16 q) (k2_pay21 k q e l g v d) s.dk, k2_pay19 k q e l g s.dv, k2_pay7 (k2_pay20 k q e l g v d) s.dc,
    putBox ![640 * qryB n, 0] (boxIn n) (k2_pay6 (k2_pay15 k) (k2_pay21 k q e l g v d) (getBox ![640 * qryB n, 0] (boxIn n) s.dq)) s.dq⟩
/-- and on it. -/
def St2.diag (n : ℕ) (q k v : FVec F S640x128 .f32) (e : FVec F S1x640x1 .f32) (g : FVec F S640x128 .f32) (l d : FVec F S1x1x640 .f32) (s : St2 F) : St2 F :=
  ⟨k2_pay10 (k2_pay23 q) (k2_pay24 (ws (keyB n)) (ws (qryB n)) k q e l) (k2_pay25 g) v d s.dk,
    k2_pay26 (ws (keyB n)) (ws (qryB n)) k q e l g s.dv,
    k2_pay12 (k2_pay24 (ws (keyB n)) (ws (qryB n)) k q e l) (k2_pay25 g) v d s.dc,
    putBox ![640 * qryB n, 0] (boxIn n) (k2_pay11 (k2_pay22 k) (k2_pay24 (ws (keyB n)) (ws (qryB n)) k q e l) (k2_pay25 g) v d (getBox ![640 * qryB n, 0] (boxIn n) s.dq)) s.dq⟩

/-- What a block of keys begins with: zero gradients; a head, with a zero query gradient as well. -/
def St2.opened (n : ℕ) (s : St2 F) : St2 F :=
  ⟨if starts n then k2_pay2 else s.dk, if starts n then k2_pay3 else s.dv, if starts n then k2_pay4 else s.dc, if n = 0 then k2_pay1 else s.dq⟩
/-- What a head ends with: the query gradient scaled. -/
def St2.closed (n : ℕ) (s : St2 F) : St2 F := ⟨s.dk, s.dv, s.dc, if n = 90 then k2_pay14 s.dq else s.dq⟩

/-- The point `n` taken from `s`, over its blocks; -/
def step2B (n : ℕ) (qb kb vb : FVec F S640x128 .f32) (eb : FVec F S1x640x1 .f32) (gb : FVec F S640x128 .f32) (lb db : FVec F S1x1x640 .f32) (s : St2 F) : St2 F :=
  ((if starts n then St2.diag else St2.off) n qb kb vb eb gb lb db (s.opened n)).closed n

set_option maxHeartbeats 2000000 in
/-- The body at a point, whatever its place. -/
theorem bwd_body (c : Dev nD) (t : Fin grid2.N)
    (a2 : Memref sig .tc .smem S91 .i32) (h2 : a2.IsWhole)
    (a3 : Memref sig .tc .smem S91 .i32) (h3 : a3.IsWhole)
    (a4 : Memref sig .tc .vmem S640x128 .f32) (h4 : a4.IsWhole)
    (a5 : Memref sig .tc .vmem S640x128 .f32) (h5 : a5.IsWhole)
    (a6 : Memref sig .tc .vmem S640x128 .f32) (h6 : a6.IsWhole)
    (a7 : Memref sig .tc .vmem S1x640x1 .f32) (h7 : a7.IsWhole)
    (a8 : Memref sig .tc .vmem S640x128 .f32) (h8 : a8.IsWhole)
    (a9 : Memref sig .tc .vmem S1x1x640 .f32) (h9 : a9.IsWhole)
    (a10 : Memref sig .tc .vmem S1x1x640 .f32) (h10 : a10.IsWhole)
    (a11 : Memref sig .tc .vmem S640x128 .f32) (h11 : a11.IsWhole)
    (a12 : Memref sig .tc .vmem S640x128 .f32) (h12 : a12.IsWhole)
    (a13 : Memref sig .tc .vmem S1x640x1 .f32) (h13 : a13.IsWhole)
    (a14 : Memref sig .tc .vmem S8320x128 .f32) (h14 : a14.IsWhole)
    (a15 : Memref sig .tc .vmem S640x128 .f32) (h15 : a15.IsWhole)
    (a16 : Memref sig .tc .vmem S640x128 .f32) (h16 : a16.IsWhole)
    (a17 : Memref sig .tc .vmem S640x1 .f32) (h17 : a17.IsWhole)
    (qb kb vb : FVec F S640x128 .f32) (eb : FVec F S1x640x1 .f32) (gb : FVec F S640x128 .f32) (lb db : FVec F S1x1x640 .f32)
    (ok ov : FVec F S640x128 .f32) (oc : FVec F S1x640x1 .f32) (s : St2 F) (E : Set ℕ) (Q : PUnit → sProp 𝕄) :
    iprop((pt c a2 tab2 ∗ pt c a3 tab3 ∗ pt c a4 qb ∗ pt c a5 kb ∗ pt c a6 vb ∗ pt c a7 eb ∗ pt c a8 gb ∗ pt c a9 lb ∗ pt c a10 db ∗ pt c a11 ok ∗ pt c a12 ov ∗ pt c a13 oc ∗ pt c a14 s.dq ∗ pt c a15 s.dk ∗ pt c a16 s.dv ∗ pt c a17 s.dc)
     ∗ ((pt c a2 tab2 ∗ pt c a3 tab3 ∗ pt c a4 qb ∗ pt c a5 kb ∗ pt c a6 vb ∗ pt c a7 eb ∗ pt c a8 gb ∗ pt c a9 lb ∗ pt c a10 db ∗ pt c a11 (if lasts (t.val % 91) then (step2B (t.val % 91) qb kb vb eb gb lb db s).dk else ok) ∗ pt c a12 (if lasts (t.val % 91) then (step2B (t.val % 91) qb kb vb eb gb lb db s).dv else ov) ∗ pt c a13 (if lasts (t.val % 91) then k2_pay13 (step2B (t.val % 91) qb kb vb eb gb lb db s).dc else oc) ∗ pt c a14 (step2B (t.val % 91) qb kb vb eb gb lb db s).dq ∗ pt c a15 (step2B (t.val % 91) qb kb vb eb gb lb db s).dk ∗ pt c a16 (step2B (t.val % 91) qb kb vb eb gb lb db s).dv ∗ pt c a17 (step2B (t.val % 91) qb kb vb eb gb lb db s).dc) -∗ Q ⟨⟩))
      ⊢ wp frame (wpE (defs₀ (F := F)) Variants.none c none) E (cc2_fox_attn_bwd (grid2.coords t) a2 h2 a3 h3 a4 h4 a5 h5 a6 h6 a7 h7 a8 h8 a9 h9 a10 h10 a11 h11 a12 h12 a13 h13 a14 h14 a15 h15 a16 h16 a17 h17) Q := by
  have hw2 : word2 (F := F) (grid2.coords t) a2 tab2 = ws (keyB (t.val % 91)) := (word_key _ _).trans (by rw [coord2_1])
  have hw3 : word2 (F := F) (grid2.coords t) a3 tab3 = ws (qryB (t.val % 91)) := (word_qry _ _).trans (by rw [coord2_1])
  have hn : t.val % 91 < 91 := Nat.mod_lt _ (by decide)
  have g1 := bc1 (grid2.coords t)
  have g6 := bc6 (grid2.coords t)
  have g0 := bc0 ⟨_, hn⟩
  have g2 := bc2 ⟨_, hn⟩
  have g3 := bc3 ⟨_, hn⟩
  have g4 := bc4 ⟨_, hn⟩
  have g5 := bc5 ⟨_, hn⟩
  have o2 := off2_eq ⟨_, hn⟩
  have o3 := off3_eq ⟨_, hn⟩
  have hone := only_point ⟨_, hn⟩
  dsimp only at g0 g2 g3 g4 g5 o2 o3 hone
  rw [coord2_1] at g1 g6
  rw [← hw3] at g5 o2 o3
  rw [← hw2, ← hw3] at g0 g2 g3 g4
  have e0 : t.val % 91 = 0 → starts (t.val % 91) = true ∧ lasts (t.val % 91) = false := fun h => h ▸ first_point
  have e90 : t.val % 91 = 90 → starts (t.val % 91) = true ∧ lasts (t.val % 91) = true := fun h => h ▸ last_point
  generalize t.val % 91 = n at hw2 hw3 hn g0 g1 g2 g3 g4 g5 g6 o2 o3 hone e0 e90 ⊢
  unfold step2B St2.opened St2.closed
  cases hs : starts n <;> cases hl : lasts n
  · have n0 : ¬ n = 0 := fun h => absurd (e0 h).1 (by rw [hs]; decide)
    have n9 : ¬ n = 90 := fun h => absurd (e90 h).1 (by rw [hs]; decide)
    have this := bwd_mid c (grid2.coords t) a2 h2 a3 h3 a4 h4 a5 h5 a6 h6 a7 h7 a8 h8 a9 h9 a10 h10 a11 h11 a12 h12 a13 h13 a14 h14 a15 h15 a16 h16 a17 h17 tab2 tab3 qb kb vb eb gb lb db ok ov oc s.dq s.dk s.dv s.dc E Q g0 (fun h => n0 (g1.mp h)) (fun h => absurd (g2.mp h) (by rw [hs]; decide)) (g3.mpr hs) (fun h => absurd (g4.mp h) (by rw [hs]; decide)) (fun h => absurd (g5.mp h) (by rw [hl]; decide)) (fun h => n9 (g6.mp h))
    rw [putBox_congr o2 _ (boxIn n) (fun z => k2_pay6 (k2_pay15 kb) (k2_pay21 kb qb eb lb gb vb db) z) _] at this
    simp only [hs, hl, if_neg n0, if_neg n9, Bool.false_eq_true, reduceIte, St2.off, St2.diag]
    exact this
  · have n0 : ¬ n = 0 := fun h => absurd (e0 h).1 (by rw [hs]; decide)
    have n9 : ¬ n = 90 := fun h => absurd (e90 h).1 (by rw [hs]; decide)
    have this := bwd_last c (grid2.coords t) a2 h2 a3 h3 a4 h4 a5 h5 a6 h6 a7 h7 a8 h8 a9 h9 a10 h10 a11 h11 a12 h12 a13 h13 a14 h14 a15 h15 a16 h16 a17 h17 tab2 tab3 qb kb vb eb gb lb db ok ov oc s.dq s.dk s.dv s.dc E Q g0 (fun h => n0 (g1.mp h)) (fun h => absurd (g2.mp h) (by rw [hs]; decide)) (g3.mpr hs) (fun h => absurd (g4.mp h) (by rw [hs]; decide)) (g5.mpr hl) (fun h => n9 (g6.mp h))
    rw [putBox_congr o2 _ (boxIn n) (fun z => k2_pay6 (k2_pay15 kb) (k2_pay21 kb qb eb lb gb vb db) z) _] at this
    simp only [hs, hl, if_neg n0, if_neg n9, Bool.false_eq_true, reduceIte, St2.off, St2.diag]
    exact this
  · have n9 : ¬ n = 90 := fun h => absurd (e90 h).2 (by rw [hl]; decide)
    by_cases n0 : n = 0
    · have this := bwd_zero c (grid2.coords t) a2 h2 a3 h3 a4 h4 a5 h5 a6 h6 a7 h7 a8 h8 a9 h9 a10 h10 a11 h11 a12 h12 a13 h13 a14 h14 a15 h15 a16 h16 a17 h17 tab2 tab3 qb kb vb eb gb lb db ok ov oc s.dq s.dk s.dv s.dc E Q g0 (g1.mpr n0) (g2.mpr hs) (fun h => absurd (g3.mp h) (by rw [hs]; decide)) (g4.mpr hs) (fun h => absurd (g5.mp h) (by rw [hl]; decide)) (fun h => n9 (g6.mp h))
      rw [putBox_congr o3 _ (boxIn n) (fun z => k2_pay11 (k2_pay22 kb) (k2_pay24 (word2 (F := F) (grid2.coords t) a2 tab2) (word2 (F := F) (grid2.coords t) a3 tab3) kb qb eb lb) (k2_pay25 gb) vb db z) _, hw2, hw3] at this
      simp only [hs, hl, if_pos n0, if_neg n9, Bool.false_eq_true, reduceIte, St2.off, St2.diag]
      exact this
    · have this := bwd_start c (grid2.coords t) a2 h2 a3 h3 a4 h4 a5 h5 a6 h6 a7 h7 a8 h8 a9 h9 a10 h10 a11 h11 a12 h12 a13 h13 a14 h14 a15 h15 a16 h16 a17 h17 tab2 tab3 qb kb vb eb gb lb db ok ov oc s.dq s.dk s.dv s.dc E Q g0 (fun h => n0 (g1.mp h)) (g2.mpr hs) (fun h => absurd (g3.mp h) (by rw [hs]; decide)) (g4.mpr hs) (fun h => absurd (g5.mp h) (by rw [hl]; decide)) (fun h => n9 (g6.mp h))
      rw [putBox_congr o3 _ (boxIn n) (fun z => k2_pay11 (k2_pay22 kb) (k2_pay24 (word2 (F := F) (grid2.coords t) a2 tab2) (word2 (F := F) (grid2.coords t) a3 tab3) kb qb eb lb) (k2_pay25 gb) vb db z) _, hw2, hw3] at this
      simp only [hs, hl, if_neg n0, if_neg n9, Bool.false_eq_true, reduceIte, St2.off, St2.diag]
      exact this
  · have n9 : n = 90 := hone hs hl
    have n0 : ¬ n = 0 := fun h => absurd (e0 h).2 (by rw [hl]; decide)
    have this := bwd_end c (grid2.coords t) a2 h2 a3 h3 a4 h4 a5 h5 a6 h6 a7 h7 a8 h8 a9 h9 a10 h10 a11 h11 a12 h12 a13 h13 a14 h14 a15 h15 a16 h16 a17 h17 tab2 tab3 qb kb vb eb gb lb db ok ov oc s.dq s.dk s.dv s.dc E Q g0 (fun h => n0 (g1.mp h)) (g2.mpr hs) (fun h => absurd (g3.mp h) (by rw [hs]; decide)) (g4.mpr hs) (g5.mpr hl) (g6.mpr n9)
    rw [putBox_congr o3 _ (boxIn n) (fun z => k2_pay11 (k2_pay22 kb) (k2_pay24 (word2 (F := F) (grid2.coords t) a2 tab2) (word2 (F := F) (grid2.coords t) a3 tab3) kb qb eb lb) (k2_pay25 gb) vb db z) _, hw2, hw3] at this
    simp only [hs, hl, if_neg n0, if_pos n9, Bool.false_eq_true, reduceIte, St2.off, St2.diag]
    exact this

/-! ## The trajectory -/

variable (q k v g : S8320x1024.Idx → Elt F .f32) (e : S8x8320x1.Idx → Elt F .f32) (l d : S8x1x8320.Idx → Elt F .f32)

/-- The point `n` over the arrays. -/
def step2At (n : ℕ) (s : St2 F) : St2 F :=
  step2B (n % 91) (tile q (qryB (n % 91)) (n / 91)) (tile k (keyB (n % 91)) (n / 91)) (tile v (keyB (n % 91)) (n / 91)) (colTile e (keyB (n % 91)) (n / 91))
    (tile g (qryB (n % 91)) (n / 91)) (rowTile l (qryB (n % 91)) (n / 91)) (rowTile d (qryB (n % 91)) (n / 91)) s

def traj2 : ℕ → St2 F
  | 0 => ⟨k2_pay2, k2_pay3, k2_pay4, k2_pay1⟩
  | n + 1 => step2At q k v g e l d n (traj2 n)

theorem opened_eq (n : ℕ) (s s' : St2 F) (h : starts n = false → s.dk = s'.dk ∧ s.dv = s'.dv ∧ s.dc = s'.dc) (h' : n ≠ 0 → s.dq = s'.dq) : s.opened n = s'.opened n := by
  unfold St2.opened
  cases hs : starts n
  · obtain ⟨h1, h2, h3⟩ := h hs
    by_cases h0 : n = 0
    · simp only [h0, reduceIte, h1, h2, h3]
    · simp only [h0, reduceIte, h1, h2, h3, h' h0]
  · by_cases h0 : n = 0
    · simp only [h0, reduceIte]
    · simp only [h0, reduceIte, h' h0]

theorem step_traj2 (n : ℕ) (s : St2 F) (h : n ≠ 0 → s.dk = (traj2 q k v g e l d n).dk ∧ s.dv = (traj2 q k v g e l d n).dv ∧ s.dc = (traj2 q k v g e l d n).dc)
    (h' : n % 91 ≠ 0 → s.dq = (traj2 q k v g e l d n).dq) : step2At q k v g e l d n s = traj2 q k v g e l d (n + 1) := by
  show step2At q k v g e l d n s = step2At q k v g e l d n (traj2 q k v g e l d n)
  unfold step2At step2B
  rw [opened_eq (n % 91) s (traj2 q k v g e l d n) (fun hs => h (fun h0 => by subst h0; exact absurd hs (by rw [first_point.1]; decide))) h']

/-- Held between points: the buffers of the other calls, the two tables, and the scratch on the trajectory. -/
def PhiB (c : Dev nD) (n : ℕ) : sProp 𝕄 :=
  iprop(Pipeline.scopedRestBut (Ix := Unit) (Name := ℕ) (U := UU) (Lvl := ℕ) (Val := Elt F) spec2 c [cc2_scratch0, cc2_scratch1, cc2_scratch2]
    ∗ (pt c (Memref.whole main_c_1) tab2 ∗ pt c (Memref.whole main_c_2) tab3)
    ∗ ∃ (x y : FVec F S640x128 .f32) (z : FVec F S640x1 .f32), ⌜n ≠ 0 → x = (traj2 q k v g e l d n).dk ∧ y = (traj2 q k v g e l d n).dv ∧ z = (traj2 q k v g e l d n).dc⌝
      ∗ pt c (Memref.whole cc2_scratch0) x ∗ pt c (Memref.whole cc2_scratch1) y ∗ pt c (Memref.whole cc2_scratch2) z)

variable (V : (c : Dev nD) → Valuation τ sig (Elt F))

abbrev bq (c : Dev nD) : S8320x1024.Idx → Elt F .f32 := V c main_arg0
abbrev bk (c : Dev nD) : S8320x1024.Idx → Elt F .f32 := V c main_arg1
abbrev bv (c : Dev nD) : S8320x1024.Idx → Elt F .f32 := V c main_arg2
abbrev be (c : Dev nD) : S8x8320x1.Idx → Elt F .f32 := V c main_arg3
abbrev bg (c : Dev nD) : S8320x1024.Idx → Elt F .f32 := V c main_arg4
abbrev bl (c : Dev nD) : S8x1x8320.Idx → Elt F .f32 := V c main_v3
abbrev bd (c : Dev nD) : S8x1x8320.Idx → Elt F .f32 := V c main_v4
/-- The trajectory from the arrays at entry. -/
abbrev btr (c : Dev nD) (n : ℕ) : St2 F := traj2 (bq V c) (bk V c) (bv V c) (bg V c) (be V c) (bl V c) (bd V c) n

def dat2 (c : Dev nD) : Dat τ (Elt F) Unit ℕ UU ℕ (cfg2 (adm2 (F := F))) c where
  A w := V c (Proc.devRef .tc (Pipeline.arrRef spec2 w))
  after w t := match w with
    | ⟨0, _⟩ => tile (bq V c) (qryB (t.val % 91)) (t.val / 91)
    | ⟨1, _⟩ => tile (bk V c) (keyB (t.val % 91)) (t.val / 91)
    | ⟨2, _⟩ => tile (bv V c) (keyB (t.val % 91)) (t.val / 91)
    | ⟨3, _⟩ => colTile (be V c) (keyB (t.val % 91)) (t.val / 91)
    | ⟨4, _⟩ => tile (bg V c) (qryB (t.val % 91)) (t.val / 91)
    | ⟨5, _⟩ => rowTile (bl V c) (qryB (t.val % 91)) (t.val / 91)
    | ⟨6, _⟩ => rowTile (bd V c) (qryB (t.val % 91)) (t.val / 91)
    | ⟨7, _⟩ => (btr V c (t.val + 1)).dk
    | ⟨8, _⟩ => (btr V c (t.val + 1)).dv
    | ⟨9, _⟩ => k2_pay13 (btr V c (t.val + 1)).dc
    | ⟨10, _⟩ => (btr V c (t.val + 1)).dq
  Φ n := PhiB (bq V c) (bk V c) (bv V c) (bg V c) (be V c) (bl V c) (bd V c) c n.val
  q _ := fullShare
  owed _ := 0

theorem before2_0 (c : Dev nD) (t : Fin grid2.N) (d) : (dat2 V c).before 0 t d = tile (bq V c) (qryB (t.val % 91)) (t.val / 91) :=
  (Dat.before_in_eq_fetched (dat2 V c) 0 rfl (fun _ => rfl) (fun _ _ _ => rfl) (fun t => (blk2_0 t (bq V c)).symm) t d).trans (blk2_0 t (bq V c))
theorem before2_1 (c : Dev nD) (t : Fin grid2.N) (d) : (dat2 V c).before 1 t d = tile (bk V c) (keyB (t.val % 91)) (t.val / 91) :=
  (Dat.before_in_eq_fetched (dat2 V c) 1 rfl (fun _ => rfl) (fun _ _ _ => rfl) (fun t => (blk2_1 t (bk V c)).symm) t d).trans (blk2_1 t (bk V c))
theorem before2_2 (c : Dev nD) (t : Fin grid2.N) (d) : (dat2 V c).before 2 t d = tile (bv V c) (keyB (t.val % 91)) (t.val / 91) :=
  (Dat.before_in_eq_fetched (dat2 V c) 2 rfl (fun _ => rfl) (fun _ _ _ => rfl) (fun t => (blk2_2 t (bv V c)).symm) t d).trans (blk2_2 t (bv V c))
theorem before2_3 (c : Dev nD) (t : Fin grid2.N) (d) : (dat2 V c).before 3 t d = colTile (be V c) (keyB (t.val % 91)) (t.val / 91) :=
  (Dat.before_in_eq_fetched (dat2 V c) 3 rfl (fun _ => rfl) (fun _ _ _ => rfl) (fun t => (blk2_3 t (be V c)).symm) t d).trans (blk2_3 t (be V c))
theorem before2_4 (c : Dev nD) (t : Fin grid2.N) (d) : (dat2 V c).before 4 t d = tile (bg V c) (qryB (t.val % 91)) (t.val / 91) :=
  (Dat.before_in_eq_fetched (dat2 V c) 4 rfl (fun _ => rfl) (fun _ _ _ => rfl) (fun t => (blk2_4 t (bg V c)).symm) t d).trans (blk2_4 t (bg V c))
theorem before2_5 (c : Dev nD) (t : Fin grid2.N) (d) : (dat2 V c).before 5 t d = rowTile (bl V c) (qryB (t.val % 91)) (t.val / 91) :=
  (Dat.before_in_eq_fetched (dat2 V c) 5 rfl (fun _ => rfl) (fun _ _ _ => rfl) (fun t => (blk2_5 t (bl V c)).symm) t d).trans (blk2_5 t (bl V c))
theorem before2_6 (c : Dev nD) (t : Fin grid2.N) (d) : (dat2 V c).before 6 t d = rowTile (bd V c) (qryB (t.val % 91)) (t.val / 91) :=
  (Dat.before_in_eq_fetched (dat2 V c) 6 rfl (fun _ => rfl) (fun _ _ _ => rfl) (fun t => (blk2_6 t (bd V c)).symm) t d).trans (blk2_6 t (bd V c))

theorem idle2_out (t : Fin grid2.N) : (cfg2 (adm2 (F := F))).idle 7 ((cfg2 (adm2 (F := F))).grid.coords t) = !lasts (t.val % 91) :=
  (idle2_7 (F := F) (grid2.coords t)).trans (by rw [coord2_1])
theorem idle2_dq (t : Fin grid2.N) : (cfg2 (adm2 (F := F))).idle 10 ((cfg2 (adm2 (F := F))).grid.coords t) = false :=
  idle2_10 (F := F) (grid2.coords t)

theorem fresh2_10 (n : ℕ) (h : n ≤ 728) : (cfg2 (adm2 (F := F))).fresh 10 n = decide (n % 91 = 0) := by
  refine Pipeline.Cfg.fresh_tab (cfg2 (adm2 (F := F))) 10 (fun n => decide (n % 91 = 0)) rfl (fun t => ?_) n (h.trans (le_of_eq N_2.symm))
  have e1 := flush2_10 (F := F) t
  have e2 := idle2_dq (F := F) t
  rw [e1, e2, Bool.false_and, Bool.or_false]
  refine decide_eq_decide.mpr ?_
  omega

theorem before2_10 (c : Dev nD) (t : Fin grid2.N) (d) (h : t.val % 91 ≠ 0) : (dat2 V c).before 10 t d = (btr V c t.val).dq := by
  have h1 := Dat.before_out_traj (dat2 V c) 10 rfl (fun _ _ => rfl) (fun t _ hi => absurd hi (by rw [idle2_dq t]; decide)) t.val t rfl d
  have h2 := fresh2_10 (F := F) t.val (Nat.le_of_lt (N_2 ▸ t.isLt))
  rw [h2, if_neg (by simpa using h)] at h1
  rw [h1]
  show (btr V c (t.val - 1 + 1)).dq = _
  rw [Nat.sub_add_cancel (Nat.pos_of_ne_zero (fun h0 => h (by rw [h0])))]

/-- A window written at every point: what the obligation asks of it. -/
theorem leaves_after {cfg : Pipeline.Cfg sig Λ₀} {c : Dev nD} (dat : Dat τ (Elt F) Unit ℕ UU ℕ cfg c) (w : Fin cfg.W) (t : Fin cfg.N)
    (hi : cfg.idle w (cfg.grid.coords t) = false) (X) (hX : X = dat.after w t) :
    (((cfg.win w).stage (cfg.slots t w)).view.loc (c : Thread nD τ) ↦[((cfg.win w).stage (cfg.slots t w)).view.set]{fullShare} ((cfg.win w).stage (cfg.slots t w)).view.rep X) ⊢ (dat.leavesExact w t : sProp 𝕄) := by
  subst hX
  refine (owns_of_rep (c : Thread nD τ) _ _ _).trans ?_
  unfold Dat.leavesExact
  rw [hi]

set_option maxHeartbeats 2000000 in
theorem body2 (c : Dev nD) : Pipeline.BodyObligation (dat2 V c) (defs₀ (F := F)) Variants.none () Set.univ := fun t => by
  rw [bigSep_W2, bigSep_W2]
  have hΦ : (dat2 V c).Φ t.castSucc = PhiB (bq V c) (bk V c) (bv V c) (bg V c) (be V c) (bl V c) (bd V c) c t.val := by
    exact Dat.Φ_castSucc (fun n _ => PhiB (bq V c) (bk V c) (bv V c) (bg V c) (be V c) (bl V c) (bd V c) c n) t
  have hΦ' : (dat2 V c).Φ t.succ = PhiB (bq V c) (bk V c) (bv V c) (bg V c) (be V c) (bl V c) (bd V c) c (t.val + 1) := by
    dsimp only [dat2]; rw [Fin.val_succ]
  rewrite [hΦ, hΦ']
  unfold PhiB
  iintro ⟨⟨Hr, ⟨HT2, HT3⟩, ⟨%x, %y, %z, %hs, S0, S1, S2⟩⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave H0' := (pt_of_owns c (spec2_0.stage ((cfg2 (adm2 (F := F))).slots t 0)) (before2_0 V c t d0)) $$ H0
  ihave H1' := (pt_of_owns c (spec2_1.stage ((cfg2 (adm2 (F := F))).slots t 1)) (before2_1 V c t d1)) $$ H1
  ihave H2' := (pt_of_owns c (spec2_2.stage ((cfg2 (adm2 (F := F))).slots t 2)) (before2_2 V c t d2)) $$ H2
  ihave H3' := (pt_of_owns c (spec2_3.stage ((cfg2 (adm2 (F := F))).slots t 3)) (before2_3 V c t d3)) $$ H3
  ihave H4' := (pt_of_owns c (spec2_4.stage ((cfg2 (adm2 (F := F))).slots t 4)) (before2_4 V c t d4)) $$ H4
  ihave H5' := (pt_of_owns c (spec2_5.stage ((cfg2 (adm2 (F := F))).slots t 5)) (before2_5 V c t d5)) $$ H5
  ihave H6' := (pt_of_owns c (spec2_6.stage ((cfg2 (adm2 (F := F))).slots t 6)) (before2_6 V c t d6)) $$ H6
  ihave H7' := (pt_of_owns c (spec2_7.stage ((cfg2 (adm2 (F := F))).slots t 7)) rfl) $$ H7
  ihave H8' := (pt_of_owns c (spec2_8.stage ((cfg2 (adm2 (F := F))).slots t 8)) rfl) $$ H8
  ihave H9' := (pt_of_owns c (spec2_9.stage ((cfg2 (adm2 (F := F))).slots t 9)) rfl) $$ H9
  ihave H10' := (pt_of_owns c (spec2_10.stage ((cfg2 (adm2 (F := F))).slots t 10)) rfl) $$ H10
  have key := step_traj2 (bq V c) (bk V c) (bv V c) (bg V c) (be V c) (bl V c) (bd V c) t.val ⟨x, y, z, (dat2 V c).before 10 t d10⟩ hs (fun h => before2_10 V c t d10 h)
  iapply (bwd_body c t (Memref.whole main_c_1) (Memref.isWhole_whole _) (Memref.whole main_c_2) (Memref.isWhole_whole _)
    (spec2_0.stage ((cfg2 (adm2 (F := F))).slots t 0)) (hstage2_0 (((cfg2 (adm2 (F := F))).slots t 0).cast nbuf2_0))
    (spec2_1.stage ((cfg2 (adm2 (F := F))).slots t 1)) (hstage2_1 (((cfg2 (adm2 (F := F))).slots t 1).cast nbuf2_1))
    (spec2_2.stage ((cfg2 (adm2 (F := F))).slots t 2)) (hstage2_2 (((cfg2 (adm2 (F := F))).slots t 2).cast nbuf2_2))
    (spec2_3.stage ((cfg2 (adm2 (F := F))).slots t 3)) (hstage2_3 (((cfg2 (adm2 (F := F))).slots t 3).cast nbuf2_3))
    (spec2_4.stage ((cfg2 (adm2 (F := F))).slots t 4)) (hstage2_4 (((cfg2 (adm2 (F := F))).slots t 4).cast nbuf2_4))
    (spec2_5.stage ((cfg2 (adm2 (F := F))).slots t 5)) (hstage2_5 (((cfg2 (adm2 (F := F))).slots t 5).cast nbuf2_5))
    (spec2_6.stage ((cfg2 (adm2 (F := F))).slots t 6)) (hstage2_6 (((cfg2 (adm2 (F := F))).slots t 6).cast nbuf2_6))
    (spec2_7.stage ((cfg2 (adm2 (F := F))).slots t 7)) (hstage2_7 (((cfg2 (adm2 (F := F))).slots t 7).cast nbuf2_7))
    (spec2_8.stage ((cfg2 (adm2 (F := F))).slots t 8)) (hstage2_8 (((cfg2 (adm2 (F := F))).slots t 8).cast nbuf2_8))
    (spec2_9.stage ((cfg2 (adm2 (F := F))).slots t 9)) (hstage2_9 (((cfg2 (adm2 (F := F))).slots t 9).cast nbuf2_9))
    (spec2_10.stage ((cfg2 (adm2 (F := F))).slots t 10)) (hstage2_10 (((cfg2 (adm2 (F := F))).slots t 10).cast nbuf2_10))
    (Memref.whole cc2_scratch0) (Memref.isWhole_whole _) (Memref.whole cc2_scratch1) (Memref.isWhole_whole _) (Memref.whole cc2_scratch2) (Memref.isWhole_whole _)
    _ _ _ _ _ _ _ _ _ _ ⟨x, y, z, (dat2 V c).before 10 t d10⟩ Set.univ _)
  isplitl [HT2 HT3 H0' H1' H2' H3' H4' H5' H6' H7' H8' H9' H10' S0 S1 S2]
  · isplitl [HT2]; · iexact HT2
    isplitl [HT3]; · iexact HT3
    isplitl [H0']; · iexact H0'
    isplitl [H1']; · iexact H1'
    isplitl [H2']; · iexact H2'
    isplitl [H3']; · iexact H3'
    isplitl [H4']; · iexact H4'
    isplitl [H5']; · iexact H5'
    isplitl [H6']; · iexact H6'
    isplitl [H7']; · iexact H7'
    isplitl [H8']; · iexact H8'
    isplitl [H9']; · iexact H9'
    isplitl [H10']; · iexact H10'
    isplitl [S0]; · iexact S0
    isplitl [S1]; · iexact S1
    iexact S2
  iintro ⟨HT2, HT3, H0, H1, H2, H3, H4, H5, H6, H7, H8, H9, H10, S0, S1, S2⟩
  isplitl [Hr HT2 HT3 S0 S1 S2]
  · isplitl [Hr]; · iexact Hr
    isplitl [HT2 HT3]
    · isplitl [HT2]; · iexact HT2
      iexact HT3
    iexists _, _, _
    isplitr
    · ipureintro; exact fun _ => ⟨congrArg St2.dk key, congrArg St2.dv key, congrArg St2.dc key⟩
    isplitl [S0]; · iexact S0
    isplitl [S1]; · iexact S1
    iexact S2
  isplitl [Howes]; · iexact Howes
  isplitl [H0]; · iapply (owns_of_rep (c : Thread nD τ) _ _ _); iexact H0
  isplitl [H1]; · iapply (owns_of_rep (c : Thread nD τ) _ _ _); iexact H1
  isplitl [H2]; · iapply (owns_of_rep (c : Thread nD τ) _ _ _); iexact H2
  isplitl [H3]; · iapply (owns_of_rep (c : Thread nD τ) _ _ _); iexact H3
  isplitl [H4]; · iapply (owns_of_rep (c : Thread nD τ) _ _ _); iexact H4
  isplitl [H5]; · iapply (owns_of_rep (c : Thread nD τ) _ _ _); iexact H5
  isplitl [H6]; · iapply (owns_of_rep (c : Thread nD τ) _ _ _); iexact H6
  isplitl [H7]
  · iapply (leaves_of (dat2 V c) 7 t (lasts (t.val % 91)) (idle2_out t) (flush2_7 t) d7 _ (by
      show _ = if lasts (t.val % 91) = true then (btr V c (t.val + 1)).dk else _
      rw [btr, ← key]; rfl))
    iexact H7
  isplitl [H8]
  · iapply (leaves_of (dat2 V c) 8 t (lasts (t.val % 91)) (idle2_out t) (flush2_8 t) d8 _ (by
      show _ = if lasts (t.val % 91) = true then (btr V c (t.val + 1)).dv else _
      rw [btr, ← key]; rfl))
    iexact H8
  isplitl [H9]
  · iapply (leaves_of (dat2 V c) 9 t (lasts (t.val % 91)) (idle2_out t) (flush2_9 t) d9 _ (by
      show _ = if lasts (t.val % 91) = true then k2_pay13 (btr V c (t.val + 1)).dc else _
      rw [btr, ← key]; rfl))
    iexact H9
  · iapply (leaves_after (dat2 V c) 10 t (idle2_dq t) _ (by
      show _ = (btr V c (t.val + 1)).dq
      rw [btr, ← key]; rfl))
    iexact H10

end Cert.Proof.Fox
-- ==== Proof.Run.lean ====
module

public import proofs.«01_k».proof.Proof.DeltaRegion
public import proofs.«01_k».proof.Proof.BwdRegion
public import proofs.«01_k».proof.Proof.Gen.KernelIdeal.Regions
public import Idealize.ShloMosaic.Lib.Pipeline.RegionArraysTS

@[expose] public section
noncomputable section
namespace Cert.Proof.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg)

variable {F : FTy → Type} [FloatOps F] [Named F]

local notation "𝕄" => MT nD τ sig Unit (Elt F) ℕ UU ℕ

/-! # The run of the whole program: two stretches of host operations and three kernel calls -/

variable (m : (ℓ : Loc nD τ sig) → Buf (Elt F) ℓ) (ρ : Dev nD → PrngReg)

/-- The buffers before the forward call, -/
def U1 (c : Dev nD) : Valuation τ sig (Elt F) := StableHlo.after hostOps0 (V0 m c)
/-- after it, -/
def U2 (c : Dev nD) : Valuation τ sig (Elt F) := Pipeline.afterRegion (dat0 (U1 m) c) (U1 m c)
/-- after the inner products, -/
def U3 (c : Dev nD) : Valuation τ sig (Elt F) := Pipeline.afterRegion (dat1 (U2 m) c) (U2 m c)
/-- before the backward call, -/
def U4 (c : Dev nD) : Valuation τ sig (Elt F) := StableHlo.after hostOps2 (U3 m c)
/-- and at the end. -/
def U5 (c : Dev nD) : Valuation τ sig (Elt F) := Pipeline.afterRegion (dat2 (U4 m) c) (U4 m c)

def adms : (p : Fin 3) → (pcfgs (F := F) p).Adm
  | ⟨0, _⟩ => adm0
  | ⟨1, _⟩ => cfg1.toPCfg_adm
  | ⟨2, _⟩ => adm2

def pdats : (p : Fin 3) → (c : Dev nD) → Dat τ (Elt F) Unit ℕ UU ℕ (Pipeline.pin (pcfgs (F := F)) adms p) c
  | ⟨0, _⟩ => fun c => dat0 (U1 m) c
  | ⟨1, _⟩ => fun c => dat1 (U2 m) c
  | ⟨2, _⟩ => fun c => dat2 (U4 m) c

abbrev LL : GSem nD τ sig → Finset Unit := fun g => if g.1.2 = .tc then {()} else ∅
abbrev lv0 : GSem nD τ sig → Unit → ℕ := fun _ _ => 0

theorem cut (p : Fin 3) : Pipeline.LevelCut (pcfgs (F := F)) adms () LL lv0 p (fun _ : Dev nD => (0 : CellTallies nD τ sig Unit)) (fun _ => 0) where
  hι c w s := by
    rw [LL, if_pos rfl]; exact Finset.mem_singleton_self _
  hιb _ _ _ := Nat.le_refl _
  hD c g i h := absurd h (Nat.lt_irrefl 0)

/-! ## The tables at entry -/

theorem U1_t0 (c : Dev nD) : U1 m c main_c = (tab0 (F := F)) := by
  unfold U1
  rfl
theorem U1_t1 (c : Dev nD) : U1 m c main_c_0 = (tab1 (F := F)) := by
  unfold U1
  rfl

theorem U4_t2 (c : Dev nD) : U4 m c main_c_1 = (tab2 (F := F)) := by
  unfold U4
  refine (StableHlo.after_of_writes_sub hostOps2 _ hostOps2_writes (by decide : main_c_1 ∉ hostOps2_W)).trans ?_
  refine (Pipeline.afterRegion_of_not_arr (dat1 (U2 m) c) (U2 m c) (b := main_c_1) (show ∀ w, (main_c_1 : Ref sig .tc) ≠ Pipeline.arrRef spec1 w by decide)).trans ?_
  refine (Pipeline.afterRegion_of_not_arr (dat0 (U1 m) c) (U1 m c) (b := main_c_1) (show ∀ w, (main_c_1 : Ref sig .tc) ≠ Pipeline.arrRef spec0 w by decide)).trans ?_
  unfold U1
  rfl
theorem U4_t3 (c : Dev nD) : U4 m c main_c_2 = (tab3 (F := F)) := by
  unfold U4
  refine (StableHlo.after_of_writes_sub hostOps2 _ hostOps2_writes (by decide : main_c_2 ∉ hostOps2_W)).trans ?_
  refine (Pipeline.afterRegion_of_not_arr (dat1 (U2 m) c) (U2 m c) (b := main_c_2) (show ∀ w, (main_c_2 : Ref sig .tc) ≠ Pipeline.arrRef spec1 w by decide)).trans ?_
  refine (Pipeline.afterRegion_of_not_arr (dat0 (U1 m) c) (U1 m c) (b := main_c_2) (show ∀ w, (main_c_2 : Ref sig .tc) ≠ Pipeline.arrRef spec0 w by decide)).trans ?_
  unfold U1
  rfl

/-! ## The arguments through the run -/

theorem arr_inj0 : Function.Injective (Pipeline.arrRef spec0) := by unfold Function.Injective; decide
theorem arr_inj1 : Function.Injective (Pipeline.arrRef spec1) := by unfold Function.Injective; decide
theorem arr_inj2 : Function.Injective (Pipeline.arrRef spec2) := by unfold Function.Injective; decide

/-- A buffer that is no output of the forward call keeps its contents across it; -/
theorem U2_keep (c : Dev nD) (r : Ref sig .tc) (h : ∀ w, Pipeline.arrRef spec0 w = r → (spec0 w).isOut = false) : U2 m c r = U1 m c r :=
  Pipeline.afterRegion_keeps (dat0 (U1 m) c) (U1 m c) arr_inj0 (fun _ => rfl) r h
/-- the same of the inner products -/
theorem U3_keep (c : Dev nD) (r : Ref sig .tc) (h : ∀ w, Pipeline.arrRef spec1 w = r → (spec1 w).isOut = false) : U3 m c r = U2 m c r :=
  Pipeline.afterRegion_keeps (dat1 (U2 m) c) (U2 m c) arr_inj1 (fun _ => rfl) r h
/-- and of the backward call. -/
theorem U5_keep (c : Dev nD) (r : Ref sig .tc) (h : ∀ w, Pipeline.arrRef spec2 w = r → (spec2 w).isOut = false) : U5 m c r = U4 m c r :=
  Pipeline.afterRegion_keeps (dat2 (U4 m) c) (U4 m c) arr_inj2 (fun _ => rfl) r h
theorem U1_keep (c : Dev nD) (r : Ref sig .tc) (h : r ∉ hostOps0_W) : U1 m c r = m ((c : Thread nD τ).loc r) :=
  StableHlo.after_of_writes_sub hostOps0 _ hostOps0_writes h
theorem U4_keep (c : Dev nD) (r : Ref sig .tc) (h : r ∉ hostOps2_W) : U4 m c r = U3 m c r :=
  StableHlo.after_of_writes_sub hostOps2 _ hostOps2_writes h

theorem U4_arg0 (c : Dev nD) : U4 m c main_arg0 = m ((c : Thread nD τ).loc main_arg0) :=
  (U4_keep m c main_arg0 (by decide)).trans <| (U3_keep m c main_arg0 (by decide)).trans <| (U2_keep m c main_arg0 (by decide)).trans (U1_keep m c main_arg0 (by decide))
theorem U5_arg0 (c : Dev nD) : U5 m c main_arg0 = m ((c : Thread nD τ).loc main_arg0) := (U5_keep m c main_arg0 (by decide)).trans (U4_arg0 m c)
theorem U4_arg1 (c : Dev nD) : U4 m c main_arg1 = m ((c : Thread nD τ).loc main_arg1) :=
  (U4_keep m c main_arg1 (by decide)).trans <| (U3_keep m c main_arg1 (by decide)).trans <| (U2_keep m c main_arg1 (by decide)).trans (U1_keep m c main_arg1 (by decide))
theorem U5_arg1 (c : Dev nD) : U5 m c main_arg1 = m ((c : Thread nD τ).loc main_arg1) := (U5_keep m c main_arg1 (by decide)).trans (U4_arg1 m c)
theorem U4_arg2 (c : Dev nD) : U4 m c main_arg2 = m ((c : Thread nD τ).loc main_arg2) :=
  (U4_keep m c main_arg2 (by decide)).trans <| (U3_keep m c main_arg2 (by decide)).trans <| (U2_keep m c main_arg2 (by decide)).trans (U1_keep m c main_arg2 (by decide))
theorem U5_arg2 (c : Dev nD) : U5 m c main_arg2 = m ((c : Thread nD τ).loc main_arg2) := (U5_keep m c main_arg2 (by decide)).trans (U4_arg2 m c)
theorem U4_arg3 (c : Dev nD) : U4 m c main_arg3 = m ((c : Thread nD τ).loc main_arg3) :=
  (U4_keep m c main_arg3 (by decide)).trans <| (U3_keep m c main_arg3 (by decide)).trans <| (U2_keep m c main_arg3 (by decide)).trans (U1_keep m c main_arg3 (by decide))
theorem U5_arg3 (c : Dev nD) : U5 m c main_arg3 = m ((c : Thread nD τ).loc main_arg3) := (U5_keep m c main_arg3 (by decide)).trans (U4_arg3 m c)
theorem U4_arg4 (c : Dev nD) : U4 m c main_arg4 = m ((c : Thread nD τ).loc main_arg4) :=
  (U4_keep m c main_arg4 (by decide)).trans <| (U3_keep m c main_arg4 (by decide)).trans <| (U2_keep m c main_arg4 (by decide)).trans (U1_keep m c main_arg4 (by decide))
theorem U5_arg4 (c : Dev nD) : U5 m c main_arg4 = m ((c : Thread nD τ).loc main_arg4) := (U5_keep m c main_arg4 (by decide)).trans (U4_arg4 m c)

/-! ## The calls as segments -/

theorem tables0 (c : Dev nD) : (Pipeline.tablesAt (Ix := Unit) (Name := ℕ) (U := UU) (Lvl := ℕ) (pcfgs (F := F)) adms 0 c : sProp 𝕄) = iprop(pt c (Memref.whole main_c) tab0 ∗ pt c (Memref.whole main_c_0) tab1) := by
  rw [← pt_whole, ← pt_whole]
  exact BI.bigSep_fin_two _
theorem tables2 (c : Dev nD) : (Pipeline.tablesAt (Ix := Unit) (Name := ℕ) (U := UU) (Lvl := ℕ) (pcfgs (F := F)) adms 2 c : sProp 𝕄) = iprop(pt c (Memref.whole main_c_1) tab2 ∗ pt c (Memref.whole main_c_2) tab3) := by
  rw [← pt_whole, ← pt_whole]
  exact BI.bigSep_fin_two _

theorem scoped0 (c : Dev nD) : (Pipeline.scopedRest (Ix := Unit) (Name := ℕ) (U := UU) (Lvl := ℕ) (Val := Elt F) spec0 c : sProp 𝕄)
    ⊢ iprop((∃ s : St F, pt c (Memref.whole cc0_scratch0) s.m ∗ pt c (Memref.whole cc0_scratch1) s.l ∗ pt c (Memref.whole cc0_scratch2) s.acc)
      ∗ Pipeline.scopedRestBut (Ix := Unit) (Name := ℕ) (U := UU) (Lvl := ℕ) (Val := Elt F) spec0 c [cc0_scratch0, cc0_scratch1, cc0_scratch2]) := by
  rw [scopedRest0_split]
  iintro ⟨⟨⟨%f, H0⟩, ⟨%g, H1⟩, ⟨%h, H2⟩⟩, Hr⟩
  isplitr [Hr]
  · iexists (⟨f, g, h⟩ : St F)
    isplitl [H0]; · iapply (Entails.of_eq (pt_whole c cc0_scratch0 f)); iexact H0
    isplitl [H1]; · iapply (Entails.of_eq (pt_whole c cc0_scratch1 g)); iexact H1
    iapply (Entails.of_eq (pt_whole c cc0_scratch2 h)); iexact H2
  iexact Hr

theorem scoped0' (c : Dev nD) (s : St F) :
    iprop((pt c (Memref.whole cc0_scratch0) s.m ∗ pt c (Memref.whole cc0_scratch1) s.l ∗ pt c (Memref.whole cc0_scratch2) s.acc)
      ∗ Pipeline.scopedRestBut (Ix := Unit) (Name := ℕ) (U := UU) (Lvl := ℕ) (Val := Elt F) spec0 c [cc0_scratch0, cc0_scratch1, cc0_scratch2])
    ⊢ (Pipeline.scopedRest (Ix := Unit) (Name := ℕ) (U := UU) (Lvl := ℕ) (Val := Elt F) spec0 c : sProp 𝕄) := by
  rw [scopedRest0_split]
  iintro ⟨⟨H0, H1, H2⟩, Hr⟩
  isplitr [Hr]
  · isplitl [H0]; · iexists s.m; iapply (Entails.of_eq (pt_whole c cc0_scratch0 s.m).symm); iexact H0
    isplitl [H1]; · iexists s.l; iapply (Entails.of_eq (pt_whole c cc0_scratch1 s.l).symm); iexact H1
    iexists s.acc; iapply (Entails.of_eq (pt_whole c cc0_scratch2 s.acc).symm); iexact H2
  iexact Hr

theorem scopedRest2_split' (c : Dev nD) :
    (Pipeline.scopedRest (Ix := Unit) (Name := ℕ) (U := UU) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f))
          ∗ Pipeline.scopedRestBut (Ix := Unit) (Name := ℕ) (U := UU) (Lvl := ℕ) (Val := Elt F) spec2 c [cc2_scratch0, cc2_scratch1, cc2_scratch2]) :=
  Pipeline.scopedRest_split_of_list spec2 c [cc2_scratch0, cc2_scratch1, cc2_scratch2] (by decide) (by decide)

theorem scoped2 (c : Dev nD) : (Pipeline.scopedRest (Ix := Unit) (Name := ℕ) (U := UU) (Lvl := ℕ) (Val := Elt F) spec2 c : sProp 𝕄)
    ⊢ iprop((∃ (x y : FVec F S640x128 .f32) (z : FVec F S640x1 .f32), pt c (Memref.whole cc2_scratch0) x ∗ pt c (Memref.whole cc2_scratch1) y ∗ pt c (Memref.whole cc2_scratch2) z)
      ∗ Pipeline.scopedRestBut (Ix := Unit) (Name := ℕ) (U := UU) (Lvl := ℕ) (Val := Elt F) spec2 c [cc2_scratch0, cc2_scratch1, cc2_scratch2]) := by
  rw [scopedRest2_split']
  iintro ⟨⟨⟨%f, H0⟩, ⟨%g, H1⟩, ⟨%h, H2⟩⟩, Hr⟩
  isplitr [Hr]
  · iexists f, g, h
    isplitl [H0]; · iapply (Entails.of_eq (pt_whole c cc2_scratch0 f)); iexact H0
    isplitl [H1]; · iapply (Entails.of_eq (pt_whole c cc2_scratch1 g)); iexact H1
    iapply (Entails.of_eq (pt_whole c cc2_scratch2 h)); iexact H2
  iexact Hr

theorem scoped2' (c : Dev nD) (x y : FVec F S640x128 .f32) (z : FVec F S640x1 .f32) :
    iprop((pt c (Memref.whole cc2_scratch0) x ∗ pt c (Memref.whole cc2_scratch1) y ∗ pt c (Memref.whole cc2_scratch2) z)
      ∗ Pipeline.scopedRestBut (Ix := Unit) (Name := ℕ) (U := UU) (Lvl := ℕ) (Val := Elt F) spec2 c [cc2_scratch0, cc2_scratch1, cc2_scratch2])
    ⊢ (Pipeline.scopedRest (Ix := Unit) (Name := ℕ) (U := UU) (Lvl := ℕ) (Val := Elt F) spec2 c : sProp 𝕄) := by
  rw [scopedRest2_split']
  iintro ⟨⟨H0, H1, H2⟩, Hr⟩
  isplitr [Hr]
  · isplitl [H0]; · iexists x; iapply (Entails.of_eq (pt_whole c cc2_scratch0 x).symm); iexact H0
    isplitl [H1]; · iexists y; iapply (Entails.of_eq (pt_whole c cc2_scratch1 y).symm); iexact H1
    iexists z; iapply (Entails.of_eq (pt_whole c cc2_scratch2 z).symm); iexact H2
  iexact Hr

theorem in0 (c : Dev nD) : iprop(iprop(Pipeline.scopedRest (Ix := Unit) (Name := ℕ) (U := UU) (Lvl := ℕ) (Val := Elt F) spec0 c ∗ (BI.emp : sProp 𝕄)) ∗ Pipeline.tablesAt (pcfgs (F := F)) adms 0 c)
    ⊢ (dat0 (U1 m) c).Φ 0 := by
  rw [tables0]
  show _ ⊢ PhiF (fq (U1 m) c) (fk (U1 m) c) (fv (U1 m) c) (fe (U1 m) c) c 0
  unfold PhiF
  iintro ⟨⟨Hr, -⟩, HT⟩
  ihave H := (scoped0 c) $$ Hr
  icases H with ⟨⟨%s, HS⟩, Hr⟩
  isplitl [Hr]; · iexact Hr
  isplitl [HT]; · iexact HT
  iexists s
  isplitr; · ipureintro; exact fun h => absurd rfl h
  iexact HS

theorem out0 (c : Dev nD) : (dat0 (U1 m) c).Φ (Fin.last grid0.N)
    ⊢ iprop(iprop(Pipeline.scopedRest (Ix := Unit) (Name := ℕ) (U := UU) (Lvl := ℕ) (Val := Elt F) spec0 c ∗ (BI.emp : sProp 𝕄)) ∗ Pipeline.tablesAt (pcfgs (F := F)) adms 0 c) := by
  rw [tables0]
  show PhiF (fq (U1 m) c) (fk (U1 m) c) (fv (U1 m) c) (fe (U1 m) c) c _ ⊢ _
  unfold PhiF
  iintro ⟨Hr, HT, ⟨%s, -, HS⟩⟩
  isplitr [HT]
  · isplitl [Hr HS]
    · iapply (scoped0' c s)
      isplitl [HS]; · iexact HS
      iexact Hr
    iempintro
  iexact HT

theorem in2 (c : Dev nD) : iprop(iprop(Pipeline.scopedRest (Ix := Unit) (Name := ℕ) (U := UU) (Lvl := ℕ) (Val := Elt F) spec2 c ∗ (BI.emp : sProp 𝕄)) ∗ Pipeline.tablesAt (pcfgs (F := F)) adms 2 c)
    ⊢ (dat2 (U4 m) c).Φ 0 := by
  rw [tables2]
  show _ ⊢ PhiB (bq (U4 m) c) (bk (U4 m) c) (bv (U4 m) c) (bg (U4 m) c) (be (U4 m) c) (bl (U4 m) c) (bd (U4 m) c) c 0
  unfold PhiB
  iintro ⟨⟨Hr, -⟩, HT⟩
  ihave H := (scoped2 c) $$ Hr
  icases H with ⟨⟨%x, %y, %z, HS⟩, Hr⟩
  isplitl [Hr]; · iexact Hr
  isplitl [HT]; · iexact HT
  iexists x, y, z
  isplitr; · ipureintro; exact fun h => absurd rfl h
  iexact HS

theorem out2 (c : Dev nD) : (dat2 (U4 m) c).Φ (Fin.last grid2.N)
    ⊢ iprop(iprop(Pipeline.scopedRest (Ix := Unit) (Name := ℕ) (U := UU) (Lvl := ℕ) (Val := Elt F) spec2 c ∗ (BI.emp : sProp 𝕄)) ∗ Pipeline.tablesAt (pcfgs (F := F)) adms 2 c) := by
  rw [tables2]
  show PhiB (bq (U4 m) c) (bk (U4 m) c) (bv (U4 m) c) (bg (U4 m) c) (be (U4 m) c) (bl (U4 m) c) (bd (U4 m) c) c _ ⊢ _
  unfold PhiB
  iintro ⟨Hr, HT, ⟨%x, %y, %z, -, HS⟩⟩
  isplitr [HT]
  · isplitl [Hr HS]
    · iapply (scoped2' c x y z)
      isplitl [HS]; · iexact HS
      iexact Hr
    iempintro
  iexact HT

theorem in1 (c : Dev nD) : iprop(Pipeline.scopedRest (Ix := Unit) (Name := ℕ) (U := UU) (Lvl := ℕ) (Val := Elt F) spec1 c ∗ (BI.emp : sProp 𝕄)) ⊢ (dat1 (U2 m) c).Φ 0 := by
  show _ ⊢ Pipeline.scopedRest (Ix := Unit) (Name := ℕ) (U := UU) (Lvl := ℕ) (Val := Elt F) spec1 c
  iintro ⟨H, -⟩
  iexact H
theorem out1 (c : Dev nD) : (dat1 (U2 m) c).Φ (Fin.last grid1.N) ⊢ iprop(Pipeline.scopedRest (Ix := Unit) (Name := ℕ) (U := UU) (Lvl := ℕ) (Val := Elt F) spec1 c ∗ (BI.emp : sProp 𝕄)) := by
  show Pipeline.scopedRest (Ix := Unit) (Name := ℕ) (U := UU) (Lvl := ℕ) (Val := Elt F) spec1 c ⊢ _
  iintro H
  isplitl [H]
  · iexact H
  iempintro

/-- The first call's record, -/
def reg0 : RegionSeg (pcfgs (F := F)) adms (pdats m) () defs₀ Variants.none LL lv0 0 :=
  RegionSeg.ofHeldInT (pcfgs (F := F)) adms (pdats m) () defs₀ Variants.none LL lv0 0 (fun _ => 0) (Pipeline.ucRefs τ sig) (fun _ => BI.emp) (fun _ => BI.emp)
    launch0 (fun c => (body0 (U1 m) c).loose) (fun _ _ => rfl) (fun _ => rfl) (fun c w => (dat0 (U1 m) c).share_full (fun _ => rfl) w)
    (in0 m) (out0 m) (fun _ => 0) (cut 0) (fun _ => BI.emp) (U1 m) (fun _ _ => rfl)
    (fun c k => match k with | 0 => (U1_t0 m c).symm | 1 => (U1_t1 m c).symm)
/-- the second's, -/
def reg1 : RegionSeg (pcfgs (F := F)) adms (pdats m) () defs₀ Variants.none LL lv0 1 :=
  RegionSeg.ofHeldIn (pcfgs (F := F)) adms (pdats m) () defs₀ Variants.none LL lv0 1 (fun _ => 0) (Pipeline.ucRefs τ sig) (fun _ => BI.emp) (fun _ => BI.emp)
    launch1 rfl (fun c => (body1 (U2 m) c).loose) (fun _ _ => rfl) (fun _ => rfl) (fun c w => (dat1 (U2 m) c).share_full (fun _ => rfl) w)
    (fun c => in1 m c) (fun c => out1 m c) (fun _ => 0) (cut 1) (fun _ => BI.emp) (U2 m) (fun _ _ => rfl)
/-- the third's. -/
def reg2 : RegionSeg (pcfgs (F := F)) adms (pdats m) () defs₀ Variants.none LL lv0 2 :=
  RegionSeg.ofHeldInT (pcfgs (F := F)) adms (pdats m) () defs₀ Variants.none LL lv0 2 (fun _ => 0) (Pipeline.ucRefs τ sig) (fun _ => BI.emp) (fun _ => BI.emp)
    launch2 (fun c => (body2 (U4 m) c).loose) (fun _ _ => rfl) (fun _ => rfl) (fun c w => (dat2 (U4 m) c).share_full (fun _ => rfl) w)
    (in2 m) (out2 m) (fun _ => 0) (cut 2) (fun _ => BI.emp) (U4 m) (fun _ _ => rfl)
    (fun c k => match k with | 0 => (U4_t2 m c).symm | 1 => (U4_t3 m c).symm)

/-! ## The run -/

/-- What a core holds beside its buffers between two segments: nothing owed. -/
abbrev rest (c : Dev nD) : sProp 𝕄 := iprop(∃ W, owes (c : Thread nD τ) (0 : CellTallies nD τ sig Unit) W)

def hseg0 : HostSeg (Name := ℕ) (U := UU) (pcfgs (F := F)) defs₀ Variants.none LL lv0 :=
  HostSeg.ofOps _ _ _ _ _ (Pipeline.ucRefs τ sig) hostOps0 (fun op h => Pipeline.sub_ucRefs op ((List.forall_iff_forall_mem.mp hostOps0_sub) op h))
    (fun op h => (List.forall_iff_forall_mem.mp hostOps0_fresh) op h) (V0 m) rest
def hseg2 : HostSeg (Name := ℕ) (U := UU) (pcfgs (F := F)) defs₀ Variants.none LL lv0 :=
  HostSeg.ofOps _ _ _ _ _ (Pipeline.ucRefs τ sig) hostOps2 (fun op h => Pipeline.sub_ucRefs op ((List.forall_iff_forall_mem.mp hostOps2_sub) op h))
    (fun op h => (List.forall_iff_forall_mem.mp hostOps2_fresh) op h) (U3 m) rest

/-- The program as its five segments. -/
abbrev parts (_ : Dev nD) : List (Seg (pcfgs (F := F)) adms (pdats m) () defs₀ Variants.none LL lv0) :=
  [.host (hseg0 m), .region (reg0 m), .region (reg1 m), .host (hseg2 m), .region (reg2 m)]

theorem arrs0 : Pipeline.arrRefs (τ := τ) (pcfgs (F := F) 0).spec ⊆ Pipeline.ucRefs τ sig :=
  Pipeline.arrRefs_sub_ucRefs _ (show ∀ w, (Pipeline.arrRef spec0 w).isScoped = false by decide)
theorem tbls0 : Pipeline.tblRefs (τ := τ) (pcfgs (F := F) 0).pre ⊆ Pipeline.ucRefs τ sig :=
  Pipeline.tblRefs_sub_ucRefs _ (show ∀ k, (pre0.ref k).isScoped = false by decide)
theorem arrs1 : Pipeline.arrRefs (τ := τ) (pcfgs (F := F) 1).spec ⊆ Pipeline.ucRefs τ sig :=
  Pipeline.arrRefs_sub_ucRefs _ (show ∀ w, (Pipeline.arrRef spec1 w).isScoped = false by decide)
theorem arrs2 : Pipeline.arrRefs (τ := τ) (pcfgs (F := F) 2).spec ⊆ Pipeline.ucRefs τ sig :=
  Pipeline.arrRefs_sub_ucRefs _ (show ∀ w, (Pipeline.arrRef spec2 w).isScoped = false by decide)
theorem tbls2 : Pipeline.tblRefs (τ := τ) (pcfgs (F := F) 2).pre ⊆ Pipeline.ucRefs τ sig :=
  Pipeline.tblRefs_sub_ucRefs _ (show ∀ k, (pre2.ref k).isScoped = false by decide)

theorem enter0 (c : Dev nD) : iprop(StableHlo.held (c : Thread nD τ) (Pipeline.ucRefs τ sig) (U1 m c) ∗ rest c) ⊢ (reg0 m).pre c := by
  refine BIBase.Entails.trans ?_ (RegionSeg.ofHeldInT_pre (arrs0 (F := F)) (tbls0 (F := F)) c)
  iintro ⟨H, HO⟩
  isplitl [H]; · iexact H
  isplitl [HO]; · iexact HO
  isplitl <;> iempintro
theorem leave0 (c : Dev nD) : (reg0 m).post c ⊢ iprop(StableHlo.held (c : Thread nD τ) (Pipeline.ucRefs τ sig) (U2 m c) ∗ rest c) := by
  refine BIBase.Entails.trans (RegionSeg.ofHeldInT_post (arrs0 (F := F)) (tbls0 (F := F)) c) ?_
  iintro ⟨H, HO, -⟩
  isplitl [H]; · iexact H
  iexact HO
theorem enter1 (c : Dev nD) : iprop(StableHlo.held (c : Thread nD τ) (Pipeline.ucRefs τ sig) (U2 m c) ∗ rest c) ⊢ (reg1 m).pre c := by
  refine BIBase.Entails.trans ?_ (RegionSeg.ofHeldIn_pre (arrs1 (F := F)) c)
  iintro ⟨H, HO⟩
  isplitl [H]; · iexact H
  isplitl [HO]; · iexact HO
  isplitl <;> iempintro
theorem leave1 (c : Dev nD) : (reg1 m).post c ⊢ iprop(StableHlo.held (c : Thread nD τ) (Pipeline.ucRefs τ sig) (U3 m c) ∗ rest c) := by
  refine BIBase.Entails.trans (RegionSeg.ofHeldIn_post (arrs1 (F := F)) c) ?_
  iintro ⟨H, HO, -⟩
  isplitl [H]; · iexact H
  iexact HO
theorem enter2 (c : Dev nD) : iprop(StableHlo.held (c : Thread nD τ) (Pipeline.ucRefs τ sig) (U4 m c) ∗ rest c) ⊢ (reg2 m).pre c := by
  refine BIBase.Entails.trans ?_ (RegionSeg.ofHeldInT_pre (arrs2 (F := F)) (tbls2 (F := F)) c)
  iintro ⟨H, HO⟩
  isplitl [H]; · iexact H
  isplitl [HO]; · iexact HO
  isplitl <;> iempintro
theorem leave2 (c : Dev nD) : (reg2 m).post c ⊢ iprop(StableHlo.held (c : Thread nD τ) (Pipeline.ucRefs τ sig) (U5 m c) ∗ rest c) := by
  refine BIBase.Entails.trans (RegionSeg.ofHeldInT_post (arrs2 (F := F)) (tbls2 (F := F)) c) ?_
  iintro ⟨H, HO, -⟩
  isplitl [H]; · iexact H
  iexact HO

def u₀ : UU := initOf (Pipeline.cells (Pipeline.pin (pcfgs (F := F)) adms) (cellOf_inj adms)) (Pipeline.launchToks (Pipeline.pin (pcfgs (F := F)) adms) (cellOf_inj adms))

-- the launch theorem's implicit arguments are found by unifying its conclusion with this one, which takes unfolding
-- plain definitions in a metavariable's type
set_option backward.isDefEq.respectTransparency.types false in
/-- At any float values, from any memory with zero counters, the program terminates with its arguments unchanged, its
    four results at the contents named above, and every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) ∧ (r.2.mem ((c.tc : Thread nD τ).loc main_v5_0) = U5 m c main_v5_0 ∧ r.2.mem ((c.tc : Thread nD τ).loc main_v5_1) = U5 m c main_v5_1 ∧ r.2.mem ((c.tc : Thread nD τ).loc main_v5_2) = U5 m c main_v5_2 ∧ r.2.mem ((c.tc : Thread nD τ).loc main_v5_3) = U5 m c main_v5_3)) ∧ r.2.sem = fun _ => 0) := by
  refine Pipeline.θ_run_regions_kit_dev_sems (pcfgs (F := F)) adms (pdats m) () (cellOf_inj adms) emb₁ defs₀ Variants.none LL lv0 m ρ main (parts m)
    (fun c Q => by
      rewrite [main_chain c, Seg.run_eq_chain,
        show (parts m c).map Seg.prog = [StableHlo.seq hostOps0, Prog.lift (.customCall (Pipeline.entry 0) ()), Prog.lift (.customCall (Pipeline.entry 1) ()),
          StableHlo.seq hostOps2, Prog.lift (.customCall (Pipeline.entry 2) ())] from rfl]
      dsimp (config := { failIfUnchanged := false }) only
      exact .rfl)
    (fun c => by simp only [parts, Seg.pipes_host, Seg.pipes_region, Seg.pipes_nil]; decide) (fun _ => 0) (fun _ h => if_neg h) (fun _ => iprop(emp)) (u₀ (F := F))
    (by
      iintro Hu
      imodintro
      isplitl [Hu]
      · iapply (show (ownU _ : sProp 𝕄) ⊢ BI.own (emb₁ (initOf (Pipeline.cells (Pipeline.pin (pcfgs (F := F)) adms) (cellOf_inj adms)) (Pipeline.launchToks (Pipeline.pin (pcfgs (F := F)) adms) (cellOf_inj adms)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (U5 m c))
    (hch := fun c => ⟨.rfl, enter0 m c, (leave0 m c).trans (enter1 m c), leave1 m c, enter2 m c, leave2 m c⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4)) ∧ (s.mem ((c.tc : Thread nD τ).loc main_v5_0) = U5 m c main_v5_0 ∧ s.mem ((c.tc : Thread nD τ).loc main_v5_1) = U5 m c main_v5_1 ∧ s.mem ((c.tc : Thread nD τ).loc main_v5_2) = U5 m c main_v5_2 ∧ s.mem ((c.tc : Thread nD τ).loc main_v5_3) = U5 m c main_v5_3))
    (hfin := fun c s' => ?_) (hQ := fun _ h hz => ⟨h, funext fun g => hz g (.inr (regions_no_unscoped g.2))⟩)
  · refine Pipeline.initEach LL lv0 fun c => ?_
    rw [Pipeline.unscopedBufs_held (Ix := Unit) (Name := ℕ) (U := UU) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (U5 m c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (U5_arg0 m c), (h (Proc.devRef .tc main_arg1) (Finset.mem_filter.mpr ⟨StableHlo.devRef_mem_tcRefs main_arg1, by decide⟩)).trans (U5_arg1 m c), (h (Proc.devRef .tc main_arg2) (Finset.mem_filter.mpr ⟨StableHlo.devRef_mem_tcRefs main_arg2, by decide⟩)).trans (U5_arg2 m c), (h (Proc.devRef .tc main_arg3) (Finset.mem_filter.mpr ⟨StableHlo.devRef_mem_tcRefs main_arg3, by decide⟩)).trans (U5_arg3 m c), (h (Proc.devRef .tc main_arg4) (Finset.mem_filter.mpr ⟨StableHlo.devRef_mem_tcRefs main_arg4, by decide⟩)).trans (U5_arg4 m c)⟩,
        h (Proc.devRef .tc main_v5_0) (Finset.mem_filter.mpr ⟨StableHlo.devRef_mem_tcRefs main_v5_0, by decide⟩), h (Proc.devRef .tc main_v5_1) (Finset.mem_filter.mpr ⟨StableHlo.devRef_mem_tcRefs main_v5_1, by decide⟩), h (Proc.devRef .tc main_v5_2) (Finset.mem_filter.mpr ⟨StableHlo.devRef_mem_tcRefs main_v5_2, by decide⟩), h (Proc.devRef .tc main_v5_3) (Finset.mem_filter.mpr ⟨StableHlo.devRef_mem_tcRefs main_v5_3, by decide⟩)⟩
    · iexact HSI

end Cert.Proof.Fox
-- ==== Proof.Finite.lean ====
module

public import proofs.«01_k».proof.Pre_finite
public import Idealize.ShloMosaic.Lib.ReduceAll
public import Idealize.ShloMosaic.Lib.Pointwise

@[expose] public section
set_option maxRecDepth 16384
noncomputable section
namespace Cert.Proof.Finite

open Cert.Pre_finite
open Idealize.ShloMosaic

/-! # The arguments are real where the precondition holds -/

theorem facts : Cert.Pre_finite.Facts where
  bcast_S_S8320x1024 := by decide
  reducesTo_S8320x1024_S_d0_1 := by decide
  h_S_ := by decide
  bcast_S_S8x8320x1 := by decide
  reducesTo_S8x8320x1_S_d0_1_2 := by decide

theorem bits_top : Ideal.ofBits .f32 0x7F800000#32 = (⊤ : EReal) := by simp [Ideal.ofBits, Ideal.ieee]

instance : Subsingleton S_.Idx := ⟨fun a b => funext fun i => i.elim0⟩

theorem cmp_below {x y : EReal} (h : Ideal.cmp .olt x y = 1#1) : x < y := by
  by_contra hn
  have h2 : BitVec.ofBool (decide (x < y)) = 1#1 := h
  rw [decide_eq_false hn] at h2
  exact absurd h2 (by decide)

/-- An array all of whose magnitudes are below `⊤` is real. -/
theorem real_of_all {s : Shape} {axes : List (Fin s.rank)} (x : FVec Ideal s .f32) (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32))) (constantI S_ 1 1#1) hr hu ix0 = 1#1) (i : s.Idx) :
    x i = ((EReal.toReal (x i) : ℝ) : EReal) := by
  have h1 : Ideal.cmp .olt (max (x i) (-(x i))) (Ideal.ofBits .f32 0x7F800000#32) = 1#1 := Host.reduce_andi_all _ _ hr hu ix0 h i
  rw [bits_top] at h1
  have h2 : max (x i) (-(x i)) < ⊤ := cmp_below h1
  refine (EReal.coe_toReal (ne_of_lt (lt_of_le_of_lt (le_max_left _ _) h2)) fun hx => ?_).symm
  rw [hx] at h2
  simp at h2

theorem real_args (hF : Cert.Pre_finite.Facts) (q k v : FVec Ideal S8320x1024 .f32) (e : FVec Ideal S8x8320x1 .f32) (g : FVec Ideal S8320x1024 .f32)
    (h : Cert.Pre_finite.fn (F := Ideal) q k v e g = fun _ => 1#1) :
    (∀ i, q i = ((EReal.toReal (q i) : ℝ) : EReal)) ∧ (∀ i, k i = ((EReal.toReal (k i) : ℝ) : EReal)) ∧ (∀ i, v i = ((EReal.toReal (v i) : ℝ) : EReal))
      ∧ (∀ i, e i = ((EReal.toReal (e i) : ℝ) : EReal)) ∧ (∀ i, g i = ((EReal.toReal (g i) : ℝ) : EReal)) := by
  have h0 := congrFun h ix0
  unfold Cert.Pre_finite.fn Cert.Pre_finite.fn_part1 at h0
  dsimp only at h0
  obtain ⟨h0, hg⟩ := IntOp.andi_eq_one.mp h0
  obtain ⟨h0, he⟩ := IntOp.andi_eq_one.mp h0
  obtain ⟨h0, hv⟩ := IntOp.andi_eq_one.mp h0
  obtain ⟨hq, hk⟩ := IntOp.andi_eq_one.mp h0
  exact ⟨real_of_all q _ _ _ hq, real_of_all k _ _ _ hk, real_of_all v _ _ _ hv, real_of_all e _ _ _ he, real_of_all g _ _ _ hg⟩

end Cert.Proof.Finite
-- ==== Proof.Model.lean ====
module

public import Idealize.ShloMosaic.Lib.Pointwise

@[expose] public section
noncomputable section
namespace Cert.Proof.Fox.Model

/-! # The mathematics: causal softmax attention with a decay per key, and its gradient, over the reals

`Q K V G` are the queries, keys, values and the cotangent of the output, of row and column; `C` the decays, of head and row.
Head `h` owns the columns `128 h … 128 h + 127`. -/

open Finset

variable (Q K V G : ℕ → ℕ → ℝ) (C : ℕ → ℕ → ℝ)

/-- The scale of the scores. -/
def sc : ℝ := (Real.sqrt 128)⁻¹

/-- The score of query `i` against key `j`, short of the query's own decay, which a softmax does not see. -/
def S (h i j : ℕ) : ℝ := (∑ d ∈ range 128, (Q i (128 * h + d) * sc) * K j (128 * h + d)) - C h j
/-- Its exponential, where the key is not later than the query. -/
def w (h i j : ℕ) : ℝ := if j ≤ i then Real.exp (S Q K C h i j) else 0
/-- The normaliser of query `i`. -/
def L (h i : ℕ) : ℝ := ∑ j ∈ range 8320, w Q K C h i j
/-- The attention weights, -/
def p (h i j : ℕ) : ℝ := w Q K C h i j / L Q K C h i
/-- the output, -/
def o (h i d : ℕ) : ℝ := (∑ j ∈ range 8320, w Q K C h i j * V j (128 * h + d)) / L Q K C h i
/-- the cotangent of the weights, -/
def dp (h i j : ℕ) : ℝ := ∑ d ∈ range 128, V j (128 * h + d) * G i (128 * h + d)
/-- the cotangent of the output against the output, -/
def dl (h i : ℕ) : ℝ := ∑ d ∈ range 128, G i (128 * h + d) * o Q K V C h i d
/-- the cotangent of the scores, -/
def ds (h i j : ℕ) : ℝ := p Q K C h i j * (dp V G h i j - dl Q K V G C h i)
/-- and the four gradients. -/
def DQ (h i d : ℕ) : ℝ := (∑ j ∈ range 8320, ds Q K V G C h i j * K j (128 * h + d)) * sc
def DK (h j d : ℕ) : ℝ := ∑ i ∈ range 8320, ds Q K V G C h i j * (Q i (128 * h + d) * sc)
def DV (h j d : ℕ) : ℝ := ∑ i ∈ range 8320, p Q K C h i j * G i (128 * h + d)
def DC (h j : ℕ) : ℝ := - ∑ i ∈ range 8320, ds Q K V G C h i j

variable {Q K V G C}

theorem w_nonneg (h i j : ℕ) : 0 ≤ w Q K C h i j := by
  unfold w
  split
  · exact (Real.exp_pos _).le
  · exact le_rfl

theorem w_late {h i j : ℕ} (hij : i < j) : w Q K C h i j = 0 := if_neg (by omega)

theorem L_pos {h i : ℕ} (hi : i < 8320) : 0 < L Q K C h i := by
  refine sum_pos' (fun j _ => w_nonneg h i j) ⟨i, mem_range.mpr hi, ?_⟩
  unfold w
  rw [if_pos le_rfl]
  exact Real.exp_pos _

theorem p_late {h i j : ℕ} (hij : i < j) : p Q K C h i j = 0 := by
  unfold p
  rw [w_late hij, zero_div]
theorem ds_late {h i j : ℕ} (hij : i < j) : ds Q K V G C h i j = 0 := by
  unfold ds
  rw [p_late hij, zero_mul]

/-- A weight is the exponential of the score less the logarithm of the normaliser. -/
theorem p_eq_exp {h i j : ℕ} (hi : i < 8320) (hij : j ≤ i) : p Q K C h i j = Real.exp (S Q K C h i j - Real.log (L Q K C h i)) := by
  unfold p w
  rw [if_pos hij, Real.exp_sub, Real.exp_log (L_pos hi)]

theorem sum_p {h i : ℕ} (hi : i < 8320) : ∑ j ∈ range 8320, p Q K C h i j = 1 := by
  unfold p
  rw [← sum_div]
  exact div_self (L_pos hi).ne'

/-- The output's cotangent against the output is the weighted mean of the cotangents of the weights. -/
theorem dl_eq {h i : ℕ} : dl Q K V G C h i = ∑ j ∈ range 8320, p Q K C h i j * dp V G h i j := by
  unfold dl o dp p
  simp only [sum_div, mul_sum]
  rw [sum_comm]
  refine sum_congr rfl fun j _ => sum_congr rfl fun d _ => ?_
  ring

theorem sum_ds {h i : ℕ} (hi : i < 8320) : ∑ j ∈ range 8320, ds Q K V G C h i j = 0 := by
  unfold ds
  simp only [mul_sub, sum_sub_distrib, ← sum_mul]
  rw [sum_p hi, ← dl_eq, one_mul, sub_self]

/-- Sums over later keys are sums over the keys so far. -/
theorem sum_early {N : ℕ} (hN : N ≤ 8320) (f : ℕ → ℝ) (hf : ∀ j, N ≤ j → f j = 0) : ∑ j ∈ range 8320, f j = ∑ j ∈ range N, f j := by
  refine (sum_subset (range_subset_range.mpr hN) fun j _ hj => hf j ?_).symm
  simpa using hj

theorem sum_step (b : ℕ) (f : ℕ → ℝ) : ∑ j ∈ range (640 * (b + 1)), f j = ∑ j ∈ range (640 * b), f j + ∑ y ∈ range 640, f (640 * b + y) := by
  rw [show 640 * (b + 1) = 640 * b + 640 by ring, sum_range_add]

theorem sum_fin {n : ℕ} (f : ℕ → ℝ) : ∑ y : Fin n, ((f y.val : ℝ) : EReal) = ((∑ y ∈ range n, f y : ℝ) : EReal) := by
  rw [← Fin.sum_univ_eq_sum_range (fun y => f y) n]
  exact (map_sum (⟨⟨Real.toEReal, EReal.coe_zero⟩, EReal.coe_add⟩ : ℝ →+ EReal) (fun y : Fin n => f y.val) univ).symm

end Cert.Proof.Fox.Model
-- ==== Proof.Online.lean ====
module

public import proofs.«01_k».proof.Proof.Model

@[expose] public section
noncomputable section
namespace Cert.Proof.Fox

open Idealize.ShloMosaic
open Finset

/-! # A softmax taken in block by block

The running maximum is minus infinity before the first block and a real number after it; the running sums are the true sums
over the keys so far, scaled down by the exponential of the running maximum, whatever that is. -/

/-- A sum of real numbers among the extended reals. -/
theorem coe_sum {n : ℕ} (f : Fin n → ℝ) : ∑ y, ((f y : ℝ) : EReal) = ((∑ y, f y : ℝ) : EReal) :=
  (map_sum (⟨⟨Real.toEReal, EReal.coe_zero⟩, EReal.coe_add⟩ : ℝ →+ EReal) f univ).symm

theorem fold_max_real {n : ℕ} (x : Fin n → EReal) (hx : ∀ z, x z ≠ ⊤) (hz : ∃ z, x z ≠ ⊥) : ∃ r : ℝ, Finset.fold max ⊥ x univ = r := by
  have hle : Finset.fold max ⊥ x univ < ⊤ := (Finset.fold_max_lt _).mpr ⟨bot_lt_top, fun z _ => lt_top_iff_ne_top.mpr (hx z)⟩
  obtain ⟨z, hz⟩ := hz
  have hge : ⊥ < Finset.fold max ⊥ x univ := (Finset.lt_fold_max _).mpr (.inr ⟨z, mem_univ z, bot_lt_iff_ne_bot.mpr hz⟩)
  exact ⟨_, (EReal.coe_toReal hle.ne hge.ne').symm⟩

variable {ι : Type}

/-- The state of one row: maximum `m`, sum `l` and weighted sums `a`, against the true sums `L` and `A`. -/
def Inv (m l : EReal) (a : ι → EReal) (L : ℝ) (A : ι → ℝ) : Prop :=
  (m = ⊥ ∧ l = 0 ∧ L = 0 ∧ ∀ d, a d = 0 ∧ A d = 0) ∨ ∃ μ : ℝ, m = μ ∧ l = ((Real.exp (-μ) * L : ℝ) : EReal) ∧ ∀ d, a d = ((Real.exp (-μ) * A d : ℝ) : EReal)

theorem Inv.fresh (m l : EReal) (a : ι → EReal) (L : ℝ) (A : ι → ℝ) (hm : m = ⊥) (hl : l = 0) (hL : L = 0) (ha : ∀ d, a d = 0) (hA : ∀ d, A d = 0) : Inv m l a L A :=
  .inl ⟨hm, hl, hL, fun d => ⟨ha d, hA d⟩⟩

theorem Inv.step {m l : EReal} {a : ι → EReal} {L : ℝ} {A : ι → ℝ} (h : Inv m l a L A) {n : ℕ} (x : Fin n → EReal) (u : Fin n → ℝ)
    (hx : ∀ z, (∃ r : ℝ, x z = r ∧ u z = Real.exp r) ∨ (x z = ⊥ ∧ u z = 0)) (hz : ∃ z, x z ≠ ⊥) (v : Fin n → ι → ℝ)
    {M l' : EReal} {a' : ι → EReal} {L' : ℝ} {A' : ι → ℝ} (hM : M = max m (Finset.fold max ⊥ x univ))
    (hl : l' = Ideal.exp (m - M) * l + ∑ z, Ideal.exp (x z - M))
    (ha : ∀ d, a' d = Ideal.exp (m - M) * a d + (∑ z, Ideal.exp (x z - M) * (v z d : EReal) + ∑ z, (Ideal.exp (x z - M) - Ideal.exp (x z - M)) * (v z d : EReal)))
    (hL : L' = L + ∑ z, u z) (hA : ∀ d, A' d = A d + ∑ z, u z * v z d) : Inv M l' a' L' A' := by
  obtain ⟨r, hr⟩ := fold_max_real x (fun z => by
    rcases hx z with ⟨r, h1, _⟩ | ⟨h1, _⟩ <;> rw [h1]
    · exact EReal.coe_ne_top r
    · exact bot_ne_top) hz
  have hM' : ∃ ν : ℝ, M = ν := by
    rcases h with ⟨rfl, _⟩ | ⟨μ, rfl, _⟩
    · exact ⟨r, by rw [hM, hr, max_eq_right bot_le]⟩
    · exact ⟨max μ r, by rw [hM, hr]; exact (EReal.coe_strictMono.monotone.map_max).symm⟩
  obtain ⟨ν, rfl⟩ := hM'
  have hp : ∀ z, Ideal.exp (x z - (ν : EReal)) = ((Real.exp (-ν) * u z : ℝ) : EReal) := fun z => by
    rcases hx z with ⟨s, h1, h2⟩ | ⟨h1, h2⟩
    · rw [h1, h2, ← EReal.coe_sub, Ideal.exp_coe, ← Real.exp_add]
      congr 2
      ring
    · rw [h1, h2, EReal.bot_sub, Ideal.exp_bot, mul_zero, EReal.coe_zero]
  refine .inr ⟨ν, rfl, ?_, fun d => ?_⟩
  · rw [hl]
    simp only [hp, coe_sum, ← mul_sum]
    rcases h with ⟨rfl, rfl, rfl, _⟩ | ⟨μ, rfl, rfl, _⟩
    · rw [mul_zero, zero_add, hL, zero_add]
    · rw [← EReal.coe_sub, Ideal.exp_coe, ← EReal.coe_mul, ← EReal.coe_add, hL, mul_add, ← mul_assoc, ← Real.exp_add]
      congr 4
      ring
  · rw [ha]
    simp only [hp, ← EReal.coe_sub, sub_self, EReal.coe_zero, zero_mul, sum_const_zero, add_zero, ← EReal.coe_mul, coe_sum, mul_assoc, ← mul_sum]
    rcases h with ⟨rfl, rfl, rfl, h⟩ | ⟨μ, rfl, rfl, h⟩
    · rw [(h d).1, mul_zero, zero_add, hA, (h d).2, zero_add]
    · rw [h d, ← EReal.coe_sub, Ideal.exp_coe, ← EReal.coe_mul, ← EReal.coe_add, hA, mul_add, ← mul_assoc, ← Real.exp_add]
      congr 4
      ring

/-- A quotient of real numbers. -/
theorem div_real {x y : ℝ} (hy : y ≠ 0) : Ideal.div (x : EReal) (y : EReal) = ((x / y : ℝ) : EReal) := by
  unfold Ideal.div
  rw [if_neg (by simpa using hy), ← EReal.coe_inv, ← EReal.coe_mul, div_eq_mul_inv]

theorem log_real {x : ℝ} (hx : 0 < x) : Ideal.log (x : EReal) = ((Real.log x : ℝ) : EReal) := by
  rw [Ideal.log_coe, if_neg (not_le.mpr hx)]

/-- At the end of a row, the output, -/
theorem Inv.out {m l : EReal} {a : ι → EReal} {L : ℝ} {A : ι → ℝ} (h : Inv m l a L A) (hL : 0 < L) (d : ι) : Ideal.div (a d) l = ((A d / L : ℝ) : EReal) := by
  rcases h with ⟨_, _, h0, _⟩ | ⟨μ, rfl, rfl, h⟩
  · exact absurd h0 hL.ne'
  · rw [h d, div_real (mul_pos (Real.exp_pos _) hL).ne', mul_div_mul_left _ _ (Real.exp_pos _).ne']
/-- and the logarithm of the sum. -/
theorem Inv.lse {m l : EReal} {a : ι → EReal} {L : ℝ} {A : ι → ℝ} (h : Inv m l a L A) (hL : 0 < L) : m + Ideal.log l = ((Real.log L : ℝ) : EReal) := by
  rcases h with ⟨_, _, h0, _⟩ | ⟨μ, rfl, rfl, _⟩
  · exact absurd h0 hL.ne'
  · rw [log_real (mul_pos (Real.exp_pos _) hL), Real.log_mul (Real.exp_pos _).ne' hL.ne', Real.log_exp, ← EReal.coe_add]
    congr 1
    ring

end Cert.Proof.Fox
-- ==== Proof.FwdValue.lean ====
module

public import proofs.«01_k».proof.Proof.FwdRegion
public import proofs.«01_k».proof.Proof.Online
public import Idealize.ShloMosaic.Lib.Pointwise

@[expose] public section
set_option maxRecDepth 16384
noncomputable section
namespace Cert.Proof.Fox

open Cert.KernelIdeal Cert.KernelIdeal.Gen
open Idealize.ShloMosaic
open Idealize.ShloMosaic.TcCoe
open Finset

/-! # What the forward call computes, over real arrays -/

/-- An array of real numbers, read at row and column. -/
def IsReal (a : S8320x1024.Idx → EReal) (A : ℕ → ℕ → ℝ) : Prop := ∀ (i : Fin 8320) (d : Fin 1024), a (ix2 i d) = (A i.val d.val : EReal)
/-- A block of rows of one head's columns. -/
def TileReal (a : S640x128.Idx → EReal) (A : ℕ → ℕ → ℝ) (b h : ℕ) : Prop :=
  ∀ (y : Fin 640) (d : Fin 128), a (ix2 y d) = (A (640 * b + y.val) (128 * h + d.val) : EReal)
/-- A row of real numbers per head; -/
def RowReal (a : S8x1x8320.Idx → EReal) (A : ℕ → ℕ → ℝ) : Prop := ∀ (h : Fin 8) (i : Fin 8320), a (ix3 h 0 i) = (A h.val i.val : EReal)
/-- one block of it, -/
def RowTileReal (a : S1x1x640.Idx → EReal) (A : ℕ → ℕ → ℝ) (b h : ℕ) : Prop := ∀ y : Fin 640, a (ix3 0 0 y) = (A h (640 * b + y.val) : EReal)
/-- a column of them, -/
def ColReal (a : S8x8320x1.Idx → EReal) (A : ℕ → ℕ → ℝ) : Prop := ∀ (h : Fin 8) (i : Fin 8320), a (ix3 h i 0) = (A h.val i.val : EReal)
/-- and one block of that. -/
def ColTileReal (a : S1x640x1.Idx → EReal) (A : ℕ → ℕ → ℝ) (b h : ℕ) : Prop := ∀ y : Fin 640, a (ix3 0 y 0) = (A h (640 * b + y.val) : EReal)

theorem IsReal.tile {a : S8320x1024.Idx → EReal} {A : ℕ → ℕ → ℝ} (ha : IsReal a A) {b h : ℕ} (hb : b < 13) (hh : h < 8) : TileReal (Fox.tile a b h) A b h := fun y d => by
  have hy := y.isLt
  have hd := d.isLt
  refine (congrArg a (?_ : _ = ix2 (⟨640 * b + y.val, by omega⟩ : Fin 8320) (⟨128 * h + d.val, by omega⟩ : Fin 1024))).trans (ha _ _)
  refine funext fun x => Fin.ext ?_
  fin_cases x
  · show (640 * b + y.val) % 8320 = 640 * b + y.val
    omega
  · show (128 * h + d.val) % 1024 = 128 * h + d.val
    omega
theorem RowReal.tile {a : S8x1x8320.Idx → EReal} {A : ℕ → ℕ → ℝ} (ha : RowReal a A) {b h : ℕ} (hb : b < 13) (hh : h < 8) : RowTileReal (rowTile a b h) A b h := fun y => by
  have hy := y.isLt
  refine (congrArg a (?_ : _ = ix3 (⟨h, hh⟩ : Fin 8) (0 : Fin 1) (⟨640 * b + y.val, by omega⟩ : Fin 8320))).trans (ha _ _)
  refine funext fun x => Fin.ext ?_
  fin_cases x
  · show h % 8 = h
    omega
  · rfl
  · show (640 * b + y.val) % 8320 = 640 * b + y.val
    omega
theorem ColReal.tile {a : S8x8320x1.Idx → EReal} {A : ℕ → ℕ → ℝ} (ha : ColReal a A) {b h : ℕ} (hb : b < 13) (hh : h < 8) : ColTileReal (colTile a b h) A b h := fun y => by
  have hy := y.isLt
  refine (congrArg a (?_ : _ = ix3 (⟨h, hh⟩ : Fin 8) (⟨640 * b + y.val, by omega⟩ : Fin 8320) (0 : Fin 1))).trans (ha _ _)
  refine funext fun x => Fin.ext ?_
  fin_cases x
  · show h % 8 = h
    omega
  · show (640 * b + y.val) % 8320 = 640 * b + y.val
    omega
  · rfl

theorem named_scale : Named.named (F := Ideal) (φ := .f32) κ "s" 0x3DB504F3#32 = ((Model.sc : ℝ) : EReal) := rfl
theorem named_mask : Named.named (F := Ideal) (φ := .f32) κ "mask" 0xF149F2CA#32 = (⊥ : EReal) := rfl
theorem bits_bot : Ideal.ofBits .f32 0xFF800000#32 = (⊥ : EReal) := by simp [Ideal.ofBits, Ideal.ieee]

/-- The position of an entry of a block, as a word. -/
theorem word_pos {b : ℕ} (hb : b < 13) (y : Fin 640) : IntOp.addi (Scalar.muli (ws b) 640#32) (BitVec.ofNat 32 y.val) = BitVec.ofNat 32 (640 * b + y.val) := by
  have hy := y.isLt
  apply BitVec.eq_of_toNat_eq
  show ((ws b * 640#32 + BitVec.ofNat 32 y.val)).toNat = _
  simp only [ws, BitVec.toNat_add, BitVec.toNat_mul, BitVec.toNat_ofNat]
  omega

theorem sle_small {i j : ℕ} (hi : i < 8320) (hj : j < 8320) : IntOp.cmpi .sle (BitVec.ofNat 32 i) (BitVec.ofNat 32 j) = BitVec.ofBool (decide (i ≤ j)) := by
  have h : (BitVec.ofNat 32 i).sle (BitVec.ofNat 32 j) = decide (i ≤ j) := by
    rw [BitVec.sle_eq_decide]
    congr 1
    rw [BitVec.toInt_eq_toNat_of_lt (by simp only [BitVec.toNat_ofNat]; omega), BitVec.toInt_eq_toNat_of_lt (by simp only [BitVec.toNat_ofNat]; omega)]
    rw [BitVec.toNat_ofNat, BitVec.toNat_ofNat, Nat.mod_eq_of_lt (by omega), Nat.mod_eq_of_lt (by omega)]
    exact propext Nat.cast_le
  exact congrArg BitVec.ofBool h

theorem select_ofBool {α : Type} (c : Prop) [Decidable c] (x y : α) : Scalar.select (BitVec.ofBool (decide c)) x y = if c then x else y := by
  by_cases h : c <;> simp [h, Scalar.select]

section
variable {Q K V : ℕ → ℕ → ℝ} {C : ℕ → ℕ → ℝ} {q k v : FVec Ideal S640x128 .f32} {e : FVec Ideal S1x1x640 .f32} {b j h : ℕ}

/-- The scores of a block. -/
theorem scores_at (hq : TileReal q Q b h) (hk : TileReal k K j h) (he : RowTileReal e C j h) (y z : Fin 640) :
    k0_pay10 (F := Ideal) q k e (ix2 y z) = ((Model.S Q K C h (640 * b + y.val) (640 * j + z.val) : ℝ) : EReal) := by
  pointwise [k0_pay10]
  rw [he z, named_scale]
  simp only [hq y, hk z, ← EReal.coe_mul]
  rw [Model.sum_fin (fun d => Q (640 * b + y.val) (128 * h + d) * Model.sc * K (640 * j + z.val) (128 * h + d)), ← EReal.coe_sub]
  rfl

/-- On the diagonal, masked. -/
theorem scores_diag_at (hb : b < 13) (hq : TileReal q Q b h) (hk : TileReal k K b h) (he : RowTileReal e C b h) (y z : Fin 640) :
    k0_pay20 (F := Ideal) (ws b) (ws b) q k e (ix2 y z) = if 640 * b + z.val ≤ 640 * b + y.val then ((Model.S Q K C h (640 * b + y.val) (640 * b + z.val) : ℝ) : EReal) else ⊥ := by
  have hy := y.isLt
  have hz := z.isLt
  pointwise [k0_pay20]
  rw [he z, named_scale, named_mask, word_pos hb, word_pos hb, sle_small (by omega) (by omega), select_ofBool]
  simp only [hq y, hk z, ← EReal.coe_mul]
  rw [Model.sum_fin (fun d => Q (640 * b + y.val) (128 * h + d) * Model.sc * K (640 * b + z.val) (128 * h + d)), ← EReal.coe_sub]
  rfl

end

/-- The state of a block of rows after `n` blocks of keys. -/
def StInv (Q K V C : ℕ → ℕ → ℝ) (b h n : ℕ) (s : St Ideal) : Prop :=
  ∀ y : Fin 640, Inv (s.m (ix2 y 0)) (s.l (ix2 y 0)) (fun d : Fin 128 => s.acc (ix2 y d)) (∑ x ∈ range (640 * n), Model.w Q K C h (640 * b + y.val) x)
    (fun d => ∑ x ∈ range (640 * n), Model.w Q K C h (640 * b + y.val) x * V x (128 * h + d.val))

theorem sum_fin_real (f : ℕ → ℝ) : ∑ z : Fin 640, f z.val = ∑ z ∈ range 640, f z := Fin.sum_univ_eq_sum_range f 640

variable {Q K V : ℕ → ℕ → ℝ} {C : ℕ → ℕ → ℝ}

theorem fresh_inv (b h : ℕ) : StInv Q K V C b h 0 (St.fresh (F := Ideal)) := fun y => by
  refine Inv.fresh _ _ _ _ _ ?_ ?_ (by simp) (fun d => ?_) (fun d => by simp)
  · show k0_pay1 (F := Ideal) (ix2 y 0) = ⊥
    pointwise [k0_pay1]
    exact named_mask
  · show k0_pay2 (F := Ideal) (ix2 y 0) = 0
    pointwise [k0_pay2]
  · show k0_pay3 (F := Ideal) (ix2 y d) = 0
    pointwise [k0_pay3]

/-- One block taken in, given its scores. -/
theorem block_inv {b j h : ℕ} (hj : j ≤ b) {v : FVec Ideal S640x128 .f32} (hv : TileReal v V j h) (x : Fin 640 → Fin 640 → EReal)
    (hx : ∀ y z, x y z = if 640 * j + z.val ≤ 640 * b + y.val then ((Model.S Q K C h (640 * b + y.val) (640 * j + z.val) : ℝ) : EReal) else ⊥) {s s' : St Ideal} (hs : StInv Q K V C b h j s)
    (hm : ∀ y : Fin 640, s'.m (ix2 y 0) = max (s.m (ix2 y 0)) (Finset.fold max ⊥ (x y) univ))
    (hl : ∀ y : Fin 640, s'.l (ix2 y 0) = Ideal.exp (s.m (ix2 y 0) - s'.m (ix2 y 0)) * s.l (ix2 y 0) + ∑ z, Ideal.exp (x y z - s'.m (ix2 y 0)))
    (ha : ∀ (y : Fin 640) (d : Fin 128), s'.acc (ix2 y d) = Ideal.exp (s.m (ix2 y 0) - s'.m (ix2 y 0)) * s.acc (ix2 y d)
      + (∑ z, Ideal.exp (x y z - s'.m (ix2 y 0)) * v (ix2 z d) + ∑ z, (Ideal.exp (x y z - s'.m (ix2 y 0)) - Ideal.exp (x y z - s'.m (ix2 y 0))) * v (ix2 z d))) :
    StInv Q K V C b h (j + 1) s' := fun y => by
  refine Inv.step (hs y) (x y) (fun z => Model.w Q K C h (640 * b + y.val) (640 * j + z.val)) (fun z => ?_) ⟨0, ?_⟩ (fun z d => V (640 * j + z.val) (128 * h + d.val))
    (hm y) (hl y) (fun d => ?_) ?_ (fun d => ?_)
  · rw [hx]
    by_cases hz : 640 * j + z.val ≤ 640 * b + y.val
    · exact .inl ⟨_, if_pos hz, if_pos hz⟩
    · exact .inr ⟨if_neg hz, if_neg hz⟩
  · rw [hx, if_pos (by show 640 * j + 0 ≤ _; omega)]
    exact EReal.coe_ne_bot _
  · rw [ha]
    simp only [hv _ d]
  · rw [Model.sum_step, sum_fin_real (fun z => Model.w Q K C h (640 * b + y.val) (640 * j + z))]
  · rw [Model.sum_step, sum_fin_real (fun z => Model.w Q K C h (640 * b + y.val) (640 * j + z) * V (640 * j + z) (128 * h + d.val))]

section
variable {q k v : FVec Ideal S640x128 .f32} {e : FVec Ideal S1x1x640 .f32} {b j h : ℕ}

theorem off_inv (hj : j < b) (hq : TileReal q Q b h) (hk : TileReal k K j h) (hv : TileReal v V j h) (he : RowTileReal e C j h) {s : St Ideal}
    (hs : StInv Q K V C b h j s) : StInv Q K V C b h (j + 1) (St.off q k v e s) := by
  refine block_inv hj.le hv (fun y z => k0_pay10 (F := Ideal) q k e (ix2 y z)) (fun y z => ?_) hs (fun y => ?_) (fun y => ?_) (fun y d => ?_)
  · have hz := z.isLt
    exact (scores_at hq hk he y z).trans (if_pos (by omega)).symm
  · show k0_pay15 (F := Ideal) q k e s.m (ix2 y 0) = _
    pointwise [k0_pay15, k0_pay11]
    rw [bits_bot]
  · show k0_pay14 (F := Ideal) q k e s.m s.l (ix2 y 0) = Ideal.exp (s.m (ix2 y 0) - k0_pay15 (F := Ideal) q k e s.m (ix2 y 0)) * s.l (ix2 y 0) + ∑ z, Ideal.exp (k0_pay10 (F := Ideal) q k e (ix2 y z) - k0_pay15 (F := Ideal) q k e s.m (ix2 y 0))
    pointwise [k0_pay14, k0_pay12, k0_pay13, k0_pay15]
  · show k0_pay4 (F := Ideal) (k0_pay12 q k e s.m) (k0_pay13 q k e s.m) (k0_pay16 v) (k0_pay18 q k e s.m v) (k0_pay19 q k e s.m) s.acc (ix2 y d)
      = Ideal.exp (s.m (ix2 y 0) - k0_pay15 (F := Ideal) q k e s.m (ix2 y 0)) * s.acc (ix2 y d)
      + (∑ z, Ideal.exp (k0_pay10 (F := Ideal) q k e (ix2 y z) - k0_pay15 (F := Ideal) q k e s.m (ix2 y 0)) * v (ix2 z d) + ∑ z, (Ideal.exp (k0_pay10 (F := Ideal) q k e (ix2 y z) - k0_pay15 (F := Ideal) q k e s.m (ix2 y 0)) - Ideal.exp (k0_pay10 (F := Ideal) q k e (ix2 y z) - k0_pay15 (F := Ideal) q k e s.m (ix2 y 0))) * v (ix2 z d))
    pointwise [k0_pay4, k0_pay12, k0_pay13, k0_pay15, k0_pay16, k0_pay17, k0_pay18, k0_pay19]

theorem diag_inv (hb : b < 13) (hq : TileReal q Q b h) (hk : TileReal k K b h) (hv : TileReal v V b h) (he : RowTileReal e C b h) {s : St Ideal}
    (hs : StInv Q K V C b h b s) : StInv Q K V C b h (b + 1) (St.diag (ws b) q k v e s) := by
  refine block_inv le_rfl hv (fun y z => k0_pay20 (F := Ideal) (ws b) (ws b) q k e (ix2 y z)) (fun y z => scores_diag_at hb hq hk he y z) hs (fun y => ?_) (fun y => ?_) (fun y d => ?_)
  · show k0_pay6 (F := Ideal) (k0_pay21 (ws b) (ws b) q k e s.m) (ix2 y 0) = _
    pointwise [k0_pay6, k0_pay21]
    rw [bits_bot]
  · show k0_pay5 (F := Ideal) (k0_pay24 (ws b) (ws b) q k e s.m s.l) (ix2 y 0) = Ideal.exp (s.m (ix2 y 0) - k0_pay6 (F := Ideal) (k0_pay21 (ws b) (ws b) q k e s.m) (ix2 y 0)) * s.l (ix2 y 0) + ∑ z, Ideal.exp (k0_pay20 (F := Ideal) (ws b) (ws b) q k e (ix2 y z) - k0_pay6 (F := Ideal) (k0_pay21 (ws b) (ws b) q k e s.m) (ix2 y 0))
    pointwise [k0_pay5, k0_pay24, k0_pay22, k0_pay23, k0_pay6]
  · show k0_pay7 (F := Ideal) (k0_pay22 (ws b) (ws b) q k e s.m) (k0_pay23 (ws b) (ws b) q k e s.m) v s.acc (ix2 y d)
      = Ideal.exp (s.m (ix2 y 0) - k0_pay6 (F := Ideal) (k0_pay21 (ws b) (ws b) q k e s.m) (ix2 y 0)) * s.acc (ix2 y d)
      + (∑ z, Ideal.exp (k0_pay20 (F := Ideal) (ws b) (ws b) q k e (ix2 y z) - k0_pay6 (F := Ideal) (k0_pay21 (ws b) (ws b) q k e s.m) (ix2 y 0)) * v (ix2 z d) + ∑ z, (Ideal.exp (k0_pay20 (F := Ideal) (ws b) (ws b) q k e (ix2 y z) - k0_pay6 (F := Ideal) (k0_pay21 (ws b) (ws b) q k e s.m) (ix2 y 0)) - Ideal.exp (k0_pay20 (F := Ideal) (ws b) (ws b) q k e (ix2 y z) - k0_pay6 (F := Ideal) (k0_pay21 (ws b) (ws b) q k e s.m) (ix2 y 0))) * v (ix2 z d))
    pointwise [k0_pay7, k0_pay22, k0_pay23, k0_pay6]

end

/-! ## Along the walk -/

theorem fwd_walk : ∀ n : Fin 728, (opens (n.val % 91) = true → colF (n.val % 91) = 0)
    ∧ (opens (n.val % 91) = false → n.val ≠ 0 ∧ rowF (n.val % 91) = rowF ((n.val - 1) % 91) ∧ colF (n.val % 91) = colF ((n.val - 1) % 91) + 1 ∧ n.val / 91 = (n.val - 1) / 91)
    ∧ (closes (n.val % 91) = true → colF (n.val % 91) = rowF (n.val % 91)) ∧ (closes (n.val % 91) = false → colF (n.val % 91) < rowF (n.val % 91)) := by decide +kernel

variable {q k v : S8320x1024.Idx → EReal} {e : S8x1x8320.Idx → EReal}

theorem step_inv (hq : IsReal q Q) (hk : IsReal k K) (hv : IsReal v V) (he : RowReal e C) {n : ℕ} (hn : n < 728) {s : St Ideal}
    (hs : opens (n % 91) = false → StInv Q K V C (rowF (n % 91)) (n / 91) (colF (n % 91)) s) :
    StInv Q K V C (rowF (n % 91)) (n / 91) (colF (n % 91) + 1) (stepAt (F := Ideal) q k v e n s) := by
  obtain ⟨h1, h2, h3, h4⟩ := fwd_walk ⟨n, hn⟩
  dsimp only at h1 h2 h3 h4
  have hr := rowF_lt (n % 91)
  have hc := colF_lt (n % 91)
  have hh : n / 91 < 8 := by omega
  have hs' : StInv Q K V C (rowF (n % 91)) (n / 91) (colF (n % 91)) (if opens (n % 91) then St.fresh else s) := by
    cases ho : opens (n % 91)
    · exact hs ho
    · rw [h1 ho]
      exact fresh_inv _ _
  unfold stepAt stepB
  generalize (if opens (n % 91) then St.fresh else s : St Ideal) = s' at hs' ⊢
  cases ho : closes (n % 91)
  · exact off_inv (h4 ho) (hq.tile hr hh) (hk.tile hc hh) (hv.tile hc hh) (he.tile hc hh) hs'
  · have h := h3 ho
    rw [h] at hs' hc ⊢
    exact diag_inv hr (hq.tile hr hh) (hk.tile hr hh) (hv.tile hr hh) (he.tile hr hh) hs'

theorem traj_inv (hq : IsReal q Q) (hk : IsReal k K) (hv : IsReal v V) (he : RowReal e C) : ∀ n, n < 728 →
    StInv Q K V C (rowF (n % 91)) (n / 91) (colF (n % 91) + 1) (traj (F := Ideal) q k v e (n + 1))
  | 0, hn => step_inv hq hk hv he hn fun ho => absurd ((fwd_walk ⟨0, hn⟩).2.1 ho).1 (fun h => h rfl)
  | n + 1, hn => step_inv hq hk hv he hn fun ho => by
    obtain ⟨_, h1, h2, h3⟩ := (fwd_walk ⟨n + 1, hn⟩).2.1 ho
    dsimp only at h1 h2 h3
    rw [Nat.add_sub_cancel] at h1 h2 h3
    rw [h1, h2, h3]
    exact traj_inv hq hk hv he n (by omega)

/-- At the end of a row of blocks the sums are complete. -/
theorem row_sums {b : ℕ} (hb : b < 13) (y : Fin 640) (h : ℕ) (f : ℕ → ℝ) :
    ∑ x ∈ range (640 * (b + 1)), Model.w Q K C h (640 * b + y.val) x * f x = ∑ x ∈ range 8320, Model.w Q K C h (640 * b + y.val) x * f x :=
  (Model.sum_early (by omega) _ fun j hj => by rw [Model.w_late (by have := y.isLt; omega), zero_mul]).symm
theorem row_sum {b : ℕ} (hb : b < 13) (y : Fin 640) (h : ℕ) :
    ∑ x ∈ range (640 * (b + 1)), Model.w Q K C h (640 * b + y.val) x = Model.L Q K C h (640 * b + y.val) :=
  (Model.sum_early (by omega) _ fun j hj => Model.w_late (by have := y.isLt; omega)).symm

theorem out_at {b h : ℕ} (hb : b < 13) {s : St Ideal} (hs : StInv Q K V C b h (b + 1) s) (y : Fin 640) (d : Fin 128) :
    k0_pay8 (F := Ideal) s.acc s.l (ix2 y d) = ((Model.o Q K V C h (640 * b + y.val) d.val : ℝ) : EReal) := by
  have h1 := hs y
  rw [row_sum hb] at h1
  pointwise [k0_pay8]
  rw [h1.out (Model.L_pos (by have := y.isLt; omega)) d, row_sums hb y h (fun x => V x (128 * h + d.val))]
  rfl
theorem lse_at {b h : ℕ} (hb : b < 13) {s : St Ideal} (hs : StInv Q K V C b h (b + 1) s) (y : Fin 640) :
    k0_pay9 (F := Ideal) s.m s.l (ix3 0 y 0) = ((Real.log (Model.L Q K C h (640 * b + y.val)) : ℝ) : EReal) := by
  have h1 := hs y
  rw [row_sum hb] at h1
  pointwise [k0_pay9]
  exact h1.lse (Model.L_pos (by have := y.isLt; omega))

end Cert.Proof.Fox
-- ==== Proof.BwdValue.lean ====
module

public import proofs.«01_k».proof.Proof.FwdValue
public import proofs.«01_k».proof.Proof.BwdRegion
public import Idealize.ShloMosaic.Lib.Pointwise

@[expose] public section
set_option maxRecDepth 16384
noncomputable section
namespace Cert.Proof.Fox

open Cert.KernelIdeal Cert.KernelIdeal.Gen
open Idealize.ShloMosaic
open Idealize.ShloMosaic.TcCoe
open Finset

/-! # What the backward call computes, over real arrays

Rows of a block of weights are keys, columns are queries. -/

variable {Q K V G : ℕ → ℕ → ℝ} {C : ℕ → ℕ → ℝ}

section
variable {q k v g : FVec Ideal S640x128 .f32} {e : FVec Ideal S1x640x1 .f32} {l d : FVec Ideal S1x1x640 .f32} {b j h : ℕ}

/-- A block of real weights: key block `j`, query block `b`. -/
def Weights (Q K : ℕ → ℕ → ℝ) (C : ℕ → ℕ → ℝ) (b j h : ℕ) (P : S640x640.Idx → EReal) : Prop :=
  ∀ y z : Fin 640, P (ix2 y z) = ((Model.p Q K C h (640 * b + z.val) (640 * j + y.val) : ℝ) : EReal)

theorem raw_at (hq : TileReal q Q b h) (hk : TileReal k K j h) (he : ColTileReal e C j h) (y z : Fin 640) :
    ∑ x : Fin 128, k (ix2 y x) * (q (ix2 z x) * ((Model.sc : ℝ) : EReal)) - e (ix3 0 y 0) = ((Model.S Q K C h (640 * b + z.val) (640 * j + y.val) : ℝ) : EReal) := by
  simp only [he y, hq z, hk y, ← EReal.coe_mul]
  rw [Model.sum_fin (fun x => K (640 * j + y.val) (128 * h + x) * (Q (640 * b + z.val) (128 * h + x) * Model.sc)), ← EReal.coe_sub]
  unfold Model.S
  congr 2
  exact sum_congr rfl fun x _ => mul_comm _ _

/-- The weights below the diagonal, -/
theorem weights_off (hb : b < 13) (hj : j < b) (hq : TileReal q Q b h) (hk : TileReal k K j h) (he : ColTileReal e C j h)
    (hl : RowTileReal l (fun h i => Real.log (Model.L Q K C h i)) b h) : Weights Q K C b j h (k2_pay17 (F := Ideal) k q e l) := fun y z => by
  have hy := y.isLt
  have hz := z.isLt
  pointwise [k2_pay17, k2_pay15, k2_pay16]
  rw [named_scale, raw_at hq hk he, hl z, ← EReal.coe_sub, Model.p_eq_exp (by omega) (by omega)]
  rfl
/-- and on it. -/
theorem weights_diag (hb : b < 13) (hq : TileReal q Q b h) (hk : TileReal k K b h) (he : ColTileReal e C b h)
    (hl : RowTileReal l (fun h i => Real.log (Model.L Q K C h i)) b h) : Weights Q K C b b h (k2_pay24 (F := Ideal) (ws b) (ws b) k q e l) := fun y z => by
  have hy := y.isLt
  have hz := z.isLt
  pointwise [k2_pay24, k2_pay22, k2_pay23]
  rw [named_scale, named_mask, raw_at hq hk he, hl z, word_pos hb, word_pos hb, sle_small (by omega) (by omega), select_ofBool]
  by_cases hc : 640 * b + y.val ≤ 640 * b + z.val
  · rw [if_pos hc, ← EReal.coe_sub, Model.p_eq_exp (by omega) hc]
    rfl
  · rw [if_neg hc, Model.p_late (by omega), EReal.bot_sub]
    rfl

/-- The weights against their cotangents: the block of cotangents of the scores. -/
theorem scores_ct {P : FVec Ideal S640x640 .f32} (hP : Weights Q K C b j h P) (hv : TileReal v V j h) (hg : TileReal g G b h)
    (hd : RowTileReal d (Model.dl Q K V G C) b h) (y z : Fin 640) :
    P (ix2 y z) * (∑ x : Fin 128, v (ix2 y x) * g (ix2 z x) - d (ix3 0 0 z)) = ((Model.ds Q K V G C h (640 * b + z.val) (640 * j + y.val) : ℝ) : EReal) := by
  simp only [hP y z, hv y, hg z, hd z, ← EReal.coe_mul]
  rw [Model.sum_fin (fun x => V (640 * j + y.val) (128 * h + x) * G (640 * b + z.val) (128 * h + x)), ← EReal.coe_sub, ← EReal.coe_mul]
  rfl
end

/-- The gradients of a block of keys after the queries before `n`. -/
structure KeyInv (Q K V G : ℕ → ℕ → ℝ) (C : ℕ → ℕ → ℝ) (j h n : ℕ) (s : St2 Ideal) : Prop where
  dv : ∀ (y : Fin 640) (x : Fin 128), s.dv (ix2 y x) = ((∑ i ∈ range n, Model.p Q K C h i (640 * j + y.val) * G i (128 * h + x.val) : ℝ) : EReal)
  dk : ∀ (y : Fin 640) (x : Fin 128), s.dk (ix2 y x) = ((∑ i ∈ range n, Model.ds Q K V G C h i (640 * j + y.val) * (Q i (128 * h + x.val) * Model.sc) : ℝ) : EReal)
  dc : ∀ y : Fin 640, s.dc (ix2 y 0) = ((- ∑ i ∈ range n, Model.ds Q K V G C h i (640 * j + y.val) : ℝ) : EReal)

/-- The gradient of the queries, block `b` of them after `n b` blocks of keys. -/
def QryInv (Q K V G : ℕ → ℕ → ℝ) (C : ℕ → ℕ → ℝ) (h : ℕ) (n : ℕ → ℕ) (D : S8320x128.Idx → EReal) : Prop :=
  ∀ (i : Fin 8320) (x : Fin 128), D (ix2 i x) = ((∑ j ∈ range (640 * n (i.val / 640)), Model.ds Q K V G C h i.val j * K j (128 * h + x.val) : ℝ) : EReal)

theorem step_real (f : ℕ → ℝ) (b : ℕ) (a : EReal) (ha : a = ((∑ i ∈ range (640 * b), f i : ℝ) : EReal)) :
    a + ∑ z : Fin 640, ((f (640 * b + z.val) : ℝ) : EReal) = ((∑ i ∈ range (640 * (b + 1)), f i : ℝ) : EReal) := by
  rw [ha, Model.sum_fin (fun z => f (640 * b + z)), Model.sum_step, EReal.coe_add]

section
variable {q k v g : FVec Ideal S640x128 .f32} {e : FVec Ideal S1x640x1 .f32} {l d : FVec Ideal S1x1x640 .f32} {b j h : ℕ}

theorem key_off (n : ℕ) (hb : b < 13) (hj : j < b) (hq : TileReal q Q b h) (hk : TileReal k K j h) (hv : TileReal v V j h) (he : ColTileReal e C j h) (hg : TileReal g G b h)
    (hl : RowTileReal l (fun h i => Real.log (Model.L Q K C h i)) b h) (hd : RowTileReal d (Model.dl Q K V G C) b h) {s : St2 Ideal} (hs : KeyInv Q K V G C j h (640 * b) s) :
    KeyInv Q K V G C j h (640 * (b + 1)) (St2.off n q k v e g l d s) := by
  have hP := weights_off hb hj hq hk he hl
  have hD := scores_ct hP hv hg hd
  refine ⟨fun y x => ?_, fun y x => ?_, fun y => ?_⟩
  · show k2_pay19 (F := Ideal) k q e l g s.dv (ix2 y x) = _
    unfold k2_pay19
    generalize k2_pay17 (F := Ideal) k q e l = P at hP ⊢
    pointwise [k2_pay18]
    simp only [hP y, hg _ x, ← EReal.coe_mul]
    exact step_real (fun i => Model.p Q K C h i (640 * j + y.val) * G i (128 * h + x.val)) b _ (hs.dv y x)
  · show k2_pay5 (F := Ideal) (k2_pay16 q) (k2_pay21 k q e l g v d) s.dk (ix2 y x) = _
    unfold k2_pay21 k2_pay20
    generalize k2_pay17 (F := Ideal) k q e l = P at hD ⊢
    pointwise [k2_pay5, k2_pay16, k2_pay18]
    simp only [hD y, named_scale, hq _ x, ← EReal.coe_mul]
    exact step_real (fun i => Model.ds Q K V G C h i (640 * j + y.val) * (Q i (128 * h + x.val) * Model.sc)) b _ (hs.dk y x)
  · show k2_pay7 (F := Ideal) (k2_pay20 k q e l g v d) s.dc (ix2 y 0) = _
    unfold k2_pay20
    generalize k2_pay17 (F := Ideal) k q e l = P at hD ⊢
    pointwise [k2_pay7, k2_pay18]
    simp only [hD y]
    rw [hs.dc y, Model.sum_fin (fun z => Model.ds Q K V G C h (640 * b + z) (640 * j + y.val)), Model.sum_step, ← EReal.coe_sub, neg_add, ← sub_eq_add_neg]

theorem key_diag (n : ℕ) (hb : b < 13) (hn : keyB n = b) (hn' : qryB n = b) (hq : TileReal q Q b h) (hk : TileReal k K b h) (hv : TileReal v V b h) (he : ColTileReal e C b h) (hg : TileReal g G b h)
    (hl : RowTileReal l (fun h i => Real.log (Model.L Q K C h i)) b h) (hd : RowTileReal d (Model.dl Q K V G C) b h) {s : St2 Ideal} (hs : KeyInv Q K V G C b h (640 * b) s) :
    KeyInv Q K V G C b h (640 * (b + 1)) (St2.diag n q k v e g l d s) := by
  have hP := weights_diag hb hq hk he hl
  have hD := scores_ct hP hv hg hd
  refine ⟨fun y x => ?_, fun y x => ?_, fun y => ?_⟩
  · show k2_pay26 (F := Ideal) (ws (keyB n)) (ws (qryB n)) k q e l g s.dv (ix2 y x) = _
    rw [hn, hn']
    unfold k2_pay26
    generalize k2_pay24 (F := Ideal) (ws b) (ws b) k q e l = P at hP ⊢
    pointwise [k2_pay25]
    simp only [hP y, hg _ x, ← EReal.coe_mul]
    exact step_real (fun i => Model.p Q K C h i (640 * b + y.val) * G i (128 * h + x.val)) b _ (hs.dv y x)
  · show k2_pay10 (F := Ideal) (k2_pay23 q) (k2_pay24 (ws (keyB n)) (ws (qryB n)) k q e l) (k2_pay25 g) v d s.dk (ix2 y x) = _
    rw [hn, hn']
    generalize k2_pay24 (F := Ideal) (ws b) (ws b) k q e l = P at hD ⊢
    pointwise [k2_pay10, k2_pay9, k2_pay8, k2_pay23, k2_pay25]
    simp only [hD y, named_scale, hq _ x, ← EReal.coe_mul]
    exact step_real (fun i => Model.ds Q K V G C h i (640 * b + y.val) * (Q i (128 * h + x.val) * Model.sc)) b _ (hs.dk y x)
  · show k2_pay12 (F := Ideal) (k2_pay24 (ws (keyB n)) (ws (qryB n)) k q e l) (k2_pay25 g) v d s.dc (ix2 y 0) = _
    rw [hn, hn']
    generalize k2_pay24 (F := Ideal) (ws b) (ws b) k q e l = P at hD ⊢
    pointwise [k2_pay12, k2_pay8, k2_pay25]
    simp only [hD y]
    rw [hs.dc y, Model.sum_fin (fun z => Model.ds Q K V G C h (640 * b + z) (640 * b + y.val)), Model.sum_step, ← EReal.coe_sub, neg_add, ← sub_eq_add_neg]

/-- A block of the query gradient after one more block of keys: read, added to and put back. -/
theorem put_real {n : ℕ} {c c' : ℕ → ℕ} {X : S640x128.Idx → EReal} {D : S8320x128.Idx → EReal} (hj : j ≤ qryB n) (hD : QryInv Q K V G C h c D)
    (hX : ∀ (z : Fin 640) (x : Fin 128), X (ix2 z x) = getBox (F := Ideal) ![640 * qryB n, 0] (boxIn n) D (ix2 z x)
      + ∑ y : Fin 640, ((Model.ds Q K V G C h (640 * qryB n + z.val) (640 * j + y.val) * K (640 * j + y.val) (128 * h + x.val) : ℝ) : EReal))
    (hc : c (qryB n) = j) (hc' : c' (qryB n) = j + 1) (hne : ∀ i, i < 13 → i ≠ qryB n → ∀ f : ℕ → ℝ, (∀ x, 640 * (i + 1) ≤ x → f x = 0) → ∑ x ∈ range (640 * c' i), f x = ∑ x ∈ range (640 * c i), f x) :
    QryInv Q K V G C h c' (putBox (F := Ideal) ![640 * qryB n, 0] (boxIn n) X D) := fun i x => by
  have hi := i.isLt
  have hr := qryB_lt n
  by_cases hb : i.val / 640 = qryB n
  · have hz : i.val - 640 * qryB n < 640 := by omega
    have e1 : (Rect.unit (s := S8320x128) ![640 * qryB n, 0] S640x128.size (boxIn n)).emb (ix2 (⟨i.val - 640 * qryB n, hz⟩ : Fin 640) x : S640x128.Idx) = ix2 i x := by
      refine funext fun a => Fin.ext ?_
      fin_cases a
      · show 640 * qryB n + 1 * (i.val - 640 * qryB n) = i.val
        omega
      · show 0 + 1 * x.val = x.val
        omega
    have h1 := put_emb (F := Ideal) (e := .f32) (Rect.unit (s := S8320x128) ![640 * qryB n, 0] S640x128.size (boxIn n)) X D (ix2 (⟨i.val - 640 * qryB n, hz⟩ : Fin 640) x : S640x128.Idx)
    rw [e1] at h1
    refine h1.trans ((hX _ _).trans ?_)
    have h2 : getBox (F := Ideal) ![640 * qryB n, 0] (boxIn n) D (ix2 (⟨i.val - 640 * qryB n, hz⟩ : Fin 640) x) = D (ix2 i x) := congrArg D e1
    rw [h2, hb, hc']
    have hiv : 640 * qryB n + (i.val - 640 * qryB n) = i.val := by omega
    dsimp only
    rw [hiv]
    refine step_real (fun z => Model.ds Q K V G C h i.val z * K z (128 * h + x.val)) j _ ?_
    rw [hD i x, hb, hc]
  · have h1 := put_of_not (F := Ideal) (e := .f32) (Rect.unit (s := S8320x128) ![640 * qryB n, 0] S640x128.size (boxIn n)) X D (ix2 i x) (fun z hz => hb (by
      have h0 : (640 * qryB n + 1 * (z 0).val) = i.val := congrArg (fun w : S8320x128.Idx => (w 0).val) hz
      have h3 : (z 0).val < 640 := (z 0).isLt
      omega))
    refine h1.trans ((hD i x).trans ?_)
    rw [hne (i.val / 640) (by omega) hb _ (fun z hz => by rw [Model.ds_late (by omega), zero_mul])]

theorem qry_off (n : ℕ) {c c' : ℕ → ℕ} (hj : j < qryB n) (hq : TileReal q Q (qryB n) h) (hk : TileReal k K j h) (hv : TileReal v V j h) (he : ColTileReal e C j h) (hg : TileReal g G (qryB n) h)
    (hl : RowTileReal l (fun h i => Real.log (Model.L Q K C h i)) (qryB n) h) (hd : RowTileReal d (Model.dl Q K V G C) (qryB n) h) {s : St2 Ideal} (hs : QryInv Q K V G C h c s.dq)
    (hc : c (qryB n) = j) (hc' : c' (qryB n) = j + 1) (hne : ∀ i, i < 13 → i ≠ qryB n → ∀ f : ℕ → ℝ, (∀ x, 640 * (i + 1) ≤ x → f x = 0) → ∑ x ∈ range (640 * c' i), f x = ∑ x ∈ range (640 * c i), f x) :
    QryInv Q K V G C h c' (St2.off n q k v e g l d s).dq := by
  have hP := weights_off (qryB_lt n) hj hq hk he hl
  have hD := scores_ct hP hv hg hd
  refine put_real hj.le hs (fun z x => ?_) hc hc' hne
  unfold k2_pay21 k2_pay20
  generalize k2_pay17 (F := Ideal) k q e l = P at hD ⊢
  generalize getBox (F := Ideal) ![640 * qryB n, 0] (boxIn n) s.dq = B
  pointwise [k2_pay6, k2_pay15, k2_pay18]
  simp only [hD _ z, hk _ x, ← EReal.coe_mul]

theorem qry_diag (n : ℕ) {c c' : ℕ → ℕ} (hj : keyB n = qryB n) (hq : TileReal q Q (qryB n) h) (hk : TileReal k K (qryB n) h) (hv : TileReal v V (qryB n) h) (he : ColTileReal e C (qryB n) h) (hg : TileReal g G (qryB n) h)
    (hl : RowTileReal l (fun h i => Real.log (Model.L Q K C h i)) (qryB n) h) (hd : RowTileReal d (Model.dl Q K V G C) (qryB n) h) {s : St2 Ideal} (hs : QryInv Q K V G C h c s.dq)
    (hc : c (qryB n) = qryB n) (hc' : c' (qryB n) = qryB n + 1) (hne : ∀ i, i < 13 → i ≠ qryB n → ∀ f : ℕ → ℝ, (∀ x, 640 * (i + 1) ≤ x → f x = 0) → ∑ x ∈ range (640 * c' i), f x = ∑ x ∈ range (640 * c i), f x) :
    QryInv Q K V G C h c' (St2.diag n q k v e g l d s).dq := by
  have hP := weights_diag (qryB_lt n) hq hk he hl
  have hD := scores_ct hP hv hg hd
  refine put_real (j := qryB n) le_rfl hs (fun z x => ?_) hc hc' hne
  rw [hj]
  generalize k2_pay24 (F := Ideal) (ws (qryB n)) (ws (qryB n)) k q e l = P at hD ⊢
  generalize getBox (F := Ideal) ![640 * qryB n, 0] (boxIn n) s.dq = B
  pointwise [k2_pay11, k2_pay9, k2_pay8, k2_pay22, k2_pay25]
  simp only [hD _ z, hk _ x, ← EReal.coe_mul]
end

/-! ## Along the walk -/

theorem bwd_walk : ∀ n : Fin 728, (starts (n.val % 91) = true → keyB (n.val % 91) = qryB (n.val % 91))
    ∧ (starts (n.val % 91) = false → keyB (n.val % 91) < qryB (n.val % 91) ∧ n.val % 91 ≠ 0 ∧ keyB (n.val % 91) = keyB ((n.val - 1) % 91) ∧ qryB (n.val % 91) = qryB ((n.val - 1) % 91) + 1)
    ∧ (starts (n.val % 91) = true → n.val % 91 ≠ 0 → keyB (n.val % 91) = keyB ((n.val - 1) % 91) + 1 ∧ qryB ((n.val - 1) % 91) = 12)
    ∧ (n.val % 91 = 0 → keyB (n.val % 91) = 0) ∧ (n.val % 91 = 90 → keyB (n.val % 91) = 12 ∧ qryB (n.val % 91) = 12) := by decide +kernel

/-- How many blocks of keys block `i` of the queries has seen after point `n` of a head, -/
def seen (n i : ℕ) : ℕ := keyB n + if i ≤ qryB n then 1 else 0
/-- and before point `n` of the grid. -/
def seenB (n i : ℕ) : ℕ := if n % 91 = 0 then 0 else seen ((n - 1) % 91) i

theorem seen_self (n : ℕ) : seen n (qryB n) = keyB n + 1 := by unfold seen; rw [if_pos le_rfl]

theorem sum_agree (f : ℕ → ℝ) {N a b : ℕ} (hf : ∀ x, N ≤ x → f x = 0) (ha : N ≤ a) (hb : N ≤ b) : ∑ x ∈ range a, f x = ∑ x ∈ range b, f x := by
  have h : ∀ a, N ≤ a → ∑ x ∈ range a, f x = ∑ x ∈ range N, f x := fun a ha =>
    (sum_subset (range_subset_range.mpr ha) fun x _ hx => hf x (by rw [mem_range] at hx; omega)).symm
  rw [h a ha, h b hb]

theorem seenB_self {n : ℕ} (hn : n < 728) : seenB n (qryB (n % 91)) = keyB (n % 91) := by
  obtain ⟨h1, h2, h3, h4, h5⟩ := bwd_walk ⟨n, hn⟩
  dsimp only at h1 h2 h3 h4 h5
  unfold seenB seen
  by_cases h0 : n % 91 = 0
  · rw [if_pos h0, h4 h0]
  · rw [if_neg h0]
    have hr := qryB_lt (n % 91)
    cases hs : starts (n % 91)
    · obtain ⟨g1, g2, g3, g4⟩ := h2 hs
      rw [if_neg (by omega)]
      omega
    · obtain ⟨g1, g2⟩ := h3 hs h0
      rw [if_pos (by omega)]
      omega

theorem seen_other {n : ℕ} (hn : n < 728) : ∀ i, i < 13 → i ≠ qryB (n % 91) → ∀ f : ℕ → ℝ, (∀ x, 640 * (i + 1) ≤ x → f x = 0) → ∑ x ∈ range (640 * seen (n % 91) i), f x = ∑ x ∈ range (640 * seenB n i), f x := fun i hi hne f hf => by
  obtain ⟨h1, h2, h3, h4, h5⟩ := bwd_walk ⟨n, hn⟩
  dsimp only at h1 h2 h3 h4 h5
  by_cases h0 : n % 91 = 0
  · have hs : starts (n % 91) = true := by rw [h0]; exact first_point.1
    have e1 := h1 hs
    have e4 := h4 h0
    unfold seenB seen
    rw [if_pos h0, if_neg (by omega), e4]
  · cases hs : starts (n % 91)
    · obtain ⟨g1, g2, g3, g4⟩ := h2 hs
      refine congrArg (fun N => ∑ x ∈ range (640 * N), f x) ?_
      unfold seenB seen
      rw [if_neg h0]
      by_cases hc : i ≤ qryB (n % 91)
      · rw [if_pos hc, if_pos (by omega), g3]
      · rw [if_neg hc, if_neg (by omega), g3]
    · obtain ⟨g1, g2⟩ := h3 hs h0
      have e1 := h1 hs
      have eB : seenB n i = keyB (n % 91) := by
        unfold seenB seen
        rw [if_neg h0, if_pos (by omega)]
        omega
      rw [eB]
      unfold seen
      by_cases hc : i ≤ qryB (n % 91)
      · rw [if_pos hc]
        exact sum_agree f hf (by omega) (by omega)
      · rw [if_neg hc, Nat.add_zero]

theorem fresh_key {j h : ℕ} (D : S8320x128.Idx → EReal) : KeyInv Q K V G C j h (640 * j) ⟨k2_pay2 (F := Ideal), k2_pay3, k2_pay4, D⟩ := by
  refine ⟨fun y x => ?_, fun y x => ?_, fun y => ?_⟩
  · show k2_pay3 (F := Ideal) (ix2 y x) = _
    pointwise [k2_pay3]
    rw [sum_eq_zero fun i hi => by rw [Model.p_late (by have := mem_range.mp hi; omega), zero_mul]]
    rfl
  · show k2_pay2 (F := Ideal) (ix2 y x) = _
    pointwise [k2_pay2]
    rw [sum_eq_zero fun i hi => by rw [Model.ds_late (by have := mem_range.mp hi; omega), zero_mul]]
    rfl
  · show k2_pay4 (F := Ideal) (ix2 y 0) = _
    pointwise [k2_pay4]
    rw [sum_eq_zero fun i hi => Model.ds_late (by have := mem_range.mp hi; omega), neg_zero]
    rfl

variable {q k v g : S8320x1024.Idx → EReal} {e : S8x8320x1.Idx → EReal} {l d : S8x1x8320.Idx → EReal}

theorem step2_inv (hq : IsReal q Q) (hk : IsReal k K) (hv : IsReal v V) (hg : IsReal g G) (he : ColReal e C) (hl : RowReal l (fun h i => Real.log (Model.L Q K C h i))) (hd : RowReal d (Model.dl Q K V G C))
    {n : ℕ} (hn : n < 728) {s : St2 Ideal} (hkey : starts (n % 91) = false → KeyInv Q K V G C (keyB (n % 91)) (n / 91) (640 * qryB (n % 91)) s)
    (hqry : n % 91 ≠ 0 → QryInv Q K V G C (n / 91) (seenB n) s.dq) :
    KeyInv Q K V G C (keyB (n % 91)) (n / 91) (640 * (qryB (n % 91) + 1)) (step2At (F := Ideal) q k v g e l d n s)
      ∧ (n % 91 ≠ 90 → QryInv Q K V G C (n / 91) (seen (n % 91)) (step2At (F := Ideal) q k v g e l d n s).dq)
      ∧ (n % 91 = 90 → ∀ (i : Fin 8320) (x : Fin 128), (step2At (F := Ideal) q k v g e l d n s).dq (ix2 i x) = ((Model.DQ Q K V G C (n / 91) i.val x.val : ℝ) : EReal)) := by
  obtain ⟨h1, h2, h3, h4, h5⟩ := bwd_walk ⟨n, hn⟩
  dsimp only at h1 h2 h3 h4 h5
  have hb := qryB_lt (n % 91)
  have hj := keyB_lt (n % 91)
  have hh : n / 91 < 8 := by omega
  have hk' : KeyInv Q K V G C (keyB (n % 91)) (n / 91) (640 * qryB (n % 91)) (s.opened (n % 91)) := by
    cases hs : starts (n % 91)
    · have := hkey hs
      unfold St2.opened
      rw [hs]
      exact ⟨this.dv, this.dk, this.dc⟩
    · unfold St2.opened
      rw [hs, ← h1 hs]
      exact fresh_key _
  have hq' : QryInv Q K V G C (n / 91) (seenB n) (s.opened (n % 91)).dq := by
    show QryInv Q K V G C (n / 91) (seenB n) (if n % 91 = 0 then k2_pay1 (F := Ideal) else s.dq)
    by_cases h0 : n % 91 = 0
    · rw [if_pos h0]
      intro i x
      rw [show seenB n (i.val / 640) = 0 from if_pos h0]
      pointwise [k2_pay1]
      simp
    · rw [if_neg h0]
      exact hqry h0
  have key : KeyInv Q K V G C (keyB (n % 91)) (n / 91) (640 * (qryB (n % 91) + 1)) ((if starts (n % 91) then St2.diag else St2.off) (n % 91) (tile q (qryB (n % 91)) (n / 91)) (tile k (keyB (n % 91)) (n / 91)) (tile v (keyB (n % 91)) (n / 91)) (colTile e (keyB (n % 91)) (n / 91))
      (tile g (qryB (n % 91)) (n / 91)) (rowTile l (qryB (n % 91)) (n / 91)) (rowTile d (qryB (n % 91)) (n / 91)) (s.opened (n % 91)))
      ∧ QryInv Q K V G C (n / 91) (seen (n % 91)) ((if starts (n % 91) then St2.diag else St2.off) (n % 91) (tile q (qryB (n % 91)) (n / 91)) (tile k (keyB (n % 91)) (n / 91)) (tile v (keyB (n % 91)) (n / 91)) (colTile e (keyB (n % 91)) (n / 91))
      (tile g (qryB (n % 91)) (n / 91)) (rowTile l (qryB (n % 91)) (n / 91)) (rowTile d (qryB (n % 91)) (n / 91)) (s.opened (n % 91))).dq := by
    generalize (s.opened (n % 91) : St2 Ideal) = s' at hk' hq' ⊢
    have c1 := seenB_self hn
    have c2 := seen_self (n % 91)
    have c3 := seen_other hn
    cases hs : starts (n % 91)
    · obtain ⟨g1, -⟩ := h2 hs
      exact ⟨key_off (n % 91) hb g1 (hq.tile hb hh) (hk.tile hj hh) (hv.tile hj hh) (he.tile hj hh) (hg.tile hb hh) (hl.tile hb hh) (hd.tile hb hh) hk',
        qry_off (n % 91) g1 (hq.tile hb hh) (hk.tile hj hh) (hv.tile hj hh) (he.tile hj hh) (hg.tile hb hh) (hl.tile hb hh) (hd.tile hb hh) hq' c1 c2 c3⟩
    · have g1 := h1 hs
      rw [g1] at hk' c1 c2 ⊢
      exact ⟨key_diag (n % 91) hb g1 rfl (hq.tile hb hh) (hk.tile hb hh) (hv.tile hb hh) (he.tile hb hh) (hg.tile hb hh) (hl.tile hb hh) (hd.tile hb hh) hk',
        qry_diag (n % 91) g1 (hq.tile hb hh) (hk.tile hb hh) (hv.tile hb hh) (he.tile hb hh) (hg.tile hb hh) (hl.tile hb hh) (hd.tile hb hh) hq' c1 c2 c3⟩
  unfold step2At step2B
  generalize ((if starts (n % 91) then St2.diag else St2.off) (n % 91) (tile q (qryB (n % 91)) (n / 91)) (tile k (keyB (n % 91)) (n / 91)) (tile v (keyB (n % 91)) (n / 91)) (colTile e (keyB (n % 91)) (n / 91))
      (tile g (qryB (n % 91)) (n / 91)) (rowTile l (qryB (n % 91)) (n / 91)) (rowTile d (qryB (n % 91)) (n / 91)) (s.opened (n % 91)) : St2 Ideal) = s' at key ⊢
  refine ⟨⟨key.1.dv, key.1.dk, key.1.dc⟩, fun h => ?_, fun h i x => ?_⟩
  · show QryInv Q K V G C (n / 91) (seen (n % 91)) (if n % 91 = 90 then k2_pay14 (F := Ideal) s'.dq else s'.dq)
    rw [if_neg h]
    exact key.2
  · show (if n % 91 = 90 then k2_pay14 (F := Ideal) s'.dq else s'.dq) (ix2 i x) = _
    rw [if_pos h]
    obtain ⟨e1, e2⟩ := h5 h
    have hi := i.isLt
    have h6 := key.2 i x
    rw [show seen (n % 91) (i.val / 640) = 13 by unfold seen; rw [if_pos (by omega), e1]] at h6
    pointwise [k2_pay14]
    rw [h6, named_scale, ← EReal.coe_mul]
    rfl

theorem traj2_inv (hq : IsReal q Q) (hk : IsReal k K) (hv : IsReal v V) (hg : IsReal g G) (he : ColReal e C) (hl : RowReal l (fun h i => Real.log (Model.L Q K C h i))) (hd : RowReal d (Model.dl Q K V G C)) : ∀ n, n < 728 →
    KeyInv Q K V G C (keyB (n % 91)) (n / 91) (640 * (qryB (n % 91) + 1)) (traj2 (F := Ideal) q k v g e l d (n + 1))
      ∧ (n % 91 ≠ 90 → QryInv Q K V G C (n / 91) (seen (n % 91)) (traj2 (F := Ideal) q k v g e l d (n + 1)).dq)
      ∧ (n % 91 = 90 → ∀ (i : Fin 8320) (x : Fin 128), (traj2 (F := Ideal) q k v g e l d (n + 1)).dq (ix2 i x) = ((Model.DQ Q K V G C (n / 91) i.val x.val : ℝ) : EReal))
  | 0, hn => step2_inv hq hk hv hg he hl hd hn (fun hs => absurd hs (by rw [show starts (0 % 91) = true from first_point.1]; decide)) (fun h => absurd rfl h)
  | n + 1, hn => by
    have ih := traj2_inv hq hk hv hg he hl hd n (by omega)
    refine step2_inv hq hk hv hg he hl hd hn (fun hs => ?_) (fun h0 => ?_)
    · obtain ⟨g1, g2, g3, g4⟩ := (bwd_walk ⟨n + 1, hn⟩).2.1 hs
      dsimp only at g1 g2 g3 g4
      rw [Nat.add_sub_cancel] at g3 g4
      rw [g3, g4, show (n + 1) / 91 = n / 91 by omega]
      exact ih.1
    · rw [show seenB (n + 1) = seen (n % 91) from funext fun i => if_neg h0, show (n + 1) / 91 = n / 91 by omega]
      exact ih.2.1 (by omega)

end Cert.Proof.Fox
-- ==== Proof.FwdArr.lean ====
module

public import proofs.«01_k».proof.Proof.FwdValue
public import proofs.«01_k».proof.Proof.Run
public import Idealize.ShloMosaic.Lib.Pipeline.ValueKit

@[expose] public section
set_option maxRecDepth 16384
noncomputable section
namespace Cert.Proof.Fox

open Cert.KernelIdeal Cert.KernelIdeal.Gen
open Idealize.ShloMosaic
open Idealize.ShloMosaic.TcCoe
open Idealize.ShloMosaic.Pipeline (Dat Cfg Window)
open Finset

/-! # The arrays the forward call and the inner products leave -/

variable (V : (c : Dev nD) → Valuation τ sig (Elt Ideal)) (c : Dev nD)
variable {Q K W G : ℕ → ℕ → ℝ} {C : ℕ → ℕ → ℝ}

/-- The output as an array, -/
def oArr (Q K W : ℕ → ℕ → ℝ) (C : ℕ → ℕ → ℝ) : S8320x1024.Idx → EReal := fun x => ((Model.o Q K W C ((x 1).val / 128) (x 0).val ((x 1).val % 128) : ℝ) : EReal)
/-- the logarithms of the sums. -/
def lseArr (Q K : ℕ → ℕ → ℝ) (C : ℕ → ℕ → ℝ) : S8x8320x1.Idx → EReal := fun x => ((Real.log (Model.L Q K C (x 0).val (x 1).val) : ℝ) : EReal)

/-- The point at which block `b` of rows is done. -/
theorem diag_point : ∀ b : Fin 13, b.val * (b.val + 3) / 2 < 91 ∧ rowF (b.val * (b.val + 3) / 2) = b.val ∧ closes (b.val * (b.val + 3) / 2) = true := by decide +kernel

theorem at_tile (f : S640x128.Idx → EReal) (g : Fin 640 → Fin 128 → EReal) (h : ∀ a b, f (ix2 a b) = g a b) (y : S640x128.Idx) : f y = g (y 0) (y 1) :=
  (congrArg f (funext fun a => by fin_cases a <;> rfl)).trans (h (y 0) (y 1))
theorem col_eta (y : S1x640x1.Idx) : y = ix3 (0 : Fin 1) (y 1 : Fin 640) (0 : Fin 1) := by
  have h0 : (y 0).val < 1 := (y 0).isLt
  have h2 : (y 2).val < 1 := (y 2).isLt
  refine funext fun a => Fin.ext ?_
  fin_cases a
  · show (y 0).val = 0
    omega
  · rfl
  · show (y 2).val = 0
    omega
theorem at_col (f : S1x640x1.Idx → EReal) (g : Fin 640 → EReal) (h : ∀ a, f (ix3 0 a 0) = g a) (y : S1x640x1.Idx) : f y = g (y 1) :=
  (congrArg f (col_eta y)).trans (h (y 1))

theorem o_final (hq : IsReal (fq V c) Q) (hk : IsReal (fk V c) K) (hv : IsReal (fv V c) W) (he : RowReal (fe V c) C) :
    (dat0 V c).arrAt 4 (cfg0 (adm0 (F := Ideal))).N = oArr Q K W C := by
  refine (dat0 V c).arrAt_eq_of_emb 4 (oArr Q K W C) (fun t hf (y : S640x128.Idx) => ?_) (fun (x : S8320x1024.Idx) => ?_)
  · have ht : t.val < 728 := N_0 ▸ t.isLt
    rw [flush0_4] at hf
    have hi := (t0_4 (F := Ideal) (grid0.coords t))
    rw [coord0_0, coord0_1] at hi
    have hr := rowF_lt (t.val % 91)
    have hs := traj_inv hq hk hv he t.val ht
    have hw := (fwd_walk ⟨t.val, ht⟩).2.2.1 hf
    dsimp only at hw
    rw [hw] at hs
    have h0 : (((((cfg0 (adm0 (F := Ideal))).win 4).blk t).view.emb y : S8320x1024.Idx) 0).val = rowF (t.val % 91) * 640 + 1 * (y 0).val := by
      show cc0_transform_4 k0_off1_inb numel1_S1 (pf0 (F := Ideal)) (grid0.coords t) 0 * 640 + 1 * (y 0).val = _
      rw [hi]; rfl
    have h1 : (((((cfg0 (adm0 (F := Ideal))).win 4).blk t).view.emb y : S8320x1024.Idx) 1).val = t.val / 91 * 128 + 1 * (y 1).val := by
      show cc0_transform_4 k0_off1_inb numel1_S1 (pf0 (F := Ideal)) (grid0.coords t) 1 * 128 + 1 * (y 1).val = _
      rw [hi]; rfl
    have hy : (y 1).val < 128 := (y 1).isLt
    have key := at_tile _ _ (out_at hr hs) y
    refine Eq.trans (b := _) key ?_
    unfold oArr
    rw [h0, h1]
    congr 2 <;> omega
  · have x0 : (x 0).val < 8320 := (x 0).isLt
    have x1 : (x 1).val < 1024 := (x 1).isLt
    obtain ⟨hd, hb, hc⟩ := diag_point ⟨(x 0).val / 640, by omega⟩
    dsimp only at hd hb hc
    generalize (x 0).val / 640 * ((x 0).val / 640 + 3) / 2 = n at hd hb hc
    have hn : ((x 1).val / 128 * 91 + n) % 91 = n := by omega
    have hN : (x 1).val / 128 * 91 + n < grid0.N := by rw [N_0]; omega
    have hi := (t0_4 (F := Ideal) (grid0.coords ⟨_, hN⟩))
    rw [coord0_0, coord0_1] at hi
    dsimp only at hi
    rw [hn, hb] at hi
    refine ⟨⟨(x 1).val / 128 * 91 + n, hN⟩, ?_, ?_⟩
    · rw [flush0_4]
      dsimp only
      rw [hn]; exact hc
    · mem_blk
      rw [show ((cfg0 (adm0 (F := Ideal))).win 4).index ⟨(x 1).val / 128 * 91 + n, hN⟩ = _ from hi]
      show ((x 0).val / 640 * 640 ≤ (x 0).val ∧ (x 0).val < (x 0).val / 640 * 640 + 640) ∧ ((x 1).val / 128 * 91 + n) / 91 * 128 ≤ (x 1).val ∧ (x 1).val < ((x 1).val / 128 * 91 + n) / 91 * 128 + 128
      omega

theorem lse_final (hq : IsReal (fq V c) Q) (hk : IsReal (fk V c) K) (hv : IsReal (fv V c) W) (he : RowReal (fe V c) C) :
    (dat0 V c).arrAt 5 (cfg0 (adm0 (F := Ideal))).N = lseArr Q K C := by
  refine (dat0 V c).arrAt_eq_of_emb 5 (lseArr Q K C) (fun t hf (y : S1x640x1.Idx) => ?_) (fun (x : S8x8320x1.Idx) => ?_)
  · have ht : t.val < 728 := N_0 ▸ t.isLt
    rw [flush0_5] at hf
    have hi := (t0_5 (F := Ideal) (grid0.coords t))
    rw [coord0_0, coord0_1] at hi
    have hr := rowF_lt (t.val % 91)
    have hs := traj_inv hq hk hv he t.val ht
    have hw := (fwd_walk ⟨t.val, ht⟩).2.2.1 hf
    dsimp only at hw
    rw [hw] at hs
    have h0 : (((((cfg0 (adm0 (F := Ideal))).win 5).blk t).view.emb y : S8x8320x1.Idx) 0).val = t.val / 91 * 1 + 1 * (y 0).val := by
      show cc0_transform_5 k0_off1_inb numel1_S1 (pf0 (F := Ideal)) (grid0.coords t) 0 * 1 + 1 * (y 0).val = _
      rw [hi]; rfl
    have h1 : (((((cfg0 (adm0 (F := Ideal))).win 5).blk t).view.emb y : S8x8320x1.Idx) 1).val = rowF (t.val % 91) * 640 + 1 * (y 1).val := by
      show cc0_transform_5 k0_off1_inb numel1_S1 (pf0 (F := Ideal)) (grid0.coords t) 1 * 640 + 1 * (y 1).val = _
      rw [hi]; rfl
    have hy : (y 0).val < 1 := (y 0).isLt
    have key := at_col _ _ (lse_at hr hs) y
    refine Eq.trans (b := _) key ?_
    unfold lseArr
    rw [h0, h1]
    congr 3 <;> omega
  · have x0 : (x 0).val < 8 := (x 0).isLt
    have x1 : (x 1).val < 8320 := (x 1).isLt
    have x2 : (x 2).val < 1 := (x 2).isLt
    obtain ⟨hd, hb, hc⟩ := diag_point ⟨(x 1).val / 640, by omega⟩
    dsimp only at hd hb hc
    generalize (x 1).val / 640 * ((x 1).val / 640 + 3) / 2 = n at hd hb hc
    have hn : ((x 0).val * 91 + n) % 91 = n := by omega
    have hN : (x 0).val * 91 + n < grid0.N := by rw [N_0]; omega
    have hi := (t0_5 (F := Ideal) (grid0.coords ⟨_, hN⟩))
    rw [coord0_0, coord0_1] at hi
    dsimp only at hi
    rw [hn, hb] at hi
    refine ⟨⟨(x 0).val * 91 + n, hN⟩, ?_, ?_⟩
    · rw [flush0_5]
      dsimp only
      rw [hn]; exact hc
    · mem_blk
      rw [show ((cfg0 (adm0 (F := Ideal))).win 5).index ⟨(x 0).val * 91 + n, hN⟩ = _ from hi]
      show (((x 0).val * 91 + n) / 91 ≤ (x 0).val ∧ (x 0).val < ((x 0).val * 91 + n) / 91 + 1) ∧ ((x 1).val / 640 * 640 ≤ (x 1).val ∧ (x 1).val < (x 1).val / 640 * 640 + 640) ∧ 0 ≤ (x 2).val ∧ (x 2).val < 0 + 1
      omega

/-! ## The inner products -/

theorem cols_wide {a : S8320x1024.Idx → EReal} {A : ℕ → ℕ → ℝ} (ha : IsReal a A) {t h : ℕ} (ht : t < 13) (hh : h < 8) (y : Fin 640) (d : Fin 128) :
    cols (wide a t) h (ix2 y d) = (A (640 * t + y.val) (128 * h + d.val) : EReal) := by
  have hy := y.isLt
  have hd := d.isLt
  refine (congrArg a (?_ : _ = ix2 (⟨640 * t + y.val, by omega⟩ : Fin 8320) (⟨128 * h + d.val, by omega⟩ : Fin 1024))).trans (ha _ _)
  refine funext fun x => Fin.ext ?_
  fin_cases x
  · show (640 * t + y.val) % 8320 = 640 * t + y.val
    omega
  · show (128 * h + d.val) % 1024 = 128 * h + d.val
    omega

theorem delta_real {a b : S8320x1024.Idx → EReal} {A B : ℕ → ℕ → ℝ} (ha : IsReal a A) (hb : IsReal b B) {t : ℕ} (ht : t < 13) (y : S8x640x1.Idx) :
    deltaB (F := Ideal) (wide a t) (wide b t) y = ((∑ d ∈ range 128, B (640 * t + (y 1).val) (128 * (y 0).val + d) * A (640 * t + (y 1).val) (128 * (y 0).val + d) : ℝ) : EReal) := by
  have h0 : (y 0).val < 8 := (y 0).isLt
  unfold deltaB
  refine (congrArg (k1_pay3 (F := Ideal) _ _) (?_ : _ = ix3 (0 : Fin 1) (y 1 : Fin 640) (0 : Fin 1))).trans ?_
  · exact funext fun a => by fin_cases a <;> rfl
  have hA := fun d => cols_wide ha ht h0 (y 1) d
  have hB := fun d => cols_wide hb ht h0 (y 1) d
  generalize cols (wide a t) (y 0).val = X at hA ⊢
  generalize cols (wide b t) (y 0).val = Y at hB ⊢
  generalize (y 1 : Fin 640) = r at hA hB ⊢
  pointwise [k1_pay3]
  simp only [hA, hB, ← EReal.coe_mul]
  exact Model.sum_fin (n := 128) (fun d => B (640 * t + r.val) (128 * (y 0).val + d) * A (640 * t + r.val) (128 * (y 0).val + d))

/-- The inner products as an array. -/
def dlArr (Q K W G : ℕ → ℕ → ℝ) (C : ℕ → ℕ → ℝ) : S8x8320x1.Idx → EReal := fun x => ((Model.dl Q K W G C (x 0).val (x 1).val : ℝ) : EReal)

theorem oArr_real : IsReal (oArr Q K W C) (fun i d => Model.o Q K W C (d / 128) i (d % 128)) := fun i d => rfl

theorem flush1_2 (t : Fin grid1.N) : (cfg1.win 2).flush t = true := by
  rw [flush_of (cfg1.win 2) rfl 13 N_1 (fun n => ![0, n, 0]) (fun t => (t1_2 _).trans (by rw [coord1_0]))]
  have ht : t.val < 13 := N_1 ▸ t.isLt
  exact (by decide +kernel : ∀ n : Fin 13, (decide (n.val + 1 = 13) || decide ((![0, n.val + 1, 0] : Fin 3 → ℕ) ≠ ![0, n.val, 0])) = true) ⟨t.val, ht⟩

theorem dl_final (ho : do_ V c = oArr Q K W C) (hg : IsReal (dg V c) G) :
    (dat1 V c).arrAt 2 (cfg1).N = dlArr Q K W G C := by
  refine (dat1 V c).arrAt_eq_of_emb 2 (dlArr Q K W G C) (fun t hf (y : S8x640x1.Idx) => ?_) (fun (x : S8x8320x1.Idx) => ?_)
  · have ht : t.val < 13 := N_1 ▸ t.isLt
    have hi := (t1_2 (grid1.coords t))
    rw [coord1_0] at hi
    have h0 : ((((cfg1.win 2).blk t).view.emb y : S8x8320x1.Idx) 0).val = 0 * 8 + 1 * (y 0).val := by
      show cc1_transform_2 (grid1.coords t) 0 * 8 + 1 * (y 0).val = _
      rw [hi]; rfl
    have h1 : ((((cfg1.win 2).blk t).view.emb y : S8x8320x1.Idx) 1).val = t.val * 640 + 1 * (y 1).val := by
      show cc1_transform_2 (grid1.coords t) 1 * 640 + 1 * (y 1).val = _
      rw [hi]; rfl
    have key := delta_real (ho ▸ oArr_real) hg ht y
    refine Eq.trans (b := _) key ?_
    unfold dlArr Model.dl
    rw [h0, h1, show 0 * 8 + 1 * (y 0).val = (y 0).val by omega, show t.val * 640 + 1 * (y 1).val = 640 * t.val + (y 1).val by omega]
    congr 1
    refine sum_congr rfl fun d hd => ?_
    have hd := mem_range.mp hd
    rw [show (128 * (y 0).val + d) / 128 = (y 0).val by omega, show (128 * (y 0).val + d) % 128 = d by omega]
  · have x0 : (x 0).val < 8 := (x 0).isLt
    have x1 : (x 1).val < 8320 := (x 1).isLt
    have x2 : (x 2).val < 1 := (x 2).isLt
    have hN : (x 1).val / 640 < grid1.N := by rw [N_1]; omega
    have hi := (t1_2 (grid1.coords ⟨_, hN⟩))
    rw [coord1_0] at hi
    dsimp only at hi
    refine ⟨⟨_, hN⟩, ?_, ?_⟩
    · rw [flush1_2]
    · mem_blk
      rw [show (cfg1.win 2).index ⟨(x 1).val / 640, hN⟩ = _ from hi]
      show (0 * 8 ≤ (x 0).val ∧ (x 0).val < 0 * 8 + 8) ∧ ((x 1).val / 640 * 640 ≤ (x 1).val ∧ (x 1).val < (x 1).val / 640 * 640 + 640) ∧ 0 ≤ (x 2).val ∧ (x 2).val < 0 + 1
      omega

end Cert.Proof.Fox
-- ==== Proof.BwdArr.lean ====
module

public import proofs.«01_k».proof.Proof.BwdValue
public import proofs.«01_k».proof.Proof.FwdArr

@[expose] public section
set_option maxRecDepth 16384
noncomputable section
namespace Cert.Proof.Fox

open Cert.KernelIdeal Cert.KernelIdeal.Gen
open Idealize.ShloMosaic
open Idealize.ShloMosaic.TcCoe
open Idealize.ShloMosaic.Pipeline (Dat Cfg Window)
open Finset

/-! # The arrays the backward call leaves -/

variable (V : (c : Dev nD) → Valuation τ sig (Elt Ideal)) (c : Dev nD)
variable {Q K W G : ℕ → ℕ → ℝ} {C : ℕ → ℕ → ℝ}

/-- The gradient of the queries as an array, -/
def dqArr (Q K W G : ℕ → ℕ → ℝ) (C : ℕ → ℕ → ℝ) : S8320x1024.Idx → EReal := fun x => ((Model.DQ Q K W G C ((x 1).val / 128) (x 0).val ((x 1).val % 128) : ℝ) : EReal)
/-- of the keys, -/
def dkArr (Q K W G : ℕ → ℕ → ℝ) (C : ℕ → ℕ → ℝ) : S8320x1024.Idx → EReal := fun x => ((Model.DK Q K W G C ((x 1).val / 128) (x 0).val ((x 1).val % 128) : ℝ) : EReal)
/-- of the values -/
def dvArr (Q K G : ℕ → ℕ → ℝ) (C : ℕ → ℕ → ℝ) : S8320x1024.Idx → EReal := fun x => ((Model.DV Q K G C ((x 1).val / 128) (x 0).val ((x 1).val % 128) : ℝ) : EReal)
/-- and of the decays. -/
def dcArr (Q K W G : ℕ → ℕ → ℝ) (C : ℕ → ℕ → ℝ) : S8x8320x1.Idx → EReal := fun x => ((Model.DC Q K W G C (x 0).val (x 1).val : ℝ) : EReal)

/-- The point at which block `b` of the keys is done. -/
theorem last_of (b : Fin 13) : ∃ n : Fin 91, keyB n.val = b.val ∧ lasts n.val = true :=
  ⟨⟨(b.val + 1) * (26 - b.val) / 2 - 1, by fin_cases b <;> decide⟩, by revert b; decide +kernel⟩

theorem qry_last {n : ℕ} (h : lasts n = true) : qryB n = 12 := by simpa [lasts] using h

/-- Every block of keys of every head is done at some point. -/
theorem last_point_of {b h : ℕ} (hb : b < 13) (hh : h < 8) : ∃ n, n < 728 ∧ n / 91 = h ∧ keyB (n % 91) = b ∧ lasts (n % 91) = true := by
  obtain ⟨n, h1, h2⟩ := last_of ⟨b, hb⟩
  have hn := n.isLt
  refine ⟨h * 91 + n.val, by omega, by omega, ?_, ?_⟩
  · rw [show (h * 91 + n.val) % 91 = n.val by omega]; exact h1
  · rw [show (h * 91 + n.val) % 91 = n.val by omega]; exact h2

theorem full_at (f : S8320x128.Idx → EReal) (g : Fin 8320 → Fin 128 → EReal) (h : ∀ a b, f (ix2 a b) = g a b) (y : S8320x128.Idx) : f y = g (y 0) (y 1) :=
  (congrArg f (funext fun a => by fin_cases a <;> rfl)).trans (h (y 0) (y 1))

theorem pay13_at (D : FVec Ideal S640x1 .f32) (a : Fin 640) : k2_pay13 (F := Ideal) D (ix3 0 a 0) = D (ix2 a 0) := by
  pointwise [k2_pay13]

section
variable (hq : IsReal (bq V c) Q) (hk : IsReal (bk V c) K) (hv : IsReal (bv V c) W) (hg : IsReal (bg V c) G) (he : ColReal (be V c) C)
  (hl : RowReal (bl V c) (fun h i => Real.log (Model.L Q K C h i))) (hd : RowReal (bd V c) (Model.dl Q K W G C))
include hq hk hv hg he hl hd

theorem key_final (n : ℕ) (hn : n < 728) (h : lasts (n % 91) = true) : KeyInv Q K W G C (keyB (n % 91)) (n / 91) 8320 (btr V c (n + 1)) := by
  have := (traj2_inv hq hk hv hg he hl hd n hn).1
  rw [qry_last h] at this
  exact this

theorem dk_final : (dat2 V c).arrAt 7 (cfg2 (adm2 (F := Ideal))).N = dkArr Q K W G C := by
  refine (dat2 V c).arrAt_eq_of_emb 7 (dkArr Q K W G C) (fun t hf (y : S640x128.Idx) => ?_) (fun (x : S8320x1024.Idx) => ?_)
  · have ht : t.val < 728 := N_2 ▸ t.isLt
    rw [flush2_7] at hf
    have hi := (t2_7 (F := Ideal) (grid2.coords t))
    rw [coord2_0, coord2_1] at hi
    have hs := key_final V c hq hk hv hg he hl hd t.val ht hf
    have h0 : (((((cfg2 (adm2 (F := Ideal))).win 7).blk t).view.emb y : S8320x1024.Idx) 0).val = keyB (t.val % 91) * 640 + 1 * (y 0).val := by
      show cc2_transform_7 k2_off1_inb numel1_S1 (pf2 (F := Ideal)) (grid2.coords t) 0 * 640 + 1 * (y 0).val = _
      rw [hi]; rfl
    have h1 : (((((cfg2 (adm2 (F := Ideal))).win 7).blk t).view.emb y : S8320x1024.Idx) 1).val = t.val / 91 * 128 + 1 * (y 1).val := by
      show cc2_transform_7 k2_off1_inb numel1_S1 (pf2 (F := Ideal)) (grid2.coords t) 1 * 128 + 1 * (y 1).val = _
      rw [hi]; rfl
    have hy : (y 1).val < 128 := (y 1).isLt
    have key := at_tile _ _ hs.dk y
    refine Eq.trans (b := _) key ?_
    unfold dkArr Model.DK
    rw [h0, h1, show (t.val / 91 * 128 + 1 * (y 1).val) / 128 = t.val / 91 by omega, show (t.val / 91 * 128 + 1 * (y 1).val) % 128 = (y 1).val by omega,
      show keyB (t.val % 91) * 640 + 1 * (y 0).val = 640 * keyB (t.val % 91) + (y 0).val by omega]
  · have x0 : (x 0).val < 8320 := (x 0).isLt
    have x1 : (x 1).val < 1024 := (x 1).isLt
    obtain ⟨n, hn, hh, hb, hc⟩ := last_point_of (b := (x 0).val / 640) (h := (x 1).val / 128) (by omega) (by omega)
    have hN : n < grid2.N := by rw [N_2]; omega
    have hi := (t2_7 (F := Ideal) (grid2.coords ⟨_, hN⟩))
    rw [coord2_0, coord2_1] at hi
    dsimp only at hi
    rw [hb, hh] at hi
    refine ⟨⟨n, hN⟩, ?_, ?_⟩
    · rw [flush2_7]
      exact hc
    · mem_blk
      rw [show ((cfg2 (adm2 (F := Ideal))).win 7).index ⟨n, hN⟩ = _ from hi]
      show ((x 0).val / 640 * 640 ≤ (x 0).val ∧ (x 0).val < (x 0).val / 640 * 640 + 640) ∧ (x 1).val / 128 * 128 ≤ (x 1).val ∧ (x 1).val < (x 1).val / 128 * 128 + 128
      omega

theorem dv_final : (dat2 V c).arrAt 8 (cfg2 (adm2 (F := Ideal))).N = dvArr Q K G C := by
  refine (dat2 V c).arrAt_eq_of_emb 8 (dvArr Q K G C) (fun t hf (y : S640x128.Idx) => ?_) (fun (x : S8320x1024.Idx) => ?_)
  · have ht : t.val < 728 := N_2 ▸ t.isLt
    rw [flush2_8] at hf
    have hi := (t2_8 (F := Ideal) (grid2.coords t))
    rw [coord2_0, coord2_1] at hi
    have hs := key_final V c hq hk hv hg he hl hd t.val ht hf
    have h0 : (((((cfg2 (adm2 (F := Ideal))).win 8).blk t).view.emb y : S8320x1024.Idx) 0).val = keyB (t.val % 91) * 640 + 1 * (y 0).val := by
      show cc2_transform_8 k2_off1_inb numel1_S1 (pf2 (F := Ideal)) (grid2.coords t) 0 * 640 + 1 * (y 0).val = _
      rw [hi]; rfl
    have h1 : (((((cfg2 (adm2 (F := Ideal))).win 8).blk t).view.emb y : S8320x1024.Idx) 1).val = t.val / 91 * 128 + 1 * (y 1).val := by
      show cc2_transform_8 k2_off1_inb numel1_S1 (pf2 (F := Ideal)) (grid2.coords t) 1 * 128 + 1 * (y 1).val = _
      rw [hi]; rfl
    have hy : (y 1).val < 128 := (y 1).isLt
    have key := at_tile _ _ hs.dv y
    refine Eq.trans (b := _) key ?_
    unfold dvArr Model.DV
    rw [h0, h1, show (t.val / 91 * 128 + 1 * (y 1).val) / 128 = t.val / 91 by omega, show (t.val / 91 * 128 + 1 * (y 1).val) % 128 = (y 1).val by omega,
      show keyB (t.val % 91) * 640 + 1 * (y 0).val = 640 * keyB (t.val % 91) + (y 0).val by omega]
  · have x0 : (x 0).val < 8320 := (x 0).isLt
    have x1 : (x 1).val < 1024 := (x 1).isLt
    obtain ⟨n, hn, hh, hb, hc⟩ := last_point_of (b := (x 0).val / 640) (h := (x 1).val / 128) (by omega) (by omega)
    have hN : n < grid2.N := by rw [N_2]; omega
    have hi := (t2_8 (F := Ideal) (grid2.coords ⟨_, hN⟩))
    rw [coord2_0, coord2_1] at hi
    dsimp only at hi
    rw [hb, hh] at hi
    refine ⟨⟨n, hN⟩, ?_, ?_⟩
    · rw [flush2_8]
      exact hc
    · mem_blk
      rw [show ((cfg2 (adm2 (F := Ideal))).win 8).index ⟨n, hN⟩ = _ from hi]
      show ((x 0).val / 640 * 640 ≤ (x 0).val ∧ (x 0).val < (x 0).val / 640 * 640 + 640) ∧ (x 1).val / 128 * 128 ≤ (x 1).val ∧ (x 1).val < (x 1).val / 128 * 128 + 128
      omega

theorem dc_final : (dat2 V c).arrAt 9 (cfg2 (adm2 (F := Ideal))).N = dcArr Q K W G C := by
  refine (dat2 V c).arrAt_eq_of_emb 9 (dcArr Q K W G C) (fun t hf (y : S1x640x1.Idx) => ?_) (fun (x : S8x8320x1.Idx) => ?_)
  · have ht : t.val < 728 := N_2 ▸ t.isLt
    rw [flush2_9] at hf
    have hi := (t2_9 (F := Ideal) (grid2.coords t))
    rw [coord2_0, coord2_1] at hi
    have hs := (key_final V c hq hk hv hg he hl hd t.val ht hf).dc
    have h0 : (((((cfg2 (adm2 (F := Ideal))).win 9).blk t).view.emb y : S8x8320x1.Idx) 0).val = t.val / 91 * 1 + 1 * (y 0).val := by
      show cc2_transform_9 k2_off1_inb numel1_S1 (pf2 (F := Ideal)) (grid2.coords t) 0 * 1 + 1 * (y 0).val = _
      rw [hi]; rfl
    have h1 : (((((cfg2 (adm2 (F := Ideal))).win 9).blk t).view.emb y : S8x8320x1.Idx) 1).val = keyB (t.val % 91) * 640 + 1 * (y 1).val := by
      show cc2_transform_9 k2_off1_inb numel1_S1 (pf2 (F := Ideal)) (grid2.coords t) 1 * 640 + 1 * (y 1).val = _
      rw [hi]; rfl
    have hy : (y 0).val < 1 := (y 0).isLt
    have key := at_col (k2_pay13 (F := Ideal) (btr V c (t.val + 1)).dc) _ (fun a => (pay13_at _ a).trans (hs a)) y
    refine Eq.trans (b := _) key ?_
    unfold dcArr Model.DC
    rw [h0, h1, show t.val / 91 * 1 + 1 * (y 0).val = t.val / 91 by omega, show keyB (t.val % 91) * 640 + 1 * (y 1).val = 640 * keyB (t.val % 91) + (y 1).val by omega]
  · have x0 : (x 0).val < 8 := (x 0).isLt
    have x1 : (x 1).val < 8320 := (x 1).isLt
    have x2 : (x 2).val < 1 := (x 2).isLt
    obtain ⟨n, hn, hh, hb, hc⟩ := last_point_of (b := (x 1).val / 640) (h := (x 0).val) (by omega) (by omega)
    have hN : n < grid2.N := by rw [N_2]; omega
    have hi := (t2_9 (F := Ideal) (grid2.coords ⟨_, hN⟩))
    rw [coord2_0, coord2_1] at hi
    dsimp only at hi
    rw [hb, hh] at hi
    refine ⟨⟨n, hN⟩, ?_, ?_⟩
    · rw [flush2_9]
      exact hc
    · mem_blk
      rw [show ((cfg2 (adm2 (F := Ideal))).win 9).index ⟨n, hN⟩ = _ from hi]
      show ((x 0).val ≤ (x 0).val ∧ (x 0).val < (x 0).val + 1) ∧ ((x 1).val / 640 * 640 ≤ (x 1).val ∧ (x 1).val < (x 1).val / 640 * 640 + 640) ∧ 0 ≤ (x 2).val ∧ (x 2).val < 0 + 1
      omega

theorem dq_final : (dat2 V c).arrAt 10 (cfg2 (adm2 (F := Ideal))).N = dqArr Q K W G C := by
  refine (dat2 V c).arrAt_eq_of_emb 10 (dqArr Q K W G C) (fun t hf (y : S8320x128.Idx) => ?_) (fun (x : S8320x1024.Idx) => ?_)
  · have ht : t.val < 728 := N_2 ▸ t.isLt
    rw [flush2_10] at hf
    have hi := (t2_10 (grid2.coords t))
    rw [coord2_0] at hi
    have hs := (traj2_inv hq hk hv hg he hl hd t.val ht).2.2 (of_decide_eq_true hf)
    have h0 : (((((cfg2 (adm2 (F := Ideal))).win 10).blk t).view.emb y : S8320x1024.Idx) 0).val = 0 * 8320 + 1 * (y 0).val := by
      show cc2_transform_10 (grid2.coords t) 0 * 8320 + 1 * (y 0).val = _
      rw [hi]; rfl
    have h1 : (((((cfg2 (adm2 (F := Ideal))).win 10).blk t).view.emb y : S8320x1024.Idx) 1).val = t.val / 91 * 128 + 1 * (y 1).val := by
      show cc2_transform_10 (grid2.coords t) 1 * 128 + 1 * (y 1).val = _
      rw [hi]; rfl
    have hy : (y 1).val < 128 := (y 1).isLt
    have key := full_at _ _ hs y
    refine Eq.trans (b := _) key ?_
    unfold dqArr
    rw [h0, h1, show (t.val / 91 * 128 + 1 * (y 1).val) / 128 = t.val / 91 by omega, show (t.val / 91 * 128 + 1 * (y 1).val) % 128 = (y 1).val by omega,
      show 0 * 8320 + 1 * (y 0).val = (y 0).val by omega]
  · have x0 : (x 0).val < 8320 := (x 0).isLt
    have x1 : (x 1).val < 1024 := (x 1).isLt
    have hN : (x 1).val / 128 * 91 + 90 < grid2.N := by rw [N_2]; omega
    have hi := (t2_10 (grid2.coords ⟨_, hN⟩))
    rw [coord2_0] at hi
    dsimp only at hi
    rw [show ((x 1).val / 128 * 91 + 90) / 91 = (x 1).val / 128 by omega] at hi
    refine ⟨⟨_, hN⟩, ?_, ?_⟩
    · rw [flush2_10]
      exact decide_eq_true (by show ((x 1).val / 128 * 91 + 90) % 91 = 90; omega)
    · mem_blk
      rw [show ((cfg2 (adm2 (F := Ideal))).win 10).index ⟨(x 1).val / 128 * 91 + 90, hN⟩ = _ from hi]
      show (0 * 8320 ≤ (x 0).val ∧ (x 0).val < 0 * 8320 + 8320) ∧ (x 1).val / 128 * 128 ≤ (x 1).val ∧ (x 1).val < (x 1).val / 128 * 128 + 128
      omega
end

end Cert.Proof.Fox
-- ==== Proof.Arrays.lean ====
module

public import proofs.«01_k».proof.Proof.BwdArr

@[expose] public section
set_option maxRecDepth 16384
noncomputable section
namespace Cert.Proof.Fox

open Cert.KernelIdeal Cert.KernelIdeal.Gen
open Idealize.ShloMosaic
open Idealize.ShloMosaic.TcCoe
open Idealize.ShloMosaic.Pipeline (Dat Cfg Window)
open Finset

/-! # The results of the run, from real arguments -/

variable (m : (ℓ : Loc nD τ sig) → Buf (Elt Ideal) ℓ) (c : Dev nD)
variable {Q K W G : ℕ → ℕ → ℝ} {C : ℕ → ℕ → ℝ}

theorem real_of_eq {a b : S8320x1024.Idx → EReal} {A : ℕ → ℕ → ℝ} (e : b = a) (h : IsReal a A) : IsReal b A := e ▸ h
theorem colReal_of_eq {a b : S8x8320x1.Idx → EReal} {A : ℕ → ℕ → ℝ} (e : b = a) (h : ColReal a A) : ColReal b A := e ▸ h
theorem rowReal_of_eq {a b : S8x1x8320.Idx → EReal} {A : ℕ → ℕ → ℝ} (e : b = a) (h : RowReal a A) : RowReal b A := e ▸ h

/-- A column of the heads read as a row. -/
theorem col_row {a : S8x8320x1.Idx → EReal} {A : ℕ → ℕ → ℝ} (ha : ColReal a A) : RowReal (shapeCast S8x1x8320 a shapeCasts_S8x8320x1_S8x1x8320) A := by
  intro h i
  pointwise
  exact ha h i

theorem U1_row : U1 m c main_v0 = shapeCast S8x1x8320 (m ((c : Thread nD τ).loc main_arg3) : S8x8320x1.Idx → EReal) shapeCasts_S8x8320x1_S8x1x8320 := by
  unfold U1
  rfl
theorem U4_sums : U4 m c main_v3 = shapeCast S8x1x8320 (U3 m c main_v1_1 : S8x8320x1.Idx → EReal) shapeCasts_S8x8320x1_S8x1x8320 := by
  unfold U4
  rfl
theorem U4_inner : U4 m c main_v4 = shapeCast S8x1x8320 (U3 m c main_v2 : S8x8320x1.Idx → EReal) shapeCasts_S8x8320x1_S8x1x8320 := by
  unfold U4
  rfl

section
variable (hq : IsReal (m ((c : Thread nD τ).loc main_arg0)) Q) (hk : IsReal (m ((c : Thread nD τ).loc main_arg1)) K) (hv : IsReal (m ((c : Thread nD τ).loc main_arg2)) W)
  (he : ColReal (m ((c : Thread nD τ).loc main_arg3)) C) (hg : IsReal (m ((c : Thread nD τ).loc main_arg4)) G)

include hq hk hv he in
theorem U2_out : U2 m c main_v1_0 = oArr Q K W C :=
  (Pipeline.afterRegion_arr (dat0 (U1 m) c) (U1 m c) arr_inj0 4).trans
    (o_final (U1 m) c (real_of_eq (U1_keep m c main_arg0 (by decide)) hq) (real_of_eq (U1_keep m c main_arg1 (by decide)) hk) (real_of_eq (U1_keep m c main_arg2 (by decide)) hv) (rowReal_of_eq (U1_row m c) (col_row he)))
include hq hk hv he in
theorem U2_sums : U2 m c main_v1_1 = lseArr Q K C :=
  (Pipeline.afterRegion_arr (dat0 (U1 m) c) (U1 m c) arr_inj0 5).trans
    (lse_final (U1 m) c (real_of_eq (U1_keep m c main_arg0 (by decide)) hq) (real_of_eq (U1_keep m c main_arg1 (by decide)) hk) (real_of_eq (U1_keep m c main_arg2 (by decide)) hv) (rowReal_of_eq (U1_row m c) (col_row he)))
include hq hk hv he hg in
theorem U3_inner : U3 m c main_v2 = dlArr Q K W G C :=
  (Pipeline.afterRegion_arr (dat1 (U2 m) c) (U2 m c) arr_inj1 2).trans
    (dl_final (U2 m) c (U2_out m c hq hk hv he) (real_of_eq ((U2_keep m c main_arg4 (by decide)).trans (U1_keep m c main_arg4 (by decide))) hg))

include hq hk hv he in
theorem U4_row : RowReal (U4 m c main_v3) (fun h i => Real.log (Model.L Q K C h i)) := by
  refine rowReal_of_eq (U4_sums m c) (col_row (colReal_of_eq ((U3_keep m c main_v1_1 (by decide)).trans (U2_sums m c hq hk hv he)) fun h i => rfl))
include hq hk hv he hg in
theorem U4_row' : RowReal (U4 m c main_v4) (Model.dl Q K W G C) := by
  refine rowReal_of_eq (U4_inner m c) (col_row (colReal_of_eq (U3_inner m c hq hk hv he hg) fun h i => rfl))

include hq hk hv he hg

theorem U5_dk : U5 m c main_v5_0 = dkArr Q K W G C :=
  (Pipeline.afterRegion_arr (dat2 (U4 m) c) (U4 m c) arr_inj2 7).trans
    (dk_final (U4 m) c (real_of_eq (U4_arg0 m c) hq) (real_of_eq (U4_arg1 m c) hk) (real_of_eq (U4_arg2 m c) hv) (real_of_eq (U4_arg4 m c) hg) (colReal_of_eq (U4_arg3 m c) he) (U4_row m c hq hk hv he) (U4_row' m c hq hk hv he hg))
theorem U5_dv : U5 m c main_v5_1 = dvArr Q K G C :=
  (Pipeline.afterRegion_arr (dat2 (U4 m) c) (U4 m c) arr_inj2 8).trans
    (dv_final (U4 m) c (real_of_eq (U4_arg0 m c) hq) (real_of_eq (U4_arg1 m c) hk) (real_of_eq (U4_arg2 m c) hv) (real_of_eq (U4_arg4 m c) hg) (colReal_of_eq (U4_arg3 m c) he) (U4_row m c hq hk hv he) (U4_row' m c hq hk hv he hg))
theorem U5_dc : U5 m c main_v5_2 = dcArr Q K W G C :=
  (Pipeline.afterRegion_arr (dat2 (U4 m) c) (U4 m c) arr_inj2 9).trans
    (dc_final (U4 m) c (real_of_eq (U4_arg0 m c) hq) (real_of_eq (U4_arg1 m c) hk) (real_of_eq (U4_arg2 m c) hv) (real_of_eq (U4_arg4 m c) hg) (colReal_of_eq (U4_arg3 m c) he) (U4_row m c hq hk hv he) (U4_row' m c hq hk hv he hg))
theorem U5_dq : U5 m c main_v5_3 = dqArr Q K W G C :=
  (Pipeline.afterRegion_arr (dat2 (U4 m) c) (U4 m c) arr_inj2 10).trans
    (dq_final (U4 m) c (real_of_eq (U4_arg0 m c) hq) (real_of_eq (U4_arg1 m c) hk) (real_of_eq (U4_arg2 m c) hv) (real_of_eq (U4_arg4 m c) hg) (colReal_of_eq (U4_arg3 m c) he) (U4_row m c hq hk hv he) (U4_row' m c hq hk hv he hg))
end

end Cert.Proof.Fox
-- ==== Proof.RefStages.lean ====
module

public import proofs.«01_k».proof.Proof.Model
public import proofs.«01_k».proof.Proof.Gen.ReferenceIdeal.Run
public import Idealize.ShloMosaic.Lib.Pointwise

@[expose] public section
set_option maxRecDepth 16384
noncomputable section
namespace Cert.Proof.Fox.Ref

open Cert.ReferenceIdeal Cert.ReferenceIdeal.Gen Cert.ReferenceIdeal.Value
open Idealize.ShloMosaic
open Idealize.ShloMosaic.TcCoe
open Finset

/-! # The reference in stages -/

variable (q k v : FVec Ideal S8320x1024 .f32) (e : FVec Ideal S8x8320x1 .f32) (g : FVec Ideal S8320x1024 .f32)

/-- Which keys a query sees. -/
def sees : IVec S1x8x8320x8320 1 :=
  broadcastInDim S1x8x8320x8320 ![2, 3] bcast_S8320x8320_S1x8x8320x8320_2_3 (cmpi .sle (broadcastInDim S8320x8320 ![0, 1] bcast_S1x8320_S8320x8320_0_1 (broadcastInDim S1x8320 ![1] bcast_S8320_S1x8320_1 (iotaInDim S8320 32 0)))
    (broadcastInDim S8320x8320 ![0, 1] bcast_S8320x1_S8320x8320_0_1 (broadcastInDim S8320x1 ![0] bcast_S8320_S8320x1_0 (iotaInDim S8320 32 0))))
/-- The scale, everywhere. -/
def scales : FVec Ideal S1x8x8320x8320 .f32 :=
  broadcastInDim S1x8x8320x8320 ![] bcast_S_S1x8x8320x8320 (Host.divf (constant S_ .f32 0x3F800000#32) (Host.sqrt (constant S_ .f32 0x43000000#32)))
/-- The decays of the rows. -/
def decays : FVec Ideal S1x8x8320 .f32 := broadcastInDim S1x8x8320 ![1, 2] bcast_S8x8320_S1x8x8320_1_2 (shapeCast _ e shapeCasts_S8x8320x1_S8x8320)
/-- The products of queries and keys. -/
def prods : FVec Ideal S1x8x8320x8320 .f32 :=
  Host.dotGeneral dot_S1x8320x8x128_S1x8320x8x128_S1x8x8320x8320_3_3_1_1_02_02 none (shapeCast _ q shapeCasts_S8320x1024_S1x8320x8x128) (shapeCast _ k shapeCasts_S8320x1024_S1x8320x8x128)
/-- The masked scores, -/
def scores : FVec Ideal S1x8x8320x8320 .f32 :=
  select sees (subf (addf (mulf (prods q k) scales) (broadcastInDim S1x8x8320x8320 ![0, 1, 2, 3] bcast_S1x8x8320x1_S1x8x8320x8320_0_1_2_3 (broadcastInDim S1x8x8320x1 ![0, 1, 2] bcast_S1x8x8320_S1x8x8320x1_0_1_2 (decays e))))
    (broadcastInDim S1x8x8320x8320 ![0, 1, 2, 3] bcast_S1x8x1x8320_S1x8x8320x8320_0_1_2_3 (broadcastInDim S1x8x1x8320 ![0, 1, 3] bcast_S1x8x8320_S1x8x1x8320_0_1_3 (decays e))))
    (broadcastInDim S1x8x8320x8320 ![] bcast_S_S1x8x8320x8320 (id (constant S_ .f32 0xFF800000#32)))
/-- the greatest of each query, -/
def tops : FVec Ideal S1x8x8320 .f32 :=
  maximumf (broadcastInDim S1x8x8320 ![] bcast_S_S1x8x8320 (constant S_ .f32 0xFF800000#32)) (Host.reduce FloatOps.maximumf (scores q k e) (constant S_ .f32 0xFF800000#32) reducesTo_S1x8x8320x8320_S1x8x8320_d3 h_S_)
/-- the exponentials, -/
def exps : FVec Ideal S1x8x8320x8320 .f32 :=
  Host.exp (subf (scores q k e) (broadcastInDim S1x8x8320x8320 ![0, 1, 2, 3] bcast_S1x8x8320x1_S1x8x8320x8320_0_1_2_3 (broadcastInDim S1x8x8320x1 ![0, 1, 2] bcast_S1x8x8320_S1x8x8320x1_0_1_2 (tops q k e))))
/-- their sums, -/
def sums : FVec Ideal S1x8x8320 .f32 := Host.reduceAdd (exps q k e) (constant S_ .f32 0x00000000#32) reducesTo_S1x8x8320x8320_S1x8x8320_d3 h_S_
/-- as a column, -/
def sumsC : FVec Ideal S1x8x8320x1 .f32 := broadcastInDim S1x8x8320x1 ![0, 1, 2] bcast_S1x8x8320_S1x8x8320x1_0_1_2 (sums q k e)
/-- and everywhere. -/
def sumsA : FVec Ideal S1x8x8320x8320 .f32 := broadcastInDim S1x8x8320x8320 ![0, 1, 2, 3] bcast_S1x8x8320x1_S1x8x8320x8320_0_1_2_3 (sumsC q k e)
/-- The cotangent of the output, heads first. -/
def cts : FVec Ideal S1x8x128x8320 .f32 := transpose S1x8x128x8320 [0, 2, 3, 1] (shapeCast _ g shapeCasts_S8320x1024_S1x8320x8x128) transposes_S1x8320x8x128_S1x8x128x8320_0_2_3_1
/-- The cotangent of the weights. -/
def wcts : FVec Ideal S1x8x8320x8320 .f32 :=
  Host.dotGeneral dot_S1x8x128x8320_S1x8320x8x128_S1x8x8320x8320_2_3_3_1_01_02 none (cts g) (shapeCast _ v shapeCasts_S8320x1024_S1x8320x8x128)
/-- The cotangent of the sums, before its sign. -/
def scts : FVec Ideal S1x8x8320 .f32 :=
  Host.reduceAdd (mulf (mulf (wcts v g) (broadcastInDim S1x8x8320x8320 ![0, 1, 2, 3] bcast_S1x8x8320x1_S1x8x8320x8320_0_1_2_3
    (Host.divf (broadcastInDim S1x8x8320x1 ![] bcast_S_S1x8x8320x1 (constant S_ .f32 0x3F800000#32)) (mulf (sumsC q k e) (sumsC q k e))))) (exps q k e)) (constant S_ .f32 0x00000000#32) reducesTo_S1x8x8320x8320_S1x8x8320_d3 h_S_
/-- The same with its sign, head and row. -/
def nscts : FVec Ideal S8x8320 .f32 := Host.reduceAdd (Host.negf (shapeCast _ (scts q k v e g) shapeCasts_S1x8x8320_S1x8x8320x1)) (constant S_ .f32 0x00000000#32) reducesTo_S1x8x8320x1_S8x8320_d0_3 h_S_
/-- The cotangent of the scores, -/
def scoreCts : FVec Ideal S1x8x8320x8320 .f32 :=
  select sees (mulf (addf (Host.divf (wcts v g) (sumsA q k e)) (broadcastInDim S1x8x8320x8320 ![0, 1, 2] bcast_S1x8x8320_S1x8x8320x8320_0_1_2 (broadcastInDim S1x8x8320 ![1, 2] bcast_S8x8320_S1x8x8320_1_2 (nscts q k v e g)))) (exps q k e))
    (broadcastInDim S1x8x8320x8320 ![] bcast_S_S1x8x8320x8320 (constant S_ .f32 0x00000000#32))
/-- and of the products. -/
def prodCts : FVec Ideal S1x8x8320x8320 .f32 := mulf (scoreCts q k v e g) scales

/-- The gradient of the queries, -/
def gq : FVec Ideal S8320x1024 .f32 :=
  shapeCast _ (transpose S1x8320x8x128 [0, 2, 1, 3] (Host.dotGeneral dot_S1x8x8320x8320_S1x8320x8x128_S1x8x8320x128_3_1_2_3_01_02 none (prodCts q k v e g) (shapeCast _ k shapeCasts_S8320x1024_S1x8320x8x128)) transposes_S1x8x8320x128_S1x8320x8x128_0_2_1_3) shapeCasts_S1x8320x8x128_S8320x1024
/-- of the keys, -/
def gk : FVec Ideal S8320x1024 .f32 :=
  shapeCast _ (transpose S1x8320x8x128 [0, 2, 1, 3] (Host.dotGeneral dot_S1x8x8320x8320_S1x8320x8x128_S1x8x8320x128_2_1_3_3_01_02 none (prodCts q k v e g) (shapeCast _ q shapeCasts_S8320x1024_S1x8320x8x128)) transposes_S1x8x8320x128_S1x8320x8x128_0_2_1_3) shapeCasts_S1x8320x8x128_S8320x1024
/-- of the values -/
def gv : FVec Ideal S8320x1024 .f32 :=
  shapeCast _ (transpose S1x8320x8x128 [0, 3, 1, 2] (Host.dotGeneral dot_S1x8x128x8320_S1x8x8320x8320_S1x8x128x8320_3_2_2_3_01_01 none (cts g) (Host.divf (exps q k e) (sumsA q k e))) transposes_S1x8x128x8320_S1x8320x8x128_0_3_1_2) shapeCasts_S1x8320x8x128_S8320x1024
/-- and of the decays. -/
def gc : FVec Ideal S8x8320x1 .f32 :=
  broadcastInDim S8x8320x1 ![0, 1] bcast_S8x8320_S8x8320x1_0_1 (Host.reduceAdd (addf (broadcastInDim S1x8x8320 ![1, 2] bcast_S8x8320_S1x8x8320_1_2 (Host.reduceAdd (shapeCast _ (Host.reduceAdd (Host.negf (scoreCts q k v e g)) (constant S_ .f32 0x00000000#32) reducesTo_S1x8x8320x8320_S1x8x8320_d2 h_S_) shapeCasts_S1x8x8320_S1x8x1x8320) (constant S_ .f32 0x00000000#32) reducesTo_S1x8x1x8320_S8x8320_d0_2 h_S_))
    (broadcastInDim S1x8x8320 ![1, 2] bcast_S8x8320_S1x8x8320_1_2 (Host.reduceAdd (shapeCast _ (Host.reduceAdd (scoreCts q k v e g) (constant S_ .f32 0x00000000#32) reducesTo_S1x8x8320x8320_S1x8x8320_d3 h_S_) shapeCasts_S1x8x8320_S1x8x8320x1) (constant S_ .f32 0x00000000#32) reducesTo_S1x8x8320x1_S8x8320_d0_3 h_S_))) (constant S_ .f32 0x00000000#32) reducesTo_S1x8x8320_S8x8320_d0 h_S_)

variable (m : (ℓ : Loc nD τ sig) → Buf (Elt Ideal) ℓ) (c : Dev nD)

theorem out0_eq : res_out0 (F := Ideal) m c = gq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem out1_eq : res_out1 (F := Ideal) m c = gk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem out2_eq : res_out2 (F := Ideal) m c = gv (m ((c.tc : Thread nD τ).loc main_arg0)) (m ((c.tc : Thread nD τ).loc main_arg1)) (m ((c.tc : Thread nD τ).loc main_arg3)) (m ((c.tc : Thread nD τ).loc main_arg4)) := rfl
theorem out3_eq : res_out3 (F := Ideal) m c = gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.Proof.Fox.Ref
-- ==== Proof.RefValue.lean ====
module

public import proofs.«01_k».proof.Proof.RefStages
public import proofs.«01_k».proof.Proof.FwdValue

@[expose] public section
set_option maxRecDepth 16384
noncomputable section
namespace Cert.Proof.Fox.Ref

open Cert.ReferenceIdeal Cert.ReferenceIdeal.Gen Cert.ReferenceIdeal.Value
open Idealize.ShloMosaic
open Idealize.ShloMosaic.TcCoe
open Finset

/-! # The reference's gradients, over the reals -/

/-- The greatest of extended reals, none of them `⊤` and not all `⊥`, is a real. -/
theorem max_is_real {ι : Type} (s : Finset ι) (f : ι → EReal) (hT : ∀ x, f x ≠ ⊤) {y : ι} (hy : y ∈ s) (hb : f y ≠ ⊥) : ∃ r : ℝ, s.fold max ⊥ f = r := by
  have hle : s.fold max ⊥ f < ⊤ := (Finset.fold_max_lt _).mpr ⟨bot_lt_top, fun z _ => lt_top_iff_ne_top.mpr (hT z)⟩
  have hge : ⊥ < s.fold max ⊥ f := (Finset.lt_fold_max _).mpr (.inr ⟨y, hy, bot_lt_iff_ne_bot.mpr hb⟩)
  exact ⟨_, (EReal.coe_toReal hle.ne hge.ne').symm⟩

/-- The greatest entry of those that fall on an index, likewise. -/
theorem reduce_real {s t u : Shape} {axes : List (Fin s.rank)} (D : FVec Ideal s .f32) (hr : s.ReducesTo axes t) (hu : 0 < u.numel) (j : t.Idx) (hT : ∀ x, D x ≠ ⊤)
    {y : s.Idx} (hy : hr.drop y = j) (hb : D y ≠ ⊥) : ∃ r : ℝ, Host.reduce (FloatOps.maximumf (F := Ideal) (φ := .f32)) D (constant (F := Ideal) u .f32 0xFF800000#32) hr hu j = r := by
  obtain ⟨r, h⟩ := max_is_real (univ.filter fun i => hr.drop i = j) D hT (mem_filter.mpr ⟨mem_univ y, hy⟩) hb
  refine ⟨r, Eq.trans ?_ h⟩
  rw [Host.reduce_eq_fold, ← bits_bot]
  rfl

theorem max_none (R : FVec Ideal S1x8x8320 .f32) (h : Fin 8) (i : Fin 8320) :
    maximumf (broadcastInDim S1x8x8320 ![] bcast_S_S1x8x8320 (constant (F := Ideal) S_ .f32 0xFF800000#32)) R (ix3 (0 : Fin 1) h i) = R (ix3 (0 : Fin 1) h i) := by
  pointwise
  rw [bits_bot]
  exact max_eq_right bot_le

/-- A sum into an index that one index alone falls on. -/
theorem sum_single {s t : Shape} {axes : List (Fin s.rank)} (hr : s.ReducesTo axes t) (x : s.Idx → EReal) (a : EReal) (j : t.Idx) (i : s.Idx)
    (hi : ∀ i', hr.drop i' = j ↔ i' = i) : Ideal.hostReduceAdd hr x a j = a + x i := by
  unfold Ideal.hostReduceAdd
  rw [show univ.filter (fun i' => hr.drop i' = j) = {i} from ext fun i' => by simp [hi], sum_singleton]

theorem fall_col (h : Fin 8) (i : Fin 8320) (x : S1x8x8320x1.Idx) : reducesTo_S1x8x8320x1_S8x8320_d0_3.drop x = ix2 h i ↔ x = ix4 (0 : Fin 1) h i (0 : Fin 1) := by
  have h0 : (x 0).val < 1 := (x 0).isLt
  have h3 : (x 3).val < 1 := (x 3).isLt
  refine ⟨fun e => ?_, fun e => e ▸ ?_⟩
  · have e0 : (x 1).val = h.val := congrArg Fin.val (congrFun e 0)
    have e1 : (x 2).val = i.val := congrArg Fin.val (congrFun e 1)
    refine funext fun a => Fin.ext ?_
    fin_cases a
    · show (x 0).val = 0
      omega
    · exact e0
    · exact e1
    · show (x 3).val = 0
      omega
  · refine funext fun a => Fin.ext ?_
    fin_cases a <;> rfl

theorem fall_row (h : Fin 8) (i : Fin 8320) (x : S1x8x1x8320.Idx) : reducesTo_S1x8x1x8320_S8x8320_d0_2.drop x = ix2 h i ↔ x = ix4 (0 : Fin 1) h (0 : Fin 1) i := by
  have h0 : (x 0).val < 1 := (x 0).isLt
  have h3 : (x 2).val < 1 := (x 2).isLt
  refine ⟨fun e => ?_, fun e => e ▸ ?_⟩
  · have e0 : (x 1).val = h.val := congrArg Fin.val (congrFun e 0)
    have e1 : (x 3).val = i.val := congrArg Fin.val (congrFun e 1)
    refine funext fun a => Fin.ext ?_
    fin_cases a
    · show (x 0).val = 0
      omega
    · exact e0
    · show (x 2).val = 0
      omega
    · exact e1
  · refine funext fun a => Fin.ext ?_
    fin_cases a <;> rfl

theorem row_falls (h : Fin 8) (i j : Fin 8320) : reducesTo_S1x8x8320x8320_S1x8x8320_d3.drop (ix4 (0 : Fin 1) h i j) = ix3 (0 : Fin 1) h i := by
  refine funext fun a => Fin.ext ?_
  fin_cases a <;> rfl

theorem quad_eta (x : S1x8x8320x8320.Idx) : x = ix4 (0 : Fin 1) (x 1 : Fin 8) (x 2 : Fin 8320) (x 3 : Fin 8320) := by
  have h0 : (x 0).val < 1 := (x 0).isLt
  refine funext fun a => Fin.ext ?_
  fin_cases a
  · show (x 0).val = 0
    omega
  · rfl
  · rfl
  · rfl

theorem bits_128 : Ideal.ofBits .f32 0x43000000#32 = ((128 : ℝ) : EReal) := by
  simp [Ideal.ofBits, Ideal.ieee]
  rw [← EReal.coe_mul]
  norm_num

theorem sees_at (h : Fin 8) (i j : Fin 8320) : sees (ix4 (0 : Fin 1) h i j) = BitVec.ofBool (decide (j.val ≤ i.val)) := by
  unfold sees
  pointwise
  exact sle_small j.isLt i.isLt

theorem scales_at (h : Fin 8) (i j : Fin 8320) : scales (ix4 (0 : Fin 1) h i j) = ((Model.sc : ℝ) : EReal) := by
  unfold scales
  pointwise
  rw [bits_128, Ideal.sqrt_coe, if_neg (by norm_num), ← EReal.coe_one, div_real (Real.sqrt_ne_zero'.mpr (by norm_num)), one_div]
  rfl

section
variable {Q K W G : ℕ → ℕ → ℝ} {C : ℕ → ℕ → ℝ} {q k v : FVec Ideal S8320x1024 .f32} {e : FVec Ideal S8x8320x1 .f32} {g : FVec Ideal S8320x1024 .f32}

theorem decays_at (he : ColReal e C) (h : Fin 8) (i : Fin 8320) : decays e (ix3 (0 : Fin 1) h i) = (C h.val i.val : EReal) := by
  unfold decays
  pointwise
  exact he h i

theorem prods_at (hq : IsReal q Q) (hk : IsReal k K) (h : Fin 8) (i j : Fin 8320) :
    prods q k (ix4 (0 : Fin 1) h i j) = ((∑ d ∈ range 128, Q i.val (128 * h.val + d) * K j.val (128 * h.val + d) : ℝ) : EReal) := by
  unfold prods
  pointwise
  refine Eq.trans (sum_congr rfl fun x _ => ?_) (Model.sum_fin (n := 128) (fun d => Q i.val (128 * h.val + d) * K j.val (128 * h.val + d)))
  rw [hq i, hk j, ← EReal.coe_mul]
  dsimp only
  rw [Nat.mul_comm]

theorem wcts_at (hv : IsReal v W) (hg : IsReal g G) (h : Fin 8) (i j : Fin 8320) :
    wcts v g (ix4 (0 : Fin 1) h i j) = ((Model.dp W G h.val i.val j.val : ℝ) : EReal) := by
  unfold wcts cts
  pointwise
  refine Eq.trans (sum_congr rfl fun x _ => ?_) (Model.sum_fin (n := 128) (fun d => W j.val (128 * h.val + d) * G i.val (128 * h.val + d)))
  rw [hv j, hg i, ← EReal.coe_mul]
  dsimp only
  rw [Nat.mul_comm h.val, mul_comm]

theorem scores_at (hq : IsReal q Q) (hk : IsReal k K) (he : ColReal e C) (h : Fin 8) (i j : Fin 8320) :
    scores q k e (ix4 (0 : Fin 1) h i j) = if j.val ≤ i.val then ((Model.S Q K C h.val i.val j.val + C h.val i.val : ℝ) : EReal) else ⊥ := by
  have h1 := sees_at h i j
  have h2 := scales_at h i j
  have h3 := prods_at hq hk h i j
  have h4 := decays_at he h
  unfold scores
  generalize decays e = D at *
  generalize sees = Se at *
  generalize scales = Sc at *
  generalize prods q k = P at *
  pointwise
  rw [h1, h2, h3, h4, h4, select_ofBool]
  refine if_congr Iff.rfl ?_ ?_
  · rw [← EReal.coe_mul, ← EReal.coe_add, ← EReal.coe_sub]
    unfold Model.S
    congr 1
    rw [sum_mul, show ∀ a b c : ℝ, a + b - c = a - c + b from fun a b c => by ring]
    congr 2
    exact sum_congr rfl fun d _ => by ring
  · exact bits_bot

theorem tops_real (hq : IsReal q Q) (hk : IsReal k K) (he : ColReal e C) (h : Fin 8) (i : Fin 8320) : ∃ r : ℝ, tops q k e (ix3 (0 : Fin 1) h i) = r := by
  have h1 := scores_at hq hk he
  unfold tops
  generalize scores q k e = D at *
  rw [max_none]
  refine reduce_real D _ _ (ix3 (0 : Fin 1) h i) (fun x => ?_) (row_falls h i i) ?_
  · rw [(congrArg D (quad_eta x)).trans (h1 (x 1) (x 2) (x 3))]
    split
    · exact EReal.coe_ne_top _
    · exact bot_ne_top
  · rw [h1 h i i, if_pos le_rfl]
    exact EReal.coe_ne_bot _

/-- The exponentials are the weights times a factor for each query. -/
theorem exps_real (hq : IsReal q Q) (hk : IsReal k K) (he : ColReal e C) : ∃ a : Fin 8 → Fin 8320 → ℝ, (∀ h i, 0 < a h i)
    ∧ ∀ h i j, exps q k e (ix4 (0 : Fin 1) h i j) = ((Model.w Q K C h.val i.val j.val * a h i : ℝ) : EReal) := by
  choose r hr using tops_real hq hk he
  refine ⟨fun h i => Real.exp (C h.val i.val - r h i), fun h i => Real.exp_pos _, fun h i j => ?_⟩
  have h1 := scores_at hq hk he h i j
  have h2 := hr h i
  unfold exps
  generalize scores q k e = D at *
  generalize tops q k e = T at *
  pointwise
  rw [h1, h2]
  unfold Model.w
  by_cases hj : j.val ≤ i.val
  · rw [if_pos hj, if_pos hj, ← EReal.coe_sub, Ideal.exp_coe, ← Real.exp_add]
    congr 2
    ring
  · rw [if_neg hj, if_neg hj, zero_mul]
    rfl

variable {a : Fin 8 → Fin 8320 → ℝ}

theorem sums_at (hE : ∀ h i j, exps q k e (ix4 (0 : Fin 1) h i j) = ((Model.w Q K C h.val i.val j.val * a h i : ℝ) : EReal)) (h : Fin 8) (i : Fin 8320) :
    sums q k e (ix3 (0 : Fin 1) h i) = ((Model.L Q K C h.val i.val * a h i : ℝ) : EReal) := by
  unfold sums
  generalize exps q k e = D at *
  pointwise
  refine Eq.trans (sum_congr rfl fun x _ => hE h i x) ((Model.sum_fin (n := 8320) (fun j => Model.w Q K C h.val i.val j * a h i)).trans ?_)
  rw [← sum_mul]
  rfl

theorem scts_at (ha : ∀ h i, 0 < a h i) (hE : ∀ h i j, exps q k e (ix4 (0 : Fin 1) h i j) = ((Model.w Q K C h.val i.val j.val * a h i : ℝ) : EReal))
    (hv : IsReal v W) (hg : IsReal g G) (h : Fin 8) (i : Fin 8320) :
    scts q k v e g (ix3 (0 : Fin 1) h i) = ((Model.dl Q K W G C h.val i.val / (Model.L Q K C h.val i.val * a h i) : ℝ) : EReal) := by
  have h1 := sums_at hE h i
  have h2 := wcts_at hv hg h i
  have hL := (Model.L_pos (Q := Q) (K := K) (C := C) (h := h.val) i.isLt).ne'
  have hA := (ha h i).ne'
  unfold scts sumsC
  generalize exps q k e = D at *
  generalize wcts v g = X at *
  generalize sums q k e = Z at *
  pointwise
  rw [h1, ← EReal.coe_mul, ← EReal.coe_one, div_real (mul_ne_zero (mul_ne_zero hL hA) (mul_ne_zero hL hA))]
  refine Eq.trans (sum_congr rfl fun x _ => ?_) ((Model.sum_fin (n := 8320) (fun j => Model.p Q K C h.val i.val j * Model.dp W G h.val i.val j / (Model.L Q K C h.val i.val * a h i))).trans ?_)
  · rw [hE, h2, ← EReal.coe_mul, ← EReal.coe_mul]
    congr 1
    unfold Model.p
    field_simp
  · rw [← sum_div, ← Model.dl_eq]

theorem nscts_at (ha : ∀ h i, 0 < a h i) (hE : ∀ h i j, exps q k e (ix4 (0 : Fin 1) h i j) = ((Model.w Q K C h.val i.val j.val * a h i : ℝ) : EReal))
    (hv : IsReal v W) (hg : IsReal g G) (h : Fin 8) (i : Fin 8320) :
    nscts q k v e g (ix2 h i) = ((-(Model.dl Q K W G C h.val i.val / (Model.L Q K C h.val i.val * a h i)) : ℝ) : EReal) := by
  have h1 := scts_at ha hE hv hg h i
  unfold nscts
  generalize scts q k v e g = D at *
  pointwise
  rw [sum_single _ _ _ _ _ (fall_col h i), zero_add]
  pointwise
  rw [h1, EReal.coe_neg]

/-- The cotangent of the scores. -/
theorem scoreCts_at (ha : ∀ h i, 0 < a h i) (hE : ∀ h i j, exps q k e (ix4 (0 : Fin 1) h i j) = ((Model.w Q K C h.val i.val j.val * a h i : ℝ) : EReal))
    (hv : IsReal v W) (hg : IsReal g G) (h : Fin 8) (i j : Fin 8320) :
    scoreCts q k v e g (ix4 (0 : Fin 1) h i j) = ((Model.ds Q K W G C h.val i.val j.val : ℝ) : EReal) := by
  have h1 := sums_at hE h i
  have h2 := wcts_at hv hg h i j
  have h3 := nscts_at ha hE hv hg h i
  have h4 := hE h i j
  have h5 := sees_at h i j
  have hL := (Model.L_pos (Q := Q) (K := K) (C := C) (h := h.val) i.isLt).ne'
  have hA := (ha h i).ne'
  unfold scoreCts sumsA sumsC
  generalize exps q k e = D at *
  generalize sees = Se at *
  generalize wcts v g = X at *
  generalize sums q k e = Z at *
  generalize nscts q k v e g = N at *
  pointwise
  rw [h1, h2, h3, h4, h5, select_ofBool, div_real (mul_ne_zero hL hA), ← EReal.coe_add, ← EReal.coe_mul]
  by_cases hj : j.val ≤ i.val
  · rw [if_pos hj]
    congr 1
    unfold Model.ds Model.p
    field_simp
    try ring
  · rw [if_neg hj, Model.ds_late (by omega), EReal.coe_zero]

/-! ## The four results -/

theorem gq_at (ha : ∀ h i, 0 < a h i) (hE : ∀ h i j, exps q k e (ix4 (0 : Fin 1) h i j) = ((Model.w Q K C h.val i.val j.val * a h i : ℝ) : EReal))
    (hk : IsReal k K) (hv : IsReal v W) (hg : IsReal g G) (i : Fin 8320) (y : Fin 1024) :
    gq q k v e g (ix2 i y) = ((Model.DQ Q K W G C (y.val / 128) i.val (y.val % 128) : ℝ) : EReal) := by
  have h1 := fun h => scoreCts_at ha hE hv hg h i
  have h2 := scales_at
  unfold gq prodCts
  generalize scoreCts q k v e g = D at *
  generalize scales = Sc at *
  pointwise
  refine Eq.trans (sum_congr rfl fun x _ => ?_) ((Model.sum_fin (n := 8320) (fun j => Model.ds Q K W G C (y.val / 128) i.val j * Model.sc * K j y.val)).trans ?_)
  · rw [h1, h2, hk x, ← EReal.coe_mul, ← EReal.coe_mul]
  · unfold Model.DQ
    rw [sum_mul, Nat.div_add_mod]
    congr 1
    exact sum_congr rfl fun d _ => by ring

theorem gk_at (ha : ∀ h i, 0 < a h i) (hE : ∀ h i j, exps q k e (ix4 (0 : Fin 1) h i j) = ((Model.w Q K C h.val i.val j.val * a h i : ℝ) : EReal))
    (hq : IsReal q Q) (hv : IsReal v W) (hg : IsReal g G) (i : Fin 8320) (y : Fin 1024) :
    gk q k v e g (ix2 i y) = ((Model.DK Q K W G C (y.val / 128) i.val (y.val % 128) : ℝ) : EReal) := by
  have h1 := fun h x => scoreCts_at ha hE hv hg h x i
  have h2 := scales_at
  unfold gk prodCts
  generalize scoreCts q k v e g = D at *
  generalize scales = Sc at *
  pointwise
  refine Eq.trans (sum_congr rfl fun x _ => ?_) ((Model.sum_fin (n := 8320) (fun j => Model.ds Q K W G C (y.val / 128) j i.val * Model.sc * Q j y.val)).trans ?_)
  · rw [h1, h2, hq x, ← EReal.coe_mul, ← EReal.coe_mul]
  · unfold Model.DK
    rw [Nat.div_add_mod]
    congr 1
    exact sum_congr rfl fun d _ => by ring

theorem gv_at (ha : ∀ h i, 0 < a h i) (hE : ∀ h i j, exps q k e (ix4 (0 : Fin 1) h i j) = ((Model.w Q K C h.val i.val j.val * a h i : ℝ) : EReal))
    (hg : IsReal g G) (i : Fin 8320) (y : Fin 1024) :
    gv q k e g (ix2 i y) = ((Model.DV Q K G C (y.val / 128) i.val (y.val % 128) : ℝ) : EReal) := by
  have h1 := fun h x => hE h x i
  have h2 := sums_at hE
  unfold gv sumsA sumsC cts
  generalize exps q k e = D at *
  generalize sums q k e = Z at *
  pointwise
  refine Eq.trans (sum_congr rfl fun x _ => ?_) ((Model.sum_fin (n := 8320) (fun j => Model.p Q K C (y.val / 128) j i.val * G j y.val)).trans ?_)
  · have hL := (Model.L_pos (Q := Q) (K := K) (C := C) (h := y.val / 128) x.isLt).ne'
    have hA := fun h => (ha h x).ne'
    rw [h1, h2, hg x, div_real (mul_ne_zero hL (hA _)), ← EReal.coe_mul]
    dsimp only
    rw [mul_comm, mul_div_mul_right _ _ (hA _)]
    rfl
  · unfold Model.DV
    rw [Nat.div_add_mod]

theorem gc_at (ha : ∀ h i, 0 < a h i) (hE : ∀ h i j, exps q k e (ix4 (0 : Fin 1) h i j) = ((Model.w Q K C h.val i.val j.val * a h i : ℝ) : EReal))
    (hv : IsReal v W) (hg : IsReal g G) (h : Fin 8) (i : Fin 8320) :
    gc q k v e g (ix3 h i (0 : Fin 1)) = ((Model.DC Q K W G C h.val i.val : ℝ) : EReal) := by
  have h1 := scoreCts_at ha hE hv hg h
  unfold gc
  generalize scoreCts q k v e g = D at *
  pointwise
  rw [Fin.sum_univ_one, sum_single _ _ _ _ _ (fall_col h i), sum_single _ _ _ _ _ (fall_row h i), zero_add, zero_add]
  pointwise
  simp only [h1, ← EReal.coe_neg]
  rw [Model.sum_fin (n := 8320) (fun j => Model.ds Q K W G C h.val i.val j), Model.sum_fin (n := 8320) (fun j => -Model.ds Q K W G C h.val j i.val), Model.sum_ds i.isLt, EReal.coe_zero, add_zero, sum_neg_distrib]
  rfl
end

end Cert.Proof.Fox.Ref
-- ==== Proof.Agree.lean ====
module

public import proofs.«01_k».proof.Defs
public import proofs.«01_k».proof.Proof.Arrays
public import proofs.«01_k».proof.Proof.RefValue
public import proofs.«01_k».proof.Proof.Finite
public import proofs.«01_k».proof.Proof.Gen.KernelIdeal
public import proofs.«01_k».proof.Proof.Gen.ReferenceIdeal

@[expose] public section
set_option maxRecDepth 16384
noncomputable section
namespace Cert.Proof.Fox

open Idealize.ShloMosaic Idealize.SL.Sem
open Idealize.ShloMosaic.TcCoe

/-! # The two programs leave the same four arrays -/

abbrev Wide : Shape := ⟨2, ![8320, 1024]⟩
abbrev Thin : Shape := ⟨3, ![8, 8320, 1]⟩

/-- The real entries of an array, -/
def entries (a : Wide.Idx → EReal) (i d : ℕ) : ℝ := if h : i < 8320 ∧ d < 1024 then EReal.toReal (a (ix2 (⟨i, h.1⟩ : Fin 8320) (⟨d, h.2⟩ : Fin 1024))) else 0
/-- and of a column for each head. -/
def colEntries (a : Thin.Idx → EReal) (h i : ℕ) : ℝ := if hh : h < 8 ∧ i < 8320 then EReal.toReal (a (ix3 (⟨h, hh.1⟩ : Fin 8) (⟨i, hh.2⟩ : Fin 8320) (0 : Fin 1))) else 0

theorem entries_real {a : Wide.Idx → EReal} (ha : ∀ i, a i = ((EReal.toReal (a i) : ℝ) : EReal)) : IsReal a (entries a) := by
  intro i d
  unfold entries
  rw [dif_pos ⟨i.isLt, d.isLt⟩]
  exact ha _
theorem colEntries_real {a : Thin.Idx → EReal} (ha : ∀ i, a i = ((EReal.toReal (a i) : ℝ) : EReal)) : ColReal a (colEntries a) := by
  intro h i
  unfold colEntries
  rw [dif_pos ⟨h.isLt, i.isLt⟩]
  exact ha _

theorem wide_ext {a b : Wide.Idx → EReal} (h : ∀ (i : Fin 8320) (d : Fin 1024), a (ix2 i d) = b (ix2 i d)) : a = b := by
  funext x
  have e : x = ix2 (x 0 : Fin 8320) (x 1 : Fin 1024) := funext fun k => by fin_cases k <;> rfl
  exact (congrArg a e).trans ((h (x 0) (x 1)).trans (congrArg b e).symm)
theorem thin_ext {a b : Thin.Idx → EReal} (h : ∀ (i : Fin 8) (d : Fin 8320), a (ix3 i d (0 : Fin 1)) = b (ix3 i d (0 : Fin 1))) : a = b := by
  funext x
  have h2 : (x 2).val < 1 := (x 2).isLt
  have e : x = ix3 (x 0 : Fin 8) (x 1 : Fin 8320) (0 : Fin 1) := by
    refine funext fun k => Fin.ext ?_
    fin_cases k
    · rfl
    · rfl
    · show (x 2).val = 0
      omega
  exact (congrArg a e).trans ((h (x 0) (x 1)).trans (congrArg b e).symm)

section
variable (q k v : Wide.Idx → EReal) (e : Thin.Idx → EReal) (g : Wide.Idx → EReal)
  (hq : ∀ i, q i = ((EReal.toReal (q i) : ℝ) : EReal)) (hk : ∀ i, k i = ((EReal.toReal (k i) : ℝ) : EReal)) (hv : ∀ i, v i = ((EReal.toReal (v i) : ℝ) : EReal))
  (he : ∀ i, e i = ((EReal.toReal (e i) : ℝ) : EReal)) (hg : ∀ i, g i = ((EReal.toReal (g i) : ℝ) : EReal))
include hq hk hv he hg

/-- The reference's results on real arguments. -/
theorem ref_arrays : Ref.gq q k v e g = dqArr (entries q) (entries k) (entries v) (entries g) (colEntries e)
    ∧ Ref.gk q k v e g = dkArr (entries q) (entries k) (entries v) (entries g) (colEntries e)
    ∧ Ref.gv q k e g = dvArr (entries q) (entries k) (entries g) (colEntries e)
    ∧ Ref.gc q k v e g = dcArr (entries q) (entries k) (entries v) (entries g) (colEntries e) := by
  obtain ⟨a, ha, hE⟩ := Ref.exps_real (entries_real hq) (entries_real hk) (colEntries_real he)
  exact ⟨wide_ext fun i y => Ref.gq_at ha hE (entries_real hk) (entries_real hv) (entries_real hg) i y,
    wide_ext fun i y => Ref.gk_at ha hE (entries_real hq) (entries_real hv) (entries_real hg) i y,
    wide_ext fun i y => Ref.gv_at ha hE (entries_real hg) i y,
    thin_ext fun h i => Ref.gc_at ha hE (entries_real hv) (entries_real hg) h i⟩
end

theorem agree [hP : Cert.Pre_finite.Facts] : Cert.algebraic_KernelIdeal_ReferenceIdeal_pre_finite (hPre_finite := hP) := by
  intro m g m' g' hpre harg
  have hreal := fun c => Finite.real_args hP _ _ _ _ _ (hpre c)
  refine ⟨fun c => U5 m c Cert.KernelIdeal.main_v5_3, fun c => U5 m c Cert.KernelIdeal.main_v5_0, fun c => U5 m c Cert.KernelIdeal.main_v5_1, fun c => U5 m c Cert.KernelIdeal.main_v5_2, ?_, ?_⟩
  · refine (θ_run Cert.KernelIdeal.defs _ _).mono (fun r h c => ?_) (run_main (F := Ideal) m g)
    obtain ⟨ha, h0, h1, h2, h3⟩ := h.1 c
    exact ⟨h3, h0, h1, h2, ha⟩
  · refine (θ_run Cert.ReferenceIdeal.defs _ _).mono (fun r h c => ?_) (Cert.ReferenceIdeal.Value.run (F := Ideal) m' g')
    obtain ⟨h0, h1, h2, h3, ha⟩ := h c
    obtain ⟨hq, hk, hv, he, hg⟩ := hreal c
    obtain ⟨a0, a1, a2, a3, a4⟩ := harg c
    obtain ⟨r0, r1, r2, r3⟩ := ref_arrays _ _ _ _ _ hq hk hv he hg
    refine ⟨h0.trans ?_, h1.trans ?_, h2.trans ?_, h3.trans ?_, ha⟩
    · refine (Ref.out0_eq m' c).trans ?_
      rw [a0, a1, a2, a3, a4]
      exact r0.trans (U5_dq m c (entries_real hq) (entries_real hk) (entries_real hv) (colEntries_real he) (entries_real hg)).symm
    · refine (Ref.out1_eq m' c).trans ?_
      rw [a0, a1, a2, a3, a4]
      exact r1.trans (U5_dk m c (entries_real hq) (entries_real hk) (entries_real hv) (colEntries_real he) (entries_real hg)).symm
    · refine (Ref.out2_eq m' c).trans ?_
      rw [a0, a1, a3, a4]
      exact r2.trans (U5_dv m c (entries_real hq) (entries_real hk) (entries_real hv) (colEntries_real he) (entries_real hg)).symm
    · refine (Ref.out3_eq m' c).trans ?_
      rw [a0, a1, a2, a3, a4]
      exact r3.trans (U5_dc m c (entries_real hq) (entries_real hk) (entries_real hv) (colEntries_real he) (entries_real hg)).symm

end Cert.Proof.Fox
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Lin2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Lin3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Lin4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Lin5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Lin6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Lin7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Lin8
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Lin9
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Lin10
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Lin11
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Lin12
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Lin13
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Lin14
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Lin15
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Lin16
public import proofs.«01_k».proof.Proof.Run
public import proofs.«01_k».proof.Proof.BitsRun
public import proofs.«01_k».proof.Proof.Finite
public import proofs.«01_k».proof.Proof.Agree
public import Idealize.ShloMosaic.Adequacy
public import Idealize.ShloMosaic.Init

@[expose] public section

noncomputable section

namespace Cert.Proof

open Idealize.ShloMosaic Idealize.SL.Sem

/-- The mask's literal stands for −∞, and the scale's is 1/√128 rounded. -/
theorem mask_named : Cert.preserves_Kernel_KernelIdeal :=
  ⟨IdealRules.named_const.statement Cert.KernelIdeal.κ "mask" .f32 0xF149F2CA#32 ⊥ rfl,
    IdealRules.named_const.statement Cert.KernelIdeal.κ "s" .f32 0x3DB504F3#32 (((Real.sqrt 128)⁻¹ : ℝ) : EReal) rfl⟩

theorem frame_kernel : Cert.quiescent_Kernel :=
  fun m g _ => (θ_run Cert.Kernel.defs _ _).mono (fun _ h => ⟨fun c => (h.1 c).1, h.2⟩) (Cert.Proof.FoxBits.run_main (F := Bits) m g)
theorem frame_ideal : Cert.quiescent_KernelIdeal :=
  fun m g _ => (θ_run Cert.KernelIdeal.defs _ _).mono (fun _ h => ⟨fun c => (h.1 c).1, h.2⟩) (Cert.Proof.Fox.run_main (F := Ideal) m g)
theorem frame_reference : Cert.quiescent_ReferenceIdeal :=
  fun m g _ => (θ_run Cert.ReferenceIdeal.defs _ _).mono
    (fun r h => ⟨fun c => (h c).2.2.2.2, sem_eq_zero_of_no_sems (by decide) r.2⟩)
    (Cert.ReferenceIdeal.Value.run (F := Ideal) m g)

/-- The same two frames where the arguments are finite. -/
theorem frame_ideal_finite [hP : Cert.Pre_finite.Facts] : Cert.quiescent_KernelIdeal_pre_finite :=
  fun m g _ => (θ_run Cert.KernelIdeal.defs _ _).mono (fun _ h => ⟨fun c => (h.1 c).1, h.2⟩) (Cert.Proof.Fox.run_main (F := Ideal) m g)
theorem frame_reference_finite [hP : Cert.Pre_finite.Facts] : Cert.quiescent_ReferenceIdeal_pre_finite :=
  fun m g _ => (θ_run Cert.ReferenceIdeal.defs _ _).mono
    (fun r h => ⟨fun c => (h c).2.2.2.2, sem_eq_zero_of_no_sems (by decide) r.2⟩)
    (Cert.ReferenceIdeal.Value.run (F := Ideal) m g)

/-- The gradient of the input of the feed-forward block's first layer: the frames. -/
theorem frame_kernel2 : Cert.quiescent_Kernel2 := fun m g _ => Cert.Kernel2.Gen.frame m g
theorem frame_ideal2 : Cert.quiescent_Kernel2Ideal := fun m g _ => Cert.Kernel2Ideal.Gen.frame m g
theorem frame_reference2 : Cert.quiescent_Reference2Ideal :=
  fun m g _ => (θ_run Cert.Reference2Ideal.defs _ _).mono
    (fun r h => ⟨fun c => (h c).2, sem_eq_zero_of_no_sems (by decide) r.2⟩)
    (Cert.Reference2Ideal.Value.run (F := Ideal) m g)

/-- The gradient of its weight: the frames. -/
theorem frame_kernel3 : Cert.quiescent_Kernel3 := fun m g _ => Cert.Kernel3.Gen.frame m g
theorem frame_ideal3 : Cert.quiescent_Kernel3Ideal := fun m g _ => Cert.Kernel3Ideal.Gen.frame m g
theorem frame_reference3 : Cert.quiescent_Reference3Ideal :=
  fun m g _ => (θ_run Cert.Reference3Ideal.defs _ _).mono
    (fun r h => ⟨fun c => (h c).2, sem_eq_zero_of_no_sems (by decide) r.2⟩)
    (Cert.Reference3Ideal.Value.run (F := Ideal) m g)

/-- The gradient of the input of the feed-forward block's second layer: the frames. -/
theorem frame_kernel4 : Cert.quiescent_Kernel4 := fun m g _ => Cert.Kernel4.Gen.frame m g
theorem frame_ideal4 : Cert.quiescent_Kernel4Ideal := fun m g _ => Cert.Kernel4Ideal.Gen.frame m g
theorem frame_reference4 : Cert.quiescent_Reference4Ideal :=
  fun m g _ => (θ_run Cert.Reference4Ideal.defs _ _).mono
    (fun r h => ⟨fun c => (h c).2, sem_eq_zero_of_no_sems (by decide) r.2⟩)
    (Cert.Reference4Ideal.Value.run (F := Ideal) m g)

/-- The gradient of its weight: the frames. -/
theorem frame_kernel5 : Cert.quiescent_Kernel5 := fun m g _ => Cert.Kernel5.Gen.frame m g
theorem frame_ideal5 : Cert.quiescent_Kernel5Ideal := fun m g _ => Cert.Kernel5Ideal.Gen.frame m g
theorem frame_reference5 : Cert.quiescent_Reference5Ideal :=
  fun m g _ => (θ_run Cert.Reference5Ideal.defs _ _).mono
    (fun r h => ⟨fun c => (h c).2, sem_eq_zero_of_no_sems (by decide) r.2⟩)
    (Cert.Reference5Ideal.Value.run (F := Ideal) m g)

/-- The feed-forward block's first layer: the frames. -/
theorem frame_kernel6 : Cert.quiescent_Kernel6 := fun m g _ => Cert.Kernel6.Gen.frame m g
theorem frame_ideal6 : Cert.quiescent_Kernel6Ideal := fun m g _ => Cert.Kernel6Ideal.Gen.frame m g
theorem frame_reference6 : Cert.quiescent_Reference6Ideal :=
  fun m g _ => (θ_run Cert.Reference6Ideal.defs _ _).mono
    (fun r h => ⟨fun c => (h c).2, sem_eq_zero_of_no_sems (by decide) r.2⟩)
    (Cert.Reference6Ideal.Value.run (F := Ideal) m g)

/-- The feed-forward block's second layer: the frames. -/
theorem frame_kernel7 : Cert.quiescent_Kernel7 := fun m g _ => Cert.Kernel7.Gen.frame m g
theorem frame_ideal7 : Cert.quiescent_Kernel7Ideal := fun m g _ => Cert.Kernel7Ideal.Gen.frame m g
theorem frame_reference7 : Cert.quiescent_Reference7Ideal :=
  fun m g _ => (θ_run Cert.Reference7Ideal.defs _ _).mono
    (fun r h => ⟨fun c => (h c).2, sem_eq_zero_of_no_sems (by decide) r.2⟩)
    (Cert.Reference7Ideal.Value.run (F := Ideal) m g)

/-- The gradient of the input of the projection into the attentions: the frames. -/
theorem frame_kernel8 : Cert.quiescent_Kernel8 := fun m g _ => Cert.Kernel8.Gen.frame m g
theorem frame_ideal8 : Cert.quiescent_Kernel8Ideal := fun m g _ => Cert.Kernel8Ideal.Gen.frame m g
theorem frame_reference8 : Cert.quiescent_Reference8Ideal :=
  fun m g _ => (θ_run Cert.Reference8Ideal.defs _ _).mono
    (fun r h => ⟨fun c => (h c).2, sem_eq_zero_of_no_sems (by decide) r.2⟩)
    (Cert.Reference8Ideal.Value.run (F := Ideal) m g)

/-- The gradient of its weight: the frames. -/
theorem frame_kernel9 : Cert.quiescent_Kernel9 := fun m g _ => Cert.Kernel9.Gen.frame m g
theorem frame_ideal9 : Cert.quiescent_Kernel9Ideal := fun m g _ => Cert.Kernel9Ideal.Gen.frame m g
theorem frame_reference9 : Cert.quiescent_Reference9Ideal :=
  fun m g _ => (θ_run Cert.Reference9Ideal.defs _ _).mono
    (fun r h => ⟨fun c => (h c).2, sem_eq_zero_of_no_sems (by decide) r.2⟩)
    (Cert.Reference9Ideal.Value.run (F := Ideal) m g)

/-- The projection into the attentions: the frames. -/
theorem frame_kernel10 : Cert.quiescent_Kernel10 := fun m g _ => Cert.Kernel10.Gen.frame m g
theorem frame_ideal10 : Cert.quiescent_Kernel10Ideal := fun m g _ => Cert.Kernel10Ideal.Gen.frame m g
theorem frame_reference10 : Cert.quiescent_Reference10Ideal :=
  fun m g _ => (θ_run Cert.Reference10Ideal.defs _ _).mono
    (fun r h => ⟨fun c => (h c).2, sem_eq_zero_of_no_sems (by decide) r.2⟩)
    (Cert.Reference10Ideal.Value.run (F := Ideal) m g)

/-- The gradient of one attention's output, through its half of the output projection: the frames. -/
theorem frame_kernel11 : Cert.quiescent_Kernel11 := fun m g _ => Cert.Kernel11.Gen.frame m g
theorem frame_ideal11 : Cert.quiescent_Kernel11Ideal := fun m g _ => Cert.Kernel11Ideal.Gen.frame m g
theorem frame_reference11 : Cert.quiescent_Reference11Ideal :=
  fun m g _ => (θ_run Cert.Reference11Ideal.defs _ _).mono
    (fun r h => ⟨fun c => (h c).2, sem_eq_zero_of_no_sems (by decide) r.2⟩)
    (Cert.Reference11Ideal.Value.run (F := Ideal) m g)

/-- The gradient of that half's weight: the frames. -/
theorem frame_kernel12 : Cert.quiescent_Kernel12 := fun m g _ => Cert.Kernel12.Gen.frame m g
theorem frame_ideal12 : Cert.quiescent_Kernel12Ideal := fun m g _ => Cert.Kernel12Ideal.Gen.frame m g
theorem frame_reference12 : Cert.quiescent_Reference12Ideal :=
  fun m g _ => (θ_run Cert.Reference12Ideal.defs _ _).mono
    (fun r h => ⟨fun c => (h c).2, sem_eq_zero_of_no_sems (by decide) r.2⟩)
    (Cert.Reference12Ideal.Value.run (F := Ideal) m g)

/-- The output projection of the two attentions: the frames. -/
theorem frame_kernel13 : Cert.quiescent_Kernel13 := fun m g _ => Cert.Kernel13.Gen.frame m g
theorem frame_ideal13 : Cert.quiescent_Kernel13Ideal := fun m g _ => Cert.Kernel13Ideal.Gen.frame m g
theorem frame_reference13 : Cert.quiescent_Reference13Ideal :=
  fun m g _ => (θ_run Cert.Reference13Ideal.defs _ _).mono
    (fun r h => ⟨fun c => (h c).2, sem_eq_zero_of_no_sems (by decide) r.2⟩)
    (Cert.Reference13Ideal.Value.run (F := Ideal) m g)

/-- The gradient of the latent keys and values, through their projection: the frames. -/
theorem frame_kernel14 : Cert.quiescent_Kernel14 := fun m g _ => Cert.Kernel14.Gen.frame m g
theorem frame_ideal14 : Cert.quiescent_Kernel14Ideal := fun m g _ => Cert.Kernel14Ideal.Gen.frame m g
theorem frame_reference14 : Cert.quiescent_Reference14Ideal :=
  fun m g _ => (θ_run Cert.Reference14Ideal.defs _ _).mono
    (fun r h => ⟨fun c => (h c).2, sem_eq_zero_of_no_sems (by decide) r.2⟩)
    (Cert.Reference14Ideal.Value.run (F := Ideal) m g)

/-- The projection of the latent keys and values: the frames. -/
theorem frame_kernel15 : Cert.quiescent_Kernel15 := fun m g _ => Cert.Kernel15.Gen.frame m g
theorem frame_ideal15 : Cert.quiescent_Kernel15Ideal := fun m g _ => Cert.Kernel15Ideal.Gen.frame m g
theorem frame_reference15 : Cert.quiescent_Reference15Ideal :=
  fun m g _ => (θ_run Cert.Reference15Ideal.defs _ _).mono
    (fun r h => ⟨fun c => (h c).2, sem_eq_zero_of_no_sems (by decide) r.2⟩)
    (Cert.Reference15Ideal.Value.run (F := Ideal) m g)

/-- The gradient of its weight: the frames. -/
theorem frame_kernel16 : Cert.quiescent_Kernel16 := fun m g _ => Cert.Kernel16.Gen.frame m g
theorem frame_ideal16 : Cert.quiescent_Kernel16Ideal := fun m g _ => Cert.Kernel16Ideal.Gen.frame m g
theorem frame_reference16 : Cert.quiescent_Reference16Ideal :=
  fun m g _ => (θ_run Cert.Reference16Ideal.defs _ _).mono
    (fun r h => ⟨fun c => (h c).2, sem_eq_zero_of_no_sems (by decide) r.2⟩)
    (Cert.Reference16Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Proof.Finite.facts,
  frame_kernel, frame_ideal, frame_ideal_finite (hP := Cert.Proof.Finite.facts), frame_reference, frame_reference_finite (hP := Cert.Proof.Finite.facts),
  frame_kernel2, frame_ideal2, frame_reference2,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  frame_kernel11, frame_ideal11, frame_reference11,
  frame_kernel12, frame_ideal12, frame_reference12,
  frame_kernel13, frame_ideal13, frame_reference13,
  frame_kernel14, frame_ideal14, frame_reference14,
  frame_kernel15, frame_ideal15, frame_reference15,
  frame_kernel16, frame_ideal16, frame_reference16,
  mask_named, Cert.Proof.Fox.agree (hP := Cert.Proof.Finite.facts),
  trivial, Cert.Proof.Linear.L2.agree,
  trivial, Cert.Proof.Linear.L3.agree,
  trivial, Cert.Proof.Linear.L4.agree,
  trivial, Cert.Proof.Linear.L5.agree,
  trivial, Cert.Proof.Linear.L6.agree,
  trivial, Cert.Proof.Linear.L7.agree,
  trivial, Cert.Proof.Linear.L8.agree,
  trivial, Cert.Proof.Linear.L9.agree,
  trivial, Cert.Proof.Linear.L10.agree,
  trivial, Cert.Proof.Linear.L11.agree,
  trivial, Cert.Proof.Linear.L12.agree,
  trivial, Cert.Proof.Linear.L13.agree,
  trivial, Cert.Proof.Linear.L14.agree,
  trivial, Cert.Proof.Linear.L15.agree,
  trivial, Cert.Proof.Linear.L16.agree⟩

end Cert.Proof

end
